-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31)
      ∧ r.2.mem ((c.tc : Thread Cert.Kernel19.nD Cert.Kernel19.τ).loc Cert.Kernel19.main_arg32) = m ((c.tc : Thread Cert.Kernel19.nD Cert.Kernel19.τ).loc Cert.Kernel19.main_arg32)
      ∧ r.2.mem ((c.tc : Thread Cert.Kernel19.nD Cert.Kernel19.τ).loc Cert.Kernel19.main_arg33) = m ((c.tc : Thread Cert.Kernel19.nD Cert.Kernel19.τ).loc Cert.Kernel19.main_arg33)
      ∧ r.2.mem ((c.tc : Thread Cert.Kernel19.nD Cert.Kernel19.τ).loc Cert.Kernel19.main_arg34) = m ((c.tc : Thread Cert.Kernel19.nD Cert.Kernel19.τ).loc Cert.Kernel19.main_arg34)
      ∧ r.2.mem ((c.tc : Thread Cert.Kernel19.nD Cert.Kernel19.τ).loc Cert.Kernel19.main_arg35) = m ((c.tc : Thread Cert.Kernel19.nD Cert.Kernel19.τ).loc Cert.Kernel19.main_arg35)
      ∧ r.2.mem ((c.tc : Thread Cert.Kernel19.nD Cert.Kernel19.τ).loc Cert.Kernel19.main_arg36) = m ((c.tc : Thread Cert.Kernel19.nD Cert.Kernel19.τ).loc Cert.Kernel19.main_arg36)
      ∧ r.2.mem ((c.tc : Thread Cert.Kernel19.nD Cert.Kernel19.τ).loc Cert.Kernel19.main_arg37) = m ((c.tc : Thread Cert.Kernel19.nD Cert.Kernel19.τ).loc Cert.Kernel19.main_arg37)
      ∧ r.2.mem ((c.tc : Thread Cert.Kernel19.nD Cert.Kernel19.τ).loc Cert.Kernel19.main_arg38) = m ((c.tc : Thread Cert.Kernel19.nD Cert.Kernel19.τ).loc Cert.Kernel19.main_arg38)
      ∧ r.2.mem ((c.tc : Thread Cert.Kernel19.nD Cert.Kernel19.τ).loc Cert.Kernel19.main_arg39) = m ((c.tc : Thread Cert.Kernel19.nD Cert.Kernel19.τ).loc Cert.Kernel19.main_arg39))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
      ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
      ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
      ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
      ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
      ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
      ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
      ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
      ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31)
      ∧ r.2.mem ((c.tc : Thread Cert.Reference19Ideal.nD Cert.Reference19Ideal.τ).loc Cert.Reference19Ideal.main_arg32) = m ((c.tc : Thread Cert.Reference19Ideal.nD Cert.Reference19Ideal.τ).loc Cert.Reference19Ideal.main_arg32)
      ∧ r.2.mem ((c.tc : Thread Cert.Reference19Ideal.nD Cert.Reference19Ideal.τ).loc Cert.Reference19Ideal.main_arg33) = m ((c.tc : Thread Cert.Reference19Ideal.nD Cert.Reference19Ideal.τ).loc Cert.Reference19Ideal.main_arg33)
      ∧ r.2.mem ((c.tc : Thread Cert.Reference19Ideal.nD Cert.Reference19Ideal.τ).loc Cert.Reference19Ideal.main_arg34) = m ((c.tc : Thread Cert.Reference19Ideal.nD Cert.Reference19Ideal.τ).loc Cert.Reference19Ideal.main_arg34)
      ∧ r.2.mem ((c.tc : Thread Cert.Reference19Ideal.nD Cert.Reference19Ideal.τ).loc Cert.Reference19Ideal.main_arg35) = m ((c.tc : Thread Cert.Reference19Ideal.nD Cert.Reference19Ideal.τ).loc Cert.Reference19Ideal.main_arg35)
      ∧ r.2.mem ((c.tc : Thread Cert.Reference19Ideal.nD Cert.Reference19Ideal.τ).loc Cert.Reference19Ideal.main_arg36) = m ((c.tc : Thread Cert.Reference19Ideal.nD Cert.Reference19Ideal.τ).loc Cert.Reference19Ideal.main_arg36)
      ∧ r.2.mem ((c.tc : Thread Cert.Reference19Ideal.nD Cert.Reference19Ideal.τ).loc Cert.Reference19Ideal.main_arg37) = m ((c.tc : Thread Cert.Reference19Ideal.nD Cert.Reference19Ideal.τ).loc Cert.Reference19Ideal.main_arg37)
      ∧ r.2.mem ((c.tc : Thread Cert.Reference19Ideal.nD Cert.Reference19Ideal.τ).loc Cert.Reference19Ideal.main_arg38) = m ((c.tc : Thread Cert.Reference19Ideal.nD Cert.Reference19Ideal.τ).loc Cert.Reference19Ideal.main_arg38)
      ∧ r.2.mem ((c.tc : Thread Cert.Reference19Ideal.nD Cert.Reference19Ideal.τ).loc Cert.Reference19Ideal.main_arg39) = m ((c.tc : Thread Cert.Reference19Ideal.nD Cert.Reference19Ideal.τ).loc Cert.Reference19Ideal.main_arg39))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_v18) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)
      ∧ m' ((c.tc : Thread Cert.Reference19Ideal.nD Cert.Reference19Ideal.τ).loc Cert.Reference19Ideal.main_arg32) = m ((c.tc : Thread Cert.Kernel19Ideal.nD Cert.Kernel19Ideal.τ).loc Cert.Kernel19Ideal.main_arg32)
      ∧ m' ((c.tc : Thread Cert.Reference19Ideal.nD Cert.Reference19Ideal.τ).loc Cert.Reference19Ideal.main_arg33) = m ((c.tc : Thread Cert.Kernel19Ideal.nD Cert.Kernel19Ideal.τ).loc Cert.Kernel19Ideal.main_arg33)
      ∧ m' ((c.tc : Thread Cert.Reference19Ideal.nD Cert.Reference19Ideal.τ).loc Cert.Reference19Ideal.main_arg34) = m ((c.tc : Thread Cert.Kernel19Ideal.nD Cert.Kernel19Ideal.τ).loc Cert.Kernel19Ideal.main_arg34)
      ∧ m' ((c.tc : Thread Cert.Reference19Ideal.nD Cert.Reference19Ideal.τ).loc Cert.Reference19Ideal.main_arg35) = m ((c.tc : Thread Cert.Kernel19Ideal.nD Cert.Kernel19Ideal.τ).loc Cert.Kernel19Ideal.main_arg35)
      ∧ m' ((c.tc : Thread Cert.Reference19Ideal.nD Cert.Reference19Ideal.τ).loc Cert.Reference19Ideal.main_arg36) = m ((c.tc : Thread Cert.Kernel19Ideal.nD Cert.Kernel19Ideal.τ).loc Cert.Kernel19Ideal.main_arg36)
      ∧ m' ((c.tc : Thread Cert.Reference19Ideal.nD Cert.Reference19Ideal.τ).loc Cert.Reference19Ideal.main_arg37) = m ((c.tc : Thread Cert.Kernel19Ideal.nD Cert.Kernel19Ideal.τ).loc Cert.Kernel19Ideal.main_arg37)
      ∧ m' ((c.tc : Thread Cert.Reference19Ideal.nD Cert.Reference19Ideal.τ).loc Cert.Reference19Ideal.main_arg38) = m ((c.tc : Thread Cert.Kernel19Ideal.nD Cert.Kernel19Ideal.τ).loc Cert.Kernel19Ideal.main_arg38)
      ∧ m' ((c.tc : Thread Cert.Reference19Ideal.nD Cert.Reference19Ideal.τ).loc Cert.Reference19Ideal.main_arg39) = m ((c.tc : Thread Cert.Kernel19Ideal.nD Cert.Kernel19Ideal.τ).loc Cert.Kernel19Ideal.main_arg39)) →
    ∃ (v0 : (c : Dev Cert.Kernel19Ideal.nD) → Buf (Elt Ideal) ((c.tc : Thread Cert.Kernel19Ideal.nD Cert.Kernel19Ideal.τ).loc Cert.Kernel19Ideal.main_v48_0)) (v1 : (c : Dev Cert.Kernel19Ideal.nD) → Buf (Elt Ideal) ((c.tc : Thread Cert.Kernel19Ideal.nD Cert.Kernel19Ideal.τ).loc Cert.Kernel19Ideal.main_v48_1)) (v2 : (c : Dev Cert.Kernel19Ideal.nD) → Buf (Elt Ideal) ((c.tc : Thread Cert.Kernel19Ideal.nD Cert.Kernel19Ideal.τ).loc Cert.Kernel19Ideal.main_v48_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v48_0) = v0 c
          ∧ r.2.mem ((c.tc : Thread Cert.Kernel19Ideal.nD Cert.Kernel19Ideal.τ).loc Cert.Kernel19Ideal.main_v48_1) = v1 c
          ∧ r.2.mem ((c.tc : Thread Cert.Kernel19Ideal.nD Cert.Kernel19Ideal.τ).loc Cert.Kernel19Ideal.main_v48_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
          ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
          ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
          ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
          ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
          ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
          ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
          ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
          ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v251) = v0 c
          ∧ r.2.mem ((c.tc : Thread Cert.Reference19Ideal.nD Cert.Reference19Ideal.τ).loc Cert.Reference19Ideal.main_v263) = v1 c
          ∧ r.2.mem ((c.tc : Thread Cert.Reference19Ideal.nD Cert.Reference19Ideal.τ).loc Cert.Reference19Ideal.main_v275) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31)
          ∧ r.2.mem ((c.tc : Thread Cert.Reference19Ideal.nD Cert.Reference19Ideal.τ).loc Cert.Reference19Ideal.main_arg32) = m' ((c.tc : Thread Cert.Reference19Ideal.nD Cert.Reference19Ideal.τ).loc Cert.Reference19Ideal.main_arg32)
          ∧ r.2.mem ((c.tc : Thread Cert.Reference19Ideal.nD Cert.Reference19Ideal.τ).loc Cert.Reference19Ideal.main_arg33) = m' ((c.tc : Thread Cert.Reference19Ideal.nD Cert.Reference19Ideal.τ).loc Cert.Reference19Ideal.main_arg33)
          ∧ r.2.mem ((c.tc : Thread Cert.Reference19Ideal.nD Cert.Reference19Ideal.τ).loc Cert.Reference19Ideal.main_arg34) = m' ((c.tc : Thread Cert.Reference19Ideal.nD Cert.Reference19Ideal.τ).loc Cert.Reference19Ideal.main_arg34)
          ∧ r.2.mem ((c.tc : Thread Cert.Reference19Ideal.nD Cert.Reference19Ideal.τ).loc Cert.Reference19Ideal.main_arg35) = m' ((c.tc : Thread Cert.Reference19Ideal.nD Cert.Reference19Ideal.τ).loc Cert.Reference19Ideal.main_arg35)
          ∧ r.2.mem ((c.tc : Thread Cert.Reference19Ideal.nD Cert.Reference19Ideal.τ).loc Cert.Reference19Ideal.main_arg36) = m' ((c.tc : Thread Cert.Reference19Ideal.nD Cert.Reference19Ideal.τ).loc Cert.Reference19Ideal.main_arg36)
          ∧ r.2.mem ((c.tc : Thread Cert.Reference19Ideal.nD Cert.Reference19Ideal.τ).loc Cert.Reference19Ideal.main_arg37) = m' ((c.tc : Thread Cert.Reference19Ideal.nD Cert.Reference19Ideal.τ).loc Cert.Reference19Ideal.main_arg37)
          ∧ r.2.mem ((c.tc : Thread Cert.Reference19Ideal.nD Cert.Reference19Ideal.τ).loc Cert.Reference19Ideal.main_arg38) = m' ((c.tc : Thread Cert.Reference19Ideal.nD Cert.Reference19Ideal.τ).loc Cert.Reference19Ideal.main_arg38)
          ∧ r.2.mem ((c.tc : Thread Cert.Reference19Ideal.nD Cert.Reference19Ideal.τ).loc Cert.Reference19Ideal.main_arg39) = m' ((c.tc : Thread Cert.Reference19Ideal.nD Cert.Reference19Ideal.τ).loc Cert.Reference19Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x2816 : Shape := ⟨2, ![4096, 2816]⟩
abbrev S8 : Shape := ⟨1, ![8]⟩
abbrev S4096x1024 : Shape := ⟨2, ![4096, 1024]⟩
abbrev S4096x2944 : Shape := ⟨2, ![4096, 2944]⟩
abbrev S4096x640 : Shape := ⟨2, ![4096, 640]⟩
abbrev S_ : Shape := ⟨0, ![]⟩

class Facts : Prop where
  slices_S4096x2816_S4096x640_0_0 : S4096x2816.Slices ![0, 0] S4096x640
  bcast_S_S4096x640 : S_.BroadcastsInDim S4096x640 (![] : Fin 0 → Fin S4096x640.rank)
  reducesTo_S4096x640_S_d0_1 : S4096x640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4096x2816 .bf16) (main_arg1 : FVec F S8 .f32) (main_arg2 : FVec F S4096x1024 .f32) (main_arg3 : FVec F S4096x2944 .bf16) : IVec S_ 1 :=
  let main_v0 : FVec F S4096x640 .bf16 := (extractStridedSlice S4096x640 ![0, 0] · slices_S4096x2816_S4096x640_0_0) main_arg0
  let main_v1 : FVec F S4096x640 .bf16 := Host.absf main_v0
  let main_cst : FVec F S_ .bf16 := constant S_ .bf16 0x7F80#16
  let main_v2 : FVec F S4096x640 .bf16 := broadcastInDim S4096x640 ![] bcast_S_S4096x640 main_cst
  let main_v3 : IVec S4096x640 1 := cmpf .olt main_v1 main_v2
  let main_c : IVec S_ 1 := constantI S_ 1 1#1
  let main_v4 : IVec S_ 1 := (fun x v => Host.reduce IntOp.andi x v reducesTo_S4096x640_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Kernel.lean ====
abbrev S4096x2816 : Shape := ⟨2, ![4096, 2816]⟩
abbrev S8 : Shape := ⟨1, ![8]⟩
abbrev S4096x1024 : Shape := ⟨2, ![4096, 1024]⟩
abbrev S4096x2944 : Shape := ⟨2, ![4096, 2944]⟩
abbrev S_ : Shape := ⟨0, ![]⟩
abbrev S128 : Shape := ⟨1, ![128]⟩
abbrev S1x128 : Shape := ⟨2, ![1, 128]⟩
abbrev S2x512x256 : Shape := ⟨3, ![2, 512, 256]⟩
abbrev S1x2x512x256 : Shape := ⟨4, ![1, 2, 512, 256]⟩
abbrev S2x2x512x256 : Shape := ⟨4, ![2, 2, 512, 256]⟩
abbrev S128x512 : Shape := ⟨2, ![128, 512]⟩
abbrev S128x128 : Shape := ⟨2, ![128, 128]⟩
abbrev S128x768 : Shape := ⟨2, ![128, 768]⟩
abbrev S128x64 : Shape := ⟨2, ![128, 64]⟩
abbrev S256x64 : Shape := ⟨2, ![256, 64]⟩
abbrev S1x1x128x256 : Shape := ⟨4, ![1, 1, 128, 256]⟩
abbrev S128x256 : Shape := ⟨2, ![128, 256]⟩
abbrev S1 : Shape := ⟨1, ![1]⟩
abbrev S1x1 : Shape := ⟨2, ![1, 1]⟩
abbrev S128x1 : Shape := ⟨2, ![128, 1]⟩
abbrev S64x256 : Shape := ⟨2, ![64, 256]⟩
abbrev S1x128x1 : Shape := ⟨3, ![1, 128, 1]⟩
abbrev S1x1x1 : Shape := ⟨3, ![1, 1, 1]⟩

abbrev nBuf : Space → Nat
  | .hbm => 99
  | .vmem => 21
  | .smem => 0
  | _ => 0

abbrev bufTy : (tb : Table) → Fin (tcTables nBuf tb) → BufTy
  | .hbm, ⟨0, _⟩ => ⟨S4096x2816, .bf16⟩
  | .hbm, ⟨1, _⟩ => ⟨S8, .f32⟩
  | .hbm, ⟨2, _⟩ => ⟨S4096x1024, .f32⟩
  | .hbm, ⟨3, _⟩ => ⟨S4096x2944, .bf16⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S2x512x256, .i32⟩
  | .hbm, ⟨9, _⟩ => ⟨S2x512x256, .i32⟩
  | .hbm, ⟨10, _⟩ => ⟨S2x512x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2x512x256, .i32⟩
  | .hbm, ⟨18, _⟩ => ⟨S2x512x256, .i32⟩
  | .hbm, ⟨19, _⟩ => ⟨S_, .i32⟩
  | .hbm, ⟨20, _⟩ => ⟨S2x512x256, .i32⟩
  | .hbm, ⟨21, _⟩ => ⟨S2x512x256, .i1⟩
  | .hbm, ⟨22, _⟩ => ⟨S_, .i32⟩
  | .hbm, ⟨23, _⟩ => ⟨S2x512x256, .i32⟩
  | .hbm, ⟨24, _⟩ => ⟨S2x512x256, .i1⟩
  | .hbm, ⟨25, _⟩ => ⟨S_, .i32⟩
  | .hbm, ⟨26, _⟩ => ⟨S_, .i1⟩
  | .hbm, ⟨27, _⟩ => ⟨S2x512x256, .i1⟩
  | .hbm, ⟨28, _⟩ => ⟨S2x512x256, .i1⟩
  | .hbm, ⟨29, _⟩ => ⟨S2x512x256, .i1⟩
  | .hbm, ⟨30, _⟩ => ⟨S2x512x256, .i32⟩
  | .hbm, ⟨31, _⟩ => ⟨S2x512x256, .i32⟩
  | .hbm, ⟨32, _⟩ => ⟨S2x512x256, .i32⟩
  | .hbm, ⟨33, _⟩ => ⟨S_, .i32⟩
  | .hbm, ⟨34, _⟩ => ⟨S2x512x256, .i32⟩
  | .hbm, ⟨35, _⟩ => ⟨S2x512x256, .i32⟩
  | .hbm, ⟨36, _⟩ => ⟨S2x512x256, .i32⟩
  | .hbm, ⟨37, _⟩ => ⟨S_, .i32⟩
  | .hbm, ⟨38, _⟩ => ⟨S2x512x256, .i32⟩
  | .hbm, ⟨39, _⟩ => ⟨S2x512x256, .i1⟩
  | .hbm, ⟨40, _⟩ => ⟨S_, .i32⟩
  | .hbm, ⟨41, _⟩ => ⟨S2x512x256, .i32⟩
  | .hbm, ⟨42, _⟩ => ⟨S2x512x256, .i1⟩
  | .hbm, ⟨43, _⟩ => ⟨S2x512x256, .i1⟩
  | .hbm, ⟨44, _⟩ => ⟨S_, .i32⟩
  | .hbm, ⟨45, _⟩ => ⟨S2x512x256, .i32⟩
  | .hbm, ⟨46, _⟩ => ⟨S2x512x256, .i32⟩
  | .hbm, ⟨47, _⟩ => ⟨S_, .i32⟩
  | .hbm, ⟨48, _⟩ => ⟨S_, .i32⟩
  | .hbm, ⟨49, _⟩ => ⟨S2x512x256, .i32⟩
  | .hbm, ⟨50, _⟩ => ⟨S2x512x256, .i32⟩
  | .hbm, ⟨51, _⟩ => ⟨S2x512x256, .i32⟩
  | .hbm, ⟨52, _⟩ => ⟨S_, .i32⟩
  | .hbm, ⟨53, _⟩ => ⟨S2x512x256, .i32⟩
  | .hbm, ⟨54, _⟩ => ⟨S2x512x256, .i1⟩
  | .hbm, ⟨55, _⟩ => ⟨S2x512x256, .i32⟩
  | .hbm, ⟨56, _⟩ => ⟨S2x512x256, .i32⟩
  | .hbm, ⟨57, _⟩ => ⟨S_, .i32⟩
  | .hbm, ⟨58, _⟩ => ⟨S2x512x256, .i32⟩
  | .hbm, ⟨59, _⟩ => ⟨S2x512x256, .i1⟩
  | .hbm, ⟨60, _⟩ => ⟨S2x512x256, .i1⟩
  | .hbm, ⟨61, _⟩ => ⟨S_, .i32⟩
  | .hbm, ⟨62, _⟩ => ⟨S2x512x256, .i32⟩
  | .hbm, ⟨63, _⟩ => ⟨S2x512x256, .i32⟩
  | .hbm, ⟨64, _⟩ => ⟨S2x512x256, .i32⟩
  | .hbm, ⟨65, _⟩ => ⟨S2x512x256, .i32⟩
  | .hbm, ⟨66, _⟩ => ⟨S_, .i32⟩
  | .hbm, ⟨67, _⟩ => ⟨S2x512x256, .i32⟩
  | .hbm, ⟨68, _⟩ => ⟨S2x512x256, .i32⟩
  | .hbm, ⟨69, _⟩ => ⟨S2x512x256, .f32⟩
  | .hbm, ⟨70, _⟩ => ⟨S_, .f32⟩
  | .hbm, ⟨71, _⟩ => ⟨S2x512x256, .f32⟩
  | .hbm, ⟨72, _⟩ => ⟨S2x512x256, .f32⟩
  | .hbm, ⟨73, _⟩ => ⟨S_, .f32⟩
  | .hbm, ⟨74, _⟩ => ⟨S2x512x256, .f32⟩
  | .hbm, ⟨75, _⟩ => ⟨S2x512x256, .f32⟩
  | .hbm, ⟨76, _⟩ => ⟨S_, .f32⟩
  | .hbm, ⟨77, _⟩ => ⟨S2x512x256, .f32⟩
  | .hbm, ⟨78, _⟩ => ⟨S2x512x256, .f32⟩
  | .hbm, ⟨79, _⟩ => ⟨S2x512x256, .f32⟩
  | .hbm, ⟨80, _⟩ => ⟨S2x512x256, .f32⟩
  | .hbm, ⟨81, _⟩ => ⟨S2x512x256, .f32⟩
  | .hbm, ⟨82, _⟩ => ⟨S_, .i32⟩
  | .hbm, ⟨83, _⟩ => ⟨S2x512x256, .i32⟩
  | .hbm, ⟨84, _⟩ => ⟨S2x512x256, .i1⟩
  | .hbm, ⟨85, _⟩ => ⟨S2x512x256, .i1⟩
  | .hbm, ⟨86, _⟩ => ⟨S_, .f32⟩
  | .hbm, ⟨87, _⟩ => ⟨S_, .f32⟩
  | .hbm, ⟨88, _⟩ => ⟨S2x512x256, .f32⟩
  | .hbm, ⟨89, _⟩ => ⟨S2x512x256, .f32⟩
  | .hbm, ⟨90, _⟩ => ⟨S_, .f32⟩
  | .hbm, ⟨91, _⟩ => ⟨S_, .f32⟩
  | .hbm, ⟨92, _⟩ => ⟨S2x512x256, .f32⟩
  | .hbm, ⟨93, _⟩ => ⟨S2x512x256, .f32⟩
  | .hbm, ⟨94, _⟩ => ⟨S1x2x512x256, .f32⟩
  | .hbm, ⟨95, _⟩ => ⟨S1x2x512x256, .f32⟩
  | .hbm, ⟨96, _⟩ => ⟨S2x2x512x256, .f32⟩
  | .hbm, ⟨97, _⟩ => ⟨S4096x2944, .bf16⟩
  | .hbm, ⟨98, _⟩ => ⟨S1x128, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x2x512x256, .f32⟩
  | .local _ .vmem, ⟨12, _⟩ => ⟨S1x2x512x256, .f32⟩
  | .local _ .vmem, ⟨13, _⟩ => ⟨S128x512, .f32⟩
  | .local _ .vmem, ⟨14, _⟩ => ⟨S128x512, .f32⟩
  | .local _ .vmem, ⟨15, _⟩ => ⟨S128x768, .bf16⟩
  | .local _ .vmem, ⟨16, _⟩ => ⟨S128x768, .bf16⟩
  | .local _ .vmem, ⟨17, _⟩ => ⟨S1x128, .f32⟩
  | .local _ .vmem, ⟨18, _⟩ => ⟨S128x512, .f32⟩
  | .local _ .vmem, ⟨19, _⟩ => ⟨S128x128, .f32⟩
  | .local _ .vmem, ⟨20, _⟩ => ⟨S128x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_call1_c : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_c_1 : Ref sig .tc := ⟨.hbm, 19, rfl⟩
abbrev main_call1_v5 : Ref sig .tc := ⟨.hbm, 20, rfl⟩
abbrev main_call1_v6 : Ref sig .tc := ⟨.hbm, 21, rfl⟩
abbrev main_call1_c_2 : Ref sig .tc := ⟨.hbm, 22, rfl⟩
abbrev main_call1_v7 : Ref sig .tc := ⟨.hbm, 23, rfl⟩
abbrev main_call1_v8 : Ref sig .tc := ⟨.hbm, 24, rfl⟩
abbrev main_call1_c_3 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_v14 : Ref sig .tc := ⟨.hbm, 45, rfl⟩
abbrev main_v15 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v16 : Ref sig .tc := ⟨.hbm, 64, rfl⟩
abbrev main_v17 : Ref sig .tc := ⟨.hbm, 65, rfl⟩
abbrev main_c_6 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst : Ref sig .tc := ⟨.hbm, 70, rfl⟩
abbrev main_v21 : Ref sig .tc := ⟨.hbm, 71, rfl⟩
abbrev main_v22 : Ref sig .tc := ⟨.hbm, 72, rfl⟩
abbrev main_cst_7 : Ref sig .tc := ⟨.hbm, 73, rfl⟩
abbrev main_v23 : Ref sig .tc := ⟨.hbm, 74, rfl⟩
abbrev main_v24 : Ref sig .tc := ⟨.hbm, 75, rfl⟩
abbrev main_cst_8 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_c_9 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_v33 : Ref sig .tc := ⟨.hbm, 89, rfl⟩
abbrev main_cst_11 : Ref sig .tc := ⟨.hbm, 90, rfl⟩
abbrev main_call4_v0 : Ref sig .tc := ⟨.hbm, 91, rfl⟩
abbrev main_call4_v1 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38_0 : Ref sig .tc := ⟨.hbm, 97, rfl⟩
abbrev main_v38_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x2816 : Shape := ⟨2, ![4096, 2816]⟩
abbrev S8 : Shape := ⟨1, ![8]⟩
abbrev S4096x1024 : Shape := ⟨2, ![4096, 1024]⟩
abbrev S4096x2944 : Shape := ⟨2, ![4096, 2944]⟩
abbrev S4096x512 : Shape := ⟨2, ![4096, 512]⟩
abbrev S4096x128 : Shape := ⟨2, ![4096, 128]⟩
abbrev S1x4096x512 : Shape := ⟨3, ![1, 4096, 512]⟩
abbrev S1x4096x128 : Shape := ⟨3, ![1, 4096, 128]⟩
abbrev S1x4096x8x64 : Shape := ⟨4, ![1, 4096, 8, 64]⟩
abbrev S1x4096x2x64 : Shape := ⟨4, ![1, 4096, 2, 64]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x32x1x1x128x256 : Shape := ⟨6, ![1, 32, 1, 1, 128, 256]⟩
abbrev S1x1x2x4x128x256 : Shape := ⟨6, ![1, 1, 2, 4, 128, 256]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S1x32x2x64x256 : Shape := ⟨5, ![1, 32, 2, 64, 256]⟩
abbrev S32x2x4x128 : Shape := ⟨4, ![32, 2, 4, 128]⟩
abbrev S1x32x2x128x4x64 : Shape := ⟨6, ![1, 32, 2, 128, 4, 64]⟩
abbrev S1x32x2x256x64 : Shape := ⟨5, ![1, 32, 2, 256, 64]⟩
abbrev S4096x768 : Shape := ⟨2, ![4096, 768]⟩
abbrev S4096x2176 : Shape := ⟨2, ![4096, 2176]⟩
abbrev S1x128 : Shape := ⟨2, ![1, 128]⟩

abbrev nBuf : Space → Nat
  | .hbm => 225
  | .vmem => 0
  | .smem => 0
  | _ => 0

abbrev hbmTy0_0 (i : Nat) : BufTy := match i % 128 with
  | 0 => ⟨S4096x2816, .bf16⟩
  | 1 => ⟨S8, .f32⟩
  | 2 => ⟨S4096x1024, .f32⟩
  | 3 => ⟨S4096x2944, .bf16⟩
  | 4 => ⟨S4096x512, .bf16⟩
  | 5 => ⟨S4096x128, .bf16⟩
  | 6 => ⟨S4096x128, .bf16⟩
  | 7 => ⟨S4096x512, .f32⟩
  | 8 => ⟨S1x4096x512, .f32⟩
  | 9 => ⟨S4096x128, .f32⟩
  | 10 => ⟨S1x4096x128, .f32⟩
  | 11 => ⟨S4096x128, .f32⟩
  | 12 => ⟨S1x4096x128, .f32⟩
  | 13 => ⟨S1x4096x8x64, .f32⟩
  | 14 => ⟨S1x4096x2x64, .f32⟩
  | 15 => ⟨S1x4096x2x64, .f32⟩
  | 16 => ⟨S1x32x128x2x4x64, .f32⟩
  | 17 => ⟨S1x32x128x2x64, .f32⟩
  | 18 => ⟨S1x1x128x2x64, .f32⟩
  | 19 => ⟨S_, .f32⟩
  | 20 => ⟨S1x1x128x2x64, .f32⟩
  | 21 => ⟨S1x31x128x2x64, .f32⟩
  | 22 => ⟨S1x32x128x2x64, .f32⟩
  | 23 => ⟨S_, .f32⟩
  | 24 => ⟨S1x1x128x2x64, .f32⟩
  | 25 => ⟨S1x32x256x2x64, .f32⟩
  | 26 => ⟨S1x32x128x2x64, .f32⟩
  | 27 => ⟨S1x1x128x2x64, .f32⟩
  | 28 => ⟨S_, .f32⟩
  | 29 => ⟨S1x1x128x2x64, .f32⟩
  | 30 => ⟨S1x31x128x2x64, .f32⟩
  | 31 => ⟨S1x32x128x2x64, .f32⟩
  | 32 => ⟨S_, .f32⟩
  | 33 => ⟨S1x1x128x2x64, .f32⟩
  | 34 => ⟨S1x32x256x2x64, .f32⟩
  | 35 => ⟨S1x32x2x256x128x4, .f32⟩
  | 36 => ⟨S1x32x2x4x128x256, .f32⟩
  | 37 => ⟨S_, .f32⟩
  | 38 => ⟨S1x32x2x4x128x256, .f32⟩
  | 39 => ⟨S1x32x2x4x128x256, .f32⟩
  | 40 => ⟨S128, .i32⟩
  | 41 => ⟨S128x1, .i32⟩
  | 42 => ⟨S_, .i32⟩
  | 43 => ⟨S128x1, .i32⟩
  | 44 => ⟨S128x1, .i32⟩
  | 45 => ⟨S256, .i32⟩
  | 46 => ⟨S1x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i1⟩
  | 56 => ⟨S128x256, .i1⟩
  | 57 => ⟨S32, .i32⟩
  | 58 => ⟨S32x1x1, .i32⟩
  | 59 => ⟨S1x128x256, .i1⟩
  | 60 => ⟨S_, .i32⟩
  | 61 => ⟨S32x1x1, .i32⟩
  | 62 => ⟨S32x1x1, .i1⟩
  | 63 => ⟨S_, .i32⟩
  | 64 => ⟨S1x256, .i32⟩
  | 65 => ⟨S1x256, .i1⟩
  | 66 => ⟨S1x1x256, .i1⟩
  | 67 => ⟨S32x1x256, .i1⟩
  | 68 => ⟨S32x1x256, .i1⟩
  | 69 => ⟨S32x1x256, .i1⟩
  | 70 => ⟨S32x128x256, .i1⟩
  | 71 => ⟨S32x128x256, .i1⟩
  | 72 => ⟨S32x128x256, .i1⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S2x4, .f32⟩
  | 87 => ⟨S2x4x1x1, .f32⟩
  | 88 => ⟨S2x4x1x1, .f32⟩
  | 89 => ⟨S128x256, .f32⟩
  | 90 => ⟨S1x1x128x256, .f32⟩
  | 91 => ⟨S2x4x128x256, .f32⟩
  | 92 => ⟨S2x4x128x256, .f32⟩
  | 93 => ⟨S2x4x128x256, .f32⟩
  | 94 => ⟨S1x32x1x1x128x256, .i1⟩
  | 95 => ⟨S1x1x2x4x128x256, .f32⟩
  | 96 => ⟨S1x32x2x4x128x256, .f32⟩
  | 97 => ⟨S1x32x2x4x128x256, .f32⟩
  | 98 => ⟨S_, .f32⟩
  | 99 => ⟨S_, .f32⟩
  | 100 => ⟨S1x32x2x4x128x256, .i1⟩
  | 101 => ⟨S1x32x2x4x128x256, .f32⟩
  | 102 => ⟨S1x32x2x4x128x256, .f32⟩
  | 103 => ⟨S_, .f32⟩
  | 104 => ⟨S1x32x2x4x128x256, .f32⟩
  | 105 => ⟨S2x4, .f32⟩
  | 106 => ⟨S2x4x1x1, .f32⟩
  | 107 => ⟨S1x32x2x4x128x1, .f32⟩
  | 108 => ⟨S1x32x2x4x128x257, .f32⟩
  | 109 => ⟨S_, .f32⟩
  | 110 => ⟨S1x32x2x4x128, .f32⟩
  | 111 => ⟨S1x32x2x4x128x1, .f32⟩
  | 112 => ⟨S1x32x2x4x128x257, .f32⟩
  | 113 => ⟨S1x32x2x4x128x257, .i1⟩
  | 114 => ⟨S1x32x2x4x128x257, .f32⟩
  | 115 => ⟨S_, .f32⟩
  | 116 => ⟨S1x32x2x4x128, .f32⟩
  | 117 => ⟨S_, .f32⟩
  | 118 => ⟨S1x32x2x4x128, .f32⟩
  | 119 => ⟨S1x32x2x4x128, .f32⟩
  | 120 => ⟨S_, .f32⟩
  | 121 => ⟨S1x32x2x4x128, .f32⟩
  | 122 => ⟨S1x32x2x4x128, .i1⟩
  | 123 => ⟨S_, .f32⟩
  | 124 => ⟨S1x32x2x4x128, .f32⟩
  | 125 => ⟨S1x32x2x4x128, .i1⟩
  | 126 => ⟨S_, .f32⟩
  | 127 => ⟨S1x32x2x4x128, .f32⟩
  | _ => ⟨S4096x2816, .bf16⟩

abbrev hbmTy0_1 (i : Nat) : BufTy := match i % 128 with
  | 0 => ⟨S_, .f32⟩
  | 1 => ⟨S1x32x2x4x128, .f32⟩
  | 2 => ⟨S_, .f32⟩
  | 3 => ⟨S1x32x2x4x128, .f32⟩
  | 4 => ⟨S1x32x2x4x128, .f32⟩
  | 5 => ⟨S1x32x2x4x128, .f32⟩
  | 6 => ⟨S1x32x2x4x128x1, .f32⟩
  | 7 => ⟨S1x32x2x4x128x257, .f32⟩
  | 8 => ⟨S1x32x2x4x128x257, .f32⟩
  | 9 => ⟨S1x32x2x4x128x257, .f32⟩
  | 10 => ⟨S_, .f32⟩
  | 11 => ⟨S1x32x2x4x128, .f32⟩
  | 12 => ⟨S1x32x2x4x128x1, .f32⟩
  | 13 => ⟨S1x32x2x4x128x257, .f32⟩
  | 14 => ⟨S1x32x2x4x128x257, .f32⟩
  | 15 => ⟨S1x32x2x4x128x1, .f32⟩
  | 16 => ⟨S_, .f32⟩
  | 17 => ⟨S1x32x2x4x128x1, .f32⟩
  | 18 => ⟨S1x32x2x4x128x1, .f32⟩
  | 19 => ⟨S1x32x2x4x128x256, .f32⟩
  | 20 => ⟨S1x32x2x64x4x128, .f32⟩
  | 21 => ⟨S1x32x128x2x4x64, .f32⟩
  | 22 => ⟨S1x4096x512, .f32⟩
  | 23 => ⟨S4096x512, .f32⟩
  | 24 => ⟨S1x4096x512, .f32⟩
  | 25 => ⟨S1x32x128x2x4x64, .f32⟩
  | 26 => ⟨S1x32x2x64x4x128, .f32⟩
  | 27 => ⟨S1x32x2x4x128x256, .f32⟩
  | 28 => ⟨S1x32x2x64x256, .f32⟩
  | 29 => ⟨S1x32x256x2x64, .f32⟩
  | 30 => ⟨S_, .f32⟩
  | 31 => ⟨S1x32x2x4x128x257, .f32⟩
  | 32 => ⟨S1x32x2x4x128x257, .f32⟩
  | 33 => ⟨S1x32x2x4x128x257, .f32⟩
  | 34 => ⟨S1x32x2x4x128x257, .f32⟩
  | 35 => ⟨S_, .f32⟩
  | 36 => ⟨S1x32x2x4x128, .f32⟩
  | 37 => ⟨S1x32x2x4x128x1, .f32⟩
  | 38 => ⟨S1x32x2x4x128x1, .f32⟩
  | 39 => ⟨S1x32x2x4x128x257, .f32⟩
  | 40 => ⟨S1x32x2x4x128x257, .f32⟩
  | 41 => ⟨S_, .f32⟩
  | 42 => ⟨S32x2x4x128, .f32⟩
  | 43 => ⟨S1x32x2x4x128, .f32⟩
  | 44 => ⟨S1x32x2x4x128x257, .f32⟩
  | 45 => ⟨S1x32x2x4x128x257, .f32⟩
  | 46 => ⟨S1x32x2x4x128x257, .f32⟩
  | 47 => ⟨S1x32x2x4x128x256, .f32⟩
  | 48 => ⟨S1x32x2x4x128x1, .f32⟩
  | 49 => ⟨S_, .f32⟩
  | 50 => ⟨S2x4, .f32⟩
  | 51 => ⟨S2x4x1x1, .f32⟩
  | 52 => ⟨S_, .f32⟩
  | 53 => ⟨S2x4, .f32⟩
  | 54 => ⟨S8, .f32⟩
  | 55 => ⟨S_, .f32⟩
  | 56 => ⟨S1x32x2x4x128x256, .f32⟩
  | 57 => ⟨S1x32x2x4x128x256, .f32⟩
  | 58 => ⟨S_, .f32⟩
  | 59 => ⟨S1x32x2x4x128x256, .f32⟩
  | 60 => ⟨S1x32x2x4x128x256, .f32⟩
  | 61 => ⟨S1x32x2x256x128x4, .f32⟩
  | 62 => ⟨S1x32x2x128x4x64, .f32⟩
  | 63 => ⟨S1x32x128x2x4x64, .f32⟩
  | 64 => ⟨S1x32x2x256x64, .f32⟩
  | 65 => ⟨S1x32x256x2x64, .f32⟩
  | 66 => ⟨S1x32x128x2x64, .f32⟩
  | 67 => ⟨S1x32x128x2x64, .f32⟩
  | 68 => ⟨S1x1x128x2x64, .f32⟩
  | 69 => ⟨S1x31x128x2x64, .f32⟩
  | 70 => ⟨S_, .f32⟩
  | 71 => ⟨S1x32x128x2x64, .f32⟩
  | 72 => ⟨S1x32x128x2x64, .f32⟩
  | 73 => ⟨S1x4096x2x64, .f32⟩
  | 74 => ⟨S1x32x128x2x64, .f32⟩
  | 75 => ⟨S1x32x128x2x64, .f32⟩
  | 76 => ⟨S1x1x128x2x64, .f32⟩
  | 77 => ⟨S1x31x128x2x64, .f32⟩
  | 78 => ⟨S_, .f32⟩
  | 79 => ⟨S1x32x128x2x64, .f32⟩
  | 80 => ⟨S1x32x128x2x64, .f32⟩
  | 81 => ⟨S1x4096x2x64, .f32⟩
  | 82 => ⟨S1x4096x8x64, .f32⟩
  | 83 => ⟨S1x4096x128, .f32⟩
  | 84 => ⟨S1x4096x128, .f32⟩
  | 85 => ⟨S1x4096x512, .f32⟩
  | 86 => ⟨S4096x512, .f32⟩
  | 87 => ⟨S4096x128, .f32⟩
  | 88 => ⟨S4096x128, .f32⟩
  | 89 => ⟨S4096x768, .f32⟩
  | 90 => ⟨S4096x768, .bf16⟩
  | 91 => ⟨S4096x2176, .bf16⟩
  | 92 => ⟨S4096x2944, .bf16⟩
  | 93 => ⟨S_, .i32⟩
  | 94 => ⟨S_, .f32⟩
  | 95 => ⟨S128, .f32⟩
  | 96 => ⟨S1x128, .f32⟩
  | _ => ⟨S4096x2816, .bf16⟩

abbrev hbmTy (i : Nat) : BufTy := match i / 128 with
  | 0 => hbmTy0_0 i
  | 1 => hbmTy0_1 i
  | _ => ⟨S4096x2816, .bf16⟩

abbrev bufTy : (tb : Table) → Fin (tcTables nBuf tb) → BufTy
  | .hbm, ⟨i, _⟩ => hbmTy i
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_call0_v0 : Ref sig .tc := ⟨.hbm, 99, rfl⟩
abbrev main_v80_1 : Ref sig .tc := ⟨.hbm, 100, rfl⟩
abbrev main_call0_v2 : Ref sig .tc := ⟨.hbm, 101, rfl⟩
abbrev main_v80_0 : Ref sig .tc := ⟨.hbm, 102, rfl⟩
abbrev main_call0_cst : Ref sig .tc := ⟨.hbm, 103, rfl⟩
abbrev main_v80_2 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_cst_16 : Ref sig .tc := ⟨.hbm, 120, rfl⟩
abbrev main_v93 : Ref sig .tc := ⟨.hbm, 121, rfl⟩
abbrev main_v94 : Ref sig .tc := ⟨.hbm, 122, rfl⟩
abbrev main_cst_17 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_cst_19 : Ref sig .tc := ⟨.hbm, 128, rfl⟩
abbrev main_v98 : Ref sig .tc := ⟨.hbm, 129, rfl⟩
abbrev main_cst_20 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_23 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_24 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_25 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_26 : Ref sig .tc := ⟨.hbm, 177, rfl⟩
abbrev main_v140 : Ref sig .tc := ⟨.hbm, 178, rfl⟩
abbrev main_v141 : Ref sig .tc := ⟨.hbm, 179, rfl⟩
abbrev main_cst_27 : Ref sig .tc := ⟨.hbm, 180, rfl⟩
abbrev main_v142 : Ref sig .tc := ⟨.hbm, 181, rfl⟩
abbrev main_v143 : Ref sig .tc := ⟨.hbm, 182, rfl⟩
abbrev main_call1_cst : Ref sig .tc := ⟨.hbm, 183, rfl⟩
abbrev main_call1_v0 : Ref sig .tc := ⟨.hbm, 184, rfl⟩
abbrev main_v144 : Ref sig .tc := ⟨.hbm, 185, rfl⟩
abbrev main_cst_28 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_29 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_30 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_c_31 : Ref sig .tc := ⟨.hbm, 221, rfl⟩
abbrev main_call2_v0 : Ref sig .tc := ⟨.hbm, 222, rfl⟩
abbrev main_v177 : Ref sig .tc := ⟨.hbm, 223, rfl⟩
abbrev main_v178 : Ref sig .tc := ⟨.hbm, 224, rfl⟩

abbrev nD : Nat := 1
abbrev τ : Topo := Topo.v7x

variable {F : FTy → Type} [FloatOps F]
-- ==== Kernel2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S1x1024 : Shape := ⟨2, ![1, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_cond3 (i : grid0.Coords) : BitVec 1 :=
  let arg0 : BitVec 32 := BitVec.ofNat 32 (i 0).val
  let c0_i32_8 : BitVec 32 := 0#32
  let v11 : BitVec 1 := Scalar.cmpi .eq arg0 c0_i32_8
  let arg1 : BitVec 32 := BitVec.ofNat 32 (i 1).val
  let c0_i32_9 : BitVec 32 := 0#32
  let v12 : BitVec 1 := Scalar.cmpi .eq arg1 c0_i32_9
  let v13 : BitVec 1 := Scalar.andi v11 v12
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S1x1024x1408 : Shape := ⟨3, ![1, 1024, 1408]⟩
abbrev S1024x1408 : Shape := ⟨2, ![1024, 1408]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024x1408, .bf16⟩
  | .hbm, ⟨6, _⟩ => ⟨S1024x1408, .bf16⟩
  | .hbm, ⟨7, _⟩ => ⟨S1024x1408, .f32⟩
  | .hbm, ⟨8, _⟩ => ⟨S1x1024x1408, .bf16⟩
  | .hbm, ⟨9, _⟩ => ⟨S1024x1408, .bf16⟩
  | .hbm, ⟨10, _⟩ => ⟨S1024x1408, .f32⟩
  | .hbm, ⟨11, _⟩ => ⟨S1x1024x1408, .bf16⟩
  | .hbm, ⟨12, _⟩ => ⟨S1024x1408, .bf16⟩
  | .hbm, ⟨13, _⟩ => ⟨S1024x1408, .f32⟩
  | .hbm, ⟨14, _⟩ => ⟨S1x1024x1408, .bf16⟩
  | .hbm, ⟨15, _⟩ => ⟨S1024x1408, .bf16⟩
  | .hbm, ⟨16, _⟩ => ⟨S1024x1408, .f32⟩
  | .hbm, ⟨17, _⟩ => ⟨S1024x5632, .f32⟩
  | .hbm, ⟨18, _⟩ => ⟨S1x4096x2816, .bf16⟩
  | .hbm, ⟨19, _⟩ => ⟨S4096x2816, .bf16⟩
  | .hbm, ⟨20, _⟩ => ⟨S4096x2816, .f32⟩
  | .hbm, ⟨21, _⟩ => ⟨S1x4096x2816, .bf16⟩
  | .hbm, ⟨22, _⟩ => ⟨S4096x2816, .bf16⟩
  | .hbm, ⟨23, _⟩ => ⟨S4096x2816, .f32⟩
  | .hbm, ⟨24, _⟩ => ⟨S4096x5632, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x5632, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S5632x1024 : Shape := ⟨2, ![5632, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S4096x2816, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S4096x5632, .f32⟩
  | .hbm, ⟨9, _⟩ => ⟨S4096x1024, .f32⟩
  | .hbm, ⟨10, _⟩ => ⟨S5632x1024, .f32⟩
  | .hbm, ⟨11, _⟩ => ⟨S1024x5632, .f32⟩
  | .hbm, ⟨12, _⟩ => ⟨S1024x5632, .bf16⟩
  | .hbm, ⟨13, _⟩ => ⟨S1024x1408, .bf16⟩
  | .hbm, ⟨14, _⟩ => ⟨S1024x1408, .bf16⟩
  | .hbm, ⟨15, _⟩ => ⟨S1024x1408, .bf16⟩
  | .hbm, ⟨16, _⟩ => ⟨S1024x1408, .bf16⟩
  | .hbm, ⟨17, _⟩ => ⟨S1x1024x1408, .bf16⟩
  | .hbm, ⟨18, _⟩ => ⟨S1x1024x1408, .bf16⟩
  | .hbm, ⟨19, _⟩ => ⟨S1x1024x1408, .bf16⟩
  | .hbm, ⟨20, _⟩ => ⟨S1x1024x1408, .bf16⟩
  | .hbm, ⟨21, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S4096x2816, .f32⟩
  | .hbm, ⟨4, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4096x1024 : Shape := ⟨2, ![4096, 1024]⟩
abbrev S4x1024x1408 : Shape := ⟨3, ![4, 1024, 1408]⟩
abbrev S4096x5632 : Shape := ⟨2, ![4096, 5632]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S4096x5632 : Shape := ⟨2, ![4096, 5632]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1024x1408, .f32⟩
  | .hbm, ⟨5, _⟩ => ⟨S1x1024x1408, .bf16⟩
  | .hbm, ⟨6, _⟩ => ⟨S1024x1408, .bf16⟩
  | .hbm, ⟨7, _⟩ => ⟨S1024x1408, .f32⟩
  | .hbm, ⟨8, _⟩ => ⟨S1x1024x1408, .bf16⟩
  | .hbm, ⟨9, _⟩ => ⟨S1024x1408, .bf16⟩
  | .hbm, ⟨10, _⟩ => ⟨S1024x1408, .f32⟩
  | .hbm, ⟨11, _⟩ => ⟨S1x1024x1408, .bf16⟩
  | .hbm, ⟨12, _⟩ => ⟨S1024x1408, .bf16⟩
  | .hbm, ⟨13, _⟩ => ⟨S1024x1408, .f32⟩
  | .hbm, ⟨14, _⟩ => ⟨S1024x5632, .f32⟩
  | .hbm, ⟨15, _⟩ => ⟨S4096x1024, .f32⟩
  | .hbm, ⟨16, _⟩ => ⟨S4096x5632, .f32⟩
  | .hbm, ⟨17, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S4096x2944 : Shape := ⟨2, ![4096, 2944]⟩
abbrev S1024x2944 : Shape := ⟨2, ![1024, 2944]⟩
abbrev S2048x512 : Shape := ⟨2, ![2048, 512]⟩
abbrev S2048x2944 : Shape := ⟨2, ![2048, 2944]⟩
abbrev S512x2944 : Shape := ⟨2, ![512, 2944]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2944, .bf16⟩
  | .hbm, ⟨2, _⟩ => ⟨S1024x2944, .bf16⟩
  | .local _ .vmem, ⟨0, _⟩ => ⟨S2048x512, .bf16⟩
  | .local _ .vmem, ⟨1, _⟩ => ⟨S2048x512, .bf16⟩
  | .local _ .vmem, ⟨2, _⟩ => ⟨S2048x2944, .bf16⟩
  | .local _ .vmem, ⟨3, _⟩ => ⟨S2048x2944, .bf16⟩
  | .local _ .vmem, ⟨4, _⟩ => ⟨S512x2944, .bf16⟩
  | .local _ .vmem, ⟨5, _⟩ => ⟨S512x2944, .bf16⟩
  | .local _ .vmem, ⟨6, _⟩ => ⟨S512x2944, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2944 : Shape := ⟨2, ![4096, 2944]⟩
abbrev S2944x1024 : Shape := ⟨2, ![2944, 1024]⟩
abbrev S1024x2944 : Shape := ⟨2, ![1024, 2944]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2944, .bf16⟩
  | .hbm, ⟨2, _⟩ => ⟨S4096x1024, .f32⟩
  | .hbm, ⟨3, _⟩ => ⟨S4096x2944, .f32⟩
  | .hbm, ⟨4, _⟩ => ⟨S2944x1024, .f32⟩
  | .hbm, ⟨5, _⟩ => ⟨S1024x2944, .f32⟩
  | .hbm, ⟨6, _⟩ => ⟨S1024x2944, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2944 : Shape := ⟨2, ![4096, 2944]⟩
abbrev S1024x2944 : Shape := ⟨2, ![1024, 2944]⟩
abbrev S4096x1024 : Shape := ⟨2, ![4096, 1024]⟩
abbrev S1024 : Shape := ⟨1, ![1024]⟩
abbrev S1x1024 : Shape := ⟨2, ![1, 1024]⟩
abbrev S512x2944 : Shape := ⟨2, ![512, 2944]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2944, .bf16⟩
  | .hbm, ⟨1, _⟩ => ⟨S1024x2944, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x2944, .bf16⟩
  | .local _ .vmem, ⟨1, _⟩ => ⟨S512x2944, .bf16⟩
  | .local _ .vmem, ⟨2, _⟩ => ⟨S1024x2944, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond4 (i : grid0.Coords) : BitVec 1 :=
  let arg1 : BitVec 32 := BitVec.ofNat 32 (i 1).val
  let c0_i32_9 : BitVec 32 := 0#32
  let v14 : BitVec 1 := Scalar.cmpi .eq arg1 c0_i32_9
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S4096x2944 : Shape := ⟨2, ![4096, 2944]⟩
abbrev S1024x2944 : Shape := ⟨2, ![1024, 2944]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x2944, .bf16⟩
  | .hbm, ⟨1, _⟩ => ⟨S1024x2944, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2944, .f32⟩
  | .hbm, ⟨26, _⟩ => ⟨S4096x2944, .f32⟩
  | .hbm, ⟨27, _⟩ => ⟨S4096x2944, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x2944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel13.lean ====
abbrev S2x1024x706 : Shape := ⟨3, ![2, 1024, 706]⟩
abbrev S2048x706 : Shape := ⟨2, ![2048, 706]⟩
abbrev S512x706 : Shape := ⟨2, ![512, 706]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x706, .f32⟩
  | .hbm, ⟨1, _⟩ => ⟨S2x1024x706, .f32⟩
  | .hbm, ⟨2, _⟩ => ⟨S2x1024x706, .f32⟩
  | .hbm, ⟨3, _⟩ => ⟨S2x1024x706, .f32⟩
  | .hbm, ⟨4, _⟩ => ⟨S2048x706, .f32⟩
  | .hbm, ⟨5, _⟩ => ⟨S2048x706, .f32⟩
  | .hbm, ⟨6, _⟩ => ⟨S2048x706, .f32⟩
  | .hbm, ⟨7, _⟩ => ⟨S2048x706, .f32⟩
  | .hbm, ⟨8, _⟩ => ⟨S2048x706, .f32⟩
  | .hbm, ⟨9, _⟩ => ⟨S2048x706, .f32⟩
  | .hbm, ⟨10, _⟩ => ⟨S2048x706, .f32⟩
  | .local _ .vmem, ⟨0, _⟩ => ⟨S512x706, .f32⟩
  | .local _ .vmem, ⟨1, _⟩ => ⟨S512x706, .f32⟩
  | .local _ .vmem, ⟨2, _⟩ => ⟨S512x706, .f32⟩
  | .local _ .vmem, ⟨3, _⟩ => ⟨S512x706, .f32⟩
  | .local _ .vmem, ⟨4, _⟩ => ⟨S512x706, .f32⟩
  | .local _ .vmem, ⟨5, _⟩ => ⟨S512x706, .f32⟩
  | .local _ .vmem, ⟨6, _⟩ => ⟨S512x706, .f32⟩
  | .local _ .vmem, ⟨7, _⟩ => ⟨S512x706, .f32⟩
  | .local _ .vmem, ⟨8, _⟩ => ⟨S512x706, .f32⟩
  | .local _ .vmem, ⟨9, _⟩ => ⟨S512x706, .f32⟩
  | .local _ .vmem, ⟨10, _⟩ => ⟨S512x706, .f32⟩
  | .local _ .vmem, ⟨11, _⟩ => ⟨S512x706, .f32⟩
  | .local _ .vmem, ⟨12, _⟩ => ⟨S512x706, .f32⟩
  | .local _ .vmem, ⟨13, _⟩ => ⟨S512x706, .f32⟩
  | _, _ => ⟨S2x1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x706 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2x1024x706 : Shape := ⟨3, ![2, 1024, 706]⟩
abbrev S_ : Shape := ⟨0, ![]⟩
abbrev S2048x706 : Shape := ⟨2, ![2048, 706]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x706, .f32⟩
  | .hbm, ⟨1, _⟩ => ⟨S2x1024x706, .f32⟩
  | .hbm, ⟨2, _⟩ => ⟨S2x1024x706, .f32⟩
  | .hbm, ⟨3, _⟩ => ⟨S2x1024x706, .f32⟩
  | .hbm, ⟨4, _⟩ => ⟨S_, .f32⟩
  | .hbm, ⟨5, _⟩ => ⟨S2x1024x706, .f32⟩
  | .hbm, ⟨6, _⟩ => ⟨S2x1024x706, .f32⟩
  | .hbm, ⟨7, _⟩ => ⟨S_, .f32⟩
  | .hbm, ⟨8, _⟩ => ⟨S2x1024x706, .f32⟩
  | .hbm, ⟨9, _⟩ => ⟨S2x1024x706, .f32⟩
  | .hbm, ⟨10, _⟩ => ⟨S2x1024x706, .f32⟩
  | .hbm, ⟨11, _⟩ => ⟨S_, .f32⟩
  | .hbm, ⟨12, _⟩ => ⟨S2x1024x706, .f32⟩
  | .hbm, ⟨13, _⟩ => ⟨S2x1024x706, .f32⟩
  | .hbm, ⟨14, _⟩ => ⟨S2x1024x706, .f32⟩
  | .hbm, ⟨15, _⟩ => ⟨S_, .f32⟩
  | .hbm, ⟨16, _⟩ => ⟨S2x1024x706, .f32⟩
  | .hbm, ⟨17, _⟩ => ⟨S2x1024x706, .f32⟩
  | .hbm, ⟨18, _⟩ => ⟨S2x1024x706, .f32⟩
  | .hbm, ⟨19, _⟩ => ⟨S_, .f32⟩
  | .hbm, ⟨20, _⟩ => ⟨S2x1024x706, .f32⟩
  | .hbm, ⟨21, _⟩ => ⟨S2x1024x706, .f32⟩
  | .hbm, ⟨22, _⟩ => ⟨S_, .f32⟩
  | .hbm, ⟨23, _⟩ => ⟨S2x1024x706, .f32⟩
  | .hbm, ⟨24, _⟩ => ⟨S2x1024x706, .f32⟩
  | .hbm, ⟨25, _⟩ => ⟨S2x1024x706, .f32⟩
  | .hbm, ⟨26, _⟩ => ⟨S_, .f32⟩
  | .hbm, ⟨27, _⟩ => ⟨S2x1024x706, .f32⟩
  | .hbm, ⟨28, _⟩ => ⟨S2x1024x706, .f32⟩
  | .hbm, ⟨29, _⟩ => ⟨S2x1024x706, .f32⟩
  | .hbm, ⟨30, _⟩ => ⟨S_, .f32⟩
  | .hbm, ⟨31, _⟩ => ⟨S2x1024x706, .f32⟩
  | .hbm, ⟨32, _⟩ => ⟨S2x1024x706, .f32⟩
  | .hbm, ⟨33, _⟩ => ⟨S2x1024x706, .f32⟩
  | .hbm, ⟨34, _⟩ => ⟨S_, .f32⟩
  | .hbm, ⟨35, _⟩ => ⟨S2x1024x706, .f32⟩
  | .hbm, ⟨36, _⟩ => ⟨S2x1024x706, .f32⟩
  | .hbm, ⟨37, _⟩ => ⟨S2048x706, .f32⟩
  | .hbm, ⟨38, _⟩ => ⟨S2048x706, .f32⟩
  | .hbm, ⟨39, _⟩ => ⟨S2048x706, .f32⟩
  | _, _ => ⟨S2x1024x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x1024x1408 : Shape := ⟨3, ![2, 1024, 1408]⟩
abbrev S2048x1408 : Shape := ⟨2, ![2048, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S4096x1024 : Shape := ⟨2, ![4096, 1024]⟩
abbrev S1024 : Shape := ⟨1, ![1024]⟩
abbrev S1024x2944 : Shape := ⟨2, ![1024, 2944]⟩
abbrev S1x1024 : Shape := ⟨2, ![1, 1024]⟩
abbrev S4096x2816 : Shape := ⟨2, ![4096, 2816]⟩
abbrev S4096x128 : Shape := ⟨2, ![4096, 128]⟩
abbrev S512x1024 : Shape := ⟨2, ![512, 1024]⟩
abbrev S512x2816 : Shape := ⟨2, ![512, 2816]⟩
abbrev S512x128 : Shape := ⟨2, ![512, 128]⟩
abbrev S512 : Shape := ⟨1, ![512]⟩
abbrev S512x1 : Shape := ⟨2, ![512, 1]⟩
abbrev S512x2944 : Shape := ⟨2, ![512, 2944]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2944, .bf16⟩
  | .hbm, ⟨3, _⟩ => ⟨S1x1024, .f32⟩
  | .hbm, ⟨4, _⟩ => ⟨S4096x1024, .bf16⟩
  | .hbm, ⟨5, _⟩ => ⟨S4096x2816, .bf16⟩
  | .hbm, ⟨6, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | .local _ .vmem, ⟨8, _⟩ => ⟨S512x128, .f32⟩
  | .local _ .vmem, ⟨9, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S4096x1024 : Shape := ⟨2, ![4096, 1024]⟩
abbrev S1024 : Shape := ⟨1, ![1024]⟩
abbrev S1024x2944 : Shape := ⟨2, ![1024, 2944]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2944 : Shape := ⟨2, ![4096, 2944]⟩
abbrev S4096x2816 : Shape := ⟨2, ![4096, 2816]⟩
abbrev S4096x128 : Shape := ⟨2, ![4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2944, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x2944, .f32⟩
  | .hbm, ⟨20, _⟩ => ⟨S4096x2944, .f32⟩
  | .hbm, ⟨21, _⟩ => ⟨S4096x1024, .bf16⟩
  | .hbm, ⟨22, _⟩ => ⟨S4096x2816, .f32⟩
  | .hbm, ⟨23, _⟩ => ⟨S4096x2816, .bf16⟩
  | .hbm, ⟨24, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel19.lean ====
abbrev S2x1024 : Shape := ⟨2, ![2, 1024]⟩
abbrev S2x8 : Shape := ⟨2, ![2, 8]⟩
abbrev S2x4 : Shape := ⟨2, ![2, 4]⟩
abbrev S2x128 : Shape := ⟨2, ![2, 128]⟩
abbrev S2x2816 : Shape := ⟨2, ![2, 2816]⟩
abbrev S1024 : Shape := ⟨1, ![1024]⟩
abbrev S2x4x384 : Shape := ⟨3, ![2, 4, 384]⟩
abbrev S2x3x704 : Shape := ⟨3, ![2, 3, 704]⟩
abbrev S2048 : Shape := ⟨1, ![2048]⟩
abbrev S16 : Shape := ⟨1, ![16]⟩
abbrev S8 : Shape := ⟨1, ![8]⟩
abbrev S256 : Shape := ⟨1, ![256]⟩
abbrev S5632 : Shape := ⟨1, ![5632]⟩
abbrev S3072 : Shape := ⟨1, ![3072]⟩
abbrev S4224 : Shape := ⟨1, ![4224]⟩
abbrev S18336 : Shape := ⟨1, ![18336]⟩
abbrev S_ : Shape := ⟨0, ![]⟩
abbrev S18432 : Shape := ⟨1, ![18432]⟩
abbrev S144x128 : Shape := ⟨2, ![144, 128]⟩
abbrev S16x128 : Shape := ⟨2, ![16, 128]⟩

abbrev nBuf : Space → Nat
  | .hbm => 99
  | .vmem => 14
  | .smem => 0
  | _ => 0

abbrev bufTy : (tb : Table) → Fin (tcTables nBuf tb) → BufTy
  | .hbm, ⟨0, _⟩ => ⟨S2x1024, .f32⟩
  | .hbm, ⟨1, _⟩ => ⟨S2x8, .f32⟩
  | .hbm, ⟨2, _⟩ => ⟨S2x4, .f32⟩
  | .hbm, ⟨3, _⟩ => ⟨S2x4, .f32⟩
  | .hbm, ⟨4, _⟩ => ⟨S2x128, .f32⟩
  | .hbm, ⟨5, _⟩ => ⟨S2x1024, .f32⟩
  | .hbm, ⟨6, _⟩ => ⟨S2x2816, .f32⟩
  | .hbm, ⟨7, _⟩ => ⟨S1024, .f32⟩
  | .hbm, ⟨8, _⟩ => ⟨S2x4x384, .f32⟩
  | .hbm, ⟨9, _⟩ => ⟨S2x3x704, .f32⟩
  | .hbm, ⟨10, _⟩ => ⟨S2x1024, .f32⟩
  | .hbm, ⟨11, _⟩ => ⟨S2x8, .f32⟩
  | .hbm, ⟨12, _⟩ => ⟨S2x4, .f32⟩
  | .hbm, ⟨13, _⟩ => ⟨S2x4, .f32⟩
  | .hbm, ⟨14, _⟩ => ⟨S2x128, .f32⟩
  | .hbm, ⟨15, _⟩ => ⟨S2x1024, .f32⟩
  | .hbm, ⟨16, _⟩ => ⟨S2x2816, .f32⟩
  | .hbm, ⟨17, _⟩ => ⟨S1024, .f32⟩
  | .hbm, ⟨18, _⟩ => ⟨S2x4x384, .f32⟩
  | .hbm, ⟨19, _⟩ => ⟨S2x3x704, .f32⟩
  | .hbm, ⟨20, _⟩ => ⟨S2x1024, .f32⟩
  | .hbm, ⟨21, _⟩ => ⟨S2x8, .f32⟩
  | .hbm, ⟨22, _⟩ => ⟨S2x4, .f32⟩
  | .hbm, ⟨23, _⟩ => ⟨S2x4, .f32⟩
  | .hbm, ⟨24, _⟩ => ⟨S2x128, .f32⟩
  | .hbm, ⟨25, _⟩ => ⟨S2x1024, .f32⟩
  | .hbm, ⟨26, _⟩ => ⟨S2x2816, .f32⟩
  | .hbm, ⟨27, _⟩ => ⟨S1024, .f32⟩
  | .hbm, ⟨28, _⟩ => ⟨S2x4x384, .f32⟩
  | .hbm, ⟨29, _⟩ => ⟨S2x3x704, .f32⟩
  | .hbm, ⟨30, _⟩ => ⟨S2x1024, .f32⟩
  | .hbm, ⟨31, _⟩ => ⟨S2x8, .f32⟩
  | .hbm, ⟨32, _⟩ => ⟨S2x4, .f32⟩
  | .hbm, ⟨33, _⟩ => ⟨S2x4, .f32⟩
  | .hbm, ⟨34, _⟩ => ⟨S2x128, .f32⟩
  | .hbm, ⟨35, _⟩ => ⟨S2x1024, .f32⟩
  | .hbm, ⟨36, _⟩ => ⟨S2x2816, .f32⟩
  | .hbm, ⟨37, _⟩ => ⟨S1024, .f32⟩
  | .hbm, ⟨38, _⟩ => ⟨S2x4x384, .f32⟩
  | .hbm, ⟨39, _⟩ => ⟨S2x3x704, .f32⟩
  | .hbm, ⟨40, _⟩ => ⟨S2048, .f32⟩
  | .hbm, ⟨41, _⟩ => ⟨S16, .f32⟩
  | .hbm, ⟨42, _⟩ => ⟨S8, .f32⟩
  | .hbm, ⟨43, _⟩ => ⟨S8, .f32⟩
  | .hbm, ⟨44, _⟩ => ⟨S256, .f32⟩
  | .hbm, ⟨45, _⟩ => ⟨S2048, .f32⟩
  | .hbm, ⟨46, _⟩ => ⟨S5632, .f32⟩
  | .hbm, ⟨47, _⟩ => ⟨S3072, .f32⟩
  | .hbm, ⟨48, _⟩ => ⟨S4224, .f32⟩
  | .hbm, ⟨49, _⟩ => ⟨S18336, .f32⟩
  | .hbm, ⟨50, _⟩ => ⟨S_, .i32⟩
  | .hbm, ⟨51, _⟩ => ⟨S_, .f32⟩
  | .hbm, ⟨52, _⟩ => ⟨S18432, .f32⟩
  | .hbm, ⟨53, _⟩ => ⟨S144x128, .f32⟩
  | .hbm, ⟨54, _⟩ => ⟨S2048, .f32⟩
  | .hbm, ⟨55, _⟩ => ⟨S16, .f32⟩
  | .hbm, ⟨56, _⟩ => ⟨S8, .f32⟩
  | .hbm, ⟨57, _⟩ => ⟨S8, .f32⟩
  | .hbm, ⟨58, _⟩ => ⟨S256, .f32⟩
  | .hbm, ⟨59, _⟩ => ⟨S2048, .f32⟩
  | .hbm, ⟨60, _⟩ => ⟨S5632, .f32⟩
  | .hbm, ⟨61, _⟩ => ⟨S3072, .f32⟩
  | .hbm, ⟨62, _⟩ => ⟨S4224, .f32⟩
  | .hbm, ⟨63, _⟩ => ⟨S18336, .f32⟩
  | .hbm, ⟨64, _⟩ => ⟨S_, .i32⟩
  | .hbm, ⟨65, _⟩ => ⟨S_, .f32⟩
  | .hbm, ⟨66, _⟩ => ⟨S18432, .f32⟩
  | .hbm, ⟨67, _⟩ => ⟨S144x128, .f32⟩
  | .hbm, ⟨68, _⟩ => ⟨S2048, .f32⟩
  | .hbm, ⟨69, _⟩ => ⟨S16, .f32⟩
  | .hbm, ⟨70, _⟩ => ⟨S8, .f32⟩
  | .hbm, ⟨71, _⟩ => ⟨S8, .f32⟩
  | .hbm, ⟨72, _⟩ => ⟨S256, .f32⟩
  | .hbm, ⟨73, _⟩ => ⟨S2048, .f32⟩
  | .hbm, ⟨74, _⟩ => ⟨S5632, .f32⟩
  | .hbm, ⟨75, _⟩ => ⟨S3072, .f32⟩
  | .hbm, ⟨76, _⟩ => ⟨S4224, .f32⟩
  | .hbm, ⟨77, _⟩ => ⟨S18336, .f32⟩
  | .hbm, ⟨78, _⟩ => ⟨S_, .i32⟩
  | .hbm, ⟨79, _⟩ => ⟨S_, .f32⟩
  | .hbm, ⟨80, _⟩ => ⟨S18432, .f32⟩
  | .hbm, ⟨81, _⟩ => ⟨S144x128, .f32⟩
  | .hbm, ⟨82, _⟩ => ⟨S2048, .f32⟩
  | .hbm, ⟨83, _⟩ => ⟨S16, .f32⟩
  | .hbm, ⟨84, _⟩ => ⟨S8, .f32⟩
  | .hbm, ⟨85, _⟩ => ⟨S8, .f32⟩
  | .hbm, ⟨86, _⟩ => ⟨S256, .f32⟩
  | .hbm, ⟨87, _⟩ => ⟨S2048, .f32⟩
  | .hbm, ⟨88, _⟩ => ⟨S5632, .f32⟩
  | .hbm, ⟨89, _⟩ => ⟨S3072, .f32⟩
  | .hbm, ⟨90, _⟩ => ⟨S4224, .f32⟩
  | .hbm, ⟨91, _⟩ => ⟨S18336, .f32⟩
  | .hbm, ⟨92, _⟩ => ⟨S_, .i32⟩
  | .hbm, ⟨93, _⟩ => ⟨S_, .f32⟩
  | .hbm, ⟨94, _⟩ => ⟨S18432, .f32⟩
  | .hbm, ⟨95, _⟩ => ⟨S144x128, .f32⟩
  | .hbm, ⟨96, _⟩ => ⟨S144x128, .f32⟩
  | .hbm, ⟨97, _⟩ => ⟨S144x128, .f32⟩
  | .hbm, ⟨98, _⟩ => ⟨S144x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_c : Ref sig .tc := ⟨.hbm, 50, rfl⟩
abbrev main_call0_v0 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_0 : Ref sig .tc := ⟨.hbm, 64, rfl⟩
abbrev main_call1_v0 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c_1 : Ref sig .tc := ⟨.hbm, 78, rfl⟩
abbrev main_call2_v0 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_2 : Ref sig .tc := ⟨.hbm, 92, rfl⟩
abbrev main_call3_v0 : Ref sig .tc := ⟨.hbm, 93, rfl⟩
abbrev main_v46 : Ref sig .tc := ⟨.hbm, 94, rfl⟩
abbrev main_v47 : Ref sig .tc := ⟨.hbm, 95, rfl⟩
abbrev main_v48_0 : Ref sig .tc := ⟨.hbm, 96, rfl⟩
abbrev main_v48_1 : Ref sig .tc := ⟨.hbm, 97, rfl⟩
abbrev main_v48_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2x1024 : Shape := ⟨2, ![2, 1024]⟩
abbrev S2x8 : Shape := ⟨2, ![2, 8]⟩
abbrev S2x4 : Shape := ⟨2, ![2, 4]⟩
abbrev S2x128 : Shape := ⟨2, ![2, 128]⟩
abbrev S2x2816 : Shape := ⟨2, ![2, 2816]⟩
abbrev S1024 : Shape := ⟨1, ![1024]⟩
abbrev S2x4x384 : Shape := ⟨3, ![2, 4, 384]⟩
abbrev S2x3x704 : Shape := ⟨3, ![2, 3, 704]⟩
abbrev S_ : Shape := ⟨0, ![]⟩
abbrev S2048 : Shape := ⟨1, ![2048]⟩
abbrev S16 : Shape := ⟨1, ![16]⟩
abbrev S8 : Shape := ⟨1, ![8]⟩
abbrev S256 : Shape := ⟨1, ![256]⟩
abbrev S5632 : Shape := ⟨1, ![5632]⟩
abbrev S3072 : Shape := ⟨1, ![3072]⟩
abbrev S4224 : Shape := ⟨1, ![4224]⟩
abbrev S96 : Shape := ⟨1, ![96]⟩
abbrev S18432 : Shape := ⟨1, ![18432]⟩
abbrev S144x128 : Shape := ⟨2, ![144, 128]⟩

abbrev nBuf : Space → Nat
  | .hbm => 409
  | .vmem => 0
  | .smem => 0
  | _ => 0

abbrev hbmTy0_0 (i : Nat) : BufTy := match i % 128 with
  | 0 => ⟨S2x1024, .f32⟩
  | 1 => ⟨S2x8, .f32⟩
  | 2 => ⟨S2x4, .f32⟩
  | 3 => ⟨S2x4, .f32⟩
  | 4 => ⟨S2x128, .f32⟩
  | 5 => ⟨S2x1024, .f32⟩
  | 6 => ⟨S2x2816, .f32⟩
  | 7 => ⟨S1024, .f32⟩
  | 8 => ⟨S2x4x384, .f32⟩
  | 9 => ⟨S2x3x704, .f32⟩
  | 10 => ⟨S2x1024, .f32⟩
  | 11 => ⟨S2x8, .f32⟩
  | 12 => ⟨S2x4, .f32⟩
  | 13 => ⟨S2x4, .f32⟩
  | 14 => ⟨S2x128, .f32⟩
  | 15 => ⟨S2x1024, .f32⟩
  | 16 => ⟨S2x2816, .f32⟩
  | 17 => ⟨S1024, .f32⟩
  | 18 => ⟨S2x4x384, .f32⟩
  | 19 => ⟨S2x3x704, .f32⟩
  | 20 => ⟨S2x1024, .f32⟩
  | 21 => ⟨S2x8, .f32⟩
  | 22 => ⟨S2x4, .f32⟩
  | 23 => ⟨S2x4, .f32⟩
  | 24 => ⟨S2x128, .f32⟩
  | 25 => ⟨S2x1024, .f32⟩
  | 26 => ⟨S2x2816, .f32⟩
  | 27 => ⟨S1024, .f32⟩
  | 28 => ⟨S2x4x384, .f32⟩
  | 29 => ⟨S2x3x704, .f32⟩
  | 30 => ⟨S2x1024, .f32⟩
  | 31 => ⟨S2x8, .f32⟩
  | 32 => ⟨S2x4, .f32⟩
  | 33 => ⟨S2x4, .f32⟩
  | 34 => ⟨S2x128, .f32⟩
  | 35 => ⟨S2x1024, .f32⟩
  | 36 => ⟨S2x2816, .f32⟩
  | 37 => ⟨S1024, .f32⟩
  | 38 => ⟨S2x4x384, .f32⟩
  | 39 => ⟨S2x3x704, .f32⟩
  | 40 => ⟨S_, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S_, .f32⟩
  | 74 => ⟨S2x8, .f32⟩
  | 75 => ⟨S2x8, .f32⟩
  | 76 => ⟨S_, .f32⟩
  | 77 => ⟨S2x8, .f32⟩
  | 78 => ⟨S2x8, .f32⟩
  | 79 => ⟨S2x8, .f32⟩
  | 80 => ⟨S_, .f32⟩
  | 81 => ⟨S2x8, .f32⟩
  | 82 => ⟨S2x8, .f32⟩
  | 83 => ⟨S2x8, .f32⟩
  | 84 => ⟨S_, .f32⟩
  | 85 => ⟨S2x8, .f32⟩
  | 86 => ⟨S2x8, .f32⟩
  | 87 => ⟨S2x8, .f32⟩
  | 88 => ⟨S_, .f32⟩
  | 89 => ⟨S2x8, .f32⟩
  | 90 => ⟨S2x8, .f32⟩
  | 91 => ⟨S_, .f32⟩
  | 92 => ⟨S2x8, .f32⟩
  | 93 => ⟨S2x8, .f32⟩
  | 94 => ⟨S2x8, .f32⟩
  | 95 => ⟨S_, .f32⟩
  | 96 => ⟨S2x8, .f32⟩
  | 97 => ⟨S2x8, .f32⟩
  | 98 => ⟨S2x8, .f32⟩
  | 99 => ⟨S_, .f32⟩
  | 100 => ⟨S2x8, .f32⟩
  | 101 => ⟨S2x8, .f32⟩
  | 102 => ⟨S2x8, .f32⟩
  | 103 => ⟨S_, .f32⟩
  | 104 => ⟨S2x8, .f32⟩
  | 105 => ⟨S2x8, .f32⟩
  | 106 => ⟨S_, .f32⟩
  | 107 => ⟨S2x4, .f32⟩
  | 108 => ⟨S2x4, .f32⟩
  | 109 => ⟨S_, .f32⟩
  | 110 => ⟨S2x4, .f32⟩
  | 111 => ⟨S2x4, .f32⟩
  | 112 => ⟨S2x4, .f32⟩
  | 113 => ⟨S_, .f32⟩
  | 114 => ⟨S2x4, .f32⟩
  | 115 => ⟨S2x4, .f32⟩
  | 116 => ⟨S2x4, .f32⟩
  | 117 => ⟨S_, .f32⟩
  | 118 => ⟨S2x4, .f32⟩
  | 119 => ⟨S2x4, .f32⟩
  | 120 => ⟨S2x4, .f32⟩
  | 121 => ⟨S_, .f32⟩
  | 122 => ⟨S2x4, .f32⟩
  | 123 => ⟨S2x4, .f32⟩
  | 124 => ⟨S_, .f32⟩
  | 125 => ⟨S2x4, .f32⟩
  | 126 => ⟨S2x4, .f32⟩
  | 127 => ⟨S2x4, .f32⟩
  | _ => ⟨S2x1024, .f32⟩

abbrev hbmTy0_1 (i : Nat) : BufTy := match i % 128 with
  | 0 => ⟨S_, .f32⟩
  | 1 => ⟨S2x4, .f32⟩
  | 2 => ⟨S2x4, .f32⟩
  | 3 => ⟨S2x4, .f32⟩
  | 4 => ⟨S_, .f32⟩
  | 5 => ⟨S2x4, .f32⟩
  | 6 => ⟨S2x4, .f32⟩
  | 7 => ⟨S2x4, .f32⟩
  | 8 => ⟨S_, .f32⟩
  | 9 => ⟨S2x4, .f32⟩
  | 10 => ⟨S2x4, .f32⟩
  | 11 => ⟨S_, .f32⟩
  | 12 => ⟨S2x4, .f32⟩
  | 13 => ⟨S2x4, .f32⟩
  | 14 => ⟨S_, .f32⟩
  | 15 => ⟨S2x4, .f32⟩
  | 16 => ⟨S2x4, .f32⟩
  | 17 => ⟨S2x4, .f32⟩
  | 18 => ⟨S_, .f32⟩
  | 19 => ⟨S2x4, .f32⟩
  | 20 => ⟨S2x4, .f32⟩
  | 21 => ⟨S2x4, .f32⟩
  | 22 => ⟨S_, .f32⟩
  | 23 => ⟨S2x4, .f32⟩
  | 24 => ⟨S2x4, .f32⟩
  | 25 => ⟨S2x4, .f32⟩
  | 26 => ⟨S_, .f32⟩
  | 27 => ⟨S2x4, .f32⟩
  | 28 => ⟨S2x4, .f32⟩
  | 29 => ⟨S_, .f32⟩
  | 30 => ⟨S2x4, .f32⟩
  | 31 => ⟨S2x4, .f32⟩
  | 32 => ⟨S2x4, .f32⟩
  | 33 => ⟨S_, .f32⟩
  | 34 => ⟨S2x4, .f32⟩
  | 35 => ⟨S2x4, .f32⟩
  | 36 => ⟨S2x4, .f32⟩
  | 37 => ⟨S_, .f32⟩
  | 38 => ⟨S2x4, .f32⟩
  | 39 => ⟨S2x4, .f32⟩
  | 40 => ⟨S2x4, .f32⟩
  | 41 => ⟨S_, .f32⟩
  | 42 => ⟨S2x4, .f32⟩
  | 43 => ⟨S2x4, .f32⟩
  | 44 => ⟨S_, .f32⟩
  | 45 => ⟨S2x128, .f32⟩
  | 46 => ⟨S2x128, .f32⟩
  | 47 => ⟨S_, .f32⟩
  | 48 => ⟨S2x128, .f32⟩
  | 49 => ⟨S2x128, .f32⟩
  | 50 => ⟨S2x128, .f32⟩
  | 51 => ⟨S_, .f32⟩
  | 52 => ⟨S2x128, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S2x128, .f32⟩
  | 59 => ⟨S_, .f32⟩
  | 60 => ⟨S2x128, .f32⟩
  | 61 => ⟨S2x128, .f32⟩
  | 62 => ⟨S_, .f32⟩
  | 63 => ⟨S2x128, .f32⟩
  | 64 => ⟨S2x128, .f32⟩
  | 65 => ⟨S2x128, .f32⟩
  | 66 => ⟨S_, .f32⟩
  | 67 => ⟨S2x128, .f32⟩
  | 68 => ⟨S2x128, .f32⟩
  | 69 => ⟨S2x128, .f32⟩
  | 70 => ⟨S_, .f32⟩
  | 71 => ⟨S2x128, .f32⟩
  | 72 => ⟨S2x128, .f32⟩
  | 73 => ⟨S2x128, .f32⟩
  | 74 => ⟨S_, .f32⟩
  | 75 => ⟨S2x128, .f32⟩
  | 76 => ⟨S2x128, .f32⟩
  | 77 => ⟨S_, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S_, .f32⟩
  | 111 => ⟨S2x2816, .f32⟩
  | 112 => ⟨S2x2816, .f32⟩
  | 113 => ⟨S_, .f32⟩
  | 114 => ⟨S2x2816, .f32⟩
  | 115 => ⟨S2x2816, .f32⟩
  | 116 => ⟨S2x2816, .f32⟩
  | 117 => ⟨S_, .f32⟩
  | 118 => ⟨S2x2816, .f32⟩
  | 119 => ⟨S2x2816, .f32⟩
  | 120 => ⟨S2x2816, .f32⟩
  | 121 => ⟨S_, .f32⟩
  | 122 => ⟨S2x2816, .f32⟩
  | 123 => ⟨S2x2816, .f32⟩
  | 124 => ⟨S2x2816, .f32⟩
  | 125 => ⟨S_, .f32⟩
  | 126 => ⟨S2x2816, .f32⟩
  | 127 => ⟨S2x2816, .f32⟩
  | _ => ⟨S2x1024, .f32⟩

abbrev hbmTy0_2 (i : Nat) : BufTy := match i % 128 with
  | 0 => ⟨S_, .f32⟩
  | 1 => ⟨S2x2816, .f32⟩
  | 2 => ⟨S2x2816, .f32⟩
  | 3 => ⟨S2x2816, .f32⟩
  | 4 => ⟨S_, .f32⟩
  | 5 => ⟨S2x2816, .f32⟩
  | 6 => ⟨S2x2816, .f32⟩
  | 7 => ⟨S2x2816, .f32⟩
  | 8 => ⟨S_, .f32⟩
  | 9 => ⟨S2x2816, .f32⟩
  | 10 => ⟨S2x2816, .f32⟩
  | 11 => ⟨S2x2816, .f32⟩
  | 12 => ⟨S_, .f32⟩
  | 13 => ⟨S2x2816, .f32⟩
  | 14 => ⟨S2x2816, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .f32⟩
  | 42 => ⟨S1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S_, .f32⟩
  | 49 => ⟨S2x4x384, .f32⟩
  | 50 => ⟨S2x4x384, .f32⟩
  | 51 => ⟨S_, .f32⟩
  | 52 => ⟨S2x4x384, .f32⟩
  | 53 => ⟨S2x4x384, .f32⟩
  | 54 => ⟨S2x4x384, .f32⟩
  | 55 => ⟨S_, .f32⟩
  | 56 => ⟨S2x4x384, .f32⟩
  | 57 => ⟨S2x4x384, .f32⟩
  | 58 => ⟨S2x4x384, .f32⟩
  | 59 => ⟨S_, .f32⟩
  | 60 => ⟨S2x4x384, .f32⟩
  | 61 => ⟨S2x4x384, .f32⟩
  | 62 => ⟨S2x4x384, .f32⟩
  | 63 => ⟨S_, .f32⟩
  | 64 => ⟨S2x4x384, .f32⟩
  | 65 => ⟨S2x4x384, .f32⟩
  | 66 => ⟨S_, .f32⟩
  | 67 => ⟨S2x4x384, .f32⟩
  | 68 => ⟨S2x4x384, .f32⟩
  | 69 => ⟨S2x4x384, .f32⟩
  | 70 => ⟨S_, .f32⟩
  | 71 => ⟨S2x4x384, .f32⟩
  | 72 => ⟨S2x4x384, .f32⟩
  | 73 => ⟨S2x4x384, .f32⟩
  | 74 => ⟨S_, .f32⟩
  | 75 => ⟨S2x4x384, .f32⟩
  | 76 => ⟨S2x4x384, .f32⟩
  | 77 => ⟨S2x4x384, .f32⟩
  | 78 => ⟨S_, .f32⟩
  | 79 => ⟨S2x4x384, .f32⟩
  | 80 => ⟨S2x4x384, .f32⟩
  | 81 => ⟨S_, .f32⟩
  | 82 => ⟨S2x3x704, .f32⟩
  | 83 => ⟨S2x3x704, .f32⟩
  | 84 => ⟨S_, .f32⟩
  | 85 => ⟨S2x3x704, .f32⟩
  | 86 => ⟨S2x3x704, .f32⟩
  | 87 => ⟨S2x3x704, .f32⟩
  | 88 => ⟨S_, .f32⟩
  | 89 => ⟨S2x3x704, .f32⟩
  | 90 => ⟨S2x3x704, .f32⟩
  | 91 => ⟨S2x3x704, .f32⟩
  | 92 => ⟨S_, .f32⟩
  | 93 => ⟨S2x3x704, .f32⟩
  | 94 => ⟨S2x3x704, .f32⟩
  | 95 => ⟨S2x3x704, .f32⟩
  | 96 => ⟨S_, .f32⟩
  | 97 => ⟨S2x3x704, .f32⟩
  | 98 => ⟨S2x3x704, .f32⟩
  | 99 => ⟨S_, .f32⟩
  | 100 => ⟨S2x3x704, .f32⟩
  | 101 => ⟨S2x3x704, .f32⟩
  | 102 => ⟨S2x3x704, .f32⟩
  | 103 => ⟨S_, .f32⟩
  | 104 => ⟨S2x3x704, .f32⟩
  | 105 => ⟨S2x3x704, .f32⟩
  | 106 => ⟨S2x3x704, .f32⟩
  | 107 => ⟨S_, .f32⟩
  | 108 => ⟨S2x3x704, .f32⟩
  | 109 => ⟨S2x3x704, .f32⟩
  | 110 => ⟨S2x3x704, .f32⟩
  | 111 => ⟨S_, .f32⟩
  | 112 => ⟨S2x3x704, .f32⟩
  | 113 => ⟨S2x3x704, .f32⟩
  | 114 => ⟨S2048, .f32⟩
  | 115 => ⟨S16, .f32⟩
  | 116 => ⟨S8, .f32⟩
  | 117 => ⟨S8, .f32⟩
  | 118 => ⟨S256, .f32⟩
  | 119 => ⟨S2048, .f32⟩
  | 120 => ⟨S5632, .f32⟩
  | 121 => ⟨S3072, .f32⟩
  | 122 => ⟨S4224, .f32⟩
  | 123 => ⟨S_, .f32⟩
  | 124 => ⟨S96, .f32⟩
  | 125 => ⟨S18432, .f32⟩
  | 126 => ⟨S144x128, .f32⟩
  | 127 => ⟨S2048, .f32⟩
  | _ => ⟨S2x1024, .f32⟩

abbrev hbmTy0_3 (i : Nat) : BufTy := match i % 128 with
  | 0 => ⟨S16, .f32⟩
  | 1 => ⟨S8, .f32⟩
  | 2 => ⟨S8, .f32⟩
  | 3 => ⟨S256, .f32⟩
  | 4 => ⟨S2048, .f32⟩
  | 5 => ⟨S5632, .f32⟩
  | 6 => ⟨S3072, .f32⟩
  | 7 => ⟨S4224, .f32⟩
  | 8 => ⟨S_, .f32⟩
  | 9 => ⟨S96, .f32⟩
  | 10 => ⟨S18432, .f32⟩
  | 11 => ⟨S144x128, .f32⟩
  | 12 => ⟨S2048, .f32⟩
  | 13 => ⟨S16, .f32⟩
  | 14 => ⟨S8, .f32⟩
  | 15 => ⟨S8, .f32⟩
  | 16 => ⟨S256, .f32⟩
  | 17 => ⟨S2048, .f32⟩
  | 18 => ⟨S5632, .f32⟩
  | 19 => ⟨S3072, .f32⟩
  | 20 => ⟨S4224, .f32⟩
  | 21 => ⟨S_, .f32⟩
  | 22 => ⟨S96, .f32⟩
  | 23 => ⟨S18432, .f32⟩
  | 24 => ⟨S144x128, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_cst_89 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_cst_90 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_cst_91 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩

abbrev nD : Nat := 1
abbrev τ : Topo := Topo.v7x

variable {F : FTy → Type} [FloatOps F]
-- ==== Proof.Swa.Runs.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Swa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → cond0_1 (grid0.coords t) → ¬cond0_2 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → ¬cond0_2 (grid0.coords t) → cfg0.idle 8 (grid0.coords t) = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x100000000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → cfg0.idle 9 (grid0.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → ¬cond0_2 (grid0.coords t) → cfg0.fresh 9 t.val = false := by
  intro t; rw [fresh0_9_eq t]; revert t; decide +kernel
/-- At the last point the printed configuration (`Cfg.idle`) calls output 9 idle: nothing is stored into it there, -/
theorem idleAt0_9_C : ∀ t : Fin cfg0.N, ¬cond0_0 (grid0.coords t) → ¬cond0_1 (grid0.coords t) → cond0_2 (grid0.coords t) → cfg0.idle 9 (grid0.coords t) = true := by decide +kernel
/-- and its block is written back there. -/
theorem flushAt0_9_C : ∀ t : Fin cfg0.N, ¬cond0_0 (grid0.coords t) → ¬cond0_1 (grid0.coords t) → cond0_2 (grid0.coords t) → (cfg0.win 9).flush t = true := by decide +kernel
/-- At the points of case C, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_C : ∀ t : Fin cfg0.N, ¬cond0_0 (grid0.coords t) → ¬cond0_1 (grid0.coords t) → cond0_2 (grid0.coords t) → cfg0.fresh 9 t.val = false := by
  intro t; rw [fresh0_9_eq t]; revert t; decide +kernel

/-! ## The kernel body on any staging memrefs: a subtype the run finds -/

/-- One staging buffer of output window 8, through which its contents are stated (`View.read_writes_of_cover`: the
    choice does not matter). -/
abbrev VO0_8 : View sig .tc .vmem S128x768 .bf16 := (Memref.whole cc0_stg8_0 : Memref sig .tc .vmem S128x768 .bf16).view
/-- One staging buffer of output window 9, through which its contents are stated (`View.read_writes_of_cover`: the
    choice does not matter). -/
abbrev VO0_9 : View sig .tc .vmem S1x128 .f32 := (Memref.whole cc0_stg9_0 : Memref sig .tc .vmem S1x128 .f32).view
/-- Each window's current staging memref at point `t`, spelled as the pipeline passes it (`bodyAt0`), and its wholeness. -/
abbrev ms0_0 (t : Fin cfg0.N) : Memref sig .tc .vmem S128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S128x512 .f32 := Memref.whole cc0_scratch0
abbrev scM0_1 : Memref sig .tc .vmem S128x128 .f32 := Memref.whole cc0_scratch1
abbrev scM0_2 : Memref sig .tc .vmem S128x128 .f32 := Memref.whole cc0_scratch2
/-- The scratch `arg12` the kernel carries between points, as a view: what it holds is stated through it. -/
abbrev VS0_0 : View sig .tc .vmem S128x512 .f32 := scM0_0.view
/-- The scratch `arg13` the kernel carries between points, as a view: what it holds is stated through it. -/
abbrev VS0_1 : View sig .tc .vmem S128x128 .f32 := scM0_1.view
/-- The scratch `arg14` the kernel carries between points, as a view: what it holds is stated through it. -/
abbrev VS0_2 : View sig .tc .vmem S128x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Swa

end
-- ==== Proof.Swa.RunA.lean ====
module

public import proofs.«01_k».proof.Proof.Swa.Runs

@[expose] public section

set_option maxRecDepth 16384

noncomputable section

namespace Cert.KernelIdeal.Swa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point (the scratch and the sinks' gradient zeroed, then the block's gradients formed): what its stores leave in
    each output and in each scratch, as pieces (last first), found by the run, with the proof that it runs to a continuation holding the inputs
    as they were and every stored buffer with its pieces written. -/
noncomputable def kernelRun0_A (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) :
    Σ' (L8 : List (View.Piece (Elt F) S128x768 .bf16)), Σ' (L9 : List (View.Piece (Elt F) S1x128 .f32)), Σ' (LS0 : List (View.Piece (Elt F) S128x512 .f32)), Σ' (LS1 : List (View.Piece (Elt F) S128x128 .f32)), { LS2 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_d_swa i arg1 harg1 arg2 harg2 arg3 harg3 arg4 harg4 arg5 harg5 arg6 harg6 arg7 harg7 arg8 harg8 (Memref.whole main_arg3) (Memref.isWhole_whole _) arg10 harg10 arg11 harg11 arg12 harg12 arg13 harg13 arg14 harg14) K } := by
  refine ⟨?_, ?_, ?_, ?_, ?_, fun E K => ?run⟩
  case run =>
    simp only [cc0_d_swa_eq_skeleton]; unfold cc0_d_swa_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Swa

end
-- ==== Proof.Swa.RunB.lean ====
module

public import proofs.«01_k».proof.Proof.Swa.Runs

@[expose] public section

set_option maxRecDepth 16384

noncomputable section

namespace Cert.KernelIdeal.Swa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body at an inner point (the block before's sums written out, this block's gradients formed and carried): what its stores leave in
    each output and in each scratch, as pieces (last first), found by the run, with the proof that it runs to a continuation holding the inputs
    as they were and every stored buffer with its pieces written. -/
noncomputable def kernelRun0_B (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    Σ' (L8 : List (View.Piece (Elt F) S128x768 .bf16)), Σ' (L9 : List (View.Piece (Elt F) S1x128 .f32)), Σ' (LS0 : List (View.Piece (Elt F) S128x512 .f32)), Σ' (LS1 : List (View.Piece (Elt F) S128x128 .f32)), { LS2 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ owns (c : Thread nD τ) arg11 fullShare xo9 ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_d_swa i arg1 harg1 arg2 harg2 arg3 harg3 arg4 harg4 arg5 harg5 arg6 harg6 arg7 harg7 arg8 harg8 (Memref.whole main_arg3) (Memref.isWhole_whole _) arg10 harg10 arg11 harg11 arg12 harg12 arg13 harg13 arg14 harg14) K } := by
  refine ⟨?_, ?_, ?_, ?_, ?_, fun E K => ?run⟩
  case run =>
    simp only [cc0_d_swa_eq_skeleton]; unfold cc0_d_swa_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf9; obtain rfl := harg12.eq_unread hfs0; obtain rfl := harg13.eq_unread hfs1; obtain rfl := harg14.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Swa

end
-- ==== Proof.Swa.RunC.lean ====
module

public import proofs.«01_k».proof.Proof.Swa.Runs

@[expose] public section

set_option maxRecDepth 16384

noncomputable section

namespace Cert.KernelIdeal.Swa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body at the last point (the last block's sums written out, nothing formed): what its stores leave in output 8, as pieces (last first),
    found by the run, with the proof that it runs to a continuation holding everything else as it was. -/
noncomputable def kernelRun0_C (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    { L8 : List (View.Piece (Elt F) S128x768 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ owns (c : Thread nD τ) arg11 fullShare xo9 ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f L8) ∗ owns (c : Thread nD τ) arg11 fullShare xo9 ∗ owns (c : Thread nD τ) arg12 fullShare xs0 ∗ owns (c : Thread nD τ) arg13 fullShare xs1 ∗ owns (c : Thread nD τ) arg14 fullShare xs2) -∗ K ⟨⟩))
          ⊢ wp frame (wpE (defs₀ (F := F)) Variants.none c none) E (cc0_d_swa i arg1 harg1 arg2 harg2 arg3 harg3 arg4 harg4 arg5 harg5 arg6 harg6 arg7 harg7 arg8 harg8 (Memref.whole main_arg3) (Memref.isWhole_whole _) arg10 harg10 arg11 harg11 arg12 harg12 arg13 harg13 arg14 harg14) K } := by
  refine ⟨?_, fun E K => ?run⟩
  case run =>
    simp only [cc0_d_swa_eq_skeleton]; unfold cc0_d_swa_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf9; obtain rfl := harg12.eq_unread hfs0; obtain rfl := harg13.eq_unread hfs1; obtain rfl := harg14.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg11.read_unread _
      iexact H9
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.KernelIdeal.Swa

end
-- ==== Proof.Swa.Frame.lean ====
module

public import proofs.«01_k».proof.Proof.Swa.RunA
public import proofs.«01_k».proof.Proof.Swa.RunB
public import proofs.«01_k».proof.Proof.Swa.RunC
public import Idealize.ShloMosaic.Lib.Claim

@[expose] public section

set_option maxRecDepth 16384

noncomputable section

namespace Cert.KernelIdeal.Swa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 8 are of SEVERAL sizes (3 stores of `S128x128`, `S128x512`): cut into blocks of `![128, 128]` they tile its block (checked by the kernel's evaluation: Lib/Ring.lean `Piece.tiledBy`), so they cover it. -/
theorem cover0_A_8 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (y : S128x768.Idx) :
    ∃ pc ∈ (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).1, y ∈ pc.1.set :=
  View.cover_of_tiledBy (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).1 ![128, 128] (by sl_kernel_rfl) y

/-- What case A leaves in output 8's staging buffer: its pieces read back over junk. -/
def out0_A_8 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) : Vec F S128x768 .bf16 :=
  VO0_8.read (Elt F) (VO0_8.writes (Elt F) VO0_8.junk (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).1)

/-- Case A's pieces for output 9 tile its block (2 stores of `S1x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (y : S1x128.Idx) :
    ∃ pc ∈ (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.1 S1x128.size (by sl_kernel_rfl) y

/-- What case A leaves in output 9's staging buffer: its pieces read back over junk. -/
def out0_A_9 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) : Vec F S1x128 .f32 :=
  VO0_9.read (Elt F) (VO0_9.writes (Elt F) VO0_9.junk (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.1)

/-- Case A's pieces for scratch `arg12`, which the kernel carries between points, cover it: 2 pieces of `S128x512` tiling it (Lib/Ring.lean `Piece.tiledL`). -/
theorem scover0_A_0 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (y : S128x512.Idx) :
    ∃ pc ∈ (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.1 S128x512.size (by sl_kernel_rfl) y

/-- What case A leaves in scratch `arg12`: its pieces read back over junk. -/
def sout0_A_0 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) : Vec F S128x512 .f32 :=
  VS0_0.read (Elt F) (VS0_0.writes (Elt F) VS0_0.junk (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.1)

/-- Case A's pieces for scratch `arg13`, which the kernel carries between points, cover it: 2 pieces of `S128x128` tiling it (Lib/Ring.lean `Piece.tiledL`). -/
theorem scover0_A_1 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (y : S128x128.Idx) :
    ∃ pc ∈ (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.2.1 S128x128.size (by sl_kernel_rfl) y

/-- What case A leaves in scratch `arg13`: its pieces read back over junk. -/
def sout0_A_1 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) : Vec F S128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.2.1)

/-- Case A's pieces for scratch `arg14`, which the kernel carries between points, cover it: 2 pieces of `S128x128` tiling it (Lib/Ring.lean `Piece.tiledL`). -/
theorem scover0_A_2 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (y : S128x128.Idx) :
    ∃ pc ∈ (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.2.2.1 S128x128.size (by sl_kernel_rfl) y

/-- What case A leaves in scratch `arg14`: its pieces read back over junk. -/
def sout0_A_2 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) : Vec F S128x128 .f32 :=
  VS0_2.read (Elt F) (VS0_2.writes (Elt F) VS0_2.junk (kernelRun0_A c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7).2.2.2.2.1)

/-- Case B's pieces for output 8 are of SEVERAL sizes (3 stores of `S128x128`, `S128x512`): cut into blocks of `![128, 128]` they tile its block (checked by the kernel's evaluation: Lib/Ring.lean `Piece.tiledBy`), so they cover it. -/
theorem cover0_B_8 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) (y : S128x768.Idx) :
    ∃ pc ∈ (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).1, y ∈ pc.1.set :=
  View.cover_of_tiledBy (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).1 ![128, 128] (by sl_kernel_rfl) y

/-- What case B leaves in output 8's staging buffer: its pieces read back over junk. -/
def out0_B_8 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x768 .bf16 :=
  VO0_8.read (Elt F) (VO0_8.writes (Elt F) VO0_8.junk (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).1)

/-- Case B's pieces for output 9 tile its block (1 store of `S1x128`, checked by the kernel's evaluation: Lib/Ring.lean `Piece.tiledL`, linear in the pieces, through a loop's `@[irreducible]` trip theorem too), so they cover it. -/
theorem cover0_B_9 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) (y : S1x128.Idx) :
    ∃ pc ∈ (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.1, y ∈ pc.1.set :=
  View.cover_of_tiledL (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.1 S1x128.size (by sl_kernel_rfl) y

/-- What case B leaves in output 9's staging buffer: its pieces read back over junk. -/
def out0_B_9 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S1x128 .f32 :=
  VO0_9.read (Elt F) (VO0_9.writes (Elt F) VO0_9.junk (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.1)

/-- Case B's pieces for scratch `arg12`, which the kernel carries between points, cover it: 1 piece of `S128x512` tiling it (Lib/Ring.lean `Piece.tiledL`). -/
theorem scover0_B_0 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) (y : S128x512.Idx) :
    ∃ pc ∈ (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.1, y ∈ pc.1.set :=
  View.cover_of_tiledL (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.1 S128x512.size (by sl_kernel_rfl) y

/-- What case B leaves in scratch `arg12`: its pieces read back over junk. -/
def sout0_B_0 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x512 .f32 :=
  VS0_0.read (Elt F) (VS0_0.writes (Elt F) VS0_0.junk (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.1)

/-- Case B's pieces for scratch `arg13`, which the kernel carries between points, cover it: 1 piece of `S128x128` tiling it (Lib/Ring.lean `Piece.tiledL`). -/
theorem scover0_B_1 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) (y : S128x128.Idx) :
    ∃ pc ∈ (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.2.1, y ∈ pc.1.set :=
  View.cover_of_tiledL (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.2.1 S128x128.size (by sl_kernel_rfl) y

/-- What case B leaves in scratch `arg13`: its pieces read back over junk. -/
def sout0_B_1 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x128 .f32 :=
  VS0_1.read (Elt F) (VS0_1.writes (Elt F) VS0_1.junk (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.2.1)

/-- Case B's pieces for scratch `arg14`, which the kernel carries between points, cover it: 1 piece of `S128x128` tiling it (Lib/Ring.lean `Piece.tiledL`). -/
theorem scover0_B_2 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) (y : S128x128.Idx) :
    ∃ pc ∈ (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.2.2.1, y ∈ pc.1.set :=
  View.cover_of_tiledL (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.2.2.1 S128x128.size (by sl_kernel_rfl) y

/-- What case B leaves in scratch `arg14`: its pieces read back over junk. -/
def sout0_B_2 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x128 .f32 :=
  VS0_2.read (Elt F) (VS0_2.writes (Elt F) VS0_2.junk (kernelRun0_B c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).2.2.2.2.1)

/-- Case C's pieces for output 8 are of SEVERAL sizes (3 stores of `S128x128`, `S128x512`): cut into blocks of `![128, 128]` they tile its block (checked by the kernel's evaluation: Lib/Ring.lean `Piece.tiledBy`), so they cover it. -/
theorem cover0_C_8 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) (y : S128x768.Idx) :
    ∃ pc ∈ (kernelRun0_C c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).1, y ∈ pc.1.set :=
  View.cover_of_tiledBy (kernelRun0_C c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).1 ![128, 128] (by sl_kernel_rfl) y

/-- What case C leaves in output 8's staging buffer: its pieces read back over junk. -/
def out0_C_8 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x768 .bf16 :=
  VO0_8.read (Elt F) (VO0_8.writes (Elt F) VO0_8.junk (kernelRun0_C c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2).1)

/-- The last point stores nothing into output 9: it holds what the point before left. -/
def out0_C_9 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S1x128 .f32 := xo9

/-- Case C stores nothing into scratch `arg12`: it holds what the point before left. -/
def sout0_C_0 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x512 .f32 := xs0

/-- Case C stores nothing into scratch `arg13`: it holds what the point before left. -/
def sout0_C_1 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x128 .f32 := xs1

/-- Case C stores nothing into scratch `arg14`: it holds what the point before left. -/
def sout0_C_2 (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) : Vec F S128x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x768 .bf16 × Vec F S1x128 .f32 × Vec F S128x512 .f32 × Vec F S128x128 .f32 × Vec F S128x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 33 = 0 then
      if h1 : (n + 1) < 32 then
        if h2 : (n + 1) % 33 = 32 then
          False.elim (by have hN : n + 1 < 33 := lt_of_lt_of_eq hn (show cfg0.N = 33 from N_0); omega)
        else
          (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 33 := lt_of_lt_of_eq hn (show cfg0.N = 33 from N_0); omega)
    else
      if h1 : (n + 1) < 32 then
        if h2 : (n + 1) % 33 = 32 then
          False.elim (by have hN : n + 1 < 33 := lt_of_lt_of_eq hn (show cfg0.N = 33 from N_0); omega)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        if h2 : (n + 1) % 33 = 32 then
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 33 = 0) (h1 : t.val < 32) (h2 : ¬t.val % 33 = 32) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 33 = 0) (h1 : t.val < 32) (h2 : ¬t.val % 33 = 32) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 33 = 0) (h1 : ¬t.val < 32) (h2 : t.val % 33 = 32) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 33 := lt_of_lt_of_eq t.isLt (show cfg0.N = 33 from N_0)
  rw [after0_9, after0_9]
  by_cases h0 : t.val % 33 = 0
  · by_cases h1 : t.val < 32
    · by_cases h2 : t.val % 33 = 32
      · exfalso; omega
      · rw [liveAt0_9_A t ((hcond0_0 t).mpr h0) ((hcond0_1 t).mpr h1) (fun h => h2 ((hcond0_2 t).mp h))] at hi
        exact absurd hi Bool.false_ne_true
    · exfalso; omega
  · by_cases h1 : t.val < 32
    · by_cases h2 : t.val % 33 = 32
      · exfalso; omega
      · rw [liveAt0_9_B t (fun h => h0 ((hcond0_0 t).mp h)) ((hcond0_1 t).mpr h1) (fun h => h2 ((hcond0_2 t).mp h))] at hi
        exact absurd hi Bool.false_ne_true
    · by_cases h2 : t.val % 33 = 32
      · rw [outsAt0_C m c t h0 h1 h2]; rfl
      · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 33 = 0) (h1 : t.val < 32) (h2 : ¬t.val % 33 = 32) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) ((hcond0_1 t).mpr h1) (fun h => h2 ((hcond0_2 t).mp h))]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 33 = 0) (h1 : ¬t.val < 32) (h2 : t.val % 33 = 32) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        by_cases hz : t.val = 0
        · rw [PhiS_castSucc m c t, PhiS_zero m c _ _ hz, PhiA0_eq]
          rw [outsAt0_A m c t h0 h1 h2]
          unfold out0_A_8 out0_A_9 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [HS0]; · iexact HS0
          isplitl [HS1]; · iexact HS1
          isplitl [HS2]; · iexact HS2
          iintro ⟨H0, H1, H2, H3, H4, H5, H6, H7, ⟨%e8, H8⟩, ⟨%e9, H9⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _)
        · exfalso; have hN : t.val < 33 := lt_of_lt_of_eq t.isLt (show cfg0.N = 33 from N_0); omega
    · exfalso; omega
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          simp only [before0_9_B m c t h0 h1 h2]
          unfold out0_B_8 out0_B_9 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) _ _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexact HS0
          isplitl [HS1]; · iexact HS1
          isplitl [HS2]; · iexact HS2
          iintro ⟨H0, H1, H2, H3, H4, H5, H6, H7, ⟨%e8, H8⟩, ⟨%e9, H9⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _)
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [idleAt0_9_C t (fun h => h0 ((hcond0_0 t).mp h)) (fun h => h1 ((hcond0_1 t).mp h)) ((hcond0_2 t).mpr h2), flushAt0_9_C t (fun h => h0 ((hcond0_0 t).mp h)) (fun h => h1 ((hcond0_1 t).mp h)) ((hcond0_2 t).mpr h2)], after0_9]
        by_cases hz : t.val = 0
        · exfalso; have hN : t.val < 33 := lt_of_lt_of_eq t.isLt (show cfg0.N = 33 from N_0); omega
        · rw [PhiS_castSucc m c t, PhiS_pos m c _ _ hz]
          rw [outsAt0_C m c t h0 h1 h2]
          simp only [before0_9_C m c t h0 h1 h2]
          unfold out0_C_8 out0_C_9 sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [HS0]; · iexact HS0
          isplitl [HS1]; · iexact HS1
          isplitl [HS2]; · iexact HS2
          iintro ⟨H0, H1, H2, H3, H4, H5, H6, H7, ⟨%e8, H8⟩, H9, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _ _ _ _)
          iexact H9
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Swa

end
-- ==== Proof.Swa.Same.lean ====
module

public import proofs.«01_k».proof.Defs
public import proofs.«01_k».proof.Proof.Swa.Frame
public import proofs.«01_k».proof.Proof.Gen.Kernel

@[expose] public section

set_option maxHeartbeats 4000000
set_option maxRecDepth 65536

noncomputable section

namespace Cert.Proof

open Idealize.ShloMosaic Idealize.SL.Sem

/-! The kernel and its idealization have the same text. -/

theorem defs₀_same {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | ⟨0, _⟩, (t, s) => rfl

theorem main_same {F : FTy → Type} [FloatOps F] :
    @Cert.Kernel.main F _ Cert.Kernel.Gen.facts = @Cert.KernelIdeal.main F _ Cert.KernelIdeal.Gen.facts := by with_unfolding_all rfl

theorem defs_same {F : FTy → Type} [FloatOps F] :
    @Cert.Kernel.defs F _ Cert.Kernel.Gen.facts = @Cert.KernelIdeal.defs F _ Cert.KernelIdeal.Gen.facts :=
  congrArg (Pipeline.defs _) defs₀_same

/-- The kernel's frame: the kernel and its idealization have the same text, so one run serves both. -/
theorem frame_kernel : Cert.quiescent_Kernel (hKernel := Cert.Kernel.Gen.facts) := by
  intro m ρ _
  rw [defs_same, main_same]
  exact Cert.KernelIdeal.Swa.frame (F := Bits) m ρ

end Cert.Proof

end
-- ==== Proof.Swa.Head.lean ====
module

public import proofs.«01_k».proof.Proof.Gen.KernelIdeal.Skeleton
public import Idealize.ShloMosaic.Lib.Pipeline.FrameBody

@[expose] public section

noncomputable section

namespace Cert.KernelIdeal.Swa

open Cert.KernelIdeal Cert.KernelIdeal.Gen Idealize.ShloMosaic Idealize.SL.Sem

variable {F : FTy → Type} [FloatOps F]

/-! ## One query head over one block of queries, as the body computes it

The pieces of the body for one head: `q` is the head's 128 queries, `k` and `v` the 256 keys and values that the block sees (the block before,
then its own), `b` the bias, `σ` the head's sink, `g` the cotangent of the head's output. -/

/-- The scores: the products of queries and keys, scaled, with the bias added. -/
def scores (q : FVec F S128x64 .f32) (k : FVec F S256x64 .f32) (b : FVec F S128x256 .f32) : FVec F S128x256 .f32 :=
  addf (mulf (matmul dot_S128x64_S256x64_S128x256_1_1_0_0_n_n none (truncf .bf16 q bitsLt_bf16_f32) (truncf .bf16 k bitsLt_bf16_f32)
    (constant S128x256 .f32 0x00000000#32)) (broadcast S128x256 (Scalar.ofBits .f32 0x3E000000#32))) b

/-- The lane `n` of the row of sinks, picked by a masked sum. -/
def sinkAt (n : BitVec 32) (sk : FVec F S1x128 .f32) : FVec F S1x1 .f32 :=
  shapeCast S1x1 (multiReduction .add [1] S1 (select (cmpi .eq (iota .tc S1x128 32 [1] iota_S1x128_d1_w32) (broadcast S1x128 n)) sk
    (broadcast S1x128 (Scalar.ofBits .f32 0x00000000#32))) 0x00000000#32 reduces_S1x128_S1 (.inl rfl) rfl) shapeCasts_S1_S1x1

/-- The largest of a row's scores and the sink. -/
def rowMax (s : FVec F S128x256 .f32) (σ : FVec F S1x1 .f32) : FVec F S128x1 .f32 :=
  maximumf (shapeCast S128x1 (multiReduction .maximumf [1] S128 s 0xFF800000#32 reduces_S128x256_S128 (.inl rfl) rfl) shapeCasts_S128_S128x1)
    (broadcastTo S128x1 σ broadcasts_S1x1_S128x1)

/-- The exponentials of the scores less the row's largest. -/
def expS (s : FVec F S128x256 .f32) (mx : FVec F S128x1 .f32) : FVec F S128x256 .f32 :=
  exp (subf s (broadcastTo S128x256 mx broadcasts_S128x1_S128x256))

/-- The exponential of the sink less the row's largest. -/
def expSink (σ : FVec F S1x1 .f32) (mx : FVec F S128x1 .f32) : FVec F S128x1 .f32 :=
  exp (subf (broadcastTo S128x1 σ broadcasts_S1x1_S128x1) mx)

/-- The softmax's denominators. -/
def denom (e : FVec F S128x256 .f32) (es : FVec F S128x1 .f32) : FVec F S128x1 .f32 :=
  addf (shapeCast S128x1 (multiReduction .add [1] S128 e 0x00000000#32 reduces_S128x256_S128 (.inl rfl) rfl) shapeCasts_S128_S128x1) es

/-- One over the denominators. -/
def recip (d : FVec F S128x1 .f32) : FVec F S128x1 .f32 :=
  divf (broadcast S128x1 (Scalar.ofBits .f32 0x3F800000#32)) d

/-- The cotangent of the probabilities: the products of the output's cotangent and the values. -/
def dProb (g : FVec F S128x64 .f32) (v : FVec F S256x64 .f32) : FVec F S128x256 .f32 :=
  extf .f32 (truncf .bf16 (matmul dot_S128x64_S256x64_S128x256_1_1_0_0_n_n none g (truncf .bf16 v bitsLt_bf16_f32)
    (constant S128x256 .f32 0x00000000#32)) bitsLt_bf16_f32) bitsLt_bf16_f32

/-- The cotangent of the values: the probabilities, transposed, times the output's cotangent. -/
def dVal (e : FVec F S128x256 .f32) (d : FVec F S128x1 .f32) (g : FVec F S128x64 .f32) : FVec F S256x64 .f32 :=
  extf .f32 (truncf .bf16 (transpose S256x64 [1, 0] (matmul dot_S128x64_S128x256_S64x256_0_0_1_1_n_n none g
    (truncf .bf16 (mulf e (broadcastTo S128x256 (recip d) broadcasts_S128x1_S128x256)) bitsLt_bf16_f32)
    (constant S64x256 .f32 0x00000000#32)) transposes_S64x256_p1_0_S256x64) bitsLt_bf16_f32) bitsLt_bf16_f32

/-- The cotangent of the denominators. -/
def dDen (e : FVec F S128x256 .f32) (d : FVec F S128x1 .f32) (dp : FVec F S128x256 .f32) : FVec F S128x1 .f32 :=
  subf (broadcast S128x1 (Scalar.ofBits .f32 0x00000000#32))
    (mulf (mulf (shapeCast S128x1 (multiReduction .add [1] S128 (mulf e dp) 0x00000000#32 reduces_S128x256_S128 (.inl rfl) rfl) shapeCasts_S128_S128x1)
      (divf (broadcast S128x1 (Scalar.ofBits .f32 0x3F800000#32)) (mulf d d))) (broadcast S128x1 (Scalar.ofBits .f32 0x3F800000#32)))

/-- The cotangent of the scores before the scale. -/
def dScore (e : FVec F S128x256 .f32) (d : FVec F S128x1 .f32) (dp : FVec F S128x256 .f32) : FVec F S128x256 .f32 :=
  mulf (addf (mulf dp (broadcastTo S128x256 (recip d) broadcasts_S128x1_S128x256))
    (broadcastTo S128x256 (shapeCast S128x1 (multiReduction .add [1] S128 (dDen e d dp) 0x00000000#32 reduces_S128x1_S128 (.inl rfl) rfl) shapeCasts_S128_S128x1)
      broadcasts_S128x1_S128x256)) e

/-- The cotangent of the scores after the scale. -/
def dScaled (ds : FVec F S128x256 .f32) : FVec F S128x256 .f32 :=
  mulf ds (broadcast S128x256 (Scalar.ofBits .f32 0x3E000000#32))

/-- The cotangent of the keys. -/
def dKey (ds : FVec F S128x256 .f32) (q : FVec F S128x64 .f32) : FVec F S256x64 .f32 :=
  extf .f32 (truncf .bf16 (matmul dot_S128x256_S128x64_S256x64_0_0_1_1_n_n none (dScaled ds) (truncf .bf16 q bitsLt_bf16_f32)
    (constant S256x64 .f32 0x00000000#32)) bitsLt_bf16_f32) bitsLt_bf16_f32

/-- The cotangent of the queries. -/
def dQuery (ds : FVec F S128x256 .f32) (k : FVec F S256x64 .f32) : FVec F S128x64 .f32 :=
  extf .f32 (truncf .bf16 (matmul dot_S128x256_S256x64_S128x64_1_0_0_1_n_n none (dScaled ds) (truncf .bf16 k bitsLt_bf16_f32)
    (constant S128x64 .f32 0x00000000#32)) bitsLt_bf16_f32) bitsLt_bf16_f32

/-- The cotangent of the sink: the rows' cotangents of the denominators times the sink's exponentials, summed. -/
def dSink (dd : FVec F S128x1 .f32) (es : FVec F S128x1 .f32) : FVec F S1x1 .f32 :=
  shapeCast S1x1 (broadcast S1 (extractAt ![0, 0, 0] (shapeCast S1x1x1 (multiReduction .add [1, 2] S1
    (shapeCast S1x128x1 (mulf dd es) shapeCasts_S128x1_S1x128x1) 0x00000000#32 reduces_S1x128x1_S1 (.inl rfl) rfl) shapeCasts_S1_S1x1x1)
    inpos_S1x1x1_p0_0_0)) shapeCasts_S1_S1x1

/-- A number put in lane `n` of a row of zeros. -/
def putSink (n : BitVec 32) (x : FVec F S1x1 .f32) : FVec F S1x128 .f32 :=
  select (cmpi .eq (iota .tc S1x128 32 [1] iota_S1x128_d1_w32) (broadcast S1x128 n))
    (broadcastTo S1x128 (shapeCast S1x1 (broadcast S1 (extractAt ![0, 0, 0] (shapeCast S1x1x1 (multiReduction .add [1, 2] S1
      (shapeCast S1x1x1 x shapeCasts_S1x1_S1x1x1) 0x00000000#32 reduces_S1x1x1_S1 (.inl rfl) rfl) shapeCasts_S1_S1x1x1)
      inpos_S1x1x1_p0_0_0)) shapeCasts_S1_S1x1) broadcasts_S1x1_S1x128)
    (broadcast S1x128 (Scalar.ofBits .f32 0x00000000#32))

/-! ## A head's cotangents from its queries, keys, values, bias, sink and the output's cotangent -/

section
variable (q : FVec F S128x64 .f32) (k v : FVec F S256x64 .f32) (b : FVec F S128x256 .f32) (σ : FVec F S1x1 .f32) (g : FVec F S128x64 .f32)

/-- A head's row maxima. -/
def hMax : FVec F S128x1 .f32 := rowMax (scores q k b) σ
/-- A head's exponentials. -/
def hExp : FVec F S128x256 .f32 := expS (scores q k b) (hMax q k b σ)
/-- A head's exponentials of the sink. -/
def hExpSink : FVec F S128x1 .f32 := expSink σ (hMax q k b σ)
/-- A head's denominators. -/
def hDen : FVec F S128x1 .f32 := denom (hExp q k b σ) (hExpSink q k b σ)
/-- A head's cotangent of the scores. -/
def hScore : FVec F S128x256 .f32 := dScore (hExp q k b σ) (hDen q k b σ) (dProb g v)
/-- A head's cotangent of the queries. -/
def hQuery : FVec F S128x64 .f32 := dQuery (hScore q k v b σ g) k
/-- A head's share of the cotangent of the keys. -/
def hKey : FVec F S256x64 .f32 := dKey (hScore q k v b σ g) q
/-- A head's share of the cotangent of the values. -/
def hVal : FVec F S256x64 .f32 := dVal (hExp q k b σ) (hDen q k b σ) g
/-- A head's cotangent of the sink. -/
def hSink : FVec F S1x1 .f32 := dSink (dDen (hExp q k b σ) (hDen q k b σ) (dProb g v)) (hExpSink q k b σ)
end

/-! ## The eight heads of a block -/

section
variable (x0 : Vec F S128x512 .bf16) (x1 x2 x3 x4 : Vec F S128x128 .bf16) (x5 : Vec F S1x128 .f32) (x6 : Vec F S1x2x512x256 .f32) (x7 : Vec F S128x512 .f32)

/-- The block's queries, widened. -/
def qWide : FVec F S128x512 .f32 := extf .f32 x0 bitsLt_bf16_f32
/-- The queries of head 0. -/
def qh0 : FVec F S128x64 .f32 := extractStridedSlice S128x64 ![0, 0] (qWide x0) slices_S128x512_o0_0_S128x64
/-- The cotangent of the output of head 0. -/
def gh0 : FVec F S128x64 .f32 := extractStridedSlice S128x64 ![0, 0] x7 slices_S128x512_o0_0_S128x64
/-- The bias of head 0. -/
def bh0 : FVec F S128x256 .f32 := shapeCast S128x256 (View.ld (Val := Elt F) x6 (Rect.unit (s := S1x2x512x256) ![0, 0, 0, 0] S1x1x128x256.size inb_S1x2x512x256_S1x1x128x256_0_0_0_0)) shapeCasts_S1x1x128x256_S128x256
/-- The queries of head 1. -/
def qh1 : FVec F S128x64 .f32 := extractStridedSlice S128x64 ![0, 64] (qWide x0) slices_S128x512_o0_64_S128x64
/-- The cotangent of the output of head 1. -/
def gh1 : FVec F S128x64 .f32 := extractStridedSlice S128x64 ![0, 64] x7 slices_S128x512_o0_64_S128x64
/-- The bias of head 1. -/
def bh1 : FVec F S128x256 .f32 := shapeCast S128x256 (View.ld (Val := Elt F) x6 (Rect.unit (s := S1x2x512x256) ![0, 0, 128, 0] S1x1x128x256.size inb_S1x2x512x256_S1x1x128x256_0_0_128_0)) shapeCasts_S1x1x128x256_S128x256
/-- The queries of head 2. -/
def qh2 : FVec F S128x64 .f32 := extractStridedSlice S128x64 ![0, 128] (qWide x0) slices_S128x512_o0_128_S128x64
/-- The cotangent of the output of head 2. -/
def gh2 : FVec F S128x64 .f32 := extractStridedSlice S128x64 ![0, 128] x7 slices_S128x512_o0_128_S128x64
/-- The bias of head 2. -/
def bh2 : FVec F S128x256 .f32 := shapeCast S128x256 (View.ld (Val := Elt F) x6 (Rect.unit (s := S1x2x512x256) ![0, 0, 256, 0] S1x1x128x256.size inb_S1x2x512x256_S1x1x128x256_0_0_256_0)) shapeCasts_S1x1x128x256_S128x256
/-- The queries of head 3. -/
def qh3 : FVec F S128x64 .f32 := extractStridedSlice S128x64 ![0, 192] (qWide x0) slices_S128x512_o0_192_S128x64
/-- The cotangent of the output of head 3. -/
def gh3 : FVec F S128x64 .f32 := extractStridedSlice S128x64 ![0, 192] x7 slices_S128x512_o0_192_S128x64
/-- The bias of head 3. -/
def bh3 : FVec F S128x256 .f32 := shapeCast S128x256 (View.ld (Val := Elt F) x6 (Rect.unit (s := S1x2x512x256) ![0, 0, 384, 0] S1x1x128x256.size inb_S1x2x512x256_S1x1x128x256_0_0_384_0)) shapeCasts_S1x1x128x256_S128x256
/-- The queries of head 4. -/
def qh4 : FVec F S128x64 .f32 := extractStridedSlice S128x64 ![0, 256] (qWide x0) slices_S128x512_o0_256_S128x64
/-- The cotangent of the output of head 4. -/
def gh4 : FVec F S128x64 .f32 := extractStridedSlice S128x64 ![0, 256] x7 slices_S128x512_o0_256_S128x64
/-- The bias of head 4. -/
def bh4 : FVec F S128x256 .f32 := shapeCast S128x256 (View.ld (Val := Elt F) x6 (Rect.unit (s := S1x2x512x256) ![0, 1, 0, 0] S1x1x128x256.size inb_S1x2x512x256_S1x1x128x256_0_1_0_0)) shapeCasts_S1x1x128x256_S128x256
/-- The queries of head 5. -/
def qh5 : FVec F S128x64 .f32 := extractStridedSlice S128x64 ![0, 320] (qWide x0) slices_S128x512_o0_320_S128x64
/-- The cotangent of the output of head 5. -/
def gh5 : FVec F S128x64 .f32 := extractStridedSlice S128x64 ![0, 320] x7 slices_S128x512_o0_320_S128x64
/-- The bias of head 5. -/
def bh5 : FVec F S128x256 .f32 := shapeCast S128x256 (View.ld (Val := Elt F) x6 (Rect.unit (s := S1x2x512x256) ![0, 1, 128, 0] S1x1x128x256.size inb_S1x2x512x256_S1x1x128x256_0_1_128_0)) shapeCasts_S1x1x128x256_S128x256
/-- The queries of head 6. -/
def qh6 : FVec F S128x64 .f32 := extractStridedSlice S128x64 ![0, 384] (qWide x0) slices_S128x512_o0_384_S128x64
/-- The cotangent of the output of head 6. -/
def gh6 : FVec F S128x64 .f32 := extractStridedSlice S128x64 ![0, 384] x7 slices_S128x512_o0_384_S128x64
/-- The bias of head 6. -/
def bh6 : FVec F S128x256 .f32 := shapeCast S128x256 (View.ld (Val := Elt F) x6 (Rect.unit (s := S1x2x512x256) ![0, 1, 256, 0] S1x1x128x256.size inb_S1x2x512x256_S1x1x128x256_0_1_256_0)) shapeCasts_S1x1x128x256_S128x256
/-- The queries of head 7. -/
def qh7 : FVec F S128x64 .f32 := extractStridedSlice S128x64 ![0, 448] (qWide x0) slices_S128x512_o0_448_S128x64
/-- The cotangent of the output of head 7. -/
def gh7 : FVec F S128x64 .f32 := extractStridedSlice S128x64 ![0, 448] x7 slices_S128x512_o0_448_S128x64
/-- The bias of head 7. -/
def bh7 : FVec F S128x256 .f32 := shapeCast S128x256 (View.ld (Val := Elt F) x6 (Rect.unit (s := S1x2x512x256) ![0, 1, 384, 0] S1x1x128x256.size inb_S1x2x512x256_S1x1x128x256_0_1_384_0)) shapeCasts_S1x1x128x256_S128x256
/-- The keys (or values) of key head 0: the block before's rows, then the block's own. -/
def kv0 (xp xc : Vec F S128x128 .bf16) : FVec F S256x64 .f32 :=
  extf .f32 (concatenate S256x64 0 [⟨S128x64, View.ld (Val := Elt F) xp (Rect.unit (s := S128x128) ![0, 0] S128x64.size inb_S128x128_S128x64_0_0)⟩,
    ⟨S128x64, View.ld (Val := Elt F) xc (Rect.unit (s := S128x128) ![0, 0] S128x64.size inb_S128x128_S128x64_0_0)⟩] concatenates_S128x64_S128x64_S256x64_d0) bitsLt_bf16_f32
/-- The keys (or values) of key head 1: the block before's rows, then the block's own. -/
def kv1 (xp xc : Vec F S128x128 .bf16) : FVec F S256x64 .f32 :=
  extf .f32 (concatenate S256x64 0 [⟨S128x64, View.ld (Val := Elt F) xp (Rect.unit (s := S128x128) ![0, 64] S128x64.size inb_S128x128_S128x64_0_64)⟩,
    ⟨S128x64, View.ld (Val := Elt F) xc (Rect.unit (s := S128x128) ![0, 64] S128x64.size inb_S128x128_S128x64_0_64)⟩] concatenates_S128x64_S128x64_S256x64_d0) bitsLt_bf16_f32
/-- The cotangent of the keys of key head 0, summed over its four query heads. -/
def keyG0 : FVec F S256x64 .f32 := addf (addf (addf (hKey (qh3 x0) (kv0 x1 x2) (kv0 x3 x4) (bh3 x6) (sinkAt 3#32 x5) (gh3 x7)) (hKey (qh2 x0) (kv0 x1 x2) (kv0 x3 x4) (bh2 x6) (sinkAt 2#32 x5) (gh2 x7))) (hKey (qh1 x0) (kv0 x1 x2) (kv0 x3 x4) (bh1 x6) (sinkAt 1#32 x5) (gh1 x7))) (hKey (qh0 x0) (kv0 x1 x2) (kv0 x3 x4) (bh0 x6) (sinkAt 0#32 x5) (gh0 x7))
/-- The cotangent of the values of key head 0, summed over its four query heads. -/
def valG0 : FVec F S256x64 .f32 := addf (addf (addf (hVal (qh3 x0) (kv0 x1 x2) (bh3 x6) (sinkAt 3#32 x5) (gh3 x7)) (hVal (qh2 x0) (kv0 x1 x2) (bh2 x6) (sinkAt 2#32 x5) (gh2 x7))) (hVal (qh1 x0) (kv0 x1 x2) (bh1 x6) (sinkAt 1#32 x5) (gh1 x7))) (hVal (qh0 x0) (kv0 x1 x2) (bh0 x6) (sinkAt 0#32 x5) (gh0 x7))
/-- The cotangents of the sinks of key head 0's four query heads, each in its lane. -/
def sinkG0 : FVec F S1x128 .f32 := addf (addf (addf (putSink 3#32 (hSink (qh3 x0) (kv0 x1 x2) (kv0 x3 x4) (bh3 x6) (sinkAt 3#32 x5) (gh3 x7))) (putSink 2#32 (hSink (qh2 x0) (kv0 x1 x2) (kv0 x3 x4) (bh2 x6) (sinkAt 2#32 x5) (gh2 x7)))) (putSink 1#32 (hSink (qh1 x0) (kv0 x1 x2) (kv0 x3 x4) (bh1 x6) (sinkAt 1#32 x5) (gh1 x7)))) (putSink 0#32 (hSink (qh0 x0) (kv0 x1 x2) (kv0 x3 x4) (bh0 x6) (sinkAt 0#32 x5) (gh0 x7)))
/-- The cotangent of the keys of key head 1, summed over its four query heads. -/
def keyG1 : FVec F S256x64 .f32 := addf (addf (addf (hKey (qh7 x0) (kv1 x1 x2) (kv1 x3 x4) (bh7 x6) (sinkAt 7#32 x5) (gh7 x7)) (hKey (qh6 x0) (kv1 x1 x2) (kv1 x3 x4) (bh6 x6) (sinkAt 6#32 x5) (gh6 x7))) (hKey (qh5 x0) (kv1 x1 x2) (kv1 x3 x4) (bh5 x6) (sinkAt 5#32 x5) (gh5 x7))) (hKey (qh4 x0) (kv1 x1 x2) (kv1 x3 x4) (bh4 x6) (sinkAt 4#32 x5) (gh4 x7))
/-- The cotangent of the values of key head 1, summed over its four query heads. -/
def valG1 : FVec F S256x64 .f32 := addf (addf (addf (hVal (qh7 x0) (kv1 x1 x2) (bh7 x6) (sinkAt 7#32 x5) (gh7 x7)) (hVal (qh6 x0) (kv1 x1 x2) (bh6 x6) (sinkAt 6#32 x5) (gh6 x7))) (hVal (qh5 x0) (kv1 x1 x2) (bh5 x6) (sinkAt 5#32 x5) (gh5 x7))) (hVal (qh4 x0) (kv1 x1 x2) (bh4 x6) (sinkAt 4#32 x5) (gh4 x7))
/-- The cotangents of the sinks of key head 1's four query heads, each in its lane. -/
def sinkG1 : FVec F S1x128 .f32 := addf (addf (addf (putSink 7#32 (hSink (qh7 x0) (kv1 x1 x2) (kv1 x3 x4) (bh7 x6) (sinkAt 7#32 x5) (gh7 x7))) (putSink 6#32 (hSink (qh6 x0) (kv1 x1 x2) (kv1 x3 x4) (bh6 x6) (sinkAt 6#32 x5) (gh6 x7)))) (putSink 5#32 (hSink (qh5 x0) (kv1 x1 x2) (kv1 x3 x4) (bh5 x6) (sinkAt 5#32 x5) (gh5 x7)))) (putSink 4#32 (hSink (qh4 x0) (kv1 x1 x2) (kv1 x3 x4) (bh4 x6) (sinkAt 4#32 x5) (gh4 x7)))
/-- The block's cotangent of the queries: the eight heads side by side. -/
def blkQ : FVec F S128x512 .f32 :=
  concatenate S128x512 1 [⟨S128x64, hQuery (qh0 x0) (kv0 x1 x2) (kv0 x3 x4) (bh0 x6) (sinkAt 0#32 x5) (gh0 x7)⟩, ⟨S128x64, hQuery (qh1 x0) (kv0 x1 x2) (kv0 x3 x4) (bh1 x6) (sinkAt 1#32 x5) (gh1 x7)⟩, ⟨S128x64, hQuery (qh2 x0) (kv0 x1 x2) (kv0 x3 x4) (bh2 x6) (sinkAt 2#32 x5) (gh2 x7)⟩, ⟨S128x64, hQuery (qh3 x0) (kv0 x1 x2) (kv0 x3 x4) (bh3 x6) (sinkAt 3#32 x5) (gh3 x7)⟩, ⟨S128x64, hQuery (qh4 x0) (kv1 x1 x2) (kv1 x3 x4) (bh4 x6) (sinkAt 4#32 x5) (gh4 x7)⟩, ⟨S128x64, hQuery (qh5 x0) (kv1 x1 x2) (kv1 x3 x4) (bh5 x6) (sinkAt 5#32 x5) (gh5 x7)⟩, ⟨S128x64, hQuery (qh6 x0) (kv1 x1 x2) (kv1 x3 x4) (bh6 x6) (sinkAt 6#32 x5) (gh6 x7)⟩, ⟨S128x64, hQuery (qh7 x0) (kv1 x1 x2) (kv1 x3 x4) (bh7 x6) (sinkAt 7#32 x5) (gh7 x7)⟩] concatenates_S128x64_S128x64_S128x64_S128x64_S128x64_S128x64_S128x64_S128x64_S128x512_d1
/-- The first 128 rows (of the block before keys), the two key heads side by side. -/
def blkKeyLo : FVec F S128x128 .f32 :=
  concatenate S128x128 1 [⟨S128x64, extractStridedSlice S128x64 ![0, 0] (keyG0 x0 x1 x2 x3 x4 x5 x6 x7) slices_S256x64_o0_0_S128x64⟩,
    ⟨S128x64, extractStridedSlice S128x64 ![0, 0] (keyG1 x0 x1 x2 x3 x4 x5 x6 x7) slices_S256x64_o0_0_S128x64⟩] concatenates_S128x64_S128x64_S128x128_d1
/-- The last 128 rows (of the block's own keys), the two key heads side by side. -/
def blkKeyHi : FVec F S128x128 .f32 :=
  concatenate S128x128 1 [⟨S128x64, extractStridedSlice S128x64 ![128, 0] (keyG0 x0 x1 x2 x3 x4 x5 x6 x7) slices_S256x64_o128_0_S128x64⟩,
    ⟨S128x64, extractStridedSlice S128x64 ![128, 0] (keyG1 x0 x1 x2 x3 x4 x5 x6 x7) slices_S256x64_o128_0_S128x64⟩] concatenates_S128x64_S128x64_S128x128_d1
/-- The first 128 rows (of the block before vals), the two key heads side by side. -/
def blkValLo : FVec F S128x128 .f32 :=
  concatenate S128x128 1 [⟨S128x64, extractStridedSlice S128x64 ![0, 0] (valG0 x0 x1 x2 x5 x6 x7) slices_S256x64_o0_0_S128x64⟩,
    ⟨S128x64, extractStridedSlice S128x64 ![0, 0] (valG1 x0 x1 x2 x5 x6 x7) slices_S256x64_o0_0_S128x64⟩] concatenates_S128x64_S128x64_S128x128_d1
/-- The last 128 rows (of the block's own vals), the two key heads side by side. -/
def blkValHi : FVec F S128x128 .f32 :=
  concatenate S128x128 1 [⟨S128x64, extractStridedSlice S128x64 ![128, 0] (valG0 x0 x1 x2 x5 x6 x7) slices_S256x64_o128_0_S128x64⟩,
    ⟨S128x64, extractStridedSlice S128x64 ![128, 0] (valG1 x0 x1 x2 x5 x6 x7) slices_S256x64_o128_0_S128x64⟩] concatenates_S128x64_S128x64_S128x128_d1
/-- The block's cotangents of the sinks. -/
def blkSink : FVec F S1x128 .f32 :=
  addf (addf (broadcast S1x128 (Scalar.ofBits .f32 0x00000000#32)) (sinkG0 x0 x1 x2 x3 x4 x5 x6 x7)) (sinkG1 x0 x1 x2 x3 x4 x5 x6 x7)
end

end Cert.KernelIdeal.Swa

end
-- ==== Proof.Swa.Body.lean ====
module

public import proofs.«01_k».proof.Proof.Swa.Frame
public import proofs.«01_k».proof.Proof.Swa.Head
public import Idealize.ShloMosaic.Lib.Pipeline.ValueKit
public import Idealize.ShloMosaic.Lib.Pipeline.ReadBack

@[expose] public section

set_option maxRecDepth 65536

noncomputable section

namespace Cert.KernelIdeal.Swa

open Cert.KernelIdeal Cert.KernelIdeal.Gen Idealize.ShloMosaic Idealize.ShloMosaic.TcCoe Idealize.SL.Sem

variable {F : FTy → Type} [FloatOps F]

/-- What the body stores in a block of the gradient: the queries' part (512 columns), the keys' part (128) and the values' part (128), rounded. -/
def outRow (q : FVec F S128x512 .f32) (k v : FVec F S128x128 .f32) : Vec F S128x768 .bf16 :=
  View.canon [(⟨Rect.unit (s := S128x768) ![0, 640] S128x128.size inb_S128x768_S128x128_0_640, truncf .bf16 v bitsLt_bf16_f32⟩ : Σ r : Rect S128x768, r.shape.Idx → Elt F .bf16),
    ⟨Rect.unit (s := S128x768) ![0, 512] S128x128.size inb_S128x768_S128x128_0_512, truncf .bf16 k bitsLt_bf16_f32⟩,
    ⟨Rect.unit (s := S128x768) ![0, 0] S128x512.size inb_S128x768_S128x512_0_0, truncf .bf16 q bitsLt_bf16_f32⟩]

set_option maxHeartbeats 4000000 in
/-- The first point keeps the block's cotangent of the queries. -/
theorem sout0_A_0_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) :
    sout0_A_0 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 = blkQ x0 x1 x2 x3 x4 x5 x6 x7 := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- The first point keeps the block's cotangent of its own keys. -/
theorem sout0_A_1_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) :
    sout0_A_1 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 = blkKeyHi x0 x1 x2 x3 x4 x5 x6 x7 := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- The first point keeps the block's cotangent of its own values. -/
theorem sout0_A_2_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) :
    sout0_A_2 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 = blkValHi x0 x1 x2 x5 x6 x7 := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- The first point adds the block's cotangents of the sinks to zeros. -/
theorem out0_A_9_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) :
    out0_A_9 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 = addf (broadcast S1x128 (Scalar.ofBits .f32 0x00000000#32)) (blkSink x0 x1 x2 x3 x4 x5 x6 x7) := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]

set_option maxHeartbeats 4000000 in
/-- A point after the first keeps the block's cotangent of the queries. -/
theorem sout0_B_0_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    sout0_B_0 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2 = blkQ x0 x1 x2 x3 x4 x5 x6 x7 := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- A point after the first keeps the block's cotangent of its own keys. -/
theorem sout0_B_1_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    sout0_B_1 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2 = blkKeyHi x0 x1 x2 x3 x4 x5 x6 x7 := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- A point after the first keeps the block's cotangent of its own values. -/
theorem sout0_B_2_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    sout0_B_2 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2 = blkValHi x0 x1 x2 x5 x6 x7 := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- A point after the first adds the block's cotangents of the sinks to what the row holds. -/
theorem out0_B_9_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    out0_B_9 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2 = addf xo9 (blkSink x0 x1 x2 x3 x4 x5 x6 x7) := by
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]

set_option maxHeartbeats 4000000 in
/-- A point after the first stores the block before: the kept cotangents, with what this block adds to that block's keys and values. -/
theorem out0_B_8_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : cond0_1 i) (hc2 : ¬cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    out0_B_8 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2 = outRow xs0 (addf xs1 (blkKeyLo x0 x1 x2 x3 x4 x5 x6 x7)) (addf xs2 (blkValLo x0 x1 x2 x5 x6 x7)) := by
  unfold outRow
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]
  have h5 : shapeCast S1x128 x5 shapeCasts_S1x128_S1x128 = x5 := shapeCast_self _ _
  rw [h5]

set_option maxHeartbeats 4000000 in
/-- The last point stores the last block: the kept cotangents. -/
theorem out0_C_8_eq (c : Dev nD) (i : grid0.Coords) (arg1 : Memref sig .tc .vmem S128x512 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x2x512x256 .f32) (harg7 : arg7.IsWhole) (arg8 : Memref sig .tc .vmem S128x512 .f32) (harg8 : arg8.IsWhole) (arg10 : Memref sig .tc .vmem S128x768 .bf16) (harg10 : arg10.IsWhole) (arg11 : Memref sig .tc .vmem S1x128 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (hc0 : ¬cond0_0 i) (hc1 : ¬cond0_1 i) (hc2 : cond0_2 i)
    (x0 : Vec F S128x512 .bf16) (x1 : Vec F S128x128 .bf16) (x2 : Vec F S128x128 .bf16) (x3 : Vec F S128x128 .bf16) (x4 : Vec F S128x128 .bf16) (x5 : Vec F S1x128 .f32) (x6 : Vec F S1x2x512x256 .f32) (x7 : Vec F S128x512 .f32) (xo9 : Vec F S1x128 .f32) (xs0 : Vec F S128x512 .f32) (xs1 : Vec F S128x128 .f32) (xs2 : Vec F S128x128 .f32) :
    out0_C_8 c i arg1 harg1 arg2 harg2 arg3 harg3 arg4 harg4 arg5 harg5 arg6 harg6 arg7 harg7 arg8 harg8 arg10 harg10 arg11 harg11 arg12 harg12 arg13 harg13 arg14 harg14 hc0 hc1 hc2 x0 x1 x2 x3 x4 x5 x6 x7 xo9 xs0 xs1 xs2 = outRow xs0 xs1 xs2 := by
  unfold outRow
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, shapeCast_self, Scalar.ofBits, scores, sinkAt, rowMax, expS, expSink, denom, recip, dProb, dVal, dDen, dScore, dScaled, dKey, dQuery, dSink, putSink, hMax, hExp, hExpSink, hDen, hScore, hQuery, hKey, hSink, hVal, qWide, qh0, qh1, qh2, qh3, qh4, qh5, qh6, qh7, gh0, gh1, gh2, gh3, gh4, gh5, gh6, gh7, bh0, bh1, bh2, bh3, bh4, bh5, bh6, bh7, kv0, kv1, keyG0, keyG1, valG0, valG1, sinkG0, sinkG1, blkQ, blkKeyLo, blkKeyHi, blkValLo, blkValHi, blkSink]

end Cert.KernelIdeal.Swa

end
-- ==== Proof.Swa.Points.lean ====
module

public import proofs.«01_k».proof.Proof.Swa.Body
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD) (t : Fin cfg0.N)

/-! ## The gradients of a point's block -/

def bQ : FVec F S128x512 .f32 := blkQ (X0_0 m c t) (iblk m c 1 t) (iblk m c 2 t) (iblk m c 3 t) (iblk m c 4 t) (iblk m c 5 t) (iblk m c 6 t) (iblk m c 7 t)
def bKeyLo : FVec F S128x128 .f32 := blkKeyLo (X0_0 m c t) (iblk m c 1 t) (iblk m c 2 t) (iblk m c 3 t) (iblk m c 4 t) (iblk m c 5 t) (iblk m c 6 t) (iblk m c 7 t)
def bKeyHi : FVec F S128x128 .f32 := blkKeyHi (X0_0 m c t) (iblk m c 1 t) (iblk m c 2 t) (iblk m c 3 t) (iblk m c 4 t) (iblk m c 5 t) (iblk m c 6 t) (iblk m c 7 t)
def bValLo : FVec F S128x128 .f32 := blkValLo (X0_0 m c t) (iblk m c 1 t) (iblk m c 2 t) (iblk m c 5 t) (iblk m c 6 t) (iblk m c 7 t)
def bValHi : FVec F S128x128 .f32 := blkValHi (X0_0 m c t) (iblk m c 1 t) (iblk m c 2 t) (iblk m c 5 t) (iblk m c 6 t) (iblk m c 7 t)
def bSink : FVec F S1x128 .f32 := blkSink (X0_0 m c t) (iblk m c 1 t) (iblk m c 2 t) (iblk m c 3 t) (iblk m c 4 t) (iblk m c 5 t) (iblk m c 6 t) (iblk m c 7 t)

theorem lt33 : t.val < 33 := lt_of_lt_of_eq t.isLt (show cfg0.N = 33 from N_0)

/-- The point before. -/
abbrev prev : Fin cfg0.N := ⟨t.val - 1, Nat.lt_of_le_of_lt (Nat.sub_le _ _) t.isLt⟩

/-- What the first point leaves. -/
theorem outs_first (h : t.val = 0) :
    (outsAt0 m c t.val t.isLt).2 = (addf (broadcast S1x128 (Scalar.ofBits .f32 0x00000000#32)) (bSink m c t), bQ m c t, bKeyHi m c t, bValHi m c t) := by
  rw [outsAt0_A m c t (by omega) (by omega) (by omega)]
  dsimp only
  rw [out0_A_9_eq, sout0_A_0_eq, sout0_A_1_eq, sout0_A_2_eq]
  rfl

/-- What a point after the first leaves. -/
theorem outs_mid (h : t.val ≠ 0) (h1 : t.val < 32) :
    outsAt0 m c t.val t.isLt = (outRow (outsAt0 m c (prev t).val (prev t).isLt).2.2.1 (addf (outsAt0 m c (prev t).val (prev t).isLt).2.2.2.1 (bKeyLo m c t)) (addf (outsAt0 m c (prev t).val (prev t).isLt).2.2.2.2 (bValLo m c t)),
      addf (outsAt0 m c (prev t).val (prev t).isLt).2.1 (bSink m c t), bQ m c t, bKeyHi m c t, bValHi m c t) := by
  rw [outsAt0_B m c t (by omega) h1 (by omega), out0_B_8_eq, out0_B_9_eq, sout0_B_0_eq, sout0_B_1_eq, sout0_B_2_eq]
  rfl

/-- What the last point leaves in the output's block and in the sinks' gradient. -/
theorem outs_last (h : t.val = 32) :
    (outsAt0 m c t.val t.isLt).1 = outRow (outsAt0 m c (prev t).val (prev t).isLt).2.2.1 (outsAt0 m c (prev t).val (prev t).isLt).2.2.2.1 (outsAt0 m c (prev t).val (prev t).isLt).2.2.2.2
      ∧ (outsAt0 m c t.val t.isLt).2.1 = (outsAt0 m c (prev t).val (prev t).isLt).2.1 := by
  rw [outsAt0_C m c t (by omega) (by omega) (by omega)]
  dsimp only
  rw [out0_C_8_eq]
  exact ⟨rfl, rfl⟩

/-- What a point that has a block keeps of it. -/
theorem kept (h1 : t.val < 32) : (outsAt0 m c t.val t.isLt).2.2 = (bQ m c t, bKeyHi m c t, bValHi m c t) := by
  by_cases h : t.val = 0
  · rw [outs_first m c t h]
  · rw [outs_mid m c t h h1]

/-- The output's block of a point in the middle. -/
theorem row_mid (h : t.val ≠ 0) (h1 : t.val < 32) :
    (outsAt0 m c t.val t.isLt).1 = outRow (bQ m c (prev t)) (addf (bKeyHi m c (prev t)) (bKeyLo m c t)) (addf (bValHi m c (prev t)) (bValLo m c t)) := by
  rw [outs_mid m c t h h1, kept m c (prev t) (by show t.val - 1 < 32; omega)]

/-- The output's block of the last point. -/
theorem row_last (h : t.val = 32) : (outsAt0 m c t.val t.isLt).1 = outRow (bQ m c (prev t)) (bKeyHi m c (prev t)) (bValHi m c (prev t)) := by
  rw [(outs_last m c t h).1, kept m c (prev t) (by show t.val - 1 < 32; omega)]

end Cert.KernelIdeal.Swa

end
-- ==== Proof.Row.Spec.lean ====
module

public import Idealize.ShloMosaic.PureOps.Ideal.Laws
public import Idealize.ShloMosaic.Lib.Claim

@[expose] public section

noncomputable section

namespace Cert.Row

open Idealize.ShloMosaic

/-! ## One row of the attention's gradient, over the extended reals

`s` is a row of 256 scores (a masked one is `⊥`), `σ` the head's sink, `dp` the cotangents of the row's probabilities. -/

section
variable (s : Fin 256 → EReal) (σ : EReal) (dp : Fin 256 → EReal) (c : Fin 256)

/-- The largest of the scores and the sink. -/
def mx : EReal := max (Finset.fold max ⊥ (fun x => s x) Finset.univ) σ
/-- A score's exponential, less the largest. -/
def ex : EReal := Ideal.exp (s c - mx s σ)
/-- The sink's exponential, less the largest. -/
def es : EReal := Ideal.exp (σ - mx s σ)
/-- The softmax's denominator. -/
def dn : EReal := ∑ x, ex s σ x + es s σ
/-- One over the denominator. -/
def rc : EReal := Ideal.div 1 (dn s σ)
/-- A probability. -/
def pr : EReal := ex s σ c * rc s σ
/-- The cotangent of the denominator. -/
def dd : EReal := 0 - (∑ x, ex s σ x * dp x) * Ideal.div 1 (dn s σ * dn s σ)
/-- The cotangent of a score. -/
def ds : EReal := (dp c * rc s σ + dd s σ dp) * ex s σ c
end

/-! ## What holds of a row whose sink is finite and none of whose scores is `⊤` -/

section
variable {s : Fin 256 → EReal} {σ : EReal} {dp dp' : Fin 256 → EReal} {c : Fin 256}

theorem mx_ne_top (hs : ∀ c, s c ≠ ⊤) (hσ : σ ≠ ⊤) : mx s σ ≠ ⊤ := by
  refine (max_lt ?_ hσ.lt_top).ne
  rw [Finset.fold_max_lt]
  exact ⟨bot_lt_top, fun x _ => (hs x).lt_top⟩

theorem mx_ne_bot (hσ : σ ≠ ⊥) : mx s σ ≠ ⊥ :=
  (lt_of_lt_of_le (bot_lt_iff_ne_bot.2 hσ) (le_max_right _ _)).ne'

/-- The largest is a real number. -/
theorem mx_real (hs : ∀ c, s c ≠ ⊤) (hσ : σ ≠ ⊤) (hσ' : σ ≠ ⊥) : ∃ M : ℝ, mx s σ = M :=
  ⟨_, (EReal.coe_toReal (mx_ne_top hs hσ) (mx_ne_bot hσ')).symm⟩

/-- A score's exponential is a real number, at least 0. -/
theorem ex_real (hs : ∀ c, s c ≠ ⊤) (hσ : σ ≠ ⊤) (hσ' : σ ≠ ⊥) (c : Fin 256) : ∃ e : ℝ, 0 ≤ e ∧ ex s σ c = e := by
  obtain ⟨M, hM⟩ := mx_real hs hσ hσ'
  unfold ex
  rw [hM]
  induction h : s c with
  | bot => exact ⟨0, le_rfl, rfl⟩
  | top => exact absurd h (hs c)
  | coe x => exact ⟨Real.exp (x - M), (Real.exp_pos _).le, rfl⟩

/-- A masked score's exponential is 0. -/
theorem ex_of_bot (hs : ∀ c, s c ≠ ⊤) (hσ : σ ≠ ⊤) (hσ' : σ ≠ ⊥) (h : s c = ⊥) : ex s σ c = 0 := by
  obtain ⟨M, hM⟩ := mx_real hs hσ hσ'
  unfold ex
  rw [hM, h]
  rfl

/-- The sink's exponential is a positive real number. -/
theorem es_real (hs : ∀ c, s c ≠ ⊤) (hσ : σ ≠ ⊤) (hσ' : σ ≠ ⊥) : ∃ e : ℝ, 0 < e ∧ es s σ = e := by
  obtain ⟨M, hM⟩ := mx_real hs hσ hσ'
  unfold es
  rw [hM]
  induction h : σ with
  | bot => exact absurd h hσ'
  | top => exact absurd h hσ
  | coe x => exact ⟨Real.exp (x - M), Real.exp_pos _, rfl⟩

/-- The denominator is a positive real number. -/
theorem dn_real (hs : ∀ c, s c ≠ ⊤) (hσ : σ ≠ ⊤) (hσ' : σ ≠ ⊥) : ∃ D : ℝ, 0 < D ∧ dn s σ = D := by
  choose e he hx using ex_real hs hσ hσ'
  obtain ⟨f, hf, hy⟩ := es_real hs hσ hσ'
  refine ⟨∑ x, e x + f, add_pos_of_nonneg_of_pos (Finset.sum_nonneg fun x _ => he x) hf, ?_⟩
  unfold dn
  rw [hy, EReal.coe_add, Finset.sum_congr rfl fun x _ => hx x]
  congr 1

/-- A quotient by a number that is not 0 is the product with its quotient of 1. -/
theorem div_eq {y : EReal} (hy : y ≠ 0) (x : EReal) : Ideal.div x y = x * Ideal.div 1 y := by
  unfold Ideal.div
  rw [if_neg hy, if_neg hy, one_mul]

theorem div_dn (hs : ∀ c, s c ≠ ⊤) (hσ : σ ≠ ⊤) (hσ' : σ ≠ ⊥) (x : EReal) : Ideal.div x (dn s σ) = x * rc s σ := by
  obtain ⟨D, hD, h⟩ := dn_real hs hσ hσ'
  refine div_eq ?_ x
  rw [h]
  exact_mod_cast hD.ne'

/-- One over the denominator's square is a real number, at least 0. -/
theorem sq_real (hs : ∀ c, s c ≠ ⊤) (hσ : σ ≠ ⊤) (hσ' : σ ≠ ⊥) : ∃ a : ℝ, 0 ≤ a ∧ Ideal.div 1 (dn s σ * dn s σ) = a := by
  obtain ⟨D, hD, h⟩ := dn_real hs hσ hσ'
  refine ⟨(D * D)⁻¹, by positivity, ?_⟩
  unfold Ideal.div
  rw [h, ← EReal.coe_mul, if_neg (by exact_mod_cast (mul_pos hD hD).ne'), one_mul, ← EReal.coe_inv]

/-- A sum of products with a real number that is at least 0. -/
theorem sum_mul_real {ι : Type} (t : Finset ι) (f : ι → EReal) {a : ℝ} (ha : 0 ≤ a) : (∑ i ∈ t, f i) * (a : EReal) = ∑ i ∈ t, f i * (a : EReal) := by
  induction t using Finset.cons_induction with
  | empty => simp
  | cons i t hi ih =>
    rw [Finset.sum_cons, Finset.sum_cons, EReal.right_distrib_of_nonneg_of_ne_top (by exact_mod_cast ha) (EReal.coe_ne_top a), ih]

/-- The cotangent of the denominator as the quotient rule writes it: the sum runs over the scores and the sink, whose probability has no
cotangent. -/
theorem dd_eq (hs : ∀ c, s c ≠ ⊤) (hσ : σ ≠ ⊤) (hσ' : σ ≠ ⊥) :
    -(∑ x, dp x * Ideal.div 1 (dn s σ * dn s σ) * ex s σ x + 0 * Ideal.div 1 (dn s σ * dn s σ) * es s σ) = dd s σ dp := by
  obtain ⟨a, ha, h⟩ := sq_real hs hσ hσ'
  unfold dd
  rw [h, sum_mul_real _ _ ha, zero_mul, zero_mul, add_zero, sub_eq_add_neg, zero_add]
  congr 1
  refine Finset.sum_congr rfl fun x _ => ?_
  rw [mul_comm (ex s σ x), mul_right_comm]

/-- A cotangent where the probability is 0 does not matter. -/
theorem dd_congr (h : ∀ c, ex s σ c = 0 ∨ dp c = dp' c) : dd s σ dp = dd s σ dp' := by
  unfold dd
  congr 2
  refine Finset.sum_congr rfl fun x _ => ?_
  rcases h x with h | h
  · rw [h, zero_mul, zero_mul]
  · rw [h]

theorem ds_congr (h : ∀ c, ex s σ c = 0 ∨ dp c = dp' c) : ds s σ dp c = ds s σ dp' c := by
  unfold ds
  rw [dd_congr h]
  rcases h c with h | h
  · rw [h, mul_zero, mul_zero]
  · rw [h]

theorem ds_of_zero (h : ex s σ c = 0) : ds s σ dp c = 0 := by
  unfold ds
  rw [h, mul_zero]

theorem pr_of_zero (h : ex s σ c = 0) : pr s σ c = 0 := by
  unfold pr
  rw [h, zero_mul]

end

/-! ## One block of queries

What a block's gradients are read from: `q`, `g` and `b` by key head, query head of the group, row and lane (or column), `k` and `v` by key head,
column and lane, `σ` by key head and query head. -/

/-- The numbers of one block of 128 queries and the 256 keys and values that it sees. -/
structure Blk where
  /-- the queries -/
  q : Fin 2 → Fin 4 → Fin 128 → Fin 64 → EReal
  /-- the keys -/
  k : Fin 2 → Fin 256 → Fin 64 → EReal
  /-- the values -/
  v : Fin 2 → Fin 256 → Fin 64 → EReal
  /-- the bias, `⊥` where masked -/
  b : Fin 2 → Fin 4 → Fin 128 → Fin 256 → EReal
  /-- the sinks -/
  σ : Fin 2 → Fin 4 → EReal
  /-- the cotangent of the output -/
  g : Fin 2 → Fin 4 → Fin 128 → Fin 64 → EReal

namespace Blk

/-- The scale of the scores, `1/8`. -/
def sc : EReal := Ideal.ofBits .f32 0x3E000000#32

variable (B : Blk) (h : Fin 2) (g : Fin 4) (r : Fin 128) (c : Fin 256) (d : Fin 64)

/-- A score. -/
def S : EReal := (∑ x, B.q h g r x * B.k h c x) * sc + B.b h g r c
/-- A probability's cotangent. -/
def dP : EReal := ∑ x, B.g h g r x * B.v h c x
/-- A score's cotangent. -/
def dS : EReal := ds (B.S h g r) (B.σ h g) (B.dP h g r) c
/-- A probability. -/
def P : EReal := pr (B.S h g r) (B.σ h g) c
/-- A query's cotangent. -/
def dQ : EReal := ∑ c, B.dS h g r c * sc * B.k h c d
/-- A key's cotangent. -/
def dK : EReal := ∑ g, ∑ r, B.dS h g r c * sc * B.q h g r d
/-- A value's cotangent. -/
def dV : EReal := ∑ g, ∑ r, B.g h g r d * B.P h g r c
/-- The block's part of a sink's cotangent. -/
def dσ : EReal := ∑ r, dd (B.S h g r) (B.σ h g) (B.dP h g r) * es (B.S h g r) (B.σ h g)

end Blk

end Cert.Row

end
-- ==== Proof.Swa.Read.lean ====
module

public import proofs.«01_k».proof.Proof.Swa.Head
public import proofs.«01_k».proof.Proof.Row.Spec
public import Idealize.ShloMosaic.Lib.Pointwise
public import Idealize.ShloMosaic.Lib.Claim
public import Idealize.ShloMosaic.Lib.WordCmp
import Idealize.ShloMosaic.Lib.Tactic.CleanTypes

@[expose] public section

set_option maxRecDepth 16384

noncomputable section

namespace Cert.KernelIdeal.Swa

open Cert.KernelIdeal Cert.KernelIdeal.Gen Idealize.ShloMosaic Idealize.SL.Sem Cert.Row

/-- The word of −∞. -/
theorem negInf_f32 : Ideal.ofBits .f32 0xFF800000#32 = ⊥ := by
  simp [Ideal.ofBits, Ideal.ieee]

/-! ## One head of the body, read at the extended reals -/

section
variable (q : FVec Ideal S128x64 .f32) (k v : FVec Ideal S256x64 .f32) (b : FVec Ideal S128x256 .f32) (σ : FVec Ideal S1x1 .f32) (g : FVec Ideal S128x64 .f32)
variable (r : Fin 128) (c : Fin 256) (d : Fin 64) (z z' : Fin 1)

/-- Row `r` of a head's scores. -/
def rowS : Fin 256 → EReal := fun c => (∑ x, q (ix2 r x) * k (ix2 c x)) * Blk.sc + b (ix2 r c)

/-- Row `r` of the cotangents of a head's probabilities. -/
def rowP : Fin 256 → EReal := fun c => ∑ x, g (ix2 r x) * v (ix2 c x)

theorem scores_apply : scores q k b (ix2 r c) = rowS q k b r c := by
  unfold scores
  pointwise
  rfl

theorem dProb_apply : dProb g v (ix2 r c) = rowP v g r c := by
  unfold dProb
  pointwise
  rfl

theorem hMax_apply : hMax q k b σ (ix2 r z) = mx (rowS q k b r) (σ (ix2 0 0)) := by
  unfold hMax rowMax
  pointwise
  simp only [scores_apply, negInf_f32]
  rfl

theorem hExp_apply : hExp q k b σ (ix2 r c) = ex (rowS q k b r) (σ (ix2 0 0)) c := by
  unfold hExp expS
  pointwise
  rw [hMax_apply, scores_apply]
  rfl

theorem hExpSink_apply : hExpSink q k b σ (ix2 r z) = es (rowS q k b r) (σ (ix2 0 0)) := by
  unfold hExpSink expSink
  pointwise
  rw [hMax_apply]
  rfl

theorem hDen_apply : hDen q k b σ (ix2 r z) = dn (rowS q k b r) (σ (ix2 0 0)) := by
  unfold hDen denom
  pointwise
  simp only [hExp_apply, hExpSink_apply]
  rfl

theorem dDen_apply : dDen (hExp q k b σ) (hDen q k b σ) (dProb g v) (ix2 r z) = dd (rowS q k b r) (σ (ix2 0 0)) (rowP v g r) := by
  unfold dDen
  pointwise
  simp only [hExp_apply, hDen_apply, dProb_apply]
  rfl

theorem hScore_apply : hScore q k v b σ g (ix2 r c) = ds (rowS q k b r) (σ (ix2 0 0)) (rowP v g r) c := by
  unfold hScore dScore recip
  pointwise
  simp only [hExp_apply, hDen_apply, dProb_apply, dDen_apply, Finset.univ_unique, Finset.sum_singleton]
  rfl

theorem hQuery_apply : hQuery q k v b σ g (ix2 r d) = ∑ c, ds (rowS q k b r) (σ (ix2 0 0)) (rowP v g r) c * Blk.sc * k (ix2 c d) := by
  unfold hQuery dQuery dScaled
  pointwise
  simp only [hScore_apply]
  rfl

theorem hKey_apply : hKey q k v b σ g (ix2 c d) = ∑ r, ds (rowS q k b r) (σ (ix2 0 0)) (rowP v g r) c * Blk.sc * q (ix2 r d) := by
  unfold hKey dKey dScaled
  pointwise
  simp only [hScore_apply]
  rfl

theorem hVal_apply : hVal q k b σ g (ix2 c d) = ∑ r, g (ix2 r d) * pr (rowS q k b r) (σ (ix2 0 0)) c := by
  unfold hVal dVal recip
  pointwise
  simp only [hExp_apply, hDen_apply]
  rfl

theorem hSink_apply : hSink q k v b σ g (ix2 z z') = ∑ r, dd (rowS q k b r) (σ (ix2 0 0)) (rowP v g r) * es (rowS q k b r) (σ (ix2 0 0)) := by
  unfold hSink dSink
  pointwise
  simp only [dDen_apply, hExpSink_apply, Finset.univ_unique, Finset.sum_singleton]

end

/-! ## A head of a block: its arrays are the block's -/

section
variable {B : Blk} {h : Fin 2} {γ : Fin 4}
variable {q : FVec Ideal S128x64 .f32} {k v : FVec Ideal S256x64 .f32} {b : FVec Ideal S128x256 .f32} {σ : FVec Ideal S1x1 .f32} {g : FVec Ideal S128x64 .f32}

theorem rowS_eq (hq : ∀ r d, q (ix2 r d) = B.q h γ r d) (hk : ∀ c d, k (ix2 c d) = B.k h c d) (hb : ∀ r c, b (ix2 r c) = B.b h γ r c) (r : Fin 128) :
    rowS q k b r = B.S h γ r := by
  funext c
  simp only [rowS, Blk.S, hq, hk, hb]

theorem rowP_eq (hv : ∀ c d, v (ix2 c d) = B.v h c d) (hg : ∀ r d, g (ix2 r d) = B.g h γ r d) (r : Fin 128) : rowP v g r = B.dP h γ r := by
  funext c
  simp only [rowP, Blk.dP, hv, hg]

theorem hQuery_eq (hq : ∀ r d, q (ix2 r d) = B.q h γ r d) (hk : ∀ c d, k (ix2 c d) = B.k h c d) (hv : ∀ c d, v (ix2 c d) = B.v h c d)
    (hb : ∀ r c, b (ix2 r c) = B.b h γ r c) (hσ : σ (ix2 0 0) = B.σ h γ) (hg : ∀ r d, g (ix2 r d) = B.g h γ r d) (r : Fin 128) (d : Fin 64) :
    hQuery q k v b σ g (ix2 r d) = B.dQ h γ r d := by
  simp only [hQuery_apply, rowS_eq hq hk hb, rowP_eq hv hg, hσ, hk, Blk.dQ, Blk.dS]

theorem hKey_eq (hq : ∀ r d, q (ix2 r d) = B.q h γ r d) (hk : ∀ c d, k (ix2 c d) = B.k h c d) (hv : ∀ c d, v (ix2 c d) = B.v h c d)
    (hb : ∀ r c, b (ix2 r c) = B.b h γ r c) (hσ : σ (ix2 0 0) = B.σ h γ) (hg : ∀ r d, g (ix2 r d) = B.g h γ r d) (c : Fin 256) (d : Fin 64) :
    hKey q k v b σ g (ix2 c d) = ∑ r, B.dS h γ r c * Blk.sc * B.q h γ r d := by
  simp only [hKey_apply, rowS_eq hq hk hb, rowP_eq hv hg, hσ, hq, Blk.dS]

theorem hVal_eq (hq : ∀ r d, q (ix2 r d) = B.q h γ r d) (hk : ∀ c d, k (ix2 c d) = B.k h c d)
    (hb : ∀ r c, b (ix2 r c) = B.b h γ r c) (hσ : σ (ix2 0 0) = B.σ h γ) (hg : ∀ r d, g (ix2 r d) = B.g h γ r d) (c : Fin 256) (d : Fin 64) :
    hVal q k b σ g (ix2 c d) = ∑ r, B.g h γ r d * B.P h γ r c := by
  simp only [hVal_apply, rowS_eq hq hk hb, hσ, hg, Blk.P]

theorem hSink_eq (hq : ∀ r d, q (ix2 r d) = B.q h γ r d) (hk : ∀ c d, k (ix2 c d) = B.k h c d) (hv : ∀ c d, v (ix2 c d) = B.v h c d)
    (hb : ∀ r c, b (ix2 r c) = B.b h γ r c) (hσ : σ (ix2 0 0) = B.σ h γ) (hg : ∀ r d, g (ix2 r d) = B.g h γ r d) (z z' : Fin 1) :
    hSink q k v b σ g (ix2 z z') = B.dσ h γ := by
  simp only [hSink_apply, rowS_eq hq hk hb, rowP_eq hv hg, hσ, Blk.dσ]

end

/-! ## A block's arrays -/

section
variable (x0 : Vec Ideal S128x512 .bf16) (x1 x2 x3 x4 : Vec Ideal S128x128 .bf16) (x5 : Vec Ideal S1x128 .f32) (x6 : Vec Ideal S1x2x512x256 .f32) (x7 : Vec Ideal S128x512 .f32)
variable (h : Fin 2) (γ : Fin 4) (r : Fin 128) (c : Fin 256) (d : Fin 64) (z z' : Fin 1)

/-- The column of lane `d` of query head `γ` of group `h`. -/
def qcol : Fin 512 := ⟨h * 256 + γ * 64 + d, by omega⟩

/-- The column of lane `d` of key head `h`. -/
def kcol : Fin 128 := ⟨h * 64 + d, by omega⟩

/-- The lane of query head `γ` of group `h`. -/
def hlane : Fin 128 := ⟨h * 4 + γ, by omega⟩

/-- The row of query head `γ`'s row `r` in a bias's group. -/
def brow : Fin 512 := ⟨γ * 128 + r, by omega⟩

/-- The block's numbers, read off its windows. -/
def blkOf : Blk where
  q h γ r d := x0 (ix2 r (qcol h γ d))
  k h c d := if hc : c.val < 128 then x1 (ix2 ⟨c, hc⟩ (kcol h d)) else x2 (ix2 ⟨c - 128, by omega⟩ (kcol h d))
  v h c d := if hc : c.val < 128 then x3 (ix2 ⟨c, hc⟩ (kcol h d)) else x4 (ix2 ⟨c - 128, by omega⟩ (kcol h d))
  b h γ r c := x6 (ix4 0 h (brow γ r) c)
  σ h γ := x5 (ix2 0 (hlane h γ))
  g h γ r d := x7 (ix2 r (qcol h γ d))

theorem lane_select (l l' : Fin 128) (x y : EReal) :
    Scalar.select (IntOp.cmpi .eq (BitVec.ofNat 32 l') (BitVec.ofNat 32 l)) x y = if l' = l then x else y := by
  rw [WordCmp.cmpi_eq_ofNat (by omega) (by omega), WordCmp.select_ofBool]
  simp [Fin.ext_iff]

theorem sinkAt_apply (n : BitVec 32) (l : Fin 128) (hn : n = BitVec.ofNat 32 l) : sinkAt (F := Ideal) n x5 (ix2 z z') = x5 (ix2 0 l) := by
  subst hn
  unfold sinkAt
  pointwise
  simp only [lane_select, Finset.sum_ite_eq', Finset.mem_univ, if_true]

theorem putSink_apply (n : BitVec 32) (l l' : Fin 128) (hn : n = BitVec.ofNat 32 l) (σ : FVec Ideal S1x1 .f32) :
    putSink n σ (ix2 z l') = if l' = l then σ (ix2 0 0) else 0 := by
  subst hn
  unfold putSink
  pointwise
  simp only [lane_select, Finset.univ_unique, Finset.sum_singleton]

theorem qh0_apply : qh0 x0 (ix2 r d) = (blkOf x0 x1 x2 x3 x4 x5 x6 x7).q 0 0 r d := by
  unfold qh0 qWide
  pointwise
  simp [blkOf, qcol, brow]

theorem gh0_apply : gh0 x7 (ix2 r d) = (blkOf x0 x1 x2 x3 x4 x5 x6 x7).g 0 0 r d := by
  unfold gh0
  pointwise
  simp [blkOf, qcol, brow]

theorem bh0_apply : bh0 x6 (ix2 r c) = (blkOf x0 x1 x2 x3 x4 x5 x6 x7).b 0 0 r c := by
  unfold bh0
  pointwise
  simp [blkOf, qcol, brow]

theorem σh0_apply : sinkAt (F := Ideal) 0#32 x5 (ix2 0 0) = (blkOf x0 x1 x2 x3 x4 x5 x6 x7).σ 0 0 :=
  sinkAt_apply x5 0 0 _ (hlane 0 0) rfl

theorem qh1_apply : qh1 x0 (ix2 r d) = (blkOf x0 x1 x2 x3 x4 x5 x6 x7).q 0 1 r d := by
  unfold qh1 qWide
  pointwise
  rfl

theorem gh1_apply : gh1 x7 (ix2 r d) = (blkOf x0 x1 x2 x3 x4 x5 x6 x7).g 0 1 r d := by
  unfold gh1
  pointwise
  rfl

theorem bh1_apply : bh1 x6 (ix2 r c) = (blkOf x0 x1 x2 x3 x4 x5 x6 x7).b 0 1 r c := by
  unfold bh1
  pointwise
  rfl

theorem σh1_apply : sinkAt (F := Ideal) 1#32 x5 (ix2 0 0) = (blkOf x0 x1 x2 x3 x4 x5 x6 x7).σ 0 1 :=
  sinkAt_apply x5 0 0 _ (hlane 0 1) rfl

theorem qh2_apply : qh2 x0 (ix2 r d) = (blkOf x0 x1 x2 x3 x4 x5 x6 x7).q 0 2 r d := by
  unfold qh2 qWide
  pointwise
  rfl

theorem gh2_apply : gh2 x7 (ix2 r d) = (blkOf x0 x1 x2 x3 x4 x5 x6 x7).g 0 2 r d := by
  unfold gh2
  pointwise
  rfl

theorem bh2_apply : bh2 x6 (ix2 r c) = (blkOf x0 x1 x2 x3 x4 x5 x6 x7).b 0 2 r c := by
  unfold bh2
  pointwise
  rfl

theorem σh2_apply : sinkAt (F := Ideal) 2#32 x5 (ix2 0 0) = (blkOf x0 x1 x2 x3 x4 x5 x6 x7).σ 0 2 :=
  sinkAt_apply x5 0 0 _ (hlane 0 2) rfl

theorem qh3_apply : qh3 x0 (ix2 r d) = (blkOf x0 x1 x2 x3 x4 x5 x6 x7).q 0 3 r d := by
  unfold qh3 qWide
  pointwise
  rfl

theorem gh3_apply : gh3 x7 (ix2 r d) = (blkOf x0 x1 x2 x3 x4 x5 x6 x7).g 0 3 r d := by
  unfold gh3
  pointwise
  rfl

theorem bh3_apply : bh3 x6 (ix2 r c) = (blkOf x0 x1 x2 x3 x4 x5 x6 x7).b 0 3 r c := by
  unfold bh3
  pointwise
  rfl

theorem σh3_apply : sinkAt (F := Ideal) 3#32 x5 (ix2 0 0) = (blkOf x0 x1 x2 x3 x4 x5 x6 x7).σ 0 3 :=
  sinkAt_apply x5 0 0 _ (hlane 0 3) rfl

theorem qh4_apply : qh4 x0 (ix2 r d) = (blkOf x0 x1 x2 x3 x4 x5 x6 x7).q 1 0 r d := by
  unfold qh4 qWide
  pointwise
  simp [blkOf, qcol, brow]

theorem gh4_apply : gh4 x7 (ix2 r d) = (blkOf x0 x1 x2 x3 x4 x5 x6 x7).g 1 0 r d := by
  unfold gh4
  pointwise
  simp [blkOf, qcol, brow]

theorem bh4_apply : bh4 x6 (ix2 r c) = (blkOf x0 x1 x2 x3 x4 x5 x6 x7).b 1 0 r c := by
  unfold bh4
  pointwise
  simp [blkOf, qcol, brow]

theorem σh4_apply : sinkAt (F := Ideal) 4#32 x5 (ix2 0 0) = (blkOf x0 x1 x2 x3 x4 x5 x6 x7).σ 1 0 :=
  sinkAt_apply x5 0 0 _ (hlane 1 0) rfl

theorem qh5_apply : qh5 x0 (ix2 r d) = (blkOf x0 x1 x2 x3 x4 x5 x6 x7).q 1 1 r d := by
  unfold qh5 qWide
  pointwise
  rfl

theorem gh5_apply : gh5 x7 (ix2 r d) = (blkOf x0 x1 x2 x3 x4 x5 x6 x7).g 1 1 r d := by
  unfold gh5
  pointwise
  rfl

theorem bh5_apply : bh5 x6 (ix2 r c) = (blkOf x0 x1 x2 x3 x4 x5 x6 x7).b 1 1 r c := by
  unfold bh5
  pointwise
  rfl

theorem σh5_apply : sinkAt (F := Ideal) 5#32 x5 (ix2 0 0) = (blkOf x0 x1 x2 x3 x4 x5 x6 x7).σ 1 1 :=
  sinkAt_apply x5 0 0 _ (hlane 1 1) rfl

theorem qh6_apply : qh6 x0 (ix2 r d) = (blkOf x0 x1 x2 x3 x4 x5 x6 x7).q 1 2 r d := by
  unfold qh6 qWide
  pointwise
  rfl

theorem gh6_apply : gh6 x7 (ix2 r d) = (blkOf x0 x1 x2 x3 x4 x5 x6 x7).g 1 2 r d := by
  unfold gh6
  pointwise
  rfl

theorem bh6_apply : bh6 x6 (ix2 r c) = (blkOf x0 x1 x2 x3 x4 x5 x6 x7).b 1 2 r c := by
  unfold bh6
  pointwise
  rfl

theorem σh6_apply : sinkAt (F := Ideal) 6#32 x5 (ix2 0 0) = (blkOf x0 x1 x2 x3 x4 x5 x6 x7).σ 1 2 :=
  sinkAt_apply x5 0 0 _ (hlane 1 2) rfl

theorem qh7_apply : qh7 x0 (ix2 r d) = (blkOf x0 x1 x2 x3 x4 x5 x6 x7).q 1 3 r d := by
  unfold qh7 qWide
  pointwise
  rfl

theorem gh7_apply : gh7 x7 (ix2 r d) = (blkOf x0 x1 x2 x3 x4 x5 x6 x7).g 1 3 r d := by
  unfold gh7
  pointwise
  rfl

theorem bh7_apply : bh7 x6 (ix2 r c) = (blkOf x0 x1 x2 x3 x4 x5 x6 x7).b 1 3 r c := by
  unfold bh7
  pointwise
  rfl

theorem σh7_apply : sinkAt (F := Ideal) 7#32 x5 (ix2 0 0) = (blkOf x0 x1 x2 x3 x4 x5 x6 x7).σ 1 3 :=
  sinkAt_apply x5 0 0 _ (hlane 1 3) rfl

theorem k0_apply : kv0 x1 x2 (ix2 c d) = (blkOf x0 x1 x2 x3 x4 x5 x6 x7).k 0 c d := by
  unfold kv0
  pointwise
  simp [blkOf, kcol]

theorem v0_apply : kv0 x3 x4 (ix2 c d) = (blkOf x0 x1 x2 x3 x4 x5 x6 x7).v 0 c d := by
  unfold kv0
  pointwise
  simp [blkOf, kcol]

theorem k1_apply : kv1 x1 x2 (ix2 c d) = (blkOf x0 x1 x2 x3 x4 x5 x6 x7).k 1 c d := by
  unfold kv1
  pointwise
  simp [blkOf, kcol]

theorem v1_apply : kv1 x3 x4 (ix2 c d) = (blkOf x0 x1 x2 x3 x4 x5 x6 x7).v 1 c d := by
  unfold kv1
  pointwise
  simp [blkOf, kcol]

theorem query0 : hQuery (qh0 x0) (kv0 x1 x2) (kv0 x3 x4) (bh0 x6) (sinkAt (F := Ideal) 0#32 x5) (gh0 x7) (ix2 r d) = (blkOf x0 x1 x2 x3 x4 x5 x6 x7).dQ 0 0 r d :=
  hQuery_eq (qh0_apply x0 x1 x2 x3 x4 x5 x6 x7) (k0_apply x0 x1 x2 x3 x4 x5 x6 x7) (v0_apply x0 x1 x2 x3 x4 x5 x6 x7) (bh0_apply x0 x1 x2 x3 x4 x5 x6 x7) (σh0_apply x0 x1 x2 x3 x4 x5 x6 x7) (gh0_apply x0 x1 x2 x3 x4 x5 x6 x7) r d

theorem key0 : hKey (qh0 x0) (kv0 x1 x2) (kv0 x3 x4) (bh0 x6) (sinkAt (F := Ideal) 0#32 x5) (gh0 x7) (ix2 c d) = ∑ r, (blkOf x0 x1 x2 x3 x4 x5 x6 x7).dS 0 0 r c * Blk.sc * (blkOf x0 x1 x2 x3 x4 x5 x6 x7).q 0 0 r d :=
  hKey_eq (qh0_apply x0 x1 x2 x3 x4 x5 x6 x7) (k0_apply x0 x1 x2 x3 x4 x5 x6 x7) (v0_apply x0 x1 x2 x3 x4 x5 x6 x7) (bh0_apply x0 x1 x2 x3 x4 x5 x6 x7) (σh0_apply x0 x1 x2 x3 x4 x5 x6 x7) (gh0_apply x0 x1 x2 x3 x4 x5 x6 x7) c d

theorem val0 : hVal (qh0 x0) (kv0 x1 x2) (bh0 x6) (sinkAt (F := Ideal) 0#32 x5) (gh0 x7) (ix2 c d) = ∑ r, (blkOf x0 x1 x2 x3 x4 x5 x6 x7).g 0 0 r d * (blkOf x0 x1 x2 x3 x4 x5 x6 x7).P 0 0 r c :=
  hVal_eq (qh0_apply x0 x1 x2 x3 x4 x5 x6 x7) (k0_apply x0 x1 x2 x3 x4 x5 x6 x7) (bh0_apply x0 x1 x2 x3 x4 x5 x6 x7) (σh0_apply x0 x1 x2 x3 x4 x5 x6 x7) (gh0_apply x0 x1 x2 x3 x4 x5 x6 x7) c d

theorem sink0 : hSink (qh0 x0) (kv0 x1 x2) (kv0 x3 x4) (bh0 x6) (sinkAt (F := Ideal) 0#32 x5) (gh0 x7) (ix2 z z') = (blkOf x0 x1 x2 x3 x4 x5 x6 x7).dσ 0 0 :=
  hSink_eq (qh0_apply x0 x1 x2 x3 x4 x5 x6 x7) (k0_apply x0 x1 x2 x3 x4 x5 x6 x7) (v0_apply x0 x1 x2 x3 x4 x5 x6 x7) (bh0_apply x0 x1 x2 x3 x4 x5 x6 x7) (σh0_apply x0 x1 x2 x3 x4 x5 x6 x7) (gh0_apply x0 x1 x2 x3 x4 x5 x6 x7) z z'

theorem query1 : hQuery (qh1 x0) (kv0 x1 x2) (kv0 x3 x4) (bh1 x6) (sinkAt (F := Ideal) 1#32 x5) (gh1 x7) (ix2 r d) = (blkOf x0 x1 x2 x3 x4 x5 x6 x7).dQ 0 1 r d :=
  hQuery_eq (qh1_apply x0 x1 x2 x3 x4 x5 x6 x7) (k0_apply x0 x1 x2 x3 x4 x5 x6 x7) (v0_apply x0 x1 x2 x3 x4 x5 x6 x7) (bh1_apply x0 x1 x2 x3 x4 x5 x6 x7) (σh1_apply x0 x1 x2 x3 x4 x5 x6 x7) (gh1_apply x0 x1 x2 x3 x4 x5 x6 x7) r d

theorem key1 : hKey (qh1 x0) (kv0 x1 x2) (kv0 x3 x4) (bh1 x6) (sinkAt (F := Ideal) 1#32 x5) (gh1 x7) (ix2 c d) = ∑ r, (blkOf x0 x1 x2 x3 x4 x5 x6 x7).dS 0 1 r c * Blk.sc * (blkOf x0 x1 x2 x3 x4 x5 x6 x7).q 0 1 r d :=
  hKey_eq (qh1_apply x0 x1 x2 x3 x4 x5 x6 x7) (k0_apply x0 x1 x2 x3 x4 x5 x6 x7) (v0_apply x0 x1 x2 x3 x4 x5 x6 x7) (bh1_apply x0 x1 x2 x3 x4 x5 x6 x7) (σh1_apply x0 x1 x2 x3 x4 x5 x6 x7) (gh1_apply x0 x1 x2 x3 x4 x5 x6 x7) c d

theorem val1 : hVal (qh1 x0) (kv0 x1 x2) (bh1 x6) (sinkAt (F := Ideal) 1#32 x5) (gh1 x7) (ix2 c d) = ∑ r, (blkOf x0 x1 x2 x3 x4 x5 x6 x7).g 0 1 r d * (blkOf x0 x1 x2 x3 x4 x5 x6 x7).P 0 1 r c :=
  hVal_eq (qh1_apply x0 x1 x2 x3 x4 x5 x6 x7) (k0_apply x0 x1 x2 x3 x4 x5 x6 x7) (bh1_apply x0 x1 x2 x3 x4 x5 x6 x7) (σh1_apply x0 x1 x2 x3 x4 x5 x6 x7) (gh1_apply x0 x1 x2 x3 x4 x5 x6 x7) c d

theorem sink1 : hSink (qh1 x0) (kv0 x1 x2) (kv0 x3 x4) (bh1 x6) (sinkAt (F := Ideal) 1#32 x5) (gh1 x7) (ix2 z z') = (blkOf x0 x1 x2 x3 x4 x5 x6 x7).dσ 0 1 :=
  hSink_eq (qh1_apply x0 x1 x2 x3 x4 x5 x6 x7) (k0_apply x0 x1 x2 x3 x4 x5 x6 x7) (v0_apply x0 x1 x2 x3 x4 x5 x6 x7) (bh1_apply x0 x1 x2 x3 x4 x5 x6 x7) (σh1_apply x0 x1 x2 x3 x4 x5 x6 x7) (gh1_apply x0 x1 x2 x3 x4 x5 x6 x7) z z'

theorem query2 : hQuery (qh2 x0) (kv0 x1 x2) (kv0 x3 x4) (bh2 x6) (sinkAt (F := Ideal) 2#32 x5) (gh2 x7) (ix2 r d) = (blkOf x0 x1 x2 x3 x4 x5 x6 x7).dQ 0 2 r d :=
  hQuery_eq (qh2_apply x0 x1 x2 x3 x4 x5 x6 x7) (k0_apply x0 x1 x2 x3 x4 x5 x6 x7) (v0_apply x0 x1 x2 x3 x4 x5 x6 x7) (bh2_apply x0 x1 x2 x3 x4 x5 x6 x7) (σh2_apply x0 x1 x2 x3 x4 x5 x6 x7) (gh2_apply x0 x1 x2 x3 x4 x5 x6 x7) r d

theorem key2 : hKey (qh2 x0) (kv0 x1 x2) (kv0 x3 x4) (bh2 x6) (sinkAt (F := Ideal) 2#32 x5) (gh2 x7) (ix2 c d) = ∑ r, (blkOf x0 x1 x2 x3 x4 x5 x6 x7).dS 0 2 r c * Blk.sc * (blkOf x0 x1 x2 x3 x4 x5 x6 x7).q 0 2 r d :=
  hKey_eq (qh2_apply x0 x1 x2 x3 x4 x5 x6 x7) (k0_apply x0 x1 x2 x3 x4 x5 x6 x7) (v0_apply x0 x1 x2 x3 x4 x5 x6 x7) (bh2_apply x0 x1 x2 x3 x4 x5 x6 x7) (σh2_apply x0 x1 x2 x3 x4 x5 x6 x7) (gh2_apply x0 x1 x2 x3 x4 x5 x6 x7) c d

theorem val2 : hVal (qh2 x0) (kv0 x1 x2) (bh2 x6) (sinkAt (F := Ideal) 2#32 x5) (gh2 x7) (ix2 c d) = ∑ r, (blkOf x0 x1 x2 x3 x4 x5 x6 x7).g 0 2 r d * (blkOf x0 x1 x2 x3 x4 x5 x6 x7).P 0 2 r c :=
  hVal_eq (qh2_apply x0 x1 x2 x3 x4 x5 x6 x7) (k0_apply x0 x1 x2 x3 x4 x5 x6 x7) (bh2_apply x0 x1 x2 x3 x4 x5 x6 x7) (σh2_apply x0 x1 x2 x3 x4 x5 x6 x7) (gh2_apply x0 x1 x2 x3 x4 x5 x6 x7) c d

theorem sink2 : hSink (qh2 x0) (kv0 x1 x2) (kv0 x3 x4) (bh2 x6) (sinkAt (F := Ideal) 2#32 x5) (gh2 x7) (ix2 z z') = (blkOf x0 x1 x2 x3 x4 x5 x6 x7).dσ 0 2 :=
  hSink_eq (qh2_apply x0 x1 x2 x3 x4 x5 x6 x7) (k0_apply x0 x1 x2 x3 x4 x5 x6 x7) (v0_apply x0 x1 x2 x3 x4 x5 x6 x7) (bh2_apply x0 x1 x2 x3 x4 x5 x6 x7) (σh2_apply x0 x1 x2 x3 x4 x5 x6 x7) (gh2_apply x0 x1 x2 x3 x4 x5 x6 x7) z z'

theorem query3 : hQuery (qh3 x0) (kv0 x1 x2) (kv0 x3 x4) (bh3 x6) (sinkAt (F := Ideal) 3#32 x5) (gh3 x7) (ix2 r d) = (blkOf x0 x1 x2 x3 x4 x5 x6 x7).dQ 0 3 r d :=
  hQuery_eq (qh3_apply x0 x1 x2 x3 x4 x5 x6 x7) (k0_apply x0 x1 x2 x3 x4 x5 x6 x7) (v0_apply x0 x1 x2 x3 x4 x5 x6 x7) (bh3_apply x0 x1 x2 x3 x4 x5 x6 x7) (σh3_apply x0 x1 x2 x3 x4 x5 x6 x7) (gh3_apply x0 x1 x2 x3 x4 x5 x6 x7) r d

theorem key3 : hKey (qh3 x0) (kv0 x1 x2) (kv0 x3 x4) (bh3 x6) (sinkAt (F := Ideal) 3#32 x5) (gh3 x7) (ix2 c d) = ∑ r, (blkOf x0 x1 x2 x3 x4 x5 x6 x7).dS 0 3 r c * Blk.sc * (blkOf x0 x1 x2 x3 x4 x5 x6 x7).q 0 3 r d :=
  hKey_eq (qh3_apply x0 x1 x2 x3 x4 x5 x6 x7) (k0_apply x0 x1 x2 x3 x4 x5 x6 x7) (v0_apply x0 x1 x2 x3 x4 x5 x6 x7) (bh3_apply x0 x1 x2 x3 x4 x5 x6 x7) (σh3_apply x0 x1 x2 x3 x4 x5 x6 x7) (gh3_apply x0 x1 x2 x3 x4 x5 x6 x7) c d

theorem val3 : hVal (qh3 x0) (kv0 x1 x2) (bh3 x6) (sinkAt (F := Ideal) 3#32 x5) (gh3 x7) (ix2 c d) = ∑ r, (blkOf x0 x1 x2 x3 x4 x5 x6 x7).g 0 3 r d * (blkOf x0 x1 x2 x3 x4 x5 x6 x7).P 0 3 r c :=
  hVal_eq (qh3_apply x0 x1 x2 x3 x4 x5 x6 x7) (k0_apply x0 x1 x2 x3 x4 x5 x6 x7) (bh3_apply x0 x1 x2 x3 x4 x5 x6 x7) (σh3_apply x0 x1 x2 x3 x4 x5 x6 x7) (gh3_apply x0 x1 x2 x3 x4 x5 x6 x7) c d

theorem sink3 : hSink (qh3 x0) (kv0 x1 x2) (kv0 x3 x4) (bh3 x6) (sinkAt (F := Ideal) 3#32 x5) (gh3 x7) (ix2 z z') = (blkOf x0 x1 x2 x3 x4 x5 x6 x7).dσ 0 3 :=
  hSink_eq (qh3_apply x0 x1 x2 x3 x4 x5 x6 x7) (k0_apply x0 x1 x2 x3 x4 x5 x6 x7) (v0_apply x0 x1 x2 x3 x4 x5 x6 x7) (bh3_apply x0 x1 x2 x3 x4 x5 x6 x7) (σh3_apply x0 x1 x2 x3 x4 x5 x6 x7) (gh3_apply x0 x1 x2 x3 x4 x5 x6 x7) z z'

theorem query4 : hQuery (qh4 x0) (kv1 x1 x2) (kv1 x3 x4) (bh4 x6) (sinkAt (F := Ideal) 4#32 x5) (gh4 x7) (ix2 r d) = (blkOf x0 x1 x2 x3 x4 x5 x6 x7).dQ 1 0 r d :=
  hQuery_eq (qh4_apply x0 x1 x2 x3 x4 x5 x6 x7) (k1_apply x0 x1 x2 x3 x4 x5 x6 x7) (v1_apply x0 x1 x2 x3 x4 x5 x6 x7) (bh4_apply x0 x1 x2 x3 x4 x5 x6 x7) (σh4_apply x0 x1 x2 x3 x4 x5 x6 x7) (gh4_apply x0 x1 x2 x3 x4 x5 x6 x7) r d

theorem key4 : hKey (qh4 x0) (kv1 x1 x2) (kv1 x3 x4) (bh4 x6) (sinkAt (F := Ideal) 4#32 x5) (gh4 x7) (ix2 c d) = ∑ r, (blkOf x0 x1 x2 x3 x4 x5 x6 x7).dS 1 0 r c * Blk.sc * (blkOf x0 x1 x2 x3 x4 x5 x6 x7).q 1 0 r d :=
  hKey_eq (qh4_apply x0 x1 x2 x3 x4 x5 x6 x7) (k1_apply x0 x1 x2 x3 x4 x5 x6 x7) (v1_apply x0 x1 x2 x3 x4 x5 x6 x7) (bh4_apply x0 x1 x2 x3 x4 x5 x6 x7) (σh4_apply x0 x1 x2 x3 x4 x5 x6 x7) (gh4_apply x0 x1 x2 x3 x4 x5 x6 x7) c d

theorem val4 : hVal (qh4 x0) (kv1 x1 x2) (bh4 x6) (sinkAt (F := Ideal) 4#32 x5) (gh4 x7) (ix2 c d) = ∑ r, (blkOf x0 x1 x2 x3 x4 x5 x6 x7).g 1 0 r d * (blkOf x0 x1 x2 x3 x4 x5 x6 x7).P 1 0 r c :=
  hVal_eq (qh4_apply x0 x1 x2 x3 x4 x5 x6 x7) (k1_apply x0 x1 x2 x3 x4 x5 x6 x7) (bh4_apply x0 x1 x2 x3 x4 x5 x6 x7) (σh4_apply x0 x1 x2 x3 x4 x5 x6 x7) (gh4_apply x0 x1 x2 x3 x4 x5 x6 x7) c d

theorem sink4 : hSink (qh4 x0) (kv1 x1 x2) (kv1 x3 x4) (bh4 x6) (sinkAt (F := Ideal) 4#32 x5) (gh4 x7) (ix2 z z') = (blkOf x0 x1 x2 x3 x4 x5 x6 x7).dσ 1 0 :=
  hSink_eq (qh4_apply x0 x1 x2 x3 x4 x5 x6 x7) (k1_apply x0 x1 x2 x3 x4 x5 x6 x7) (v1_apply x0 x1 x2 x3 x4 x5 x6 x7) (bh4_apply x0 x1 x2 x3 x4 x5 x6 x7) (σh4_apply x0 x1 x2 x3 x4 x5 x6 x7) (gh4_apply x0 x1 x2 x3 x4 x5 x6 x7) z z'

theorem query5 : hQuery (qh5 x0) (kv1 x1 x2) (kv1 x3 x4) (bh5 x6) (sinkAt (F := Ideal) 5#32 x5) (gh5 x7) (ix2 r d) = (blkOf x0 x1 x2 x3 x4 x5 x6 x7).dQ 1 1 r d :=
  hQuery_eq (qh5_apply x0 x1 x2 x3 x4 x5 x6 x7) (k1_apply x0 x1 x2 x3 x4 x5 x6 x7) (v1_apply x0 x1 x2 x3 x4 x5 x6 x7) (bh5_apply x0 x1 x2 x3 x4 x5 x6 x7) (σh5_apply x0 x1 x2 x3 x4 x5 x6 x7) (gh5_apply x0 x1 x2 x3 x4 x5 x6 x7) r d

theorem key5 : hKey (qh5 x0) (kv1 x1 x2) (kv1 x3 x4) (bh5 x6) (sinkAt (F := Ideal) 5#32 x5) (gh5 x7) (ix2 c d) = ∑ r, (blkOf x0 x1 x2 x3 x4 x5 x6 x7).dS 1 1 r c * Blk.sc * (blkOf x0 x1 x2 x3 x4 x5 x6 x7).q 1 1 r d :=
  hKey_eq (qh5_apply x0 x1 x2 x3 x4 x5 x6 x7) (k1_apply x0 x1 x2 x3 x4 x5 x6 x7) (v1_apply x0 x1 x2 x3 x4 x5 x6 x7) (bh5_apply x0 x1 x2 x3 x4 x5 x6 x7) (σh5_apply x0 x1 x2 x3 x4 x5 x6 x7) (gh5_apply x0 x1 x2 x3 x4 x5 x6 x7) c d

theorem val5 : hVal (qh5 x0) (kv1 x1 x2) (bh5 x6) (sinkAt (F := Ideal) 5#32 x5) (gh5 x7) (ix2 c d) = ∑ r, (blkOf x0 x1 x2 x3 x4 x5 x6 x7).g 1 1 r d * (blkOf x0 x1 x2 x3 x4 x5 x6 x7).P 1 1 r c :=
  hVal_eq (qh5_apply x0 x1 x2 x3 x4 x5 x6 x7) (k1_apply x0 x1 x2 x3 x4 x5 x6 x7) (bh5_apply x0 x1 x2 x3 x4 x5 x6 x7) (σh5_apply x0 x1 x2 x3 x4 x5 x6 x7) (gh5_apply x0 x1 x2 x3 x4 x5 x6 x7) c d

theorem sink5 : hSink (qh5 x0) (kv1 x1 x2) (kv1 x3 x4) (bh5 x6) (sinkAt (F := Ideal) 5#32 x5) (gh5 x7) (ix2 z z') = (blkOf x0 x1 x2 x3 x4 x5 x6 x7).dσ 1 1 :=
  hSink_eq (qh5_apply x0 x1 x2 x3 x4 x5 x6 x7) (k1_apply x0 x1 x2 x3 x4 x5 x6 x7) (v1_apply x0 x1 x2 x3 x4 x5 x6 x7) (bh5_apply x0 x1 x2 x3 x4 x5 x6 x7) (σh5_apply x0 x1 x2 x3 x4 x5 x6 x7) (gh5_apply x0 x1 x2 x3 x4 x5 x6 x7) z z'

theorem query6 : hQuery (qh6 x0) (kv1 x1 x2) (kv1 x3 x4) (bh6 x6) (sinkAt (F := Ideal) 6#32 x5) (gh6 x7) (ix2 r d) = (blkOf x0 x1 x2 x3 x4 x5 x6 x7).dQ 1 2 r d :=
  hQuery_eq (qh6_apply x0 x1 x2 x3 x4 x5 x6 x7) (k1_apply x0 x1 x2 x3 x4 x5 x6 x7) (v1_apply x0 x1 x2 x3 x4 x5 x6 x7) (bh6_apply x0 x1 x2 x3 x4 x5 x6 x7) (σh6_apply x0 x1 x2 x3 x4 x5 x6 x7) (gh6_apply x0 x1 x2 x3 x4 x5 x6 x7) r d

theorem key6 : hKey (qh6 x0) (kv1 x1 x2) (kv1 x3 x4) (bh6 x6) (sinkAt (F := Ideal) 6#32 x5) (gh6 x7) (ix2 c d) = ∑ r, (blkOf x0 x1 x2 x3 x4 x5 x6 x7).dS 1 2 r c * Blk.sc * (blkOf x0 x1 x2 x3 x4 x5 x6 x7).q 1 2 r d :=
  hKey_eq (qh6_apply x0 x1 x2 x3 x4 x5 x6 x7) (k1_apply x0 x1 x2 x3 x4 x5 x6 x7) (v1_apply x0 x1 x2 x3 x4 x5 x6 x7) (bh6_apply x0 x1 x2 x3 x4 x5 x6 x7) (σh6_apply x0 x1 x2 x3 x4 x5 x6 x7) (gh6_apply x0 x1 x2 x3 x4 x5 x6 x7) c d

theorem val6 : hVal (qh6 x0) (kv1 x1 x2) (bh6 x6) (sinkAt (F := Ideal) 6#32 x5) (gh6 x7) (ix2 c d) = ∑ r, (blkOf x0 x1 x2 x3 x4 x5 x6 x7).g 1 2 r d * (blkOf x0 x1 x2 x3 x4 x5 x6 x7).P 1 2 r c :=
  hVal_eq (qh6_apply x0 x1 x2 x3 x4 x5 x6 x7) (k1_apply x0 x1 x2 x3 x4 x5 x6 x7) (bh6_apply x0 x1 x2 x3 x4 x5 x6 x7) (σh6_apply x0 x1 x2 x3 x4 x5 x6 x7) (gh6_apply x0 x1 x2 x3 x4 x5 x6 x7) c d

theorem sink6 : hSink (qh6 x0) (kv1 x1 x2) (kv1 x3 x4) (bh6 x6) (sinkAt (F := Ideal) 6#32 x5) (gh6 x7) (ix2 z z') = (blkOf x0 x1 x2 x3 x4 x5 x6 x7).dσ 1 2 :=
  hSink_eq (qh6_apply x0 x1 x2 x3 x4 x5 x6 x7) (k1_apply x0 x1 x2 x3 x4 x5 x6 x7) (v1_apply x0 x1 x2 x3 x4 x5 x6 x7) (bh6_apply x0 x1 x2 x3 x4 x5 x6 x7) (σh6_apply x0 x1 x2 x3 x4 x5 x6 x7) (gh6_apply x0 x1 x2 x3 x4 x5 x6 x7) z z'

theorem query7 : hQuery (qh7 x0) (kv1 x1 x2) (kv1 x3 x4) (bh7 x6) (sinkAt (F := Ideal) 7#32 x5) (gh7 x7) (ix2 r d) = (blkOf x0 x1 x2 x3 x4 x5 x6 x7).dQ 1 3 r d :=
  hQuery_eq (qh7_apply x0 x1 x2 x3 x4 x5 x6 x7) (k1_apply x0 x1 x2 x3 x4 x5 x6 x7) (v1_apply x0 x1 x2 x3 x4 x5 x6 x7) (bh7_apply x0 x1 x2 x3 x4 x5 x6 x7) (σh7_apply x0 x1 x2 x3 x4 x5 x6 x7) (gh7_apply x0 x1 x2 x3 x4 x5 x6 x7) r d

theorem key7 : hKey (qh7 x0) (kv1 x1 x2) (kv1 x3 x4) (bh7 x6) (sinkAt (F := Ideal) 7#32 x5) (gh7 x7) (ix2 c d) = ∑ r, (blkOf x0 x1 x2 x3 x4 x5 x6 x7).dS 1 3 r c * Blk.sc * (blkOf x0 x1 x2 x3 x4 x5 x6 x7).q 1 3 r d :=
  hKey_eq (qh7_apply x0 x1 x2 x3 x4 x5 x6 x7) (k1_apply x0 x1 x2 x3 x4 x5 x6 x7) (v1_apply x0 x1 x2 x3 x4 x5 x6 x7) (bh7_apply x0 x1 x2 x3 x4 x5 x6 x7) (σh7_apply x0 x1 x2 x3 x4 x5 x6 x7) (gh7_apply x0 x1 x2 x3 x4 x5 x6 x7) c d

theorem val7 : hVal (qh7 x0) (kv1 x1 x2) (bh7 x6) (sinkAt (F := Ideal) 7#32 x5) (gh7 x7) (ix2 c d) = ∑ r, (blkOf x0 x1 x2 x3 x4 x5 x6 x7).g 1 3 r d * (blkOf x0 x1 x2 x3 x4 x5 x6 x7).P 1 3 r c :=
  hVal_eq (qh7_apply x0 x1 x2 x3 x4 x5 x6 x7) (k1_apply x0 x1 x2 x3 x4 x5 x6 x7) (bh7_apply x0 x1 x2 x3 x4 x5 x6 x7) (σh7_apply x0 x1 x2 x3 x4 x5 x6 x7) (gh7_apply x0 x1 x2 x3 x4 x5 x6 x7) c d

theorem sink7 : hSink (qh7 x0) (kv1 x1 x2) (kv1 x3 x4) (bh7 x6) (sinkAt (F := Ideal) 7#32 x5) (gh7 x7) (ix2 z z') = (blkOf x0 x1 x2 x3 x4 x5 x6 x7).dσ 1 3 :=
  hSink_eq (qh7_apply x0 x1 x2 x3 x4 x5 x6 x7) (k1_apply x0 x1 x2 x3 x4 x5 x6 x7) (v1_apply x0 x1 x2 x3 x4 x5 x6 x7) (bh7_apply x0 x1 x2 x3 x4 x5 x6 x7) (σh7_apply x0 x1 x2 x3 x4 x5 x6 x7) (gh7_apply x0 x1 x2 x3 x4 x5 x6 x7) z z'

theorem keyG0_apply : keyG0 x0 x1 x2 x3 x4 x5 x6 x7 (ix2 c d) = (blkOf x0 x1 x2 x3 x4 x5 x6 x7).dK 0 c d := by
  unfold keyG0
  pointwise
  rw [key0 x0 x1 x2 x3 x4 x5 x6 x7,key1 x0 x1 x2 x3 x4 x5 x6 x7,key2 x0 x1 x2 x3 x4 x5 x6 x7,key3 x0 x1 x2 x3 x4 x5 x6 x7]
  simp only [Blk.dK, Fin.sum_univ_four]
  ac_rfl

theorem valG0_apply : valG0 x0 x1 x2 x5 x6 x7 (ix2 c d) = (blkOf x0 x1 x2 x3 x4 x5 x6 x7).dV 0 c d := by
  unfold valG0
  pointwise
  rw [val0 x0 x1 x2 x3 x4 x5 x6 x7,val1 x0 x1 x2 x3 x4 x5 x6 x7,val2 x0 x1 x2 x3 x4 x5 x6 x7,val3 x0 x1 x2 x3 x4 x5 x6 x7]
  simp only [Blk.dV, Fin.sum_univ_four]
  ac_rfl

theorem keyG1_apply : keyG1 x0 x1 x2 x3 x4 x5 x6 x7 (ix2 c d) = (blkOf x0 x1 x2 x3 x4 x5 x6 x7).dK 1 c d := by
  unfold keyG1
  pointwise
  rw [key4 x0 x1 x2 x3 x4 x5 x6 x7,key5 x0 x1 x2 x3 x4 x5 x6 x7,key6 x0 x1 x2 x3 x4 x5 x6 x7,key7 x0 x1 x2 x3 x4 x5 x6 x7]
  simp only [Blk.dK, Fin.sum_univ_four]
  ac_rfl

theorem valG1_apply : valG1 x0 x1 x2 x5 x6 x7 (ix2 c d) = (blkOf x0 x1 x2 x3 x4 x5 x6 x7).dV 1 c d := by
  unfold valG1
  pointwise
  rw [val4 x0 x1 x2 x3 x4 x5 x6 x7,val5 x0 x1 x2 x3 x4 x5 x6 x7,val6 x0 x1 x2 x3 x4 x5 x6 x7,val7 x0 x1 x2 x3 x4 x5 x6 x7]
  simp only [Blk.dV, Fin.sum_univ_four]
  ac_rfl

theorem blkQ_0 (l : Fin 512) (hl : l.val = 0 + d) : blkQ x0 x1 x2 x3 x4 x5 x6 x7 (ix2 r l) = (blkOf x0 x1 x2 x3 x4 x5 x6 x7).dQ 0 0 r d := by
  unfold blkQ
  pointwise
  rw [dif_pos (by omega), query0]
  exact congrArg _ (Fin.ext (by simp only; omega))

theorem blkQ_1 (l : Fin 512) (hl : l.val = 64 + d) : blkQ x0 x1 x2 x3 x4 x5 x6 x7 (ix2 r l) = (blkOf x0 x1 x2 x3 x4 x5 x6 x7).dQ 0 1 r d := by
  unfold blkQ
  pointwise
  rw [dif_neg (by omega), dif_pos (by omega), query1]
  exact congrArg _ (Fin.ext (by simp only; omega))

theorem blkQ_2 (l : Fin 512) (hl : l.val = 128 + d) : blkQ x0 x1 x2 x3 x4 x5 x6 x7 (ix2 r l) = (blkOf x0 x1 x2 x3 x4 x5 x6 x7).dQ 0 2 r d := by
  unfold blkQ
  pointwise
  rw [dif_neg (by omega), dif_neg (by omega), dif_pos (by omega), query2]
  exact congrArg _ (Fin.ext (by simp only; omega))

theorem blkQ_3 (l : Fin 512) (hl : l.val = 192 + d) : blkQ x0 x1 x2 x3 x4 x5 x6 x7 (ix2 r l) = (blkOf x0 x1 x2 x3 x4 x5 x6 x7).dQ 0 3 r d := by
  unfold blkQ
  pointwise
  rw [dif_neg (by omega), dif_neg (by omega), dif_neg (by omega), dif_pos (by omega), query3]
  exact congrArg _ (Fin.ext (by simp only; omega))

theorem blkQ_4 (l : Fin 512) (hl : l.val = 256 + d) : blkQ x0 x1 x2 x3 x4 x5 x6 x7 (ix2 r l) = (blkOf x0 x1 x2 x3 x4 x5 x6 x7).dQ 1 0 r d := by
  unfold blkQ
  pointwise
  rw [dif_neg (by omega), dif_neg (by omega), dif_neg (by omega), dif_neg (by omega), dif_pos (by omega), query4]
  exact congrArg _ (Fin.ext (by simp only; omega))

theorem blkQ_5 (l : Fin 512) (hl : l.val = 320 + d) : blkQ x0 x1 x2 x3 x4 x5 x6 x7 (ix2 r l) = (blkOf x0 x1 x2 x3 x4 x5 x6 x7).dQ 1 1 r d := by
  unfold blkQ
  pointwise
  rw [dif_neg (by omega), dif_neg (by omega), dif_neg (by omega), dif_neg (by omega), dif_neg (by omega), dif_pos (by omega), query5]
  exact congrArg _ (Fin.ext (by simp only; omega))

theorem blkQ_6 (l : Fin 512) (hl : l.val = 384 + d) : blkQ x0 x1 x2 x3 x4 x5 x6 x7 (ix2 r l) = (blkOf x0 x1 x2 x3 x4 x5 x6 x7).dQ 1 2 r d := by
  unfold blkQ
  pointwise
  rw [dif_neg (by omega), dif_neg (by omega), dif_neg (by omega), dif_neg (by omega), dif_neg (by omega), dif_neg (by omega), dif_pos (by omega), query6]
  exact congrArg _ (Fin.ext (by simp only; omega))

theorem blkQ_7 (l : Fin 512) (hl : l.val = 448 + d) : blkQ x0 x1 x2 x3 x4 x5 x6 x7 (ix2 r l) = (blkOf x0 x1 x2 x3 x4 x5 x6 x7).dQ 1 3 r d := by
  unfold blkQ
  pointwise
  rw [dif_neg (by omega), dif_neg (by omega), dif_neg (by omega), dif_neg (by omega), dif_neg (by omega), dif_neg (by omega), dif_neg (by omega), query7]
  exact congrArg _ (Fin.ext (by simp only; omega))

/-- The block's cotangent of the queries. -/
theorem blkQ_apply : blkQ x0 x1 x2 x3 x4 x5 x6 x7 (ix2 r (qcol h γ d)) = (blkOf x0 x1 x2 x3 x4 x5 x6 x7).dQ h γ r d := by
  match h, γ with
  | 0, 0 => exact blkQ_0 x0 x1 x2 x3 x4 x5 x6 x7 r d _ (by simp [qcol])
  | 0, 1 => exact blkQ_1 x0 x1 x2 x3 x4 x5 x6 x7 r d _ (by simp [qcol])
  | 0, 2 => exact blkQ_2 x0 x1 x2 x3 x4 x5 x6 x7 r d _ (by simp [qcol])
  | 0, 3 => exact blkQ_3 x0 x1 x2 x3 x4 x5 x6 x7 r d _ (by simp [qcol])
  | 1, 0 => exact blkQ_4 x0 x1 x2 x3 x4 x5 x6 x7 r d _ (by simp [qcol])
  | 1, 1 => exact blkQ_5 x0 x1 x2 x3 x4 x5 x6 x7 r d _ (by simp [qcol])
  | 1, 2 => exact blkQ_6 x0 x1 x2 x3 x4 x5 x6 x7 r d _ (by simp [qcol])
  | 1, 3 => exact blkQ_7 x0 x1 x2 x3 x4 x5 x6 x7 r d _ (by simp [qcol])

theorem blkKeyLo_0 (l : Fin 128) (hl : l.val = 0 + d) : blkKeyLo x0 x1 x2 x3 x4 x5 x6 x7 (ix2 r l) = (blkOf x0 x1 x2 x3 x4 x5 x6 x7).dK 0 ⟨r, by omega⟩ d := by
  unfold blkKeyLo
  pointwise
  rw [dif_pos (by omega), keyG0_apply x0 x1 x2 x3 x4 x5 x6 x7]
  exact congrArg _ (Fin.ext (by simp only; omega))

theorem blkKeyLo_1 (l : Fin 128) (hl : l.val = 64 + d) : blkKeyLo x0 x1 x2 x3 x4 x5 x6 x7 (ix2 r l) = (blkOf x0 x1 x2 x3 x4 x5 x6 x7).dK 1 ⟨r, by omega⟩ d := by
  unfold blkKeyLo
  pointwise
  rw [dif_neg (by omega), keyG1_apply x0 x1 x2 x3 x4 x5 x6 x7]
  exact congrArg _ (Fin.ext (by simp only; omega))

theorem blkKeyLo_apply : blkKeyLo x0 x1 x2 x3 x4 x5 x6 x7 (ix2 r (kcol h d)) = (blkOf x0 x1 x2 x3 x4 x5 x6 x7).dK h ⟨r, by omega⟩ d := by
  match h with
  | 0 => exact blkKeyLo_0 x0 x1 x2 x3 x4 x5 x6 x7 r d _ (by simp [kcol])
  | 1 => exact blkKeyLo_1 x0 x1 x2 x3 x4 x5 x6 x7 r d _ (by simp [kcol])

theorem blkValLo_0 (l : Fin 128) (hl : l.val = 0 + d) : blkValLo x0 x1 x2 x5 x6 x7 (ix2 r l) = (blkOf x0 x1 x2 x3 x4 x5 x6 x7).dV 0 ⟨r, by omega⟩ d := by
  unfold blkValLo
  pointwise
  rw [dif_pos (by omega), valG0_apply x0 x1 x2 x3 x4 x5 x6 x7]
  exact congrArg _ (Fin.ext (by simp only; omega))

theorem blkValLo_1 (l : Fin 128) (hl : l.val = 64 + d) : blkValLo x0 x1 x2 x5 x6 x7 (ix2 r l) = (blkOf x0 x1 x2 x3 x4 x5 x6 x7).dV 1 ⟨r, by omega⟩ d := by
  unfold blkValLo
  pointwise
  rw [dif_neg (by omega), valG1_apply x0 x1 x2 x3 x4 x5 x6 x7]
  exact congrArg _ (Fin.ext (by simp only; omega))

theorem blkValLo_apply : blkValLo x0 x1 x2 x5 x6 x7 (ix2 r (kcol h d)) = (blkOf x0 x1 x2 x3 x4 x5 x6 x7).dV h ⟨r, by omega⟩ d := by
  match h with
  | 0 => exact blkValLo_0 x0 x1 x2 x3 x4 x5 x6 x7 r d _ (by simp [kcol])
  | 1 => exact blkValLo_1 x0 x1 x2 x3 x4 x5 x6 x7 r d _ (by simp [kcol])

theorem blkKeyHi_0 (l : Fin 128) (hl : l.val = 0 + d) : blkKeyHi x0 x1 x2 x3 x4 x5 x6 x7 (ix2 r l) = (blkOf x0 x1 x2 x3 x4 x5 x6 x7).dK 0 ⟨128 + r, by omega⟩ d := by
  unfold blkKeyHi
  pointwise
  rw [dif_pos (by omega), keyG0_apply x0 x1 x2 x3 x4 x5 x6 x7]
  exact congrArg _ (Fin.ext (by simp only; omega))

theorem blkKeyHi_1 (l : Fin 128) (hl : l.val = 64 + d) : blkKeyHi x0 x1 x2 x3 x4 x5 x6 x7 (ix2 r l) = (blkOf x0 x1 x2 x3 x4 x5 x6 x7).dK 1 ⟨128 + r, by omega⟩ d := by
  unfold blkKeyHi
  pointwise
  rw [dif_neg (by omega), keyG1_apply x0 x1 x2 x3 x4 x5 x6 x7]
  exact congrArg _ (Fin.ext (by simp only; omega))

theorem blkKeyHi_apply : blkKeyHi x0 x1 x2 x3 x4 x5 x6 x7 (ix2 r (kcol h d)) = (blkOf x0 x1 x2 x3 x4 x5 x6 x7).dK h ⟨128 + r, by omega⟩ d := by
  match h with
  | 0 => exact blkKeyHi_0 x0 x1 x2 x3 x4 x5 x6 x7 r d _ (by simp [kcol])
  | 1 => exact blkKeyHi_1 x0 x1 x2 x3 x4 x5 x6 x7 r d _ (by simp [kcol])

theorem blkValHi_0 (l : Fin 128) (hl : l.val = 0 + d) : blkValHi x0 x1 x2 x5 x6 x7 (ix2 r l) = (blkOf x0 x1 x2 x3 x4 x5 x6 x7).dV 0 ⟨128 + r, by omega⟩ d := by
  unfold blkValHi
  pointwise
  rw [dif_pos (by omega), valG0_apply x0 x1 x2 x3 x4 x5 x6 x7]
  exact congrArg _ (Fin.ext (by simp only; omega))

theorem blkValHi_1 (l : Fin 128) (hl : l.val = 64 + d) : blkValHi x0 x1 x2 x5 x6 x7 (ix2 r l) = (blkOf x0 x1 x2 x3 x4 x5 x6 x7).dV 1 ⟨128 + r, by omega⟩ d := by
  unfold blkValHi
  pointwise
  rw [dif_neg (by omega), valG1_apply x0 x1 x2 x3 x4 x5 x6 x7]
  exact congrArg _ (Fin.ext (by simp only; omega))

theorem blkValHi_apply : blkValHi x0 x1 x2 x5 x6 x7 (ix2 r (kcol h d)) = (blkOf x0 x1 x2 x3 x4 x5 x6 x7).dV h ⟨128 + r, by omega⟩ d := by
  match h with
  | 0 => exact blkValHi_0 x0 x1 x2 x3 x4 x5 x6 x7 r d _ (by simp [kcol])
  | 1 => exact blkValHi_1 x0 x1 x2 x3 x4 x5 x6 x7 r d _ (by simp [kcol])

theorem sinkG0_apply (l : Fin 128) : sinkG0 x0 x1 x2 x3 x4 x5 x6 x7 (ix2 z l) = ((if l = hlane 0 3 then (blkOf x0 x1 x2 x3 x4 x5 x6 x7).dσ 0 3 else 0) + (if l = hlane 0 2 then (blkOf x0 x1 x2 x3 x4 x5 x6 x7).dσ 0 2 else 0) + (if l = hlane 0 1 then (blkOf x0 x1 x2 x3 x4 x5 x6 x7).dσ 0 1 else 0) + (if l = hlane 0 0 then (blkOf x0 x1 x2 x3 x4 x5 x6 x7).dσ 0 0 else 0)) := by
  unfold sinkG0
  pointwise
  rw [putSink_apply z 3#32 (hlane 0 3) l rfl, sink3, putSink_apply z 2#32 (hlane 0 2) l rfl, sink2, putSink_apply z 1#32 (hlane 0 1) l rfl, sink1, putSink_apply z 0#32 (hlane 0 0) l rfl, sink0]

theorem sinkG1_apply (l : Fin 128) : sinkG1 x0 x1 x2 x3 x4 x5 x6 x7 (ix2 z l) = ((if l = hlane 1 3 then (blkOf x0 x1 x2 x3 x4 x5 x6 x7).dσ 1 3 else 0) + (if l = hlane 1 2 then (blkOf x0 x1 x2 x3 x4 x5 x6 x7).dσ 1 2 else 0) + (if l = hlane 1 1 then (blkOf x0 x1 x2 x3 x4 x5 x6 x7).dσ 1 1 else 0) + (if l = hlane 1 0 then (blkOf x0 x1 x2 x3 x4 x5 x6 x7).dσ 1 0 else 0)) := by
  unfold sinkG1
  pointwise
  rw [putSink_apply z 7#32 (hlane 1 3) l rfl, sink7, putSink_apply z 6#32 (hlane 1 2) l rfl, sink6, putSink_apply z 5#32 (hlane 1 1) l rfl, sink5, putSink_apply z 4#32 (hlane 1 0) l rfl, sink4]

theorem blkSink_lane (l : Fin 128) : blkSink x0 x1 x2 x3 x4 x5 x6 x7 (ix2 z l) = sinkG0 x0 x1 x2 x3 x4 x5 x6 x7 (ix2 z l) + sinkG1 x0 x1 x2 x3 x4 x5 x6 x7 (ix2 z l) := by
  unfold blkSink
  pointwise

/-- The block's cotangents of the sinks, in the eight lanes. -/
theorem blkSink_apply : blkSink x0 x1 x2 x3 x4 x5 x6 x7 (ix2 z (hlane h γ)) = (blkOf x0 x1 x2 x3 x4 x5 x6 x7).dσ h γ := by
  rw [blkSink_lane, sinkG0_apply, sinkG1_apply]
  match h, γ with
  | 0, 0 => simp [hlane]
  | 0, 1 => simp [hlane]
  | 0, 2 => simp [hlane]
  | 0, 3 => simp [hlane]
  | 1, 0 => simp [hlane]
  | 1, 1 => simp [hlane]
  | 1, 2 => simp [hlane]
  | 1, 3 => simp [hlane]

theorem blkSink_apply_of_le (l : Fin 128) (hl : 8 ≤ l.val) : blkSink x0 x1 x2 x3 x4 x5 x6 x7 (ix2 z l) = 0 := by
  have hne : ∀ h γ, l ≠ hlane h γ := fun h γ e => by
    have := congrArg Fin.val e
    simp only [hlane] at this
    omega
  rw [blkSink_lane, sinkG0_apply, sinkG1_apply]
  simp only [hne, if_false, add_zero]

end

end Cert.KernelIdeal.Swa

end
-- ==== Proof.Swa.Rows.lean ====
module

public import proofs.«01_k».proof.Proof.Swa.Points
public import proofs.«01_k».proof.Proof.Swa.Read
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem Cert.Row

/-! ## What the points leave, in the numbers of their blocks -/

/-- A store's payload where the store lies. -/
theorem canon_hit {Val : EltTy → Type} [∀ e, Nonempty (Val e)] {s : Shape} {e : EltTy} (off size : Fin s.rank → ℕ) (inb : ∀ a, off a + size a ≤ s.size a)
    (w : (⟨s.rank, size⟩ : Shape).Idx → Val e) (L : List (Σ r : Rect s, r.shape.Idx → Val e)) (y : s.Idx) (x : (⟨s.rank, size⟩ : Shape).Idx) (h : ∀ a, (y a).val = off a + (x a).val) :
    View.canon (⟨Rect.unit off size inb, w⟩ :: L) y = w x := by
  have e : y = (Rect.unit off size inb).emb x := by
    funext a
    apply Fin.ext
    rw [h a]
    exact congrArg (off a + ·) (Nat.one_mul _).symm
  rw [e]
  exact View.canon_cons_emb _ _ _ _

/-- A store is skipped where it does not lie. -/
theorem canon_miss {Val : EltTy → Type} [∀ e, Nonempty (Val e)] {s : Shape} {e : EltTy} (off size : Fin s.rank → ℕ) (inb : ∀ a, off a + size a ≤ s.size a)
    (w : (⟨s.rank, size⟩ : Shape).Idx → Val e) (L : List (Σ r : Rect s, r.shape.Idx → Val e)) (y : s.Idx) (a : Fin s.rank) (h : (y a).val < off a) :
    View.canon (⟨Rect.unit off size inb, w⟩ :: L) y = View.canon L y :=
  View.canon_cons_of_not_mem _ _ fun hm => absurd ((Rect.mem_set_unit (inb := inb)).mp hm a).1 (Nat.not_le.mpr h)

/-- A row of the output's block. -/
theorem outRow_apply (q : FVec Ideal S128x512 .f32) (k v : FVec Ideal S128x128 .f32) (r : Fin 128) (l : Fin 768) :
    outRow q k v (ix2 r l) = (if h : l.val < 512 then q (ix2 r ⟨l, h⟩) else if h2 : l.val - 512 < 128 then k (ix2 r ⟨l - 512, h2⟩) else v (ix2 r ⟨l - 512 - 128, by omega⟩) : EReal) := by
  unfold outRow
  by_cases h : l.val < 512
  · rw [dif_pos h]
    refine (canon_miss _ _ _ _ _ _ (1 : Fin 2) (show l.val < 640 by omega)).trans ?_
    refine (canon_miss _ _ _ _ _ _ (1 : Fin 2) (show l.val < 512 by omega)).trans ?_
    refine (canon_hit _ _ _ _ _ _ (ix2 r ⟨l, h⟩) fun a => ?_).trans rfl
    match a with
    | 0 => exact (Nat.zero_add _).symm
    | 1 => exact (Nat.zero_add _).symm
  · rw [dif_neg h]
    by_cases h2 : l.val - 512 < 128
    · rw [dif_pos h2]
      refine (canon_miss _ _ _ _ _ _ (1 : Fin 2) (show l.val < 640 by omega)).trans ?_
      refine (canon_hit _ _ _ _ _ _ (ix2 r ⟨l - 512, h2⟩) fun a => ?_).trans rfl
      match a with
      | 0 => exact (Nat.zero_add _).symm
      | 1 => exact (show l.val = 512 + (l.val - 512) by omega)
    · rw [dif_neg h2]
      refine (canon_hit _ _ _ _ _ _ (ix2 r ⟨l - 512 - 128, by omega⟩) fun a => ?_).trans rfl
      match a with
      | 0 => exact (Nat.zero_add _).symm
      | 1 => exact (show l.val = 640 + (l.val - 512 - 128) by omega)

variable (m : (ℓ : Loc nD τ sig) → Buf (Elt Ideal) ℓ) (c : Dev nD) (t : Fin cfg0.N)

/-- The block of a point. -/
def kB : Blk := blkOf (X0_0 m c t) (iblk m c 1 t) (iblk m c 2 t) (iblk m c 3 t) (iblk m c 4 t) (iblk m c 5 t) (iblk m c 6 t) (iblk m c 7 t)

theorem bQ_apply (r : Fin 128) (l : Fin 512) : bQ m c t (ix2 r l) = (kB m c t).dQ ⟨l / 256, by omega⟩ ⟨l / 64 % 4, by omega⟩ r ⟨l % 64, by omega⟩ := by
  have e : l = qcol ⟨l / 256, by omega⟩ ⟨l / 64 % 4, by omega⟩ ⟨l % 64, by omega⟩ := Fin.ext (by show l.val = l.val / 256 * 256 + l.val / 64 % 4 * 64 + l.val % 64; omega)
  conv_lhs => rw [e]
  exact blkQ_apply ..

theorem bKeyLo_apply (r : Fin 128) (l : Fin 128) : bKeyLo m c t (ix2 r l) = (kB m c t).dK ⟨l / 64, by omega⟩ ⟨r, by omega⟩ ⟨l % 64, by omega⟩ := by
  have e : l = kcol ⟨l / 64, by omega⟩ ⟨l % 64, by omega⟩ := Fin.ext (by show l.val = l.val / 64 * 64 + l.val % 64; omega)
  conv_lhs => rw [e]
  exact blkKeyLo_apply ..

theorem bKeyHi_apply (r : Fin 128) (l : Fin 128) : bKeyHi m c t (ix2 r l) = (kB m c t).dK ⟨l / 64, by omega⟩ ⟨128 + r, by omega⟩ ⟨l % 64, by omega⟩ := by
  have e : l = kcol ⟨l / 64, by omega⟩ ⟨l % 64, by omega⟩ := Fin.ext (by show l.val = l.val / 64 * 64 + l.val % 64; omega)
  conv_lhs => rw [e]
  exact blkKeyHi_apply ..

theorem bValLo_apply (r : Fin 128) (l : Fin 128) : bValLo m c t (ix2 r l) = (kB m c t).dV ⟨l / 64, by omega⟩ ⟨r, by omega⟩ ⟨l % 64, by omega⟩ := by
  have e : l = kcol ⟨l / 64, by omega⟩ ⟨l % 64, by omega⟩ := Fin.ext (by show l.val = l.val / 64 * 64 + l.val % 64; omega)
  conv_lhs => rw [e]
  exact blkValLo_apply ..

theorem bValHi_apply (r : Fin 128) (l : Fin 128) : bValHi m c t (ix2 r l) = (kB m c t).dV ⟨l / 64, by omega⟩ ⟨128 + r, by omega⟩ ⟨l % 64, by omega⟩ := by
  have e : l = kcol ⟨l / 64, by omega⟩ ⟨l % 64, by omega⟩ := Fin.ext (by show l.val = l.val / 64 * 64 + l.val % 64; omega)
  conv_lhs => rw [e]
  exact blkValHi_apply ..

theorem bSink_apply (z : Fin 1) (l : Fin 128) : bSink m c t (ix2 z l) = if h : l.val < 8 then (kB m c t).dσ ⟨l / 4, by omega⟩ ⟨l % 4, by omega⟩ else 0 := by
  by_cases h : l.val < 8
  · rw [dif_pos h]
    have e : l = hlane ⟨l / 4, by omega⟩ ⟨l % 4, by omega⟩ := Fin.ext (by show l.val = l.val / 4 * 4 + l.val % 4; omega)
    conv_lhs => rw [e]
    exact blkSink_apply ..
  · rw [dif_neg h]
    exact blkSink_apply_of_le (hl := by omega) ..

/-- What the sinks' gradient holds after a point that has a block: the sum of the blocks' so far. -/
theorem sinks_upto : ∀ (n : ℕ) (hn : n < cfg0.N) (_ : n < 32) (l : Fin 128), (outsAt0 m c n hn).2.1 (ix2 0 l) = (∑ i : Fin (n + 1), bSink m c ⟨i, by omega⟩ (ix2 0 l) : EReal) := by
  intro n
  induction n with
  | zero =>
    intro hn h32 l
    have e := outs_first m c ⟨0, hn⟩ rfl
    have e' : (outsAt0 m c 0 hn).2.1 = addf (broadcast S1x128 (Scalar.ofBits .f32 0x00000000#32)) (bSink m c ⟨0, hn⟩) := congrArg Prod.fst e
    rw [e', Fin.sum_univ_one]
    show Ideal.ofBits .f32 0x00000000#32 + bSink m c ⟨0, hn⟩ (ix2 0 l) = bSink m c ⟨0, hn⟩ (ix2 0 l)
    rw [show Ideal.ofBits .f32 0x00000000#32 = 0 by simp [Ideal.ofBits, Ideal.ieee]]
    exact zero_add (M := EReal) _
  | succ n ih =>
    intro hn h32 l
    have e := outs_mid m c ⟨n + 1, hn⟩ (by simp) h32
    have e' : (outsAt0 m c (n + 1) hn).2.1 = addf (outsAt0 m c n (by omega)).2.1 (bSink m c ⟨n + 1, hn⟩) := congrArg (fun p => p.2.1) e
    rw [e', Fin.sum_univ_castSucc]
    show ((outsAt0 m c n (by omega)).2.1 (ix2 0 l) + bSink m c ⟨n + 1, hn⟩ (ix2 0 l) : EReal) = _
    rw [ih (by omega) (by omega) l]
    rfl

end Cert.KernelIdeal.Swa

end
-- ==== Proof.Swa.Blocks.lean ====
module

public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 65536

noncomputable section

namespace Cert.KernelIdeal.Swa

open Cert.KernelIdeal Cert.KernelIdeal.Gen Idealize.ShloMosaic Idealize.ShloMosaic.TcCoe Idealize.SL.Sem

/-! ## Where the blocks of a point lie in the arrays -/

/-- The places of a point's blocks. -/
theorem idx : ∀ t : Fin cfg0.N, (win0_0.index t = ![min t.val 31, 0] ∧ win0_1.index t = ![min t.val 31 - 1, 4] ∧ win0_2.index t = ![min t.val 31, 4])
    ∧ (win0_3.index t = ![min t.val 31 - 1, 5] ∧ win0_4.index t = ![min t.val 31, 5] ∧ win0_5.index t = ![0, 0])
    ∧ (win0_6.index t = ![min (min t.val 31) 1, 0, 0, 0] ∧ win0_7.index t = ![min t.val 31, 0] ∧ win0_8.index t = ![t.val - 1, 0]) :=
  (by decide +kernel : ∀ t : Fin grid0.N, _)

variable (m : (ℓ : Loc nD τ sig) → Buf (Elt Ideal) ℓ) (c : Dev nD) (t : Fin cfg0.N) (n : Fin 32) (ht : t.val = n.val)
include ht

theorem idx_n : (win0_0.index t = ![n.val, 0] ∧ win0_1.index t = ![n.val - 1, 4] ∧ win0_2.index t = ![n.val, 4])
    ∧ (win0_3.index t = ![n.val - 1, 5] ∧ win0_4.index t = ![n.val, 5] ∧ win0_5.index t = ![0, 0])
    ∧ (win0_6.index t = ![min n.val 1, 0, 0, 0] ∧ win0_7.index t = ![n.val, 0]) := by
  obtain ⟨⟨a0, a1, a2⟩, ⟨a3, a4, a5⟩, a6, a7, a8⟩ := idx t
  have e : min t.val 31 = n.val := by omega
  rw [e] at a0 a1 a2 a3 a4 a6 a7
  exact ⟨⟨a0, a1, a2⟩, ⟨a3, a4, a5⟩, a6, a7⟩

/-- The queries' block. -/
theorem X0_read (r : Fin 128) (l : Fin 512) : X0_0 m c t (ix2 r l) = m ((c : Thread nD τ).loc main_arg0) (ix2 ⟨n.val * 128 + r.val, by omega⟩ ⟨l.val, by omega⟩) := by
  obtain ⟨⟨a0, a1, a2⟩, ⟨a3, a4, a5⟩, a6, a7⟩ := idx_n t n ht
  unfold X0_0 Pipeline.Window.fill
  rw [dif_pos (moved0_0 t _)]
  blk_ext [iblk, V, a0]

/-- The keys of the block before. -/
theorem k_prev_read (r : Fin 128) (l : Fin 128) : iblk m c 1 t (ix2 r l) = m ((c : Thread nD τ).loc main_arg0) (ix2 ⟨(n.val - 1) * 128 + r.val, by omega⟩ ⟨512 + l.val, by omega⟩) := by
  obtain ⟨⟨a0, a1, a2⟩, ⟨a3, a4, a5⟩, a6, a7⟩ := idx_n t n ht
  blk_ext [iblk, V, a1]

theorem k_cur_read (r : Fin 128) (l : Fin 128) : iblk m c 2 t (ix2 r l) = m ((c : Thread nD τ).loc main_arg0) (ix2 ⟨n.val * 128 + r.val, by omega⟩ ⟨512 + l.val, by omega⟩) := by
  obtain ⟨⟨a0, a1, a2⟩, ⟨a3, a4, a5⟩, a6, a7⟩ := idx_n t n ht
  blk_ext [iblk, V, a2]

/-- The values of the block before. -/
theorem v_prev_read (r : Fin 128) (l : Fin 128) : iblk m c 3 t (ix2 r l) = m ((c : Thread nD τ).loc main_arg0) (ix2 ⟨(n.val - 1) * 128 + r.val, by omega⟩ ⟨640 + l.val, by omega⟩) := by
  obtain ⟨⟨a0, a1, a2⟩, ⟨a3, a4, a5⟩, a6, a7⟩ := idx_n t n ht
  blk_ext [iblk, V, a3]

theorem v_cur_read (r : Fin 128) (l : Fin 128) : iblk m c 4 t (ix2 r l) = m ((c : Thread nD τ).loc main_arg0) (ix2 ⟨n.val * 128 + r.val, by omega⟩ ⟨640 + l.val, by omega⟩) := by
  obtain ⟨⟨a0, a1, a2⟩, ⟨a3, a4, a5⟩, a6, a7⟩ := idx_n t n ht
  blk_ext [iblk, V, a4]

/-- The sinks' block is the sinks. -/
theorem sinks_read (z : Fin 1) (l : Fin 128) : iblk m c 5 t (ix2 z l) = V m c main_v1 (ix2 0 l) := by
  obtain ⟨⟨a0, a1, a2⟩, ⟨a3, a4, a5⟩, a6, a7⟩ := idx_n t n ht
  unfold iblk
  blk_simp [a5]
  refine congrArg (V m c main_v1) ?_
  blk_ext [a5]

/-- The bias's block. -/
theorem bias_blk (z : Fin 1) (h : Fin 2) (r : Fin 512) (k : Fin 256) : iblk m c 6 t (ix4 z h r k) = V m c main_v37 (ix4 ⟨min n.val 1, by omega⟩ h r k) := by
  obtain ⟨⟨a0, a1, a2⟩, ⟨a3, a4, a5⟩, a6, a7⟩ := idx_n t n ht
  unfold iblk
  blk_simp [a6]
  refine congrArg (V m c main_v37) ?_
  blk_ext [a6]

/-- The output's cotangents. -/
theorem do_read (r : Fin 128) (l : Fin 512) : iblk m c 7 t (ix2 r l) = m ((c : Thread nD τ).loc main_arg2) (ix2 ⟨n.val * 128 + r.val, by omega⟩ ⟨l.val, by omega⟩) := by
  obtain ⟨⟨a0, a1, a2⟩, ⟨a3, a4, a5⟩, a6, a7⟩ := idx_n t n ht
  blk_ext [iblk, V, a7]

end Cert.KernelIdeal.Swa

end
-- ==== Proof.Swa.Word.lean ====
module

public import Idealize.ShloMosaic.Lib.WordCmp
public import Idealize.ShloMosaic.Lib.Claim
public import Idealize.ShloMosaic.PureOps.Ideal.Laws

@[expose] public section

noncomputable section

namespace Cert.Row

open Idealize.ShloMosaic

/-! ## The words that the host's bias is made of -/

/-- The divisor as the host guards it. -/
def dvE : BitVec 32 := Scalar.select (IntOp.cmpi .eq 128#32 0#32) 1#32 128#32

/-- The host's remainder by 128. -/
def rmE (a : BitVec 32) : BitVec 32 :=
  Scalar.select (IntOp.andi (IntOp.cmpi .ne (IntOp.cmpi .slt (IntOp.remsi .host a dvE) 0#32) (IntOp.cmpi .slt dvE 0#32)) (IntOp.cmpi .ne (IntOp.remsi .host a dvE) 0#32))
    (IntOp.addi (IntOp.remsi .host a dvE) dvE) (IntOp.remsi .host a dvE)

/-- The host's quotient by 128. -/
def qtE (a : BitVec 32) : BitVec 32 :=
  Scalar.select (IntOp.andi (IntOp.cmpi (w := 32) .ne (if a = 0 then 0 else if a.msb = true then -1 else 1) (if (128#32 : BitVec 32) = 0 then 0 else if (128#32 : BitVec 32).msb = true then -1 else 1))
      (IntOp.cmpi .ne (IntOp.remsi .host a 128#32) 0#32))
    (IntOp.subi (IntOp.divsi .host a 128#32) 1#32) (IntOp.divsi .host a 128#32)

/-- A row's distance from a column. -/
def rlE (a k : BitVec 32) : BitVec 32 := IntOp.subi (IntOp.addi (rmE a) 128#32) k

/-- The bias of a row and a column. -/
def alE (h a k : BitVec 32) : EReal :=
  -Ideal.pow (Ideal.ofBits .f32 1073741824#32) (Ideal.div (Ideal.ofBits .f32 3238002688#32 * (FloatOps.sitofp .f32 (IntOp.addi (IntOp.addi (IntOp.muli h 4#32) (qtE a)) 1#32) : Ideal .f32)) (Ideal.ofBits .f32 1090519040#32))
    * (FloatOps.sitofp .f32 (rlE a k) : Ideal .f32)

/-- The bias as the reference has it. -/
def alR (j : ℕ) (w : BitVec 32) : EReal :=
  -Ideal.pow (Ideal.ofBits .f32 1073741824#32) (Ideal.div (Ideal.ofBits .f32 3238002688#32 * ((1 : EReal) + (FloatOps.sitofp .f32 (BitVec.ofNat 32 j) : Ideal .f32))) (Ideal.ofBits .f32 1090519040#32))
    * (FloatOps.sitofp .f32 w : Ideal .f32)

theorem rmE_all : ∀ r : Fin 512, rmE (BitVec.ofNat 32 r) = BitVec.ofNat 32 (r.val % 128) := by decide +kernel

theorem qtE_all : ∀ r : Fin 512, qtE (BitVec.ofNat 32 r) = BitVec.ofNat 32 (r.val / 128) := by decide +kernel

theorem head_all : ∀ h : Fin 2, ∀ g : Fin 4, (IntOp.addi (IntOp.addi (IntOp.muli (BitVec.ofNat 32 h) 4#32) (BitVec.ofNat 32 g)) 1#32).toInt = 1 + (BitVec.ofNat 32 (h.val * 4 + g.val)).toInt := by decide +kernel

theorem alE_eq (h : Fin 2) (g : Fin 4) (r : Fin 128) (a : Fin 512) (ha : a.val = g.val * 128 + r.val) (k : BitVec 32) :
    rlE (BitVec.ofNat 32 a) k = IntOp.subi (IntOp.addi (BitVec.ofNat 32 r) 128#32) k
    ∧ alE (BitVec.ofNat 32 h) (BitVec.ofNat 32 a) k = alR (h.val * 4 + g.val) (IntOp.subi (IntOp.addi (BitVec.ofNat 32 r) 128#32) k) := by
  have e1 : rlE (BitVec.ofNat 32 a) k = IntOp.subi (IntOp.addi (BitVec.ofNat 32 r) 128#32) k := by
    unfold rlE
    rw [rmE_all, show a.val % 128 = r.val by omega]
  refine ⟨e1, ?_⟩
  unfold alE alR
  rw [e1, qtE_all, show a.val / 128 = g.val by omega]
  have e2 : (FloatOps.sitofp .f32 (IntOp.addi (IntOp.addi (IntOp.muli (BitVec.ofNat 32 h) 4#32) (BitVec.ofNat 32 g)) 1#32) : Ideal .f32)
      = ((1 : EReal) + (FloatOps.sitofp .f32 (BitVec.ofNat 32 (h.val * 4 + g.val)) : Ideal .f32) : EReal) := by
    show (((IntOp.addi (IntOp.addi (IntOp.muli (BitVec.ofNat 32 h) 4#32) (BitVec.ofNat 32 g)) 1#32).toInt : ℝ) : EReal) = 1 + (((BitVec.ofNat 32 (h.val * 4 + g.val)).toInt : ℝ) : EReal)
    rw [head_all]
    push_cast
    rfl
  rw [e2]

/-- A bias is a real number. -/
theorem alR_real (j : ℕ) (w : BitVec 32) : ∃ x : ℝ, alR j w = x := by
  have h2 : ∃ x : ℝ, Ideal.ofBits .f32 1073741824#32 = (x : EReal) := ⟨_, by simp [Ideal.ofBits, Ideal.ieee]; rfl⟩
  have h8 : ∃ x : ℝ, x ≠ 0 ∧ Ideal.ofBits .f32 1090519040#32 = (x : EReal) := ⟨8, by norm_num, by simp [Ideal.ofBits, Ideal.ieee]; norm_num; rw [← EReal.coe_mul]; norm_num⟩
  have hm : ∃ x : ℝ, Ideal.ofBits .f32 3238002688#32 = (x : EReal) := ⟨_, by simp [Ideal.ofBits, Ideal.ieee]; rfl⟩
  obtain ⟨a, ha⟩ := h2
  obtain ⟨b, hb0, hb⟩ := h8
  obtain ⟨d, hd⟩ := hm
  have hs : ∀ w : BitVec 32, (FloatOps.sitofp .f32 w : Ideal .f32) = ((w.toInt : ℝ) : EReal) := fun _ => rfl
  unfold alR
  rw [ha, hb, hd, hs, hs]
  have e : Ideal.div ((d : EReal) * (1 + (((BitVec.ofNat 32 j).toInt : ℝ) : EReal))) (b : EReal) = ((d * (1 + ((BitVec.ofNat 32 j).toInt : ℝ)) * b⁻¹ : ℝ) : EReal) := by
    unfold Ideal.div
    rw [if_neg (by exact_mod_cast hb0)]
    push_cast
    rfl
  rw [e]
  exact ⟨-Real.rpow a _ * _, by push_cast; rfl⟩

/-- The mask's condition on the block: the first block sees its own keys only, the others see both. -/
theorem seen (n : Fin 32) (k : Fin 256) : IntOp.ori (IntOp.cmpi .sgt (BitVec.ofNat 32 n) 0#32) (IntOp.cmpi .sge (BitVec.ofNat 32 k) 128#32) = if n.val < 1 then IntOp.cmpi .sge (BitVec.ofNat 32 k) 128#32 else 1#1 := by
  have e : IntOp.cmpi .sgt (BitVec.ofNat 32 n) 0#32 = BitVec.ofBool (decide (0 < n.val)) := WordCmp.cmpi_sgt_ofNat (by omega) (by omega)
  rw [e]
  by_cases h : n.val < 1
  · rw [if_pos h, decide_eq_false (by omega)]
    generalize IntOp.cmpi .sge (BitVec.ofNat 32 k) 128#32 = w
    revert w
    decide
  · rw [if_neg h, decide_eq_true (by omega)]
    generalize IntOp.cmpi .sge (BitVec.ofNat 32 k) 128#32 = w
    revert w
    decide

theorem and_one (w : BitVec 1) : IntOp.andi w 1#1 = w := by
  revert w
  decide

/-- A column before the block's own is not seen from the first block. -/
theorem unseen (k : Fin 256) (hk : k.val < 128) (w : BitVec 1) : IntOp.andi w (IntOp.cmpi .sge (BitVec.ofNat 32 k) 128#32) = 0#1 := by
  have e : IntOp.cmpi .sge (BitVec.ofNat 32 k) 128#32 = BitVec.ofBool (decide (128 ≤ k.val)) := WordCmp.cmpi_sge_ofNat (by omega) (by omega)
  rw [e, decide_eq_false (by omega)]
  revert w
  decide

end Cert.Row

end
-- ==== Proof.Swa.Bias.lean ====
module

public import proofs.«01_k».proof.Proof.Gen.KernelIdeal.Frame
public import Idealize.ShloMosaic.Lib.StableHlo.ReadAt
public import Idealize.ShloMosaic.Lib.WordCmp
public import Idealize.ShloMosaic.Lib.Claim
public import Idealize.ShloMosaic.Lib.Pointwise
public import proofs.«01_k».proof.Proof.Swa.Word

@[expose] public section

set_option maxRecDepth 65536

noncomputable section

namespace Cert.KernelIdeal.Swa

open Cert.KernelIdeal Cert.KernelIdeal.Gen Idealize.ShloMosaic Idealize.ShloMosaic.TcCoe Idealize.SL.Sem Cert.Row

/-! ## The two operands that the host writes: the sinks and the bias -/

variable (m : (ℓ : Loc nD τ sig) → Buf (Elt Ideal) ℓ) (c : Dev nD)

set_option maxHeartbeats 0 in
/-- The bias's table, read at an index. -/
theorem bias_read (p : Fin 2) (h : Fin 2) (r : Fin 512) (k : Fin 256) :
    V m c main_v37 (ix4 p h r k) = if hp : p.val < 1 then
        Scalar.select (IntOp.andi (IntOp.andi (IntOp.cmpi .sge (rlE (BitVec.ofNat 32 r) (BitVec.ofNat 32 k)) 0#32) (IntOp.cmpi .slt (rlE (BitVec.ofNat 32 r) (BitVec.ofNat 32 k)) 128#32)) (IntOp.cmpi .sge (BitVec.ofNat 32 k) 128#32))
          (alE (BitVec.ofNat 32 h) (BitVec.ofNat 32 r) (BitVec.ofNat 32 k)) (Ideal.ofBits .f32 4286578688#32)
      else
        Scalar.select (IntOp.andi (IntOp.cmpi .sge (rlE (BitVec.ofNat 32 r) (BitVec.ofNat 32 k)) 0#32) (IntOp.cmpi .slt (rlE (BitVec.ofNat 32 r) (BitVec.ofNat 32 k)) 128#32))
          (alE (BitVec.ofNat 32 h) (BitVec.ofNat 32 r) (BitVec.ofNat 32 k)) (Ideal.ofBits .f32 4286578688#32) := by
  unfold V
  after_reads_at
  have e1 : (constantI S_ 32 128#32 : IVec S_ 32) ix0 = 128#32 := rfl
  have e2 : (constant (F := Ideal) S_ .f32 4286578688#32 : FVec Ideal S_ .f32) ix0 = Ideal.ofBits .f32 4286578688#32 := rfl
  simp only [id_eq, e1, e2, rlE, alE, rmE, qtE, dvE]
  rfl

end Cert.KernelIdeal.Swa

end
-- ==== Proof.Swa.Host.lean ====
module

public import proofs.«01_k».proof.Proof.Gen.KernelIdeal.Frame
public import Idealize.ShloMosaic.Lib.StableHlo.ReadAt
public import Idealize.ShloMosaic.Lib.Claim
public import Idealize.ShloMosaic.Lib.Pointwise

@[expose] public section

set_option maxRecDepth 65536

noncomputable section

namespace Cert.KernelIdeal.Swa

open Cert.KernelIdeal Cert.KernelIdeal.Gen Idealize.ShloMosaic Idealize.ShloMosaic.TcCoe Idealize.SL.Sem

variable (m : (ℓ : Loc nD τ sig) → Buf (Elt Ideal) ℓ) (c : Dev nD)

/-- The sinks, as the host lays them into lanes. -/
theorem sinks_host (l : Fin 128) (hl : l.val < 8) : V m c main_v1 (ix2 0 l) = m ((c : Thread nD τ).loc main_arg1) (ix1 ⟨l, hl⟩) := by
  unfold V
  after_reads_at
  rw [dif_pos hl]

/-- The output's array before the call is the argument it overwrites. -/
theorem out_entry : V m c main_v38_0 = m ((c : Thread nD τ).loc main_arg3) := by
  entry_read
  rfl

end Cert.KernelIdeal.Swa

end
-- ==== Proof.Row.Congr.lean ====
module

public import proofs.«01_k».proof.Proof.Row.Spec

@[expose] public section

noncomputable section

namespace Cert.Row

open Idealize.ShloMosaic

/-- A finite sum of real numbers is a real number. -/
theorem sum_real {ι : Type} (t : Finset ι) (f : ι → EReal) (hf : ∀ i, ∃ x : ℝ, f i = x) : ∃ x : ℝ, ∑ i ∈ t, f i = x := by
  induction t using Finset.cons_induction with
  | empty => exact ⟨0, by simp⟩
  | cons i t hi ih =>
    obtain ⟨x, hx⟩ := ih
    obtain ⟨y, hy⟩ := hf i
    exact ⟨y + x, by rw [Finset.sum_cons, hx, hy, EReal.coe_add]⟩

/-- The scale is a real number. -/
theorem sc_real : ∃ x : ℝ, Blk.sc = x := by
  unfold Blk.sc
  exact ⟨_, by simp [Ideal.ofBits, Ideal.ieee]; rfl⟩

namespace Blk

/-- Where the queries and the keys are finite and no bias is `⊤`, no score is `⊤`. -/
theorem S_ne_top (B : Blk) (hq : ∀ h g r d, ∃ x : ℝ, B.q h g r d = x) (hk : ∀ h c d, ∃ x : ℝ, B.k h c d = x) (hb : ∀ h g r c, B.b h g r c ≠ ⊤)
    (h : Fin 2) (g : Fin 4) (r : Fin 128) (c : Fin 256) : B.S h g r c ≠ ⊤ := by
  unfold S
  obtain ⟨x, hx⟩ := sum_real Finset.univ (fun d => B.q h g r d * B.k h c d) fun d => by
    obtain ⟨a, ha⟩ := hq h g r d
    obtain ⟨b, hb⟩ := hk h c d
    exact ⟨a * b, by rw [ha, hb, EReal.coe_mul]⟩
  obtain ⟨y, hy⟩ := sc_real
  rw [hx, hy, ← EReal.coe_mul]
  exact EReal.add_ne_top (EReal.coe_ne_top _) (hb h g r c)

/-- Two blocks whose masks agree have the same gradients, whatever their masked keys and values are. -/
structure Same (B B' : Blk) : Prop where
  q : B.q = B'.q
  g : B.g = B'.g
  σ : B.σ = B'.σ
  b : B.b = B'.b
  kv : ∀ c, (∀ h d, B.k h c d = B'.k h c d ∧ B.v h c d = B'.v h c d) ∨ ∀ h g r, B.b h g r c = ⊥

variable {B B' : Blk} (e : Same B B')
include e

theorem Same.S_eq : B.S = B'.S := by
  funext h g r c
  unfold Blk.S
  rw [e.q, ← e.b]
  rcases e.kv c with hk | hb
  · congr 2
    exact Finset.sum_congr rfl fun d _ => by rw [(hk h d).1]
  · rw [hb, EReal.add_bot, EReal.add_bot]

variable (hS : ∀ h g r c, B.S h g r c ≠ ⊤) (hσ : ∀ h g, B.σ h g ≠ ⊤) (hσ' : ∀ h g, B.σ h g ≠ ⊥)
include hS hσ hσ'

theorem Same.ex_or (h : Fin 2) (g : Fin 4) (r : Fin 128) (c : Fin 256) : ex (B.S h g r) (B.σ h g) c = 0 ∨ B.dP h g r c = B'.dP h g r c := by
  rcases e.kv c with hk | hb
  · right
    unfold Blk.dP
    rw [e.g]
    exact Finset.sum_congr rfl fun d _ => by rw [(hk h d).2]
  · left
    refine ex_of_bot (hS h g r) (hσ h g) (hσ' h g) ?_
    unfold Blk.S
    rw [hb, EReal.add_bot]

theorem Same.dS_eq : B.dS = B'.dS := by
  funext h g r c
  unfold Blk.dS
  rw [← e.S_eq, ← e.σ]
  exact ds_congr fun c => e.ex_or hS hσ hσ' h g r c

theorem Same.dQ_eq : B.dQ = B'.dQ := by
  funext h g r d
  unfold Blk.dQ
  rw [← e.dS_eq hS hσ hσ']
  refine Finset.sum_congr rfl fun c _ => ?_
  rcases e.kv c with hk | hb
  · rw [(hk h d).1]
  · have : B.dS h g r c = 0 := ds_of_zero (ex_of_bot (hS h g r) (hσ h g) (hσ' h g) (by unfold Blk.S; rw [hb, EReal.add_bot]))
    rw [this, zero_mul, zero_mul, zero_mul]

theorem Same.dK_eq : B.dK = B'.dK := by
  unfold Blk.dK
  rw [e.dS_eq hS hσ hσ', e.q]

omit hS hσ hσ' in
theorem Same.dV_eq : B.dV = B'.dV := by
  unfold Blk.dV Blk.P
  rw [e.S_eq, e.σ, e.g]

theorem Same.dσ_eq : B.dσ = B'.dσ := by
  funext h g
  unfold Blk.dσ
  refine Finset.sum_congr rfl fun r _ => ?_
  rw [← e.S_eq, ← e.σ, dd_congr fun c => e.ex_or hS hσ hσ' h g r c]

end Blk

end Cert.Row

end
-- ==== Proof.Ref.Val.lean ====
module

public import proofs.«01_k».proof.Proof.Gen.ReferenceIdeal.Run

@[expose] public section

noncomputable section

namespace Cert.ReferenceIdeal.Swa

open Cert.ReferenceIdeal Cert.ReferenceIdeal.Gen Idealize.ShloMosaic Idealize.ShloMosaic.TcCoe Idealize.SL.Sem Idealize.ShloMosaic.StableHlo

variable {F : FTy → Type} [FloatOps F]

/-! The reference's operations, each as a function of the arguments it reads. -/

def r_v0 (x0 : (⟨S4096x2816, .bf16⟩ : BufTy).Contents (Elt F)) : (⟨S4096x512, .bf16⟩ : BufTy).Contents (Elt F) :=
  extractStridedSlice S4096x512 ![0, 0] (x0) slices_S4096x2816_S4096x512_0_0
set_option backward.proofsInPublic true in
def r_v1 (x0 : (⟨S4096x2816, .bf16⟩ : BufTy).Contents (Elt F)) : (⟨S4096x128, .bf16⟩ : BufTy).Contents (Elt F) :=
  extractStridedSlice S4096x128 ![0, 512] (x0) slices_S4096x2816_S4096x128_0_512
set_option backward.proofsInPublic true in
def r_v2 (x0 : (⟨S4096x2816, .bf16⟩ : BufTy).Contents (Elt F)) : (⟨S4096x128, .bf16⟩ : BufTy).Contents (Elt F) :=
  extractStridedSlice S4096x128 ![0, 640] (x0) slices_S4096x2816_S4096x128_0_640
set_option backward.proofsInPublic true in
def r_v3 (x0 : (⟨S4096x2816, .bf16⟩ : BufTy).Contents (Elt F)) : (⟨S4096x512, .f32⟩ : BufTy).Contents (Elt F) :=
  extf .f32 (r_v0 (F := F) x0) bitsLt_bf16_f32
def r_v4 (x0 : (⟨S4096x2816, .bf16⟩ : BufTy).Contents (Elt F)) : (⟨S1x4096x512, .f32⟩ : BufTy).Contents (Elt F) :=
  broadcastInDim S1x4096x512 ![1, 2] bcast_S4096x512_S1x4096x512_1_2 (r_v3 (F := F) x0)
def r_v5 (x0 : (⟨S4096x2816, .bf16⟩ : BufTy).Contents (Elt F)) : (⟨S4096x128, .f32⟩ : BufTy).Contents (Elt F) :=
  extf .f32 (r_v1 (F := F) x0) bitsLt_bf16_f32
def r_v6 (x0 : (⟨S4096x2816, .bf16⟩ : BufTy).Contents (Elt F)) : (⟨S1x4096x128, .f32⟩ : BufTy).Contents (Elt F) :=
  broadcastInDim S1x4096x128 ![1, 2] bcast_S4096x128_S1x4096x128_1_2 (r_v5 (F := F) x0)
def r_v7 (x0 : (⟨S4096x2816, .bf16⟩ : BufTy).Contents (Elt F)) : (⟨S4096x128, .f32⟩ : BufTy).Contents (Elt F) :=
  extf .f32 (r_v2 (F := F) x0) bitsLt_bf16_f32
def r_v8 (x0 : (⟨S4096x2816, .bf16⟩ : BufTy).Contents (Elt F)) : (⟨S1x4096x128, .f32⟩ : BufTy).Contents (Elt F) :=
  broadcastInDim S1x4096x128 ![1, 2] bcast_S4096x128_S1x4096x128_1_2 (r_v7 (F := F) x0)
def r_v9 (x0 : (⟨S4096x2816, .bf16⟩ : BufTy).Contents (Elt F)) : (⟨S1x4096x8x64, .f32⟩ : BufTy).Contents (Elt F) :=
  shapeCast _ (r_v4 (F := F) x0) shapeCasts_S1x4096x512_S1x4096x8x64
set_option backward.proofsInPublic true in
def r_v10 (x0 : (⟨S4096x2816, .bf16⟩ : BufTy).Contents (Elt F)) : (⟨S1x4096x2x64, .f32⟩ : BufTy).Contents (Elt F) :=
  shapeCast _ (r_v6 (F := F) x0) shapeCasts_S1x4096x128_S1x4096x2x64
set_option backward.proofsInPublic true in
def r_v11 (x0 : (⟨S4096x2816, .bf16⟩ : BufTy).Contents (Elt F)) : (⟨S1x4096x2x64, .f32⟩ : BufTy).Contents (Elt F) :=
  shapeCast _ (r_v8 (F := F) x0) shapeCasts_S1x4096x128_S1x4096x2x64
set_option backward.proofsInPublic true in
def r_v12 (x0 : (⟨S4096x2816, .bf16⟩ : BufTy).Contents (Elt F)) : (⟨S1x32x128x2x4x64, .f32⟩ : BufTy).Contents (Elt F) :=
  shapeCast _ (r_v9 (F := F) x0) shapeCasts_S1x4096x8x64_S1x32x128x2x4x64
def r_v13 (x0 : (⟨S4096x2816, .bf16⟩ : BufTy).Contents (Elt F)) : (⟨S1x32x128x2x64, .f32⟩ : BufTy).Contents (Elt F) :=
  shapeCast _ (r_v10 (F := F) x0) shapeCasts_S1x4096x2x64_S1x32x128x2x64
set_option backward.proofsInPublic true in
def r_cst : (⟨S_, .f32⟩ : BufTy).Contents (Elt F) :=
  constant S_ .f32 0x00000000#32
def r_v15 : (⟨S1x1x128x2x64, .f32⟩ : BufTy).Contents (Elt F) :=
  broadcastInDim S1x1x128x2x64 ![] bcast_S_S1x1x128x2x64 (r_cst (F := F))
def r_v16 (x0 : (⟨S4096x2816, .bf16⟩ : BufTy).Contents (Elt F)) : (⟨S1x31x128x2x64, .f32⟩ : BufTy).Contents (Elt F) :=
  extractStridedSlice S1x31x128x2x64 ![0, 0, 0, 0, 0] (r_v13 (F := F) x0) slices_S1x32x128x2x64_S1x31x128x2x64_0_0_0_0_0
set_option backward.proofsInPublic true in
def r_v17 (x0 : (⟨S4096x2816, .bf16⟩ : BufTy).Contents (Elt F)) : (⟨S1x32x128x2x64, .f32⟩ : BufTy).Contents (Elt F) :=
  concatenate S1x32x128x2x64 1 [⟨S1x1x128x2x64, (r_v15 (F := F))⟩, ⟨S1x31x128x2x64, (r_v16 (F := F) x0)⟩] concatenates_S1x1x128x2x64_S1x31x128x2x64_S1x32x128x2x64_d1
def r_v19 (x0 : (⟨S4096x2816, .bf16⟩ : BufTy).Contents (Elt F)) : (⟨S1x32x256x2x64, .f32⟩ : BufTy).Contents (Elt F) :=
  concatenate S1x32x256x2x64 2 [⟨S1x32x128x2x64, (r_v17 (F := F) x0)⟩, ⟨S1x32x128x2x64, (r_v13 (F := F) x0)⟩] concatenates_S1x32x128x2x64_S1x32x128x2x64_S1x32x256x2x64_d2
def r_v20 (x0 : (⟨S4096x2816, .bf16⟩ : BufTy).Contents (Elt F)) : (⟨S1x32x128x2x64, .f32⟩ : BufTy).Contents (Elt F) :=
  shapeCast _ (r_v11 (F := F) x0) shapeCasts_S1x4096x2x64_S1x32x128x2x64
set_option backward.proofsInPublic true in
def r_cst_1 : (⟨S_, .f32⟩ : BufTy).Contents (Elt F) :=
  constant S_ .f32 0x00000000#32
def r_v22 : (⟨S1x1x128x2x64, .f32⟩ : BufTy).Contents (Elt F) :=
  broadcastInDim S1x1x128x2x64 ![] bcast_S_S1x1x128x2x64 (r_cst_1 (F := F))
def r_v23 (x0 : (⟨S4096x2816, .bf16⟩ : BufTy).Contents (Elt F)) : (⟨S1x31x128x2x64, .f32⟩ : BufTy).Contents (Elt F) :=
  extractStridedSlice S1x31x128x2x64 ![0, 0, 0, 0, 0] (r_v20 (F := F) x0) slices_S1x32x128x2x64_S1x31x128x2x64_0_0_0_0_0
set_option backward.proofsInPublic true in
def r_v24 (x0 : (⟨S4096x2816, .bf16⟩ : BufTy).Contents (Elt F)) : (⟨S1x32x128x2x64, .f32⟩ : BufTy).Contents (Elt F) :=
  concatenate S1x32x128x2x64 1 [⟨S1x1x128x2x64, (r_v22 (F := F))⟩, ⟨S1x31x128x2x64, (r_v23 (F := F) x0)⟩] concatenates_S1x1x128x2x64_S1x31x128x2x64_S1x32x128x2x64_d1
def r_v26 (x0 : (⟨S4096x2816, .bf16⟩ : BufTy).Contents (Elt F)) : (⟨S1x32x256x2x64, .f32⟩ : BufTy).Contents (Elt F) :=
  concatenate S1x32x256x2x64 2 [⟨S1x32x128x2x64, (r_v24 (F := F) x0)⟩, ⟨S1x32x128x2x64, (r_v20 (F := F) x0)⟩] concatenates_S1x32x128x2x64_S1x32x128x2x64_S1x32x256x2x64_d2
def r_v27 (x0 : (⟨S4096x2816, .bf16⟩ : BufTy).Contents (Elt F)) : (⟨S1x32x2x256x128x4, .f32⟩ : BufTy).Contents (Elt F) :=
  Host.dotGeneral dot_S1x32x256x2x64_S1x32x128x2x4x64_S1x32x2x256x128x4_4_5_2_24_013_013 none (r_v19 (F := F) x0) (r_v12 (F := F) x0)
def r_v28 (x0 : (⟨S4096x2816, .bf16⟩ : BufTy).Contents (Elt F)) : (⟨S1x32x2x4x128x256, .f32⟩ : BufTy).Contents (Elt F) :=
  transpose S1x32x2x4x128x256 [0, 1, 2, 5, 4, 3] (r_v27 (F := F) x0) transposes_S1x32x2x256x128x4_S1x32x2x4x128x256_0_1_2_5_4_3
def r_cst_3 : (⟨S_, .f32⟩ : BufTy).Contents (Elt F) :=
  constant S_ .f32 0x3E000000#32
def r_v29 : (⟨S1x32x2x4x128x256, .f32⟩ : BufTy).Contents (Elt F) :=
  broadcastInDim S1x32x2x4x128x256 ![] bcast_S_S1x32x2x4x128x256 (r_cst_3 (F := F))
def r_v30 (x0 : (⟨S4096x2816, .bf16⟩ : BufTy).Contents (Elt F)) : (⟨S1x32x2x4x128x256, .f32⟩ : BufTy).Contents (Elt F) :=
  mulf (r_v28 (F := F) x0) (r_v29 (F := F))
def r_v31 : (⟨S128, .i32⟩ : BufTy).Contents (Elt F) :=
  iotaInDim S128 32 0
def r_v32 : (⟨S128x1, .i32⟩ : BufTy).Contents (Elt F) :=
  broadcastInDim S128x1 ![0] bcast_S128_S128x1_0 (r_v31 (F := F))
def r_c : (⟨S_, .i32⟩ : BufTy).Contents (Elt F) :=
  constantI S_ 32 128#32
def r_v33 : (⟨S128x1, .i32⟩ : BufTy).Contents (Elt F) :=
  broadcastInDim S128x1 ![] bcast_S_S128x1 (r_c (F := F))
def r_v34 : (⟨S128x1, .i32⟩ : BufTy).Contents (Elt F) :=
  addi (r_v32 (F := F)) (r_v33 (F := F))
def r_v35 : (⟨S256, .i32⟩ : BufTy).Contents (Elt F) :=
  iotaInDim S256 32 0
def r_v36 : (⟨S1x256, .i32⟩ : BufTy).Contents (Elt F) :=
  broadcastInDim S1x256 ![1] bcast_S256_S1x256_1 (r_v35 (F := F))
def r_v37 : (⟨S128x256, .i32⟩ : BufTy).Contents (Elt F) :=
  broadcastInDim S128x256 ![0, 1] bcast_S128x1_S128x256_0_1 (r_v34 (F := F))
def r_v38 : (⟨S128x256, .i32⟩ : BufTy).Contents (Elt F) :=
  broadcastInDim S128x256 ![0, 1] bcast_S1x256_S128x256_0_1 (r_v36 (F := F))
def r_v39 : (⟨S128x256, .i32⟩ : BufTy).Contents (Elt F) :=
  subi (r_v37 (F := F)) (r_v38 (F := F))
def r_c_4 : (⟨S_, .i32⟩ : BufTy).Contents (Elt F) :=
  constantI S_ 32 0#32
def r_v40 : (⟨S128x256, .i32⟩ : BufTy).Contents (Elt F) :=
  broadcastInDim S128x256 ![] bcast_S_S128x256 (r_c_4 (F := F))
def r_v41 : (⟨S128x256, .i1⟩ : BufTy).Contents (Elt F) :=
  cmpi .sge (r_v39 (F := F)) (r_v40 (F := F))
def r_c_5 : (⟨S_, .i32⟩ : BufTy).Contents (Elt F) :=
  constantI S_ 32 128#32
def r_v42 : (⟨S128x256, .i32⟩ : BufTy).Contents (Elt F) :=
  broadcastInDim S128x256 ![] bcast_S_S128x256 (r_c_5 (F := F))
def r_v43 : (⟨S128x256, .i1⟩ : BufTy).Contents (Elt F) :=
  cmpi .slt (r_v39 (F := F)) (r_v42 (F := F))
def r_v44 : (⟨S128x256, .i1⟩ : BufTy).Contents (Elt F) :=
  andi (r_v41 (F := F)) (r_v43 (F := F))
def r_v45 : (⟨S32, .i32⟩ : BufTy).Contents (Elt F) :=
  iotaInDim S32 32 0
def r_v46 : (⟨S32x1x1, .i32⟩ : BufTy).Contents (Elt F) :=
  broadcastInDim S32x1x1 ![0] bcast_S32_S32x1x1_0 (r_v45 (F := F))
def r_v47 : (⟨S1x128x256, .i1⟩ : BufTy).Contents (Elt F) :=
  broadcastInDim S1x128x256 ![1, 2] bcast_S128x256_S1x128x256_1_2 (r_v44 (F := F))
def r_c_6 : (⟨S_, .i32⟩ : BufTy).Contents (Elt F) :=
  constantI S_ 32 0#32
def r_v48 : (⟨S32x1x1, .i32⟩ : BufTy).Contents (Elt F) :=
  broadcastInDim S32x1x1 ![] bcast_S_S32x1x1 (r_c_6 (F := F))
def r_v49 : (⟨S32x1x1, .i1⟩ : BufTy).Contents (Elt F) :=
  cmpi .sgt (r_v46 (F := F)) (r_v48 (F := F))
def r_c_7 : (⟨S_, .i32⟩ : BufTy).Contents (Elt F) :=
  constantI S_ 32 128#32
def r_v50 : (⟨S1x256, .i32⟩ : BufTy).Contents (Elt F) :=
  broadcastInDim S1x256 ![] bcast_S_S1x256 (r_c_7 (F := F))
def r_v51 : (⟨S1x256, .i1⟩ : BufTy).Contents (Elt F) :=
  cmpi .sge (r_v36 (F := F)) (r_v50 (F := F))
def r_v52 : (⟨S1x1x256, .i1⟩ : BufTy).Contents (Elt F) :=
  broadcastInDim S1x1x256 ![1, 2] bcast_S1x256_S1x1x256_1_2 (r_v51 (F := F))
def r_v53 : (⟨S32x1x256, .i1⟩ : BufTy).Contents (Elt F) :=
  broadcastInDim S32x1x256 ![0, 1, 2] bcast_S32x1x1_S32x1x256_0_1_2 (r_v49 (F := F))
def r_v54 : (⟨S32x1x256, .i1⟩ : BufTy).Contents (Elt F) :=
  broadcastInDim S32x1x256 ![0, 1, 2] bcast_S1x1x256_S32x1x256_0_1_2 (r_v52 (F := F))
def r_v55 : (⟨S32x1x256, .i1⟩ : BufTy).Contents (Elt F) :=
  ori (r_v53 (F := F)) (r_v54 (F := F))
def r_v56 : (⟨S32x128x256, .i1⟩ : BufTy).Contents (Elt F) :=
  broadcastInDim S32x128x256 ![0, 1, 2] bcast_S1x128x256_S32x128x256_0_1_2 (r_v47 (F := F))
def r_v57 : (⟨S32x128x256, .i1⟩ : BufTy).Contents (Elt F) :=
  broadcastInDim S32x128x256 ![0, 1, 2] bcast_S32x1x256_S32x128x256_0_1_2 (r_v55 (F := F))
def r_v58 : (⟨S32x128x256, .i1⟩ : BufTy).Contents (Elt F) :=
  andi (r_v56 (F := F)) (r_v57 (F := F))
def r_v59 : (⟨S8, .f32⟩ : BufTy).Contents (Elt F) :=
  sitofp .f32 (iotaInDim S8 32 0)
def r_cst_8 : (⟨S_, .f32⟩ : BufTy).Contents (Elt F) :=
  constant S_ .f32 0x3F800000#32
def r_v60 : (⟨S8, .f32⟩ : BufTy).Contents (Elt F) :=
  broadcastInDim S8 ![] bcast_S_S8 (r_cst_8 (F := F))
def r_v61 : (⟨S8, .f32⟩ : BufTy).Contents (Elt F) :=
  addf (r_v60 (F := F)) (r_v59 (F := F))
def r_cst_9 : (⟨S_, .f32⟩ : BufTy).Contents (Elt F) :=
  constant S_ .f32 0xC1000000#32
def r_v62 : (⟨S8, .f32⟩ : BufTy).Contents (Elt F) :=
  broadcastInDim S8 ![] bcast_S_S8 (r_cst_9 (F := F))
def r_v63 : (⟨S8, .f32⟩ : BufTy).Contents (Elt F) :=
  mulf (r_v62 (F := F)) (r_v61 (F := F))
def r_cst_10 : (⟨S_, .f32⟩ : BufTy).Contents (Elt F) :=
  constant S_ .f32 0x41000000#32
def r_v64 : (⟨S8, .f32⟩ : BufTy).Contents (Elt F) :=
  broadcastInDim S8 ![] bcast_S_S8 (r_cst_10 (F := F))
def r_v65 : (⟨S8, .f32⟩ : BufTy).Contents (Elt F) :=
  Host.divf (r_v63 (F := F)) (r_v64 (F := F))
def r_cst_11 : (⟨S_, .f32⟩ : BufTy).Contents (Elt F) :=
  constant S_ .f32 0x40000000#32
def r_v66 : (⟨S8, .f32⟩ : BufTy).Contents (Elt F) :=
  broadcastInDim S8 ![] bcast_S_S8 (r_cst_11 (F := F))
def r_v67 : (⟨S8, .f32⟩ : BufTy).Contents (Elt F) :=
  Host.powf (r_v66 (F := F)) (r_v65 (F := F))
def r_v68 : (⟨S2x4, .f32⟩ : BufTy).Contents (Elt F) :=
  shapeCast _ (r_v67 (F := F)) shapeCasts_S8_S2x4
set_option backward.proofsInPublic true in
def r_v69 : (⟨S2x4x1x1, .f32⟩ : BufTy).Contents (Elt F) :=
  broadcastInDim S2x4x1x1 ![0, 1] bcast_S2x4_S2x4x1x1_0_1 (r_v68 (F := F))
def r_v70 : (⟨S2x4x1x1, .f32⟩ : BufTy).Contents (Elt F) :=
  Host.negf (r_v69 (F := F))
def r_v71 : (⟨S128x256, .f32⟩ : BufTy).Contents (Elt F) :=
  sitofp .f32 (r_v39 (F := F))
def r_v72 : (⟨S1x1x128x256, .f32⟩ : BufTy).Contents (Elt F) :=
  broadcastInDim S1x1x128x256 ![2, 3] bcast_S128x256_S1x1x128x256_2_3 (r_v71 (F := F))
def r_v73 : (⟨S2x4x128x256, .f32⟩ : BufTy).Contents (Elt F) :=
  broadcastInDim S2x4x128x256 ![0, 1, 2, 3] bcast_S2x4x1x1_S2x4x128x256_0_1_2_3 (r_v70 (F := F))
def r_v74 : (⟨S2x4x128x256, .f32⟩ : BufTy).Contents (Elt F) :=
  broadcastInDim S2x4x128x256 ![0, 1, 2, 3] bcast_S1x1x128x256_S2x4x128x256_0_1_2_3 (r_v72 (F := F))
def r_v75 : (⟨S2x4x128x256, .f32⟩ : BufTy).Contents (Elt F) :=
  mulf (r_v73 (F := F)) (r_v74 (F := F))
def r_v76 : (⟨S1x32x1x1x128x256, .i1⟩ : BufTy).Contents (Elt F) :=
  broadcastInDim S1x32x1x1x128x256 ![1, 4, 5] bcast_S32x128x256_S1x32x1x1x128x256_1_4_5 (r_v58 (F := F))
def r_v77 : (⟨S1x1x2x4x128x256, .f32⟩ : BufTy).Contents (Elt F) :=
  broadcastInDim S1x1x2x4x128x256 ![2, 3, 4, 5] bcast_S2x4x128x256_S1x1x2x4x128x256_2_3_4_5 (r_v75 (F := F))
def r_v78 : (⟨S1x32x2x4x128x256, .f32⟩ : BufTy).Contents (Elt F) :=
  broadcastInDim S1x32x2x4x128x256 ![0, 1, 2, 3, 4, 5] bcast_S1x1x2x4x128x256_S1x32x2x4x128x256_0_1_2_3_4_5 (r_v77 (F := F))
def r_v79 (x0 : (⟨S4096x2816, .bf16⟩ : BufTy).Contents (Elt F)) : (⟨S1x32x2x4x128x256, .f32⟩ : BufTy).Contents (Elt F) :=
  addf (r_v30 (F := F) x0) (r_v78 (F := F))
def r_cst_12 : (⟨S_, .f32⟩ : BufTy).Contents (Elt F) :=
  constant S_ .f32 0xFF800000#32
def r_call0_v0 : (⟨S_, .f32⟩ : BufTy).Contents (Elt F) :=
  id (r_cst_12 (F := F))
def r_v80_1 : (⟨S1x32x2x4x128x256, .i1⟩ : BufTy).Contents (Elt F) :=
  broadcastInDim S1x32x2x4x128x256 ![0, 1, 2, 3, 4, 5] bcast_S1x32x1x1x128x256_S1x32x2x4x128x256_0_1_2_3_4_5 (r_v76 (F := F))
def r_call0_v2 : (⟨S1x32x2x4x128x256, .f32⟩ : BufTy).Contents (Elt F) :=
  broadcastInDim S1x32x2x4x128x256 ![] bcast_S_S1x32x2x4x128x256 (r_call0_v0 (F := F))
def r_v80_0 (x0 : (⟨S4096x2816, .bf16⟩ : BufTy).Contents (Elt F)) : (⟨S1x32x2x4x128x256, .f32⟩ : BufTy).Contents (Elt F) :=
  select (r_v80_1 (F := F)) (r_v79 (F := F) x0) (r_call0_v2 (F := F))
def r_v81 (x1 : (⟨S8, .f32⟩ : BufTy).Contents (Elt F)) : (⟨S2x4, .f32⟩ : BufTy).Contents (Elt F) :=
  shapeCast _ (x1) shapeCasts_S8_S2x4
set_option backward.proofsInPublic true in
def r_v82 (x1 : (⟨S8, .f32⟩ : BufTy).Contents (Elt F)) : (⟨S2x4x1x1, .f32⟩ : BufTy).Contents (Elt F) :=
  broadcastInDim S2x4x1x1 ![0, 1] bcast_S2x4_S2x4x1x1_0_1 (r_v81 (F := F) x1)
def r_v83 (x1 : (⟨S8, .f32⟩ : BufTy).Contents (Elt F)) : (⟨S1x32x2x4x128x1, .f32⟩ : BufTy).Contents (Elt F) :=
  broadcastInDim S1x32x2x4x128x1 ![2, 3, 4, 5] bcast_S2x4x1x1_S1x32x2x4x128x1_2_3_4_5 (r_v82 (F := F) x1)
def r_v84 (x0 : (⟨S4096x2816, .bf16⟩ : BufTy).Contents (Elt F)) (x1 : (⟨S8, .f32⟩ : BufTy).Contents (Elt F)) : (⟨S1x32x2x4x128x257, .f32⟩ : BufTy).Contents (Elt F) :=
  concatenate S1x32x2x4x128x257 5 [⟨S1x32x2x4x128x256, (r_v80_0 (F := F) x0)⟩, ⟨S1x32x2x4x128x1, (r_v83 (F := F) x1)⟩] concatenates_S1x32x2x4x128x256_S1x32x2x4x128x1_S1x32x2x4x128x257_d5
def r_cst_13 : (⟨S_, .f32⟩ : BufTy).Contents (Elt F) :=
  constant S_ .f32 0xFF800000#32
def r_v85 (x0 : (⟨S4096x2816, .bf16⟩ : BufTy).Contents (Elt F)) (x1 : (⟨S8, .f32⟩ : BufTy).Contents (Elt F)) : (⟨S1x32x2x4x128, .f32⟩ : BufTy).Contents (Elt F) :=
  Host.reduce FloatOps.maximumf (r_v84 (F := F) x0 x1) (r_cst_13 (F := F)) reducesTo_S1x32x2x4x128x257_S1x32x2x4x128_d5 h_S_
def r_cst_15 : (⟨S_, .f32⟩ : BufTy).Contents (Elt F) :=
  constant S_ .f32 0xFF800000#32
def r_v91 : (⟨S1x32x2x4x128, .f32⟩ : BufTy).Contents (Elt F) :=
  broadcastInDim S1x32x2x4x128 ![] bcast_S_S1x32x2x4x128 (r_cst_15 (F := F))
def r_v92 (x0 : (⟨S4096x2816, .bf16⟩ : BufTy).Contents (Elt F)) (x1 : (⟨S8, .f32⟩ : BufTy).Contents (Elt F)) : (⟨S1x32x2x4x128, .f32⟩ : BufTy).Contents (Elt F) :=
  maximumf (r_v91 (F := F)) (r_v85 (F := F) x0 x1)
def r_v102 (x0 : (⟨S4096x2816, .bf16⟩ : BufTy).Contents (Elt F)) (x1 : (⟨S8, .f32⟩ : BufTy).Contents (Elt F)) : (⟨S1x32x2x4x128x1, .f32⟩ : BufTy).Contents (Elt F) :=
  broadcastInDim S1x32x2x4x128x1 ![0, 1, 2, 3, 4] bcast_S1x32x2x4x128_S1x32x2x4x128x1_0_1_2_3_4 (r_v92 (F := F) x0 x1)
def r_v103 (x0 : (⟨S4096x2816, .bf16⟩ : BufTy).Contents (Elt F)) (x1 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (r_v102 (F := F) x0 x1)
def r_v104 (x0 : (⟨S4096x2816, .bf16⟩ : BufTy).Contents (Elt F)) (x1 : (⟨S8, .f32⟩ : BufTy).Contents (Elt F)) : (⟨S1x32x2x4x128x257, .f32⟩ : BufTy).Contents (Elt F) :=
  subf (r_v84 (F := F) x0 x1) (r_v103 (F := F) x0 x1)
def r_v105 (x0 : (⟨S4096x2816, .bf16⟩ : BufTy).Contents (Elt F)) (x1 : (⟨S8, .f32⟩ : BufTy).Contents (Elt F)) : (⟨S1x32x2x4x128x257, .f32⟩ : BufTy).Contents (Elt F) :=
  Host.exp (r_v104 (F := F) x0 x1)
def r_cst_21 : (⟨S_, .f32⟩ : BufTy).Contents (Elt F) :=
  constant S_ .f32 0x00000000#32
def r_v106 (x0 : (⟨S4096x2816, .bf16⟩ : BufTy).Contents (Elt F)) (x1 : (⟨S8, .f32⟩ : BufTy).Contents (Elt F)) : (⟨S1x32x2x4x128, .f32⟩ : BufTy).Contents (Elt F) :=
  Host.reduceAdd (r_v105 (F := F) x0 x1) (r_cst_21 (F := F)) reducesTo_S1x32x2x4x128x257_S1x32x2x4x128_d5 h_S_
def r_v107 (x0 : (⟨S4096x2816, .bf16⟩ : BufTy).Contents (Elt F)) (x1 : (⟨S8, .f32⟩ : BufTy).Contents (Elt F)) : (⟨S1x32x2x4x128x1, .f32⟩ : BufTy).Contents (Elt F) :=
  broadcastInDim S1x32x2x4x128x1 ![0, 1, 2, 3, 4] bcast_S1x32x2x4x128_S1x32x2x4x128x1_0_1_2_3_4 (r_v106 (F := F) x0 x1)
def r_v108 (x0 : (⟨S4096x2816, .bf16⟩ : BufTy).Contents (Elt F)) (x1 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (r_v107 (F := F) x0 x1)
def r_v109 (x0 : (⟨S4096x2816, .bf16⟩ : BufTy).Contents (Elt F)) (x1 : (⟨S8, .f32⟩ : BufTy).Contents (Elt F)) : (⟨S1x32x2x4x128x257, .f32⟩ : BufTy).Contents (Elt F) :=
  Host.divf (r_v105 (F := F) x0 x1) (r_v108 (F := F) x0 x1)
def r_v110 (x0 : (⟨S4096x2816, .bf16⟩ : BufTy).Contents (Elt F)) (x1 : (⟨S8, .f32⟩ : BufTy).Contents (Elt F)) : (⟨S1x32x2x4x128x1, .f32⟩ : BufTy).Contents (Elt F) :=
  mulf (r_v107 (F := F) x0 x1) (r_v107 (F := F) x0 x1)
def r_cst_22 : (⟨S_, .f32⟩ : BufTy).Contents (Elt F) :=
  constant S_ .f32 0x3F800000#32
def r_v111 : (⟨S1x32x2x4x128x1, .f32⟩ : BufTy).Contents (Elt F) :=
  broadcastInDim S1x32x2x4x128x1 ![] bcast_S_S1x32x2x4x128x1 (r_cst_22 (F := F))
def r_v112 (x0 : (⟨S4096x2816, .bf16⟩ : BufTy).Contents (Elt F)) (x1 : (⟨S8, .f32⟩ : BufTy).Contents (Elt F)) : (⟨S1x32x2x4x128x1, .f32⟩ : BufTy).Contents (Elt F) :=
  Host.divf (r_v111 (F := F)) (r_v110 (F := F) x0 x1)
def r_v113 (x0 : (⟨S4096x2816, .bf16⟩ : BufTy).Contents (Elt F)) (x1 : (⟨S8, .f32⟩ : BufTy).Contents (Elt F)) : (⟨S1x32x2x4x128x256, .f32⟩ : BufTy).Contents (Elt F) :=
  extractStridedSlice S1x32x2x4x128x256 ![0, 0, 0, 0, 0, 0] (r_v109 (F := F) x0 x1) slices_S1x32x2x4x128x257_S1x32x2x4x128x256_0_0_0_0_0_0
set_option backward.proofsInPublic true in
def r_v117 (x2 : (⟨S4096x1024, .f32⟩ : BufTy).Contents (Elt F)) : (⟨S4096x512, .f32⟩ : BufTy).Contents (Elt F) :=
  extractStridedSlice S4096x512 ![0, 0] (x2) slices_S4096x1024_S4096x512_0_0
set_option backward.proofsInPublic true in
def r_v118 (x2 : (⟨S4096x1024, .f32⟩ : BufTy).Contents (Elt F)) : (⟨S1x4096x512, .f32⟩ : BufTy).Contents (Elt F) :=
  broadcastInDim S1x4096x512 ![1, 2] bcast_S4096x512_S1x4096x512_1_2 (r_v117 (F := F) x2)
def r_v119 (x2 : (⟨S4096x1024, .f32⟩ : BufTy).Contents (Elt F)) : (⟨S1x32x128x2x4x64, .f32⟩ : BufTy).Contents (Elt F) :=
  shapeCast _ (r_v118 (F := F) x2) shapeCasts_S1x4096x512_S1x32x128x2x4x64
def r_v120 (x2 : (⟨S4096x1024, .f32⟩ : BufTy).Contents (Elt F)) : (⟨S1x32x2x64x4x128, .f32⟩ : BufTy).Contents (Elt F) :=
  transpose S1x32x2x64x4x128 [0, 1, 3, 5, 4, 2] (r_v119 (F := F) x2) transposes_S1x32x128x2x4x64_S1x32x2x64x4x128_0_1_3_5_4_2
def r_v121 (x0 : (⟨S4096x2816, .bf16⟩ : BufTy).Contents (Elt F)) (x2 : (⟨S4096x1024, .f32⟩ : BufTy).Contents (Elt F)) : (⟨S1x32x2x4x128x256, .f32⟩ : BufTy).Contents (Elt F) :=
  Host.dotGeneral dot_S1x32x2x64x4x128_S1x32x256x2x64_S1x32x2x4x128x256_3_4_45_2_012_013 none (r_v120 (F := F) x2) (r_v26 (F := F) x0)
def r_v122 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x64x256, .f32⟩ : BufTy).Contents (Elt F) :=
  Host.dotGeneral dot_S1x32x2x64x4x128_S1x32x2x4x128x256_S1x32x2x64x256_45_34_3_5_012_012 none (r_v120 (F := F) x2) (r_v113 (F := F) x0 x1)
def r_v123 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x256x2x64, .f32⟩ : BufTy).Contents (Elt F) :=
  transpose S1x32x256x2x64 [0, 1, 4, 2, 3] (r_v122 (F := F) x0 x1 x2) transposes_S1x32x2x64x256_S1x32x256x2x64_0_1_4_2_3
def r_cst_23 : (⟨S_, .f32⟩ : BufTy).Contents (Elt F) :=
  constant S_ .f32 0x00000000#32
def r_v124 (x0 : (⟨S4096x2816, .bf16⟩ : BufTy).Contents (Elt F)) (x2 : (⟨S4096x1024, .f32⟩ : BufTy).Contents (Elt F)) : (⟨S1x32x2x4x128x257, .f32⟩ : BufTy).Contents (Elt F) :=
  pad S1x32x2x4x128x257 ![0, 0, 0, 0, 0, 0] ![0, 0, 0, 0, 0, 1] ![0, 0, 0, 0, 0, 0] (r_v121 (F := F) x0 x2) (r_cst_23 (F := F)) pads_S1x32x2x4x128x256_S1x32x2x4x128x257_000_000_000_000_000_010 h_S_
def r_v125 (x0 : (⟨S4096x2816, .bf16⟩ : BufTy).Contents (Elt F)) (x1 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (r_v112 (F := F) x0 x1)
def r_v126 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x257, .f32⟩ : BufTy).Contents (Elt F) :=
  mulf (r_v124 (F := F) x0 x2) (r_v125 (F := F) x0 x1)
def r_v127 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x257, .f32⟩ : BufTy).Contents (Elt F) :=
  mulf (r_v126 (F := F) x0 x1 x2) (r_v105 (F := F) x0 x1)
def r_cst_24 : (⟨S_, .f32⟩ : BufTy).Contents (Elt F) :=
  constant S_ .f32 0x00000000#32
def r_v128 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128, .f32⟩ : BufTy).Contents (Elt F) :=
  Host.reduceAdd (r_v127 (F := F) x0 x1 x2) (r_cst_24 (F := F)) reducesTo_S1x32x2x4x128x257_S1x32x2x4x128_d5 h_S_
def r_v129 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x1, .f32⟩ : BufTy).Contents (Elt F) :=
  shapeCast _ (r_v128 (F := F) x0 x1 x2) shapeCasts_S1x32x2x4x128_S1x32x2x4x128x1
def r_v130 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x1, .f32⟩ : BufTy).Contents (Elt F) :=
  Host.negf (r_v129 (F := F) x0 x1 x2)
def r_v131 (x0 : (⟨S4096x2816, .bf16⟩ : BufTy).Contents (Elt F)) (x1 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (r_v107 (F := F) x0 x1)
def r_v132 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x257, .f32⟩ : BufTy).Contents (Elt F) :=
  Host.divf (r_v124 (F := F) x0 x2) (r_v131 (F := F) x0 x1)
def r_cst_25 : (⟨S_, .f32⟩ : BufTy).Contents (Elt F) :=
  constant S_ .f32 0x00000000#32
def r_v133 (x0 : (⟨S4096x2816, .bf16⟩ : BufTy).Contents (Elt F)) (x1 : (⟨S8, .f32⟩ : BufTy).Contents (Elt F)) (x2 : (⟨S4096x1024, .f32⟩ : BufTy).Contents (Elt F)) : (⟨S32x2x4x128, .f32⟩ : BufTy).Contents (Elt F) :=
  Host.reduceAdd (r_v130 (F := F) x0 x1 x2) (r_cst_25 (F := F)) reducesTo_S1x32x2x4x128x1_S32x2x4x128_d0_5 h_S_
def r_v134 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128, .f32⟩ : BufTy).Contents (Elt F) :=
  broadcastInDim S1x32x2x4x128 ![1, 2, 3, 4] bcast_S32x2x4x128_S1x32x2x4x128_1_2_3_4 (r_v133 (F := F) x0 x1 x2)
def r_v135 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x257, .f32⟩ : BufTy).Contents (Elt F) :=
  broadcastInDim S1x32x2x4x128x257 ![0, 1, 2, 3, 4] bcast_S1x32x2x4x128_S1x32x2x4x128x257_0_1_2_3_4 (r_v134 (F := F) x0 x1 x2)
def r_v136 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x257, .f32⟩ : BufTy).Contents (Elt F) :=
  addf (r_v132 (F := F) x0 x1 x2) (r_v135 (F := F) x0 x1 x2)
def r_v137 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x257, .f32⟩ : BufTy).Contents (Elt F) :=
  mulf (r_v136 (F := F) x0 x1 x2) (r_v105 (F := F) x0 x1)
def r_v138 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x256, .f32⟩ : BufTy).Contents (Elt F) :=
  extractStridedSlice S1x32x2x4x128x256 ![0, 0, 0, 0, 0, 0] (r_v137 (F := F) x0 x1 x2) slices_S1x32x2x4x128x257_S1x32x2x4x128x256_0_0_0_0_0_0
set_option backward.proofsInPublic true in
def r_v139 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x1, .f32⟩ : BufTy).Contents (Elt F) :=
  extractStridedSlice S1x32x2x4x128x1 ![0, 0, 0, 0, 0, 256] (r_v137 (F := F) x0 x1 x2) slices_S1x32x2x4x128x257_S1x32x2x4x128x1_0_0_0_0_0_256
set_option backward.proofsInPublic true in
def r_cst_26 : (⟨S_, .f32⟩ : BufTy).Contents (Elt F) :=
  constant S_ .f32 0x00000000#32
def r_v140 (x0 : (⟨S4096x2816, .bf16⟩ : BufTy).Contents (Elt F)) (x1 : (⟨S8, .f32⟩ : BufTy).Contents (Elt F)) (x2 : (⟨S4096x1024, .f32⟩ : BufTy).Contents (Elt F)) : (⟨S2x4, .f32⟩ : BufTy).Contents (Elt F) :=
  Host.reduceAdd (r_v139 (F := F) x0 x1 x2) (r_cst_26 (F := F)) reducesTo_S1x32x2x4x128x1_S2x4_d0_1_4_5 h_S_
def r_v141 (x0 : (⟨S4096x2816, .bf16⟩ : BufTy).Contents (Elt F)) (x1 : (⟨S8, .f32⟩ : BufTy).Contents (Elt F)) (x2 : (⟨S4096x1024, .f32⟩ : BufTy).Contents (Elt F)) : (⟨S2x4x1x1, .f32⟩ : BufTy).Contents (Elt F) :=
  broadcastInDim S2x4x1x1 ![0, 1] bcast_S2x4_S2x4x1x1_0_1 (r_v140 (F := F) x0 x1 x2)
def r_cst_27 : (⟨S_, .f32⟩ : BufTy).Contents (Elt F) :=
  constant S_ .f32 0x00000000#32
def r_v142 (x0 : (⟨S4096x2816, .bf16⟩ : BufTy).Contents (Elt F)) (x1 : (⟨S8, .f32⟩ : BufTy).Contents (Elt F)) (x2 : (⟨S4096x1024, .f32⟩ : BufTy).Contents (Elt F)) : (⟨S2x4, .f32⟩ : BufTy).Contents (Elt F) :=
  Host.reduceAdd (r_v141 (F := F) x0 x1 x2) (r_cst_27 (F := F)) reducesTo_S2x4x1x1_S2x4_d2_3 h_S_
def r_v143 (x0 : (⟨S4096x2816, .bf16⟩ : BufTy).Contents (Elt F)) (x1 : (⟨S8, .f32⟩ : BufTy).Contents (Elt F)) (x2 : (⟨S4096x1024, .f32⟩ : BufTy).Contents (Elt F)) : (⟨S8, .f32⟩ : BufTy).Contents (Elt F) :=
  shapeCast _ (r_v142 (F := F) x0 x1 x2) shapeCasts_S2x4_S8
set_option backward.proofsInPublic true in
def r_call1_cst : (⟨S_, .f32⟩ : BufTy).Contents (Elt F) :=
  constant S_ .f32 0x00000000#32
def r_call1_v0 : (⟨S1x32x2x4x128x256, .f32⟩ : BufTy).Contents (Elt F) :=
  broadcastInDim S1x32x2x4x128x256 ![] bcast_S_S1x32x2x4x128x256 (r_call1_cst (F := F))
def r_v144 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x256, .f32⟩ : BufTy).Contents (Elt F) :=
  select (r_v80_1 (F := F)) (r_v138 (F := F) x0 x1 x2) (r_call1_v0 (F := F))
def r_cst_28 : (⟨S_, .f32⟩ : BufTy).Contents (Elt F) :=
  constant S_ .f32 0x3E000000#32
def r_v145 : (⟨S1x32x2x4x128x256, .f32⟩ : BufTy).Contents (Elt F) :=
  broadcastInDim S1x32x2x4x128x256 ![] bcast_S_S1x32x2x4x128x256 (r_cst_28 (F := F))
def r_v146 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x4x128x256, .f32⟩ : BufTy).Contents (Elt F) :=
  mulf (r_v144 (F := F) x0 x1 x2) (r_v145 (F := F))
def r_v147 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x256x128x4, .f32⟩ : BufTy).Contents (Elt F) :=
  transpose S1x32x2x256x128x4 [0, 1, 2, 5, 4, 3] (r_v146 (F := F) x0 x1 x2) transposes_S1x32x2x4x128x256_S1x32x2x256x128x4_0_1_2_5_4_3
def r_v148 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x128x4x64, .f32⟩ : BufTy).Contents (Elt F) :=
  Host.dotGeneral dot_S1x32x2x256x128x4_S1x32x256x2x64_S1x32x2x128x4x64_3_2_45_4_012_013 none (r_v147 (F := F) x0 x1 x2) (r_v19 (F := F) x0)
def r_v149 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x4x64, .f32⟩ : BufTy).Contents (Elt F) :=
  transpose S1x32x128x2x4x64 [0, 1, 3, 2, 4, 5] (r_v148 (F := F) x0 x1 x2) transposes_S1x32x2x128x4x64_S1x32x128x2x4x64_0_1_3_2_4_5
def r_v150 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x2x256x64, .f32⟩ : BufTy).Contents (Elt F) :=
  Host.dotGeneral dot_S1x32x2x256x128x4_S1x32x128x2x4x64_S1x32x2x256x64_45_24_3_5_012_013 none (r_v147 (F := F) x0 x1 x2) (r_v12 (F := F) x0)
def r_v151 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x256x2x64, .f32⟩ : BufTy).Contents (Elt F) :=
  transpose S1x32x256x2x64 [0, 1, 3, 2, 4] (r_v150 (F := F) x0 x1 x2) transposes_S1x32x2x256x64_S1x32x256x2x64_0_1_3_2_4
def r_v152 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  extractStridedSlice S1x32x128x2x64 ![0, 0, 0, 0, 0] (r_v123 (F := F) x0 x1 x2) slices_S1x32x256x2x64_S1x32x128x2x64_0_0_0_0_0
set_option backward.proofsInPublic true in
def r_v153 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  extractStridedSlice S1x32x128x2x64 ![0, 0, 128, 0, 0] (r_v123 (F := F) x0 x1 x2) slices_S1x32x256x2x64_S1x32x128x2x64_0_0_128_0_0
set_option backward.proofsInPublic true in
def r_v155 (x0 : (⟨S4096x2816, .bf16⟩ : BufTy).Contents (Elt F)) (x1 : (⟨S8, .f32⟩ : BufTy).Contents (Elt F)) (x2 : (⟨S4096x1024, .f32⟩ : BufTy).Contents (Elt F)) : (⟨S1x31x128x2x64, .f32⟩ : BufTy).Contents (Elt F) :=
  extractStridedSlice S1x31x128x2x64 ![0, 1, 0, 0, 0] (r_v152 (F := F) x0 x1 x2) slices_S1x32x128x2x64_S1x31x128x2x64_0_1_0_0_0
set_option backward.proofsInPublic true in
def r_cst_29 : (⟨S_, .f32⟩ : BufTy).Contents (Elt F) :=
  constant S_ .f32 0x00000000#32
def r_v156 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  pad S1x32x128x2x64 ![0, 0, 0, 0, 0] ![0, 1, 0, 0, 0] ![0, 0, 0, 0, 0] (r_v155 (F := F) x0 x1 x2) (r_cst_29 (F := F)) pads_S1x31x128x2x64_S1x32x128x2x64_000_010_000_000_000 h_S_
def r_v157 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  addf (r_v153 (F := F) x0 x1 x2) (r_v156 (F := F) x0 x1 x2)
def r_v158 (x0 : (⟨S4096x2816, .bf16⟩ : BufTy).Contents (Elt F)) (x1 : (⟨S8, .f32⟩ : BufTy).Contents (Elt F)) (x2 : (⟨S4096x1024, .f32⟩ : BufTy).Contents (Elt F)) : (⟨S1x4096x2x64, .f32⟩ : BufTy).Contents (Elt F) :=
  shapeCast _ (r_v157 (F := F) x0 x1 x2) shapeCasts_S1x32x128x2x64_S1x4096x2x64
set_option backward.proofsInPublic true in
def r_v159 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  extractStridedSlice S1x32x128x2x64 ![0, 0, 0, 0, 0] (r_v151 (F := F) x0 x1 x2) slices_S1x32x256x2x64_S1x32x128x2x64_0_0_0_0_0
set_option backward.proofsInPublic true in
def r_v160 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  extractStridedSlice S1x32x128x2x64 ![0, 0, 128, 0, 0] (r_v151 (F := F) x0 x1 x2) slices_S1x32x256x2x64_S1x32x128x2x64_0_0_128_0_0
set_option backward.proofsInPublic true in
def r_v162 (x0 : (⟨S4096x2816, .bf16⟩ : BufTy).Contents (Elt F)) (x1 : (⟨S8, .f32⟩ : BufTy).Contents (Elt F)) (x2 : (⟨S4096x1024, .f32⟩ : BufTy).Contents (Elt F)) : (⟨S1x31x128x2x64, .f32⟩ : BufTy).Contents (Elt F) :=
  extractStridedSlice S1x31x128x2x64 ![0, 1, 0, 0, 0] (r_v159 (F := F) x0 x1 x2) slices_S1x32x128x2x64_S1x31x128x2x64_0_1_0_0_0
set_option backward.proofsInPublic true in
def r_cst_30 : (⟨S_, .f32⟩ : BufTy).Contents (Elt F) :=
  constant S_ .f32 0x00000000#32
def r_v163 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  pad S1x32x128x2x64 ![0, 0, 0, 0, 0] ![0, 1, 0, 0, 0] ![0, 0, 0, 0, 0] (r_v162 (F := F) x0 x1 x2) (r_cst_30 (F := F)) pads_S1x31x128x2x64_S1x32x128x2x64_000_010_000_000_000 h_S_
def r_v164 (x0 : (⟨S4096x2816, .bf16⟩ : BufTy).Contents (Elt F)) (x1 : (⟨S8, .f32⟩ : BufTy).Contents (Elt F)) (x2 : (⟨S4096x1024, .f32⟩ : BufTy).Contents (Elt F)) : (⟨S1x32x128x2x64, .f32⟩ : BufTy).Contents (Elt F) :=
  addf (r_v160 (F := F) x0 x1 x2) (r_v163 (F := F) x0 x1 x2)
def r_v165 (x0 : (⟨S4096x2816, .bf16⟩ : BufTy).Contents (Elt F)) (x1 : (⟨S8, .f32⟩ : BufTy).Contents (Elt F)) (x2 : (⟨S4096x1024, .f32⟩ : BufTy).Contents (Elt F)) : (⟨S1x4096x2x64, .f32⟩ : BufTy).Contents (Elt F) :=
  shapeCast _ (r_v164 (F := F) x0 x1 x2) shapeCasts_S1x32x128x2x64_S1x4096x2x64
set_option backward.proofsInPublic true in
def r_v166 (x0 : (⟨S4096x2816, .bf16⟩ : BufTy).Contents (Elt F)) (x1 : (⟨S8, .f32⟩ : BufTy).Contents (Elt F)) (x2 : (⟨S4096x1024, .f32⟩ : BufTy).Contents (Elt F)) : (⟨S1x4096x8x64, .f32⟩ : BufTy).Contents (Elt F) :=
  shapeCast _ (r_v149 (F := F) x0 x1 x2) shapeCasts_S1x32x128x2x4x64_S1x4096x8x64
def r_v167 (x0 : (⟨S4096x2816, .bf16⟩ : BufTy).Contents (Elt F)) (x1 : (⟨S8, .f32⟩ : BufTy).Contents (Elt F)) (x2 : (⟨S4096x1024, .f32⟩ : BufTy).Contents (Elt F)) : (⟨S1x4096x128, .f32⟩ : BufTy).Contents (Elt F) :=
  shapeCast _ (r_v158 (F := F) x0 x1 x2) shapeCasts_S1x4096x2x64_S1x4096x128
set_option backward.proofsInPublic true in
def r_v168 (x0 : (⟨S4096x2816, .bf16⟩ : BufTy).Contents (Elt F)) (x1 : (⟨S8, .f32⟩ : BufTy).Contents (Elt F)) (x2 : (⟨S4096x1024, .f32⟩ : BufTy).Contents (Elt F)) : (⟨S1x4096x128, .f32⟩ : BufTy).Contents (Elt F) :=
  shapeCast _ (r_v165 (F := F) x0 x1 x2) shapeCasts_S1x4096x2x64_S1x4096x128
set_option backward.proofsInPublic true in
def r_v169 (x0 : (⟨S4096x2816, .bf16⟩ : BufTy).Contents (Elt F)) (x1 : (⟨S8, .f32⟩ : BufTy).Contents (Elt F)) (x2 : (⟨S4096x1024, .f32⟩ : BufTy).Contents (Elt F)) : (⟨S1x4096x512, .f32⟩ : BufTy).Contents (Elt F) :=
  shapeCast _ (r_v166 (F := F) x0 x1 x2) shapeCasts_S1x4096x8x64_S1x4096x512
set_option backward.proofsInPublic true in
def r_v170 (x0 : (⟨S4096x2816, .bf16⟩ : BufTy).Contents (Elt F)) (x1 : (⟨S8, .f32⟩ : BufTy).Contents (Elt F)) (x2 : (⟨S4096x1024, .f32⟩ : BufTy).Contents (Elt F)) : (⟨S4096x512, .f32⟩ : BufTy).Contents (Elt F) :=
  shapeCast _ (r_v169 (F := F) x0 x1 x2) shapeCasts_S1x4096x512_S4096x512
set_option backward.proofsInPublic true in
def r_v171 (x0 : (⟨S4096x2816, .bf16⟩ : BufTy).Contents (Elt F)) (x1 : (⟨S8, .f32⟩ : BufTy).Contents (Elt F)) (x2 : (⟨S4096x1024, .f32⟩ : BufTy).Contents (Elt F)) : (⟨S4096x128, .f32⟩ : BufTy).Contents (Elt F) :=
  shapeCast _ (r_v168 (F := F) x0 x1 x2) shapeCasts_S1x4096x128_S4096x128
set_option backward.proofsInPublic true in
def r_v172 (x0 : (⟨S4096x2816, .bf16⟩ : BufTy).Contents (Elt F)) (x1 : (⟨S8, .f32⟩ : BufTy).Contents (Elt F)) (x2 : (⟨S4096x1024, .f32⟩ : BufTy).Contents (Elt F)) : (⟨S4096x128, .f32⟩ : BufTy).Contents (Elt F) :=
  shapeCast _ (r_v167 (F := F) x0 x1 x2) shapeCasts_S1x4096x128_S4096x128
set_option backward.proofsInPublic true in
def r_v173 (x0 : (⟨S4096x2816, .bf16⟩ : BufTy).Contents (Elt F)) (x1 : (⟨S8, .f32⟩ : BufTy).Contents (Elt F)) (x2 : (⟨S4096x1024, .f32⟩ : BufTy).Contents (Elt F)) : (⟨S4096x768, .f32⟩ : BufTy).Contents (Elt F) :=
  (concatenate S4096x768 1 [⟨S4096x512, ((r_v170 (F := F) x0 x1 x2) : (⟨S4096x512, .f32⟩ : BufTy).Contents (Elt F))⟩, ⟨S4096x128, ((r_v171 (F := F) x0 x1 x2) : (⟨S4096x128, .f32⟩ : BufTy).Contents (Elt F))⟩, ⟨S4096x128, ((r_v172 (F := F) x0 x1 x2) : (⟨S4096x128, .f32⟩ : BufTy).Contents (Elt F))⟩] concatenates_S4096x512_S4096x128_S4096x128_S4096x768_d1 : (⟨S4096x768, .f32⟩ : BufTy).Contents (Elt F))
def r_v174 (x0 : (⟨S4096x2816, .bf16⟩ : BufTy).Contents (Elt F)) (x1 : (⟨S8, .f32⟩ : BufTy).Contents (Elt F)) (x2 : (⟨S4096x1024, .f32⟩ : BufTy).Contents (Elt F)) : (⟨S4096x768, .bf16⟩ : BufTy).Contents (Elt F) :=
  truncf .bf16 (r_v173 (F := F) x0 x1 x2) bitsLt_bf16_f32
def r_v175 (x3 : (⟨S4096x2944, .bf16⟩ : BufTy).Contents (Elt F)) : (⟨S4096x2176, .bf16⟩ : BufTy).Contents (Elt F) :=
  extractStridedSlice S4096x2176 ![0, 768] (x3) slices_S4096x2944_S4096x2176_0_768
set_option backward.proofsInPublic true in
def r_v176 (x0 : (⟨S4096x2816, .bf16⟩ : BufTy).Contents (Elt F)) (x1 : (⟨S8, .f32⟩ : BufTy).Contents (Elt F)) (x2 : (⟨S4096x1024, .f32⟩ : BufTy).Contents (Elt F)) (x3 : (⟨S4096x2944, .bf16⟩ : BufTy).Contents (Elt F)) : (⟨S4096x2944, .bf16⟩ : BufTy).Contents (Elt F) :=
  concatenate S4096x2944 1 [⟨S4096x768, (r_v174 (F := F) x0 x1 x2)⟩, ⟨S4096x2176, (r_v175 (F := F) x3)⟩] concatenates_S4096x768_S4096x2176_S4096x2944_d1
def r_c_31 : (⟨S_, .i32⟩ : BufTy).Contents (Elt F) :=
  constantI S_ 32 0#32
def r_call2_v0 : (⟨S_, .f32⟩ : BufTy).Contents (Elt F) :=
  sitofp .f32 (r_c_31 (F := F))
def r_v177 (x0 : (⟨S4096x2816, .bf16⟩ : BufTy).Contents (Elt F)) (x1 : (⟨S8, .f32⟩ : BufTy).Contents (Elt F)) (x2 : (⟨S4096x1024, .f32⟩ : BufTy).Contents (Elt F)) : (⟨S128, .f32⟩ : BufTy).Contents (Elt F) :=
  pad S128 ![0] ![120] ![0] (r_v143 (F := F) x0 x1 x2) (r_call2_v0 (F := F)) pads_S8_S128_01200 h_S_
def r_v178 (x0 : (⟨S4096x2816, .bf16⟩ : BufTy).Contents (Elt F)) (x1 : (⟨S8, .f32⟩ : BufTy).Contents (Elt F)) (x2 : (⟨S4096x1024, .f32⟩ : BufTy).Contents (Elt F)) : (⟨S1x128, .f32⟩ : BufTy).Contents (Elt F) :=
  broadcastInDim S1x128 ![1] bcast_S128_S1x128_1 (r_v177 (F := F) x0 x1 x2)

/-- The term that the run states for this result is the stage above. -/
theorem r_v176_eq (V0 : Valuation τ sig (Elt F)) :
    concatenate S4096x2944 1 [⟨S4096x768, (truncf .bf16 ((concatenate S4096x768 1 [⟨S4096x512, ((shapeCast _ (shapeCast _ (shapeCast _ (transpose S1x32x128x2x4x64 [0, 1, 3, 2, 4, 5] (Host.dotGeneral dot_S1x32x2x256x128x4_S1x32x256x2x64_S1x32x2x128x4x64_3_2_45_4_012_013 none (Cert.ReferenceIdeal.Value.res_main_v147 V0) (Cert.ReferenceIdeal.Value.res_main_v19 V0)) transposes_S1x32x2x128x4x64_S1x32x128x2x4x64_0_1_3_2_4_5) shapeCasts_S1x32x128x2x4x64_S1x4096x8x64) shapeCasts_S1x4096x8x64_S1x4096x512) shapeCasts_S1x4096x512_S4096x512) : (⟨S4096x512, .f32⟩ : BufTy).Contents (Elt F))⟩, ⟨S4096x128, ((shapeCast _ (shapeCast _ (shapeCast _ (addf (extractStridedSlice S1x32x128x2x64 ![0, 0, 128, 0, 0] (Cert.ReferenceIdeal.Value.res_main_v151 V0) slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (Cert.ReferenceIdeal.Value.res_main_v159 V0) slices_S1x32x128x2x64_S1x31x128x2x64_0_1_0_0_0) (constant S_ .f32 0x00000000#32) pads_S1x31x128x2x64_S1x32x128x2x64_000_010_000_000_000 h_S_)) shapeCasts_S1x32x128x2x64_S1x4096x2x64) shapeCasts_S1x4096x2x64_S1x4096x128) shapeCasts_S1x4096x128_S4096x128) : (⟨S4096x128, .f32⟩ : BufTy).Contents (Elt F))⟩, ⟨S4096x128, ((shapeCast _ (shapeCast _ (shapeCast _ (addf (extractStridedSlice S1x32x128x2x64 ![0, 0, 128, 0, 0] (Cert.ReferenceIdeal.Value.res_main_v123 V0) slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (Cert.ReferenceIdeal.Value.res_main_v152 V0) slices_S1x32x128x2x64_S1x31x128x2x64_0_1_0_0_0) (constant S_ .f32 0x00000000#32) pads_S1x31x128x2x64_S1x32x128x2x64_000_010_000_000_000 h_S_)) shapeCasts_S1x32x128x2x64_S1x4096x2x64) shapeCasts_S1x4096x2x64_S1x4096x128) shapeCasts_S1x4096x128_S4096x128) : (⟨S4096x128, .f32⟩ : BufTy).Contents (Elt F))⟩] concatenates_S4096x512_S4096x128_S4096x128_S4096x768_d1 : (⟨S4096x768, .f32⟩ : BufTy).Contents (Elt F))) bitsLt_bf16_f32)⟩, ⟨S4096x2176, (extractStridedSlice S4096x2176 ![0, 768] (V0 (Proc.devRef .tc main_arg3)) slices_S4096x2944_S4096x2176_0_768)⟩] concatenates_S4096x768_S4096x2176_S4096x2944_d1
      = r_v176 (F := F) (V0 (Proc.devRef .tc main_arg0)) (V0 (Proc.devRef .tc main_arg1)) (V0 (Proc.devRef .tc main_arg2)) (V0 (Proc.devRef .tc main_arg3)) := rfl

/-- The term that the run states for this result is the stage above. -/
theorem r_v178_eq (V0 : Valuation τ sig (Elt F)) :
    broadcastInDim S1x128 ![1] bcast_S128_S1x128_1 (pad S128 ![0] ![120] ![0] (shapeCast _ (Host.reduceAdd (broadcastInDim S2x4x1x1 ![0, 1] bcast_S2x4_S2x4x1x1_0_1 (Host.reduceAdd (extractStridedSlice S1x32x2x4x128x1 ![0, 0, 0, 0, 0, 256] (Cert.ReferenceIdeal.Value.res_main_v137 V0) slices_S1x32x2x4x128x257_S1x32x2x4x128x1_0_0_0_0_0_256) (constant S_ .f32 0x00000000#32) reducesTo_S1x32x2x4x128x1_S2x4_d0_1_4_5 h_S_)) (constant S_ .f32 0x00000000#32) reducesTo_S2x4x1x1_S2x4_d2_3 h_S_) shapeCasts_S2x4_S8) (sitofp .f32 (constantI S_ 32 0#32)) pads_S8_S128_01200 h_S_)
      = r_v178 (F := F) (V0 (Proc.devRef .tc main_arg0)) (V0 (Proc.devRef .tc main_arg1)) (V0 (Proc.devRef .tc main_arg2)) := rfl

end Cert.ReferenceIdeal.Swa

end
-- ==== Proof.Ref.Reduce.lean ====
module

public import Idealize.ShloMosaic.Lib.Pointwise
public import Idealize.ShloMosaic.Lib.Claim

@[expose] public section

noncomputable section

namespace Cert.Row

open Idealize.ShloMosaic

/-! Reductions of arrays of rank 6, read at an index. -/

section
variable {a0 a1 a2 a3 a4 a5 : Nat} (z : Fin a0) (n : Fin a1) (h : Fin a2) (g : Fin a3) (r : Fin a4)

theorem drop5 (R : (⟨6, ![a0, a1, a2, a3, a4, a5]⟩ : Shape).ReducesTo [5] ⟨5, ![a0, a1, a2, a3, a4]⟩) (i : (⟨6, ![a0, a1, a2, a3, a4, a5]⟩ : Shape).Idx) :
    R.drop i = ix5 z n h g r ↔ ∃ k : Fin a5, ix6 z n h g r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem ix6_inj : Function.Injective fun k : Fin a5 => ix6 z n h g r k := fun _ _ e => congrFun e 5

/-- A sum over the last axis. -/
theorem sum5 {u : Shape} (v : FVec Ideal ⟨6, ![a0, a1, a2, a3, a4, a5]⟩ .f32) (b : FVec Ideal u .f32)
    (R : (⟨6, ![a0, a1, a2, a3, a4, a5]⟩ : Shape).ReducesTo [5] ⟨5, ![a0, a1, a2, a3, a4]⟩) (hu : 0 < u.numel) :
    Host.reduceAdd v b R hu (ix5 z n h g r) = (b (Shape.Idx.first hu) : EReal) + ∑ k : Fin a5, (v (ix6 z n h g r k) : EReal) := by
  rw [Host.reduceAdd_apply, Ideal.hostReduceAdd_def]
  exact congrArg (b (Shape.Idx.first hu) + ·) (Finset.sum_filter_eq_sum_of_fiber _ _ (ix6_inj z n h g r) (drop5 z n h g r R) v)

/-- A maximum over the last axis. -/
theorem max5 {u : Shape} (v : FVec Ideal ⟨6, ![a0, a1, a2, a3, a4, a5]⟩ .f32) (b : FVec Ideal u .f32)
    (R : (⟨6, ![a0, a1, a2, a3, a4, a5]⟩ : Shape).ReducesTo [5] ⟨5, ![a0, a1, a2, a3, a4]⟩) (hu : 0 < u.numel) :
    Host.reduce FloatOps.maximumf v b R hu (ix5 z n h g r)
      = Finset.fold max (b (Shape.Idx.first hu) : EReal) (fun k : Fin a5 => (v (ix6 z n h g r k) : EReal)) Finset.univ := by
  rw [Host.reduce_eq_fold]
  exact Finset.fold_filter_eq_fold_of_fiber max _ _ (ix6_inj z n h g r) (drop5 z n h g r R) _ v

end

section
variable {a1 a2 a3 a4 : Nat} (n : Fin a1) (h : Fin a2) (g : Fin a3) (r : Fin a4)

/-- A sum over the first and the last axis, both of one element. -/
theorem sum05 {u : Shape} (v : FVec Ideal ⟨6, ![1, a1, a2, a3, a4, 1]⟩ .f32) (b : FVec Ideal u .f32)
    (R : (⟨6, ![1, a1, a2, a3, a4, 1]⟩ : Shape).ReducesTo [0, 5] ⟨4, ![a1, a2, a3, a4]⟩) (hu : 0 < u.numel) :
    Host.reduceAdd v b R hu (ix4 n h g r) = (b (Shape.Idx.first hu) : EReal) + v (ix6 0 n h g r 0) := by
  rw [Host.reduceAdd_apply, Ideal.hostReduceAdd_def]
  refine congrArg (b (Shape.Idx.first hu) + ·) ((Finset.sum_filter_eq_sum_of_fiber _ (fun _ : Unit => ix6 0 n h g r 0)
    (fun _ _ _ => rfl) (fun i => ?_) v).trans (Finset.sum_const _ |>.trans (one_nsmul _)))
  constructor
  · intro e
    refine ⟨(), ?_⟩
    funext a; apply Fin.ext
    match a with
    | ⟨0, _⟩ => exact (Nat.lt_one_iff.1 (i 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.1 (i 5).isLt).symm
  · rintro ⟨k, rfl⟩
    funext b
    apply Fin.ext
    match b with
    | ⟨0, _⟩ => rfl
    | ⟨1, _⟩ => rfl
    | ⟨2, _⟩ => rfl
    | ⟨3, _⟩ => rfl

/-- A sum over the blocks and the rows. -/
theorem sum0145 {u : Shape} (v : FVec Ideal ⟨6, ![1, a1, a2, a3, a4, 1]⟩ .f32) (b : FVec Ideal u .f32)
    (R : (⟨6, ![1, a1, a2, a3, a4, 1]⟩ : Shape).ReducesTo [0, 1, 4, 5] ⟨2, ![a2, a3]⟩) (hu : 0 < u.numel) :
    Host.reduceAdd v b R hu (ix2 h g) = (b (Shape.Idx.first hu) : EReal) + ∑ n : Fin a1, ∑ r : Fin a4, (v (ix6 0 n h g r 0) : EReal) := by
  rw [Host.reduceAdd_apply, Ideal.hostReduceAdd_def]
  refine congrArg (b (Shape.Idx.first hu) + ·) ((Finset.sum_filter_eq_sum_of_fiber _ (fun p : Fin a1 × Fin a4 => ix6 0 p.1 h g p.2 0)
    (fun p q e => Prod.ext (congrFun (show ix6 (0 : Fin 1) p.1 h g p.2 (0 : Fin 1) = ix6 0 q.1 h g q.2 0 from e) 1) (congrFun (show ix6 (0 : Fin 1) p.1 h g p.2 (0 : Fin 1) = ix6 0 q.1 h g q.2 0 from e) 4)) (fun i => ?_) v).trans (Fintype.sum_prod_type _))
  constructor
  · intro e
    refine ⟨(i 1, i 4), ?_⟩
    funext a; apply Fin.ext
    match a with
    | ⟨0, _⟩ => exact (Nat.lt_one_iff.1 (i 0).isLt).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (Nat.lt_one_iff.1 (i 5).isLt).symm
  · rintro ⟨k, rfl⟩
    funext b
    apply Fin.ext
    match b with
    | ⟨0, _⟩ => rfl
    | ⟨1, _⟩ => rfl

end

/-- The largest of a row and one more. -/
theorem fold_max_last {n : Nat} (f : Fin (n + 1) → EReal) :
    Finset.fold max ⊥ f Finset.univ = max (Finset.fold max ⊥ (fun k : Fin n => f k.castSucc) Finset.univ) (f (Fin.last n)) := by
  refine eq_of_forall_ge_iff fun c => ?_
  simp only [max_le_iff, Finset.fold_max_le, bot_le, true_and, Finset.mem_univ, true_implies]
  exact Fin.forall_fin_succ'

end Cert.Row

end
-- ==== Proof.Ref.Read.lean ====
module

public import proofs.«01_k».proof.Proof.Ref.Val
public import Idealize.ShloMosaic.Lib.Pointwise
public import Idealize.ShloMosaic.Lib.Claim
public import Idealize.ShloMosaic.Lib.Tactic.CleanTypes
public import proofs.«01_k».proof.Proof.Ref.Reduce
public import proofs.«01_k».proof.Proof.Row.Spec
public import Idealize.ShloMosaic.Lib.WordCmp

@[expose] public section

set_option maxRecDepth 16384

noncomputable section

namespace Cert.ReferenceIdeal.Swa

open Cert.ReferenceIdeal Cert.ReferenceIdeal.Gen Idealize.ShloMosaic Idealize.SL.Sem Cert.Row

variable (x0 : FVec Ideal S4096x2816 .bf16) (x1 : FVec Ideal S8 .f32) (x2 : FVec Ideal S4096x1024 .f32) (x3 : FVec Ideal S4096x2944 .bf16)
variable (n : Fin 32) (r : Fin 128) (h : Fin 2) (g : Fin 4) (d : Fin 64) (c : Fin 256) (z : Fin 1)

/-! The stages of the reference, read at an index. -/

/-- The word of −∞. -/
theorem ninf : Ideal.ofBits .f32 0xFF800000#32 = (⊥ : EReal) := by simp [Ideal.ofBits, Ideal.ieee]

/-- A query. -/
theorem v12_apply : r_v12 (F := Ideal) x0 (ix6 z n r h g d) = x0 (ix2 ⟨n*128+r, by omega⟩ ⟨h*256+g*64+d, by omega⟩) := by
  unfold r_v12 r_v9 r_v4 r_v3 r_v0
  clean_types
  pointwise

/-- A key: of the block before (zero in the first block), or of the block itself. -/
theorem v19_apply : r_v19 (F := Ideal) x0 (ix5 z n c h d) = if hc : c.val < 128 then (if hn : n.val < 1 then (0 : EReal) else x0 (ix2 ⟨(n-1)*128+c, by omega⟩ ⟨512+(h*64+d), by omega⟩)) else x0 (ix2 ⟨n*128+(c-128), by omega⟩ ⟨512+(h*64+d), by omega⟩) := by
  unfold r_v19 r_v17 r_v16 r_v15 r_v13 r_v10 r_v6 r_v5 r_v1 r_cst
  clean_types
  pointwise

/-- A value, likewise. -/
theorem v26_apply : r_v26 (F := Ideal) x0 (ix5 z n c h d) = if hc : c.val < 128 then (if hn : n.val < 1 then (0 : EReal) else x0 (ix2 ⟨(n-1)*128+c, by omega⟩ ⟨640+(h*64+d), by omega⟩)) else x0 (ix2 ⟨n*128+(c-128), by omega⟩ ⟨640+(h*64+d), by omega⟩) := by
  unfold r_v26 r_v24 r_v23 r_v22 r_v20 r_v11 r_v8 r_v7 r_v2 r_cst_1
  clean_types
  pointwise

/-- The mask. -/
theorem v58_apply : r_v58 (F := Ideal) (ix3 n r c) = IntOp.andi (IntOp.andi (IntOp.cmpi .sge (IntOp.subi (IntOp.addi (BitVec.ofNat 32 r) 128#32) (BitVec.ofNat 32 c)) 0#32) (IntOp.cmpi .slt (IntOp.subi (IntOp.addi (BitVec.ofNat 32 r) 128#32) (BitVec.ofNat 32 c)) 128#32)) (IntOp.ori (IntOp.cmpi .sgt (BitVec.ofNat 32 n) 0#32) (IntOp.cmpi .sge (BitVec.ofNat 32 c) 128#32)) := by
  unfold r_v58 r_v57 r_v56 r_v55 r_v54 r_v53 r_v52 r_v51 r_v50 r_v49 r_v48 r_v47 r_v46 r_v45 r_v44 r_v43 r_v42 r_v41 r_v40 r_v39 r_v38 r_v37 r_v36 r_v35 r_v34 r_v33 r_v32 r_v31 r_c r_c_4 r_c_5 r_c_6 r_c_7
  clean_types
  pointwise

/-- The bias of a distance. -/
theorem v75_apply : r_v75 (F := Ideal) (ix4 h g r c) = -Ideal.pow (Ideal.ofBits .f32 1073741824#32) (Ideal.div (Ideal.ofBits .f32 3238002688#32 * ((1 : EReal) + (FloatOps.sitofp .f32 (BitVec.ofNat 32 (h*4+g)) : Ideal .f32))) (Ideal.ofBits .f32 1090519040#32)) * (FloatOps.sitofp .f32 (IntOp.subi (IntOp.addi (BitVec.ofNat 32 r) 128#32) (BitVec.ofNat 32 c)) : Ideal .f32) := by
  unfold r_v75 r_v74 r_v73 r_v72 r_v71 r_v70 r_v69 r_v68 r_v67 r_v66 r_v65 r_v64 r_v63 r_v62 r_v61 r_v60 r_v59 r_cst_8 r_cst_9 r_cst_10 r_cst_11 r_v39 r_v38 r_v37 r_v36 r_v35 r_v34 r_v33 r_v32 r_v31 r_c
  clean_types
  pointwise

/-- A masked score. -/
theorem v80_apply : r_v80_0 (F := Ideal) x0 (ix6 z n h g r c) = Scalar.select (r_v58 (F := Ideal) (ix3 n r c)) ((∑ d : Fin 64, (r_v12 (F := Ideal) x0 (ix6 0 n r h g d) : EReal) * r_v19 (F := Ideal) x0 (ix5 0 n c h d)) * Blk.sc + r_v75 (F := Ideal) (ix4 h g r c)) ⊥ := by
  have e : ∀ x, (r_v12 (F := Ideal) x0 (ix6 0 n r h g x) : EReal) * r_v19 (F := Ideal) x0 (ix5 0 n c h x) = r_v19 (F := Ideal) x0 (ix5 0 n c h x) * r_v12 (F := Ideal) x0 (ix6 0 n r h g x) := fun x => mul_comm _ _
  rw [Finset.sum_congr rfl fun x _ => e x, ← ninf]
  unfold r_v80_0 r_v80_1 r_v79 r_v78 r_v77 r_v76 r_v30 r_v29 r_v28 r_v27 r_call0_v2 r_call0_v0 r_cst_3 r_cst_12
  clean_types
  pointwise
  rfl

/-- A row of scores … -/
theorem v84_lt (k : Fin 257) (hk : k.val < 256) : r_v84 (F := Ideal) x0 x1 (ix6 z n h g r k) = r_v80_0 (F := Ideal) x0 (ix6 0 n h g r ⟨k.val, hk⟩) := by
  unfold r_v84
  clean_types
  pointwise
  exact dif_pos hk

/-- … ends in the sink. -/
theorem v84_ge (k : Fin 257) (hk : ¬ k.val < 256) : r_v84 (F := Ideal) x0 x1 (ix6 z n h g r k) = x1 (ix1 ⟨h*4+g, by omega⟩) := by
  unfold r_v84 r_v83 r_v82 r_v81
  clean_types
  pointwise
  first | exact dif_neg hk | (rw [dif_neg hk])

/-- A row's largest. -/
theorem v85_apply : r_v85 (F := Ideal) x0 x1 (ix5 z n h g r) = Finset.fold max (⊥ : EReal) (fun k : Fin 257 => (r_v84 (F := Ideal) x0 x1 (ix6 z n h g r k) : EReal)) Finset.univ := by
  unfold r_v85
  refine (Cert.Row.max5 z n h g r _ _ _ _).trans ?_
  congr 1

/-- The same, once more against −∞. -/
theorem v92_apply : r_v92 (F := Ideal) x0 x1 (ix5 z n h g r) = max ⊥ (r_v85 (F := Ideal) x0 x1 (ix5 z n h g r)) := by
  have e (u w : FVec Ideal S1x32x2x4x128 .f32) (i : S1x32x2x4x128.Idx) : maximumf u w i = max (u i : EReal) (w i) := rfl
  have e' (i : S1x32x2x4x128.Idx) : r_v91 (F := Ideal) i = (⊥ : EReal) := ninf
  have e3 : r_v92 (F := Ideal) x0 x1 (ix5 z n h g r) = max (r_v91 (F := Ideal) (ix5 z n h g r) : EReal) (r_v85 (F := Ideal) x0 x1 (ix5 z n h g r)) := by
    unfold r_v92
    exact e _ _ _
  rw [e3, e']

/-- An exponential. -/
theorem v105_apply (k : Fin 257) : r_v105 (F := Ideal) x0 x1 (ix6 z n h g r k) = Ideal.exp (r_v84 (F := Ideal) x0 x1 (ix6 z n h g r k) - r_v92 (F := Ideal) x0 x1 (ix5 0 n h g r)) := by
  unfold r_v105 r_v104 r_v103 r_v102
  generalize r_v92 (F := Ideal) x0 x1 = w
  generalize r_v84 (F := Ideal) x0 x1 = w'
  clean_types
  pointwise

/-- A row's denominator. -/
theorem v106_apply : r_v106 (F := Ideal) x0 x1 (ix5 z n h g r) = ∑ k : Fin 257, (r_v105 (F := Ideal) x0 x1 (ix6 z n h g r k) : EReal) := by
  unfold r_v106 r_cst_21
  generalize r_v105 (F := Ideal) x0 x1 = w
  refine (Cert.Row.sum5 z n h g r _ _ _ _).trans ?_
  clean_types
  pointwise

/-- A probability. -/
theorem v109_apply (k : Fin 257) : r_v109 (F := Ideal) x0 x1 (ix6 z n h g r k) = Ideal.div (r_v105 (F := Ideal) x0 x1 (ix6 z n h g r k)) (r_v106 (F := Ideal) x0 x1 (ix5 0 n h g r)) := by
  unfold r_v109 r_v108 r_v107
  clean_types
  pointwise

/-- A cotangent of the output. -/
theorem v120_apply : r_v120 (F := Ideal) x2 (ix6 z n h d g r) = x2 (ix2 ⟨n*128+r, by omega⟩ ⟨h*256+g*64+d, by omega⟩) := by
  unfold r_v120 r_v119 r_v118 r_v117
  clean_types
  pointwise
  try rfl

/-- A probability's cotangent … -/
theorem v124_lt (k : Fin 257) (hk : k.val < 256) : r_v124 (F := Ideal) x0 x2 (ix6 z n h g r k) = ∑ d : Fin 64, ((r_v120 (F := Ideal) x2 (ix6 0 n h d g r) : EReal) * r_v26 (F := Ideal) x0 (ix5 0 n ⟨k.val, hk⟩ h d)) := by
  unfold r_v124 r_v121
  clean_types
  pointwise
  exact dif_pos hk

/-- … is zero for the sink. -/
theorem v124_ge (k : Fin 257) (hk : ¬ k.val < 256) : r_v124 (F := Ideal) x0 x2 (ix6 z n h g r k) = (0 : EReal) := by
  unfold r_v124 r_cst_23
  clean_types
  pointwise
  first | exact dif_neg hk | (rw [dif_neg hk])

/-- A term of the denominator's cotangent. -/
theorem v127_apply (k : Fin 257) : r_v127 (F := Ideal) x0 x1 x2 (ix6 z n h g r k) = r_v124 (F := Ideal) x0 x2 (ix6 z n h g r k) * Ideal.div 1 (r_v106 (F := Ideal) x0 x1 (ix5 0 n h g r) * r_v106 (F := Ideal) x0 x1 (ix5 0 n h g r)) * r_v105 (F := Ideal) x0 x1 (ix6 z n h g r k) := by
  unfold r_v127 r_v126 r_v125 r_v112 r_v111 r_v110 r_v107 r_cst_22
  clean_types
  pointwise

/-- The denominator's cotangent. -/
theorem v130_apply : r_v130 (F := Ideal) x0 x1 x2 (ix6 z n h g r 0) = -(∑ k : Fin 257, (r_v127 (F := Ideal) x0 x1 x2 (ix6 0 n h g r k) : EReal)) := by
  have e : r_v128 (F := Ideal) x0 x1 x2 (ix5 0 n h g r) = ∑ k : Fin 257, (r_v127 (F := Ideal) x0 x1 x2 (ix6 0 n h g r k) : EReal) := by
    unfold r_v128
    refine (Cert.Row.sum5 0 n h g r _ _ _ _).trans ?_
    unfold r_cst_24
    pointwise
    try simp [Ideal.ofBits, Ideal.ieee]
  unfold r_v130 r_v129
  clean_types
  pointwise
  try rw [e]

/-- A score's cotangent. -/
theorem v137_apply (k : Fin 257) : r_v137 (F := Ideal) x0 x1 x2 (ix6 z n h g r k) = (Ideal.div (r_v124 (F := Ideal) x0 x2 (ix6 z n h g r k)) (r_v106 (F := Ideal) x0 x1 (ix5 0 n h g r)) + r_v130 (F := Ideal) x0 x1 x2 (ix6 0 n h g r 0)) * r_v105 (F := Ideal) x0 x1 (ix6 z n h g r k) := by
  have e : r_v133 (F := Ideal) x0 x1 x2 (ix4 n h g r) = r_v130 (F := Ideal) x0 x1 x2 (ix6 0 n h g r 0) := by
    unfold r_v133
    refine (Cert.Row.sum05 n h g r _ _ _ _).trans ?_
    unfold r_cst_25
    pointwise
  unfold r_v137 r_v136 r_v135 r_v134 r_v132 r_v131 r_v107
  clean_types
  pointwise
  try rw [e]

/-- A sink's cotangent. -/
theorem v140_apply : r_v140 (F := Ideal) x0 x1 x2 (ix2 h g) = ∑ n : Fin 32, ∑ r : Fin 128, (r_v137 (F := Ideal) x0 x1 x2 (ix6 0 n h g r (Fin.last 256)) : EReal) := by
  unfold r_v140
  refine (Cert.Row.sum0145 h g _ _ _ _).trans ?_
  unfold r_cst_26 r_v139
  pointwise
  try rfl

/-- A block's cotangent of a value. -/
theorem v123_apply : r_v123 (F := Ideal) x0 x1 x2 (ix5 z n c h d) = ∑ g : Fin 4, ∑ r : Fin 128, (r_v120 (F := Ideal) x2 (ix6 0 n h d g r) : EReal) * r_v109 (F := Ideal) x0 x1 (ix6 0 n h g r ⟨c, by omega⟩) := by
  unfold r_v123 r_v122 r_v113
  clean_types
  pointwise

/-- A query's cotangent. -/
theorem v148_apply : r_v148 (F := Ideal) x0 x1 x2 (ix6 z n h r g d) = ∑ c : Fin 256, (Scalar.select (r_v58 (F := Ideal) (ix3 n r c)) ((r_v137 (F := Ideal) x0 x1 x2 (ix6 0 n h g r ⟨c, by omega⟩) : EReal) * Blk.sc * r_v19 (F := Ideal) x0 (ix5 z n c h d)) 0) := by
  unfold r_v148 r_v147 r_v146 r_v145 r_v144 r_v138 r_v80_1 r_v76 r_call1_v0 r_call1_cst r_cst_28
  clean_types
  pointwise
  rfl

/-- A block's cotangent of a key. -/
theorem v151_apply : r_v151 (F := Ideal) x0 x1 x2 (ix5 z n c h d) = ∑ r : Fin 128, ∑ g : Fin 4, (Scalar.select (r_v58 (F := Ideal) (ix3 n r c)) ((r_v137 (F := Ideal) x0 x1 x2 (ix6 0 n h g r ⟨c, by omega⟩) : EReal) * Blk.sc * r_v12 (F := Ideal) x0 (ix6 0 n r h g d)) 0) := by
  unfold r_v151 r_v150 r_v147 r_v146 r_v145 r_v144 r_v138 r_v80_1 r_v76 r_call1_v0 r_call1_cst r_cst_28
  clean_types
  pointwise
  rfl

/-- A value's cotangent, from the two blocks that see it. -/
theorem v157_apply : r_v157 (F := Ideal) x0 x1 x2 (ix5 z n r h d) = r_v123 (F := Ideal) x0 x1 x2 (ix5 0 n ⟨128 + r, by omega⟩ h d) + if hn : n.val < 31 then r_v123 (F := Ideal) x0 x1 x2 (ix5 0 ⟨1 + n, by omega⟩ ⟨r, by omega⟩ h d) else (0 : EReal) := by
  unfold r_v157 r_v156 r_v155 r_v152 r_v153 r_cst_29
  clean_types
  pointwise

/-- A key's cotangent, likewise. -/
theorem v164_apply : r_v164 (F := Ideal) x0 x1 x2 (ix5 z n r h d) = r_v151 (F := Ideal) x0 x1 x2 (ix5 0 n ⟨128 + r, by omega⟩ h d) + if hn : n.val < 31 then r_v151 (F := Ideal) x0 x1 x2 (ix5 0 ⟨1 + n, by omega⟩ ⟨r, by omega⟩ h d) else (0 : EReal) := by
  unfold r_v164 r_v163 r_v162 r_v159 r_v160 r_cst_30
  clean_types
  pointwise

/-- The queries in rows. -/
theorem v170_apply (m : Fin 4096) (l : Fin 512) : r_v170 (F := Ideal) x0 x1 x2 (ix2 m l) = r_v148 (F := Ideal) x0 x1 x2 (ix6 0 ⟨m / 128, by omega⟩ ⟨l / 256, by omega⟩ ⟨m % 128, by omega⟩ ⟨l / 64 % 4, by omega⟩ ⟨l % 64, by omega⟩) := by
  unfold r_v170 r_v169 r_v166 r_v149
  clean_types
  pointwise

/-- The keys in rows. -/
theorem v171_apply (m : Fin 4096) (l : Fin 128) : r_v171 (F := Ideal) x0 x1 x2 (ix2 m l) = r_v164 (F := Ideal) x0 x1 x2 (ix5 0 ⟨m / 128, by omega⟩ ⟨m % 128, by omega⟩ ⟨l / 64, by omega⟩ ⟨l % 64, by omega⟩) := by
  unfold r_v171 r_v168 r_v165
  clean_types
  pointwise

/-- The values in rows. -/
theorem v172_apply (m : Fin 4096) (l : Fin 128) : r_v172 (F := Ideal) x0 x1 x2 (ix2 m l) = r_v157 (F := Ideal) x0 x1 x2 (ix5 0 ⟨m / 128, by omega⟩ ⟨m % 128, by omega⟩ ⟨l / 64, by omega⟩ ⟨l % 64, by omega⟩) := by
  unfold r_v172 r_v167 r_v158
  clean_types
  pointwise

/-- The first result. -/
theorem v176_apply (m : Fin 4096) (l : Fin 2944) : r_v176 (F := Ideal) x0 x1 x2 x3 (ix2 m l) =
    if h : l.val < 768 then
      if h1 : l.val < 512 then r_v170 (F := Ideal) x0 x1 x2 (ix2 m ⟨l, h1⟩)
      else if h2 : l.val - 512 < 128 then r_v171 (F := Ideal) x0 x1 x2 (ix2 m ⟨l - 512, h2⟩)
        else r_v172 (F := Ideal) x0 x1 x2 (ix2 m ⟨l - 512 - 128, by omega⟩)
    else x3 (ix2 m ⟨768 + (l - 768), by omega⟩) := by
  unfold r_v176 r_v175 r_v174 r_v173
  clean_types
  pointwise

/-- The second result. -/
theorem v178_apply (l : Fin 128) : r_v178 (F := Ideal) x0 x1 x2 (ix2 z l) = if hl : l.val < 8 then (r_v140 (F := Ideal) x0 x1 x2 (ix2 ⟨l / 4, by omega⟩ ⟨l % 4, by omega⟩) : EReal) else (0 : EReal) := by
  have e : (FloatOps.sitofp .f32 0#32 : Ideal .f32) = (0 : EReal) := by
    show (((0#32 : BitVec 32).toInt : ℝ) : EReal) = 0
    simp
  unfold r_v178 r_v177 r_v143 r_v142 r_v141 r_cst_27 r_call2_v0 r_c_31
  clean_types
  pointwise
  rw [e]
  simp only [Fin.sum_univ_one]

end Cert.ReferenceIdeal.Swa

end
-- ==== Proof.Ref.Spec.lean ====
module

public import proofs.«01_k».proof.Proof.Ref.Read

@[expose] public section

set_option maxRecDepth 16384

noncomputable section

namespace Cert.ReferenceIdeal.Swa

open Cert.ReferenceIdeal Cert.ReferenceIdeal.Gen Idealize.ShloMosaic Idealize.SL.Sem Cert.Row

/-! The reference's stages are the specification's numbers of its blocks. -/

variable (x0 : FVec Ideal S4096x2816 .bf16) (x1 : FVec Ideal S8 .f32) (x2 : FVec Ideal S4096x1024 .f32) (x3 : FVec Ideal S4096x2944 .bf16)
variable (n : Fin 32) (r : Fin 128) (h : Fin 2) (g : Fin 4) (d : Fin 64) (c : Fin 256) (z : Fin 1)

/-- Block `n` as the reference reads it. -/
def rB : Blk where
  q h g r d := r_v12 (F := Ideal) x0 (ix6 0 n r h g d)
  k h c d := r_v19 (F := Ideal) x0 (ix5 0 n c h d)
  v h c d := r_v26 (F := Ideal) x0 (ix5 0 n c h d)
  b h g r c := Scalar.select (r_v58 (F := Ideal) (ix3 n r c)) (r_v75 (F := Ideal) (ix4 h g r c) : EReal) ⊥
  σ h g := x1 (ix1 ⟨h * 4 + g, by omega⟩)
  g h g r d := r_v120 (F := Ideal) x2 (ix6 0 n h d g r)

theorem v80_S : r_v80_0 (F := Ideal) x0 (ix6 0 n h g r c) = (rB x0 x1 x2 n).S h g r c := by
  rw [v80_apply]
  unfold Blk.S rB Scalar.select
  dsimp only
  by_cases e : r_v58 (F := Ideal) (ix3 n r c) = 1
  · rw [if_pos e, if_pos e]
  · rw [if_neg e, if_neg e, EReal.add_bot]

theorem S_of_mask (e : r_v58 (F := Ideal) (ix3 n r c) ≠ 1) : (rB x0 x1 x2 n).S h g r c = ⊥ := by
  rw [← v80_S, v80_apply]
  exact if_neg e

theorem v84_S : r_v84 (F := Ideal) x0 x1 (ix6 0 n h g r ⟨c, by omega⟩) = (rB x0 x1 x2 n).S h g r c := by
  rw [v84_lt x0 x1 n r h g 0 ⟨c, by omega⟩ c.isLt]
  exact v80_S x0 x1 x2 n r h g c

theorem v84_σ : r_v84 (F := Ideal) x0 x1 (ix6 0 n h g r (Fin.last 256)) = (rB x0 x1 x2 n).σ h g :=
  v84_ge x0 x1 n r h g 0 (Fin.last 256) (lt_irrefl 256)

theorem v92_mx : r_v92 (F := Ideal) x0 x1 (ix5 0 n h g r) = mx ((rB x0 x1 x2 n).S h g r) ((rB x0 x1 x2 n).σ h g) := by
  rw [v92_apply, max_bot_left, v85_apply, fold_max_last]
  unfold mx
  rw [v84_σ x0 x1 x2]
  congr 2
  funext c
  exact v84_S x0 x1 x2 n r h g c

theorem v105_ex : r_v105 (F := Ideal) x0 x1 (ix6 0 n h g r ⟨c, by omega⟩) = ex ((rB x0 x1 x2 n).S h g r) ((rB x0 x1 x2 n).σ h g) c := by
  rw [v105_apply, v92_mx x0 x1 x2, v84_S x0 x1 x2]
  rfl

theorem v105_es : r_v105 (F := Ideal) x0 x1 (ix6 0 n h g r (Fin.last 256)) = es ((rB x0 x1 x2 n).S h g r) ((rB x0 x1 x2 n).σ h g) := by
  rw [v105_apply, v92_mx x0 x1 x2, v84_σ x0 x1 x2]
  rfl

theorem v106_dn : r_v106 (F := Ideal) x0 x1 (ix5 0 n h g r) = dn ((rB x0 x1 x2 n).S h g r) ((rB x0 x1 x2 n).σ h g) := by
  rw [v106_apply, Fin.sum_univ_castSucc, v105_es x0 x1 x2]
  unfold dn
  congr 1
  exact Finset.sum_congr rfl fun c _ => v105_ex x0 x1 x2 n r h g c

theorem v124_dP : r_v124 (F := Ideal) x0 x2 (ix6 0 n h g r ⟨c, by omega⟩) = (rB x0 x1 x2 n).dP h g r c :=
  v124_lt x0 x2 n r h g 0 ⟨c, by omega⟩ c.isLt

theorem v124_last : r_v124 (F := Ideal) x0 x2 (ix6 0 n h g r (Fin.last 256)) = (0 : EReal) :=
  v124_ge x0 x2 n r h g 0 (Fin.last 256) (lt_irrefl 256)

section
variable (hS : ∀ n h g r c, (rB x0 x1 x2 n).S h g r c ≠ ⊤) (hσ : ∀ n h g, (rB x0 x1 x2 n).σ h g ≠ ⊤) (hσ' : ∀ n h g, (rB x0 x1 x2 n).σ h g ≠ ⊥)
include hS hσ hσ'

theorem v109_P : r_v109 (F := Ideal) x0 x1 (ix6 0 n h g r ⟨c, by omega⟩) = (rB x0 x1 x2 n).P h g r c := by
  rw [v109_apply, v106_dn x0 x1 x2, v105_ex x0 x1 x2, div_dn (hS n h g r) (hσ n h g) (hσ' n h g)]
  rfl

theorem v130_dd : r_v130 (F := Ideal) x0 x1 x2 (ix6 0 n h g r 0) = dd ((rB x0 x1 x2 n).S h g r) ((rB x0 x1 x2 n).σ h g) ((rB x0 x1 x2 n).dP h g r) := by
  rw [v130_apply, ← dd_eq (hS n h g r) (hσ n h g) (hσ' n h g), Fin.sum_univ_castSucc]
  congr 2
  · refine Finset.sum_congr rfl fun c _ => ?_
    rw [v127_apply, v106_dn x0 x1 x2]
    exact congrArg₂ (fun a b => a * _ * b) (v124_dP x0 x1 x2 n r h g c) (v105_ex x0 x1 x2 n r h g c)
  · rw [v127_apply, v106_dn x0 x1 x2, v124_last, v105_es x0 x1 x2]

theorem v137_dS : r_v137 (F := Ideal) x0 x1 x2 (ix6 0 n h g r ⟨c, by omega⟩) = (rB x0 x1 x2 n).dS h g r c := by
  rw [v137_apply, v130_dd x0 x1 x2 n r h g hS hσ hσ', v106_dn x0 x1 x2, div_dn (hS n h g r) (hσ n h g) (hσ' n h g), v124_dP x0 x1 x2, v105_ex x0 x1 x2]
  rfl

theorem v137_last : r_v137 (F := Ideal) x0 x1 x2 (ix6 0 n h g r (Fin.last 256)) = dd ((rB x0 x1 x2 n).S h g r) ((rB x0 x1 x2 n).σ h g) ((rB x0 x1 x2 n).dP h g r) * es ((rB x0 x1 x2 n).S h g r) ((rB x0 x1 x2 n).σ h g) := by
  rw [v137_apply, v130_dd x0 x1 x2 n r h g hS hσ hσ', v106_dn x0 x1 x2, div_dn (hS n h g r) (hσ n h g) (hσ' n h g), v124_last, v105_es x0 x1 x2, zero_mul, zero_add]

theorem v140_dσ : r_v140 (F := Ideal) x0 x1 x2 (ix2 h g) = ∑ n : Fin 32, (rB x0 x1 x2 n).dσ h g := by
  rw [v140_apply]
  refine Finset.sum_congr rfl fun n _ => Finset.sum_congr rfl fun r _ => ?_
  exact v137_last x0 x1 x2 n r h g hS hσ hσ'

theorem v123_dV : r_v123 (F := Ideal) x0 x1 x2 (ix5 0 n c h d) = (rB x0 x1 x2 n).dV h c d := by
  rw [v123_apply]
  refine Finset.sum_congr rfl fun g _ => Finset.sum_congr rfl fun r _ => ?_
  rw [v109_P x0 x1 x2 n r h g c hS hσ hσ']
  rfl

/-- A masked score has no cotangent. -/
theorem select_dS (y : EReal) : Scalar.select (r_v58 (F := Ideal) (ix3 n r c)) ((rB x0 x1 x2 n).dS h g r c * Blk.sc * y) 0 = (rB x0 x1 x2 n).dS h g r c * Blk.sc * y := by
  unfold Scalar.select
  by_cases e : r_v58 (F := Ideal) (ix3 n r c) = 1
  · exact if_pos e
  · refine (if_neg e).trans ?_
    have : (rB x0 x1 x2 n).dS h g r c = 0 := ds_of_zero (ex_of_bot (hS n h g r) (hσ n h g) (hσ' n h g) (S_of_mask x0 x1 x2 n r h g c e))
    rw [this, zero_mul, zero_mul]

theorem v148_dQ : r_v148 (F := Ideal) x0 x1 x2 (ix6 0 n h r g d) = (rB x0 x1 x2 n).dQ h g r d := by
  rw [v148_apply]
  refine Finset.sum_congr rfl fun c _ => ?_
  rw [v137_dS x0 x1 x2 n r h g c hS hσ hσ', select_dS x0 x1 x2 n r h g c hS hσ hσ']
  rfl

theorem v151_dK : r_v151 (F := Ideal) x0 x1 x2 (ix5 0 n c h d) = (rB x0 x1 x2 n).dK h c d := by
  rw [v151_apply, Finset.sum_comm]
  refine Finset.sum_congr rfl fun g _ => Finset.sum_congr rfl fun r _ => ?_
  rw [v137_dS x0 x1 x2 n r h g c hS hσ hσ', select_dS x0 x1 x2 n r h g c hS hσ hσ']
  rfl

end

end Cert.ReferenceIdeal.Swa

end
-- ==== Proof.Swa.Match.lean ====
module

public import proofs.«01_k».proof.Proof.Swa.Rows
public import proofs.«01_k».proof.Proof.Swa.Blocks
public import proofs.«01_k».proof.Proof.Swa.Bias
public import proofs.«01_k».proof.Proof.Swa.Host
public import proofs.«01_k».proof.Proof.Row.Congr
public import proofs.«01_k».proof.Proof.Ref.Spec

@[expose] public section

set_option maxRecDepth 16384

noncomputable section

namespace Cert.KernelIdeal.Swa

open Cert.KernelIdeal Cert.KernelIdeal.Gen Idealize.ShloMosaic Idealize.ShloMosaic.TcCoe Idealize.SL.Sem Cert.Row

/-! ## A point's block is the reference's -/

variable (m : (ℓ : Loc nD τ sig) → Buf (Elt Ideal) ℓ) (c : Dev nD) (t : Fin cfg0.N)

/-- The projections' array, as launched. -/
abbrev a0 : FVec Ideal Cert.ReferenceIdeal.S4096x2816 .bf16 := m ((c : Thread nD τ).loc main_arg0)
/-- The sinks, as launched. -/
abbrev a1 : FVec Ideal Cert.ReferenceIdeal.S8 .f32 := m ((c : Thread nD τ).loc main_arg1)
/-- The output's cotangents, as launched. -/
abbrev a2 : FVec Ideal Cert.ReferenceIdeal.S4096x1024 .f32 := m ((c : Thread nD τ).loc main_arg2)
/-- The array that the gradients go into, as launched. -/
abbrev a3 : FVec Ideal Cert.ReferenceIdeal.S4096x2944 .bf16 := m ((c : Thread nD τ).loc main_arg3)

/-- The reference's block of the kernel's arguments. -/
abbrev eB (n : Fin 32) : Blk := Cert.ReferenceIdeal.Swa.rB (a0 m c) (a1 m c) (a2 m c) n

variable (n : Fin 32) (ht : t.val = n.val)
include ht

theorem b_eq (h : Fin 2) (g : Fin 4) (r : Fin 128) (k : Fin 256) : (kB m c t).b h g r k = (eB m c n).b h g r k := by
  show iblk m c 6 t (ix4 0 h (brow g r) k) = Scalar.select (Cert.ReferenceIdeal.Swa.r_v58 (F := Ideal) (ix3 n r k)) (Cert.ReferenceIdeal.Swa.r_v75 (F := Ideal) (ix4 h g r k) : EReal) ⊥
  rw [bias_blk m c t n ht, bias_read, Cert.ReferenceIdeal.Swa.v58_apply, Cert.ReferenceIdeal.Swa.v75_apply, (alE_eq h g r (brow g r) rfl _).1, (alE_eq h g r (brow g r) rfl _).2, negInf_f32, seen]
  by_cases hn : n.val < 1
  · rw [if_pos hn, dif_pos (show min n.val 1 < 1 by omega)]
    rfl
  · rw [if_neg hn, dif_neg (show ¬min n.val 1 < 1 by omega), and_one]
    rfl

theorem q_eq (h : Fin 2) (g : Fin 4) (r : Fin 128) (d : Fin 64) : (kB m c t).q h g r d = (eB m c n).q h g r d := by
  show X0_0 m c t (ix2 r (qcol h g d)) = Cert.ReferenceIdeal.Swa.r_v12 (F := Ideal) (a0 m c) (ix6 0 n r h g d)
  rw [X0_read m c t n ht, Cert.ReferenceIdeal.Swa.v12_apply]
  rfl

theorem g_eq (h : Fin 2) (g : Fin 4) (r : Fin 128) (d : Fin 64) : (kB m c t).g h g r d = (eB m c n).g h g r d := by
  show iblk m c 7 t (ix2 r (qcol h g d)) = Cert.ReferenceIdeal.Swa.r_v120 (F := Ideal) (a2 m c) (ix6 0 n h d g r)
  rw [do_read m c t n ht, Cert.ReferenceIdeal.Swa.v120_apply]
  rfl

theorem σ_eq (h : Fin 2) (g : Fin 4) : (kB m c t).σ h g = (eB m c n).σ h g := by
  show iblk m c 5 t (ix2 0 (hlane h g)) = a1 m c (ix1 ⟨h * 4 + g, _⟩)
  rw [sinks_read m c t n ht, sinks_host m c (hlane h g) (by show h.val * 4 + g.val < 8; omega)]
  rfl

/-- The keys and the values agree, but the block before the first, which is masked. -/
theorem kv_eq (k : Fin 256) : (∀ h d, (kB m c t).k h k d = (eB m c n).k h k d ∧ (kB m c t).v h k d = (eB m c n).v h k d) ∨ ∀ h g r, (kB m c t).b h g r k = ⊥ := by
  by_cases hk : k.val < 128
  · by_cases hn : n.val < 1
    · right
      intro h g r
      show iblk m c 6 t (ix4 0 h (brow g r) k) = (⊥ : EReal)
      rw [bias_blk m c t n ht, bias_read, dif_pos (show min n.val 1 < 1 by omega), unseen k hk, negInf_f32]
      rfl
    · left
      intro h d
      constructor
      · show (if hc : k.val < 128 then iblk m c 1 t (ix2 ⟨k, hc⟩ (kcol h d)) else iblk m c 2 t (ix2 ⟨k - 128, _⟩ (kcol h d))) = Cert.ReferenceIdeal.Swa.r_v19 (F := Ideal) (a0 m c) (ix5 0 n k h d)
        rw [dif_pos hk, k_prev_read m c t n ht, Cert.ReferenceIdeal.Swa.v19_apply, dif_pos hk, dif_neg hn]
        rfl
      · show (if hc : k.val < 128 then iblk m c 3 t (ix2 ⟨k, hc⟩ (kcol h d)) else iblk m c 4 t (ix2 ⟨k - 128, _⟩ (kcol h d))) = Cert.ReferenceIdeal.Swa.r_v26 (F := Ideal) (a0 m c) (ix5 0 n k h d)
        rw [dif_pos hk, v_prev_read m c t n ht, Cert.ReferenceIdeal.Swa.v26_apply, dif_pos hk, dif_neg hn]
        rfl
  · left
    intro h d
    constructor
    · show (if hc : k.val < 128 then iblk m c 1 t (ix2 ⟨k, hc⟩ (kcol h d)) else iblk m c 2 t (ix2 ⟨k - 128, _⟩ (kcol h d))) = Cert.ReferenceIdeal.Swa.r_v19 (F := Ideal) (a0 m c) (ix5 0 n k h d)
      rw [dif_neg hk, k_cur_read m c t n ht, Cert.ReferenceIdeal.Swa.v19_apply, dif_neg hk]
      rfl
    · show (if hc : k.val < 128 then iblk m c 3 t (ix2 ⟨k, hc⟩ (kcol h d)) else iblk m c 4 t (ix2 ⟨k - 128, _⟩ (kcol h d))) = Cert.ReferenceIdeal.Swa.r_v26 (F := Ideal) (a0 m c) (ix5 0 n k h d)
      rw [dif_neg hk, v_cur_read m c t n ht, Cert.ReferenceIdeal.Swa.v26_apply, dif_neg hk]
      rfl

/-- The two blocks have the same gradients. -/
theorem same_block : Blk.Same (kB m c t) (eB m c n) where
  q := by funext h g r d; exact q_eq m c t n ht h g r d
  g := by funext h g r d; exact g_eq m c t n ht h g r d
  σ := by funext h g; exact σ_eq m c t n ht h g
  b := by funext h g r k; exact b_eq m c t n ht h g r k
  kv := kv_eq m c t n ht

end Cert.KernelIdeal.Swa

end
-- ==== Proof.Swa.Value.lean ====
module

public import proofs.«01_k».proof.Proof.Swa.Match
public import proofs.«01_k».proof.Proof.Swa.Frame

@[expose] public section

set_option maxRecDepth 16384

noncomputable section

namespace Cert.KernelIdeal.Swa

open Cert.KernelIdeal Cert.KernelIdeal.Gen Idealize.ShloMosaic Idealize.ShloMosaic.TcCoe Idealize.SL.Sem Cert.Row
open Idealize.ShloMosaic.Pipeline (Dat)
open Cert.ReferenceIdeal.Swa (r_v176 r_v178)

variable (m : (ℓ : Loc nD τ sig) → Buf (Elt Ideal) ℓ) (c : Dev nD)

/-- What the precondition says of the launched arguments: the queries and the keys that are read, and the sinks, are finite. -/
structure Fin' : Prop where
  qk : ∀ (i : Fin 4096) (j : Fin 640), ∃ x : ℝ, a0 m c (ix2 i ⟨j, by omega⟩) = (x : EReal)
  σ : ∀ j : Fin 8, ∃ x : ℝ, a1 m c (ix1 j) = (x : EReal)

section
variable {m c} (hf : Fin' m c)
include hf

theorem eσ_ne_top (n : Fin 32) (h : Fin 2) (g : Fin 4) : (eB m c n).σ h g ≠ ⊤ := by
  obtain ⟨x, hx⟩ := hf.σ ⟨h * 4 + g, by omega⟩
  show a1 m c (ix1 ⟨h * 4 + g, _⟩) ≠ (⊤ : EReal)
  rw [hx]
  exact EReal.coe_ne_top _

theorem eσ_ne_bot (n : Fin 32) (h : Fin 2) (g : Fin 4) : (eB m c n).σ h g ≠ ⊥ := by
  obtain ⟨x, hx⟩ := hf.σ ⟨h * 4 + g, by omega⟩
  show a1 m c (ix1 ⟨h * 4 + g, _⟩) ≠ (⊥ : EReal)
  rw [hx]
  exact EReal.coe_ne_bot _

theorem eS_ne_top (n : Fin 32) (h : Fin 2) (g : Fin 4) (r : Fin 128) (k : Fin 256) : (eB m c n).S h g r k ≠ ⊤ := by
  refine Blk.S_ne_top _ (fun h g r d => ?_) (fun h k d => ?_) (fun h g r k => ?_) h g r k
  · show ∃ x : ℝ, (Cert.ReferenceIdeal.Swa.r_v12 (F := Ideal) (a0 m c) (ix6 0 n r h g d) : EReal) = x
    rw [Cert.ReferenceIdeal.Swa.v12_apply]
    exact hf.qk ⟨n * 128 + r, by omega⟩ ⟨h * 256 + g * 64 + d, by omega⟩
  · show ∃ x : ℝ, (Cert.ReferenceIdeal.Swa.r_v19 (F := Ideal) (a0 m c) (ix5 0 n k h d) : EReal) = x
    rw [Cert.ReferenceIdeal.Swa.v19_apply]
    split
    · split
      · exact ⟨0, rfl⟩
      · exact hf.qk ⟨(n - 1) * 128 + k, by omega⟩ ⟨512 + (h * 64 + d), by omega⟩
    · exact hf.qk ⟨n * 128 + (k - 128), by omega⟩ ⟨512 + (h * 64 + d), by omega⟩
  · show Scalar.select (Cert.ReferenceIdeal.Swa.r_v58 (F := Ideal) (ix3 n r k)) (Cert.ReferenceIdeal.Swa.r_v75 (F := Ideal) (ix4 h g r k) : EReal) ⊥ ≠ ⊤
    unfold Scalar.select
    split
    · rw [Cert.ReferenceIdeal.Swa.v75_apply]
      obtain ⟨x, hx⟩ := alR_real (h.val * 4 + g.val) (IntOp.subi (IntOp.addi (BitVec.ofNat 32 r) 128#32) (BitVec.ofNat 32 k))
      unfold alR at hx
      rw [hx]
      exact EReal.coe_ne_top _
    · exact bot_ne_top

variable (t : Fin cfg0.N) (n : Fin 32) (ht : t.val = n.val)
include ht

theorem kS_ne_top (h : Fin 2) (g : Fin 4) (r : Fin 128) (k : Fin 256) : (kB m c t).S h g r k ≠ ⊤ := by
  rw [(same_block m c t n ht).S_eq]
  exact eS_ne_top hf n h g r k

theorem kσ_ne_top (h : Fin 2) (g : Fin 4) : (kB m c t).σ h g ≠ ⊤ := by
  rw [(same_block m c t n ht).σ]
  exact eσ_ne_top hf n h g

theorem kσ_ne_bot (h : Fin 2) (g : Fin 4) : (kB m c t).σ h g ≠ ⊥ := by
  rw [(same_block m c t n ht).σ]
  exact eσ_ne_bot hf n h g

theorem dQ_same : (kB m c t).dQ = (eB m c n).dQ :=
  (same_block m c t n ht).dQ_eq (kS_ne_top hf t n ht) (kσ_ne_top hf t n ht) (kσ_ne_bot hf t n ht)

theorem dK_same : (kB m c t).dK = (eB m c n).dK :=
  (same_block m c t n ht).dK_eq (kS_ne_top hf t n ht) (kσ_ne_top hf t n ht) (kσ_ne_bot hf t n ht)

theorem dσ_same : (kB m c t).dσ = (eB m c n).dσ :=
  (same_block m c t n ht).dσ_eq (kS_ne_top hf t n ht) (kσ_ne_top hf t n ht) (kσ_ne_bot hf t n ht)

omit hf in
theorem dV_same : (kB m c t).dV = (eB m c n).dV := (same_block m c t n ht).dV_eq

end

/-! ## The two result arrays -/

section
variable {m c} (hf : Fin' m c)
include hf

/-- The gradients in the output's array are the reference's. -/
theorem row_eq (t : Fin cfg0.N) (h0 : t.val ≠ 0) (r : Fin 128) (l : Fin 768) :
    ((outsAt0 m c t.val t.isLt).1 (ix2 r l) : EReal) = r_v176 (F := Ideal) (a0 m c) (a1 m c) (a2 m c) (a3 m c) (ix2 ⟨(t.val - 1) * 128 + r, by have := lt33 t; omega⟩ ⟨l, by omega⟩) := by
  have h33 := lt33 t
  obtain ⟨n, hn⟩ : ∃ n : Fin 32, n.val = t.val - 1 := ⟨⟨t.val - 1, by omega⟩, rfl⟩
  have hp : (prev t).val = n.val := hn.symm
  have hdiv : ((t.val - 1) * 128 + r.val) / 128 = n.val := by omega
  have hmod : ((t.val - 1) * 128 + r.val) % 128 = r.val := by omega
  rw [Cert.ReferenceIdeal.Swa.v176_apply, dif_pos (show l.val < 768 from l.isLt)]
  have hS := eS_ne_top hf
  have hσ := eσ_ne_top hf
  have hσ' := eσ_ne_bot hf
  -- the queries
  have eq : ∀ (l' : Fin 512), bQ m c (prev t) (ix2 r l') = Cert.ReferenceIdeal.Swa.r_v170 (F := Ideal) (a0 m c) (a1 m c) (a2 m c) (ix2 ⟨(t.val - 1) * 128 + r, by omega⟩ l') := fun l' => by
    rw [bQ_apply, dQ_same hf (prev t) n hp, Cert.ReferenceIdeal.Swa.v170_apply]
    simp only [hdiv, hmod]
    exact (Cert.ReferenceIdeal.Swa.v148_dQ _ _ _ n r _ _ _ hS hσ hσ').symm
  -- the keys
  have ekHi : ∀ l' : Fin 128, bKeyHi m c (prev t) (ix2 r l') = Cert.ReferenceIdeal.Swa.r_v151 (F := Ideal) (a0 m c) (a1 m c) (a2 m c) (ix5 0 n ⟨128 + r, by omega⟩ ⟨l' / 64, by omega⟩ ⟨l' % 64, by omega⟩) := fun l' => by
    rw [bKeyHi_apply, dK_same hf (prev t) n hp]
    exact (Cert.ReferenceIdeal.Swa.v151_dK _ _ _ n _ _ _ hS hσ hσ').symm
  have evHi : ∀ l' : Fin 128, bValHi m c (prev t) (ix2 r l') = Cert.ReferenceIdeal.Swa.r_v123 (F := Ideal) (a0 m c) (a1 m c) (a2 m c) (ix5 0 n ⟨128 + r, by omega⟩ ⟨l' / 64, by omega⟩ ⟨l' % 64, by omega⟩) := fun l' => by
    rw [bValHi_apply, dV_same (prev t) n hp]
    exact (Cert.ReferenceIdeal.Swa.v123_dV _ _ _ n _ _ _ hS hσ hσ').symm
  by_cases h32 : t.val < 32
  · have h31 : n.val < 31 := by omega
    have hq : t.val = (⟨1 + n, by omega⟩ : Fin 32).val := by show t.val = 1 + n.val; omega
    have ekLo : ∀ l' : Fin 128, bKeyLo m c t (ix2 r l') = Cert.ReferenceIdeal.Swa.r_v151 (F := Ideal) (a0 m c) (a1 m c) (a2 m c) (ix5 0 ⟨1 + n, by omega⟩ ⟨r, by omega⟩ ⟨l' / 64, by omega⟩ ⟨l' % 64, by omega⟩) := fun l' => by
      rw [bKeyLo_apply, dK_same hf t _ hq]
      exact (Cert.ReferenceIdeal.Swa.v151_dK _ _ _ _ _ _ _ hS hσ hσ').symm
    have evLo : ∀ l' : Fin 128, bValLo m c t (ix2 r l') = Cert.ReferenceIdeal.Swa.r_v123 (F := Ideal) (a0 m c) (a1 m c) (a2 m c) (ix5 0 ⟨1 + n, by omega⟩ ⟨r, by omega⟩ ⟨l' / 64, by omega⟩ ⟨l' % 64, by omega⟩) := fun l' => by
      rw [bValLo_apply, dV_same t _ hq]
      exact (Cert.ReferenceIdeal.Swa.v123_dV _ _ _ _ _ _ _ hS hσ hσ').symm
    rw [row_mid m c t h0 h32, outRow_apply]
    by_cases h1 : l.val < 512
    · rw [dif_pos h1, dif_pos h1]
      exact eq _
    · rw [dif_neg h1, dif_neg h1]
      by_cases h2 : l.val - 512 < 128
      · rw [dif_pos h2, dif_pos h2, Cert.ReferenceIdeal.Swa.v171_apply, Cert.ReferenceIdeal.Swa.v164_apply]
        simp only [hdiv, hmod]
        rw [dif_pos h31]
        exact congrArg₂ (fun x y : EReal => x + y) (ekHi _) (ekLo _)
      · rw [dif_neg h2, dif_neg h2, Cert.ReferenceIdeal.Swa.v172_apply, Cert.ReferenceIdeal.Swa.v157_apply]
        simp only [hdiv, hmod]
        rw [dif_pos h31]
        exact congrArg₂ (fun x y : EReal => x + y) (evHi _) (evLo _)
  · have h31 : ¬n.val < 31 := by omega
    rw [row_last m c t (by omega), outRow_apply]
    by_cases h1 : l.val < 512
    · rw [dif_pos h1, dif_pos h1]
      exact eq _
    · rw [dif_neg h1, dif_neg h1]
      by_cases h2 : l.val - 512 < 128
      · rw [dif_pos h2, dif_pos h2, Cert.ReferenceIdeal.Swa.v171_apply, Cert.ReferenceIdeal.Swa.v164_apply]
        simp only [hdiv, hmod]
        rw [dif_neg h31, add_zero]
        exact ekHi _
      · rw [dif_neg h2, dif_neg h2, Cert.ReferenceIdeal.Swa.v172_apply, Cert.ReferenceIdeal.Swa.v157_apply]
        simp only [hdiv, hmod]
        rw [dif_neg h31, add_zero]
        exact evHi _

/-- The sinks' gradient after the last point is the reference's. -/
theorem sink_eq (t : Fin cfg0.N) (h : t.val = 32) (z : Fin 1) (l : Fin 128) :
    ((outsAt0 m c t.val t.isLt).2.1 (ix2 z l) : EReal) = r_v178 (F := Ideal) (a0 m c) (a1 m c) (a2 m c) (ix2 z l) := by
  rw [(outs_last m c t h).2, show z = 0 from Subsingleton.elim _ _, sinks_upto m c (prev t).val (prev t).isLt (by show t.val - 1 < 32; omega) l, Cert.ReferenceIdeal.Swa.v178_apply]
  have h32 : (prev t).val + 1 = 32 := by show t.val - 1 + 1 = 32; omega
  have hN : cfg0.N = 33 := N_0
  by_cases hl : l.val < 8
  · rw [dif_pos hl, Cert.ReferenceIdeal.Swa.v140_dσ _ _ _ _ _ (eS_ne_top hf) (eσ_ne_top hf) (eσ_ne_bot hf)]
    refine Fintype.sum_equiv (finCongr h32) _ _ fun i => ?_
    rw [bSink_apply, dif_pos hl, dσ_same hf _ (finCongr h32 i) rfl]
  · rw [dif_neg hl]
    refine Finset.sum_eq_zero fun i _ => ?_
    rw [bSink_apply, dif_neg hl]

omit hf in
/-- The first point writes nothing back. -/
theorem flush_ne : ∀ t : Fin cfg0.N, (cfg0.win 8).flush t = true → t.val ≠ 0 := (by decide +kernel : ∀ t : Fin grid0.N, win0_8.flush t = true → t.val ≠ 0)

omit hf in
theorem idx9 : ∀ t : Fin cfg0.N, win0_9.index t = ![0, 0] := (by decide +kernel : ∀ t : Fin grid0.N, _)

/-- The output's array after the run. -/
theorem final8 : (dats m 0 c).arrAt 8 cfg0.N = r_v176 (F := Ideal) (a0 m c) (a1 m c) (a2 m c) (a3 m c) := by
  have e : (dats m 0 c).arrAt 8 cfg0.N = fun i : S4096x2944.Idx => if (i 1).val < 768 then (r_v176 (F := Ideal) (a0 m c) (a1 m c) (a2 m c) (a3 m c) : FVec Ideal S4096x2944 .bf16) i else (dats m 0 c).A 8 i := by
    refine (dats m 0 c).arrAt_eq_of_coversWhere 8 _ (fun β => β (1 : Fin 2) = 0) (by decide +kernel) (fun t hf' y => ?_) (fun j => by blk_simp [Pipeline.Window.cell_apply]; omega)
    blk_simp
    rw [after0_8]
    have ht0 : t.val ≠ 0 := flush_ne t hf'
    obtain ⟨r, l, hj⟩ : ∃ (r : Fin 128) (l : Fin 768), (cfg0.win 8).xinj (cfg0.grid.coords t) y = (ix2 r l : S128x768.Idx) :=
      ⟨(cfg0.win 8).xinj (cfg0.grid.coords t) y (0 : Fin 2), (cfg0.win 8).xinj (cfg0.grid.coords t) y (1 : Fin 2), by
        funext a
        match a with
        | 0 => rfl
        | 1 => rfl⟩
    have y0 : (y (0 : Fin 2)).val = r.val := congrArg (fun j : S128x768.Idx => (j 0).val) hj
    have y1 : (y (1 : Fin 2)).val = l.val := congrArg (fun j : S128x768.Idx => (j 1).val) hj
    rw [hj]
    refine (row_eq hf t ht0 r l).trans (congrArg (r_v176 (F := Ideal) (a0 m c) (a1 m c) (a2 m c) (a3 m c)) ?_)
    have hi := (idx t).2.2.2.2
    funext a
    apply Fin.ext
    match a with
    | 0 =>
      have e0 : (((win0_8.blk t).view.emb y) (0 : Fin 2) : ℕ) = (t.val - 1) * 128 + (y (0 : Fin 2)).val := by blk_simp [hi]
      exact (e0.trans (by rw [y0]; rfl)).symm
    | 1 =>
      have e1 : (((win0_8.blk t).view.emb y) (1 : Fin 2) : ℕ) = (y (1 : Fin 2)).val := by blk_simp [hi]
      exact (e1.trans y1).symm
  rw [e]
  funext i
  by_cases hi : (i 1).val < 768
  · exact if_pos hi
  · refine (if_neg hi).trans ?_
    obtain ⟨r, l, rfl⟩ : ∃ (r : Fin 4096) (l : Fin 2944), i = (ix2 r l : S4096x2944.Idx) :=
      ⟨i 0, i 1, by
        funext a
        match a with
        | 0 => rfl
        | 1 => rfl⟩
    have hl : ¬l.val < 768 := hi
    rw [Cert.ReferenceIdeal.Swa.v176_apply, dif_neg hl, A_eq m c 8]
    refine (congrFun (out_entry m c) (ix2 r l)).trans (congrArg (a3 m c) ?_)
    exact congrArg (fun x : Fin 2944 => (ix2 r x : S4096x2944.Idx)) (Fin.ext (by show l.val = 768 + (l.val - 768); omega))

/-- The sinks' gradient after the run. -/
theorem final9 : (dats m 0 c).arrAt 9 cfg0.N = r_v178 (F := Ideal) (a0 m c) (a1 m c) (a2 m c) := by
  refine (dats m 0 c).arrAt_eq_of_covers 9 _ (by decide +kernel) fun t hf' y => ?_
  have h32 : t.val = 32 := by
    have := (flush0_9 t).mp hf'
    have := lt33 t
    omega
  blk_simp
  rw [after0_9]
  obtain ⟨z, l, rfl⟩ : ∃ (z : Fin 1) (l : Fin 128), y = (ix2 z l : S1x128.Idx) :=
    ⟨y (0 : Fin 2), y (1 : Fin 2), by
      funext a
      match a with
      | 0 => rfl
      | 1 => rfl⟩
  refine (sink_eq hf t h32 z l).trans (congrArg (r_v178 (F := Ideal) (a0 m c) (a1 m c) (a2 m c)) ?_)
  funext a
  apply Fin.ext
  have hi : win0_9.index t = ![0, 0] := idx9 t
  match a with
  | 0 =>
    have e0 : (((win0_9.blk t).view.emb (ix2 z l : S1x128.Idx)) (0 : Fin 2) : ℕ) = z.val := by blk_simp [hi]
    exact e0.symm
  | 1 =>
    have e1 : (((win0_9.blk t).view.emb (ix2 z l : S1x128.Idx)) (1 : Fin 2) : ℕ) = l.val := by blk_simp [hi]
    exact e1.symm

end

/-! ## The run -/

/-- After the run the two results are the reference's, and the arguments are as launched. -/
theorem run_value (ρ : Dev nD → PrngReg) (hf : ∀ c, Fin' m c) :
    θ_run defs (onTc (τ := τ) (main (F := Ideal))) ⟨m, fun _ => 0, ρ⟩ fun r => ∀ c : Dev nD,
      r.2.mem ((c : Thread nD τ).loc main_v38_0) = r_v176 (F := Ideal) (a0 m c) (a1 m c) (a2 m c) (a3 m c)
      ∧ r.2.mem ((c : Thread nD τ).loc main_v38_1) = r_v178 (F := Ideal) (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, ?_, ?_⟩) (θ_run_and (run_main m ρ) (unchanged m ρ))
  · exact ((h.1 c).1 8).trans (final8 (hf c))
  · exact ((h.1 c).1 9).trans (final9 (hf c))
  · exact h.2 c

end Cert.KernelIdeal.Swa

end
-- ==== Proof.Swa.Pre.lean ====
module

public import proofs.«01_k».proof.Proof.Swa.Value
public import proofs.«01_k».proof.Proof.Gen.Pre_finite
public import Idealize.ShloMosaic.Lib.ReduceAll

@[expose] public section

set_option maxRecDepth 16384

noncomputable section

namespace Cert.KernelIdeal.Swa

open Idealize.ShloMosaic Idealize.ShloMosaic.TcCoe Idealize.SL.Sem

/-- A number whose absolute value is below the infinite word's is real. -/
theorem real_of_lt {x y : EReal} (hy : y = ⊤) (h : (BitVec.ofBool (decide (max x (-x) < y))) = 1#1) : ∃ r : ℝ, x = r := by
  subst hy
  induction x with
  | bot => simp at h
  | top => simp at h
  | coe r => exact ⟨r, rfl⟩

theorem and_ones (a b : BitVec 1) (h : IntOp.andi a b = 1#1) : a = 1#1 ∧ b = 1#1 := by
  revert a b
  decide

theorem finite_of_pre (x0 : FVec Ideal Cert.Pre_finite.S4096x2816 .bf16) (x1 : FVec Ideal Cert.Pre_finite.S8 .f32) (x2 : FVec Ideal Cert.Pre_finite.S4096x1024 .f32) (x3 : FVec Ideal Cert.Pre_finite.S4096x2944 .bf16)
    (h : Cert.Pre_finite.fn (F := Ideal) x0 x1 x2 x3 = fun _ => 1#1) :
    (∀ (i : Fin 4096) (j : Fin 640), ∃ x : ℝ, x0 (ix2 i ⟨j, by omega⟩) = (x : EReal)) ∧ ∀ j : Fin 8, ∃ x : ℝ, x1 (ix1 j) = (x : EReal) := by
  have h0 := and_ones _ _ (congrFun h ix0)
  refine ⟨fun i j => ?_, fun j => ?_⟩
  · have e := Host.reduce_andi_all _ _ _ _ ix0 h0.1 (ix2 i j)
    have hx : extractStridedSlice Cert.Pre_finite.S4096x640 ![0, 0] x0 Cert.Pre_finite.Facts.slices_S4096x2816_S4096x640_0_0 (ix2 i j) = x0 (ix2 i ⟨j, by omega⟩) := by pointwise
    rw [← hx]
    exact real_of_lt (y := Ideal.ofBits .bf16 32640#16) (by simp [Ideal.ofBits, Ideal.ieee]) e
  · have e := Host.reduce_andi_all _ _ _ _ ix0 h0.2 (ix1 j)
    exact real_of_lt (y := Ideal.ofBits .f32 2139095040#32) (by simp [Ideal.ofBits, Ideal.ieee]) e

end Cert.KernelIdeal.Swa

end
-- ==== Proof.Norm.Step.lean ====
module

public import proofs.«01_k».proof.Proof.Gen.Kernel2Ideal.Frame
public import Idealize.ShloMosaic.Lib.Pipeline.ValueKit
public import Idealize.ShloMosaic.Lib.Pipeline.ReadBack

@[expose] public section

set_option maxRecDepth 65536

noncomputable section

namespace Cert.Kernel2Ideal.Norm

open Cert.Kernel2Ideal Cert.Kernel2Ideal.Gen Idealize.ShloMosaic Idealize.ShloMosaic.TcCoe Idealize.SL.Sem

variable {F : FTy → Type} [FloatOps F]

/-! ## What the body stores in each case -/

/-- The first point keeps the product of its blocks. -/
theorem sout0_A_0_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : cond0_2 i) (hc3 : ¬cond0_3 i)
    (x0 : Vec F S1x512x1408 .bf16) (x1 : Vec F S1x1024x1408 .bf16) (x2 : Vec F S512x1024 .f32) (x3 : Vec F S1x1024 .f32) (x4 : Vec F S512x1024 .f32) :
    sout0_A_0 c i arg2 harg2 arg3 harg3 arg4 harg4 arg5 harg5 arg6 harg6 arg7 harg7 arg8 harg8 arg9 harg9 hc0 hc1 hc2 hc3 x0 x1 x2 x3 x4 = k0_pay2 x0 x1 := by
  frame_out

/-- The first point of a later tile keeps the product of its blocks. -/
theorem sout0_D_0_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : ¬cond0_2 i) (hc3 : ¬cond0_3 i)
    (x0 : Vec F S1x512x1408 .bf16) (x1 : Vec F S1x1024x1408 .bf16) (x2 : Vec F S512x1024 .f32) (x3 : Vec F S1x1024 .f32) (x4 : Vec F S512x1024 .f32) :
    sout0_D_0 c i arg2 harg2 arg3 harg3 arg4 harg4 arg5 harg5 arg6 harg6 arg7 harg7 arg8 harg8 arg9 harg9 hc0 hc1 hc2 hc3 x0 x1 x2 x3 x4 = k0_pay2 x0 x1 := by
  frame_out

/-- A point in the middle of a tile adds the product of its blocks to what is kept. -/
theorem sout0_B_0_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : ¬cond0_0 i) (hc1 : cond0_1 i) (hc2 : ¬cond0_2 i) (hc3 : ¬cond0_3 i)
    (x0 : Vec F S1x512x1408 .bf16) (x1 : Vec F S1x1024x1408 .bf16) (x2 : Vec F S512x1024 .f32) (x3 : Vec F S1x1024 .f32) (x4 : Vec F S512x1024 .f32) (xs0 : Vec F S512x1024 .f32) :
    sout0_B_0 c i arg2 harg2 arg3 harg3 arg4 harg4 arg5 harg5 arg6 harg6 arg7 harg7 arg8 harg8 arg9 harg9 hc0 hc1 hc2 hc3 x0 x1 x2 x3 x4 xs0 = k0_pay3 x0 x1 xs0 := by
  frame_out

/-- So does the last point of a tile. -/
theorem sout0_C_0_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : ¬cond0_0 i) (hc1 : cond0_1 i) (hc2 : ¬cond0_2 i) (hc3 : cond0_3 i)
    (x0 : Vec F S1x512x1408 .bf16) (x1 : Vec F S1x1024x1408 .bf16) (x2 : Vec F S512x1024 .f32) (x3 : Vec F S1x1024 .f32) (x4 : Vec F S512x1024 .f32) (xo6 : Vec F S1x1024 .f32) (xs0 : Vec F S512x1024 .f32) :
    sout0_C_0 c i arg2 harg2 arg3 harg3 arg4 harg4 arg5 harg5 arg6 harg6 arg7 harg7 arg8 harg8 arg9 harg9 hc0 hc1 hc2 hc3 x0 x1 x2 x3 x4 xo6 xs0 = k0_pay3 x0 x1 xs0 := by
  frame_out

/-- The first point stores zero in the gradient of the norm's weight. -/
theorem out0_A_6_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : cond0_2 i) (hc3 : ¬cond0_3 i)
    (x0 : Vec F S1x512x1408 .bf16) (x1 : Vec F S1x1024x1408 .bf16) (x2 : Vec F S512x1024 .f32) (x3 : Vec F S1x1024 .f32) (x4 : Vec F S512x1024 .f32) :
    out0_A_6 c i arg2 harg2 arg3 harg3 arg4 harg4 arg5 harg5 arg6 harg6 arg7 harg7 arg8 harg8 arg9 harg9 hc0 hc1 hc2 hc3 x0 x1 x2 x3 x4 = k0_pay4 (F := F) := by
  frame_out

/-- The last point of a tile stores the rows' gradient. -/
theorem out0_C_5_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : ¬cond0_0 i) (hc1 : cond0_1 i) (hc2 : ¬cond0_2 i) (hc3 : cond0_3 i)
    (x0 : Vec F S1x512x1408 .bf16) (x1 : Vec F S1x1024x1408 .bf16) (x2 : Vec F S512x1024 .f32) (x3 : Vec F S1x1024 .f32) (x4 : Vec F S512x1024 .f32) (xo6 : Vec F S1x1024 .f32) (xs0 : Vec F S512x1024 .f32) :
    out0_C_5 c i arg2 harg2 arg3 harg3 arg4 harg4 arg5 harg5 arg6 harg6 arg7 harg7 arg8 harg8 arg9 harg9 hc0 hc1 hc2 hc3 x0 x1 x2 x3 x4 xo6 xs0 = k0_pay9 x2 x3 (k0_pay3 x0 x1 xs0) x4 := by
  frame_out

/-- And it adds the tile's part to the gradient of the norm's weight. -/
theorem out0_C_6_eq (c : Dev nD) (i : grid0.Coords) (arg2 : Memref sig .tc .vmem S1x512x1408 .bf16) (harg2 : arg2.IsWhole) (arg3 : Memref sig .tc .vmem S1x1024x1408 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : ¬cond0_0 i) (hc1 : cond0_1 i) (hc2 : ¬cond0_2 i) (hc3 : cond0_3 i)
    (x0 : Vec F S1x512x1408 .bf16) (x1 : Vec F S1x1024x1408 .bf16) (x2 : Vec F S512x1024 .f32) (x3 : Vec F S1x1024 .f32) (x4 : Vec F S512x1024 .f32) (xo6 : Vec F S1x1024 .f32) (xs0 : Vec F S512x1024 .f32) :
    out0_C_6 c i arg2 harg2 arg3 harg3 arg4 harg4 arg5 harg5 arg6 harg6 arg7 harg7 arg8 harg8 arg9 harg9 hc0 hc1 hc2 hc3 x0 x1 x2 x3 x4 xo6 xs0 = k0_pay5 (k0_pay8 x2 (k0_pay3 x0 x1 xs0)) xo6 := by
  frame_out

end Cert.Kernel2Ideal.Norm
-- ==== Proof.Norm.Points.lean ====
module

public import proofs.«01_k».proof.Proof.Norm.Step

@[expose] public section

set_option maxRecDepth 16384

noncomputable section

namespace Cert.Kernel2Ideal.Norm

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem lt32 : t.val < 32 := lt_of_lt_of_eq t.isLt (show cfg0.N = 32 from N_0)

/-- The point before. -/
abbrev prev : Fin cfg0.N := ⟨t.val - 1, Nat.lt_of_le_of_lt (Nat.sub_le _ _) t.isLt⟩

/-- A tile's first point keeps the product of its blocks. -/
theorem kept_first (h : t.val % 4 = 0) : (outsAt0 m c t.val t.isLt).2.2 = k0_pay2 (iblk m c 0 t) (iblk m c 1 t) := by
  have := lt32 t
  by_cases h0 : t.val = 0
  · rw [outsAt0_A m c t h (by omega) (by omega) (by omega)]
    dsimp only
    rw [sout0_A_0_eq]
  · rw [outsAt0_D m c t h (by omega) (by omega) (by omega)]
    dsimp only
    rw [sout0_D_0_eq]

/-- A later point adds its own product. -/
theorem kept_next (h : t.val % 4 ≠ 0) :
    (outsAt0 m c t.val t.isLt).2.2 = k0_pay3 (iblk m c 0 t) (iblk m c 1 t) (outsAt0 m c (prev t).val (prev t).isLt).2.2 := by
  by_cases h3 : t.val % 4 = 3
  · rw [outsAt0_C m c t (by omega) (by omega) (by omega) h3]
    dsimp only
    rw [sout0_C_0_eq]
  · rw [outsAt0_B m c t (by omega) (by omega) (by omega) h3]
    dsimp only
    rw [sout0_B_0_eq]

/-- A tile's last point stores the rows' gradient. -/
theorem rows_last (h : t.val % 4 = 3) :
    (outsAt0 m c t.val t.isLt).1 = k0_pay9 (iblk m c 2 t) (iblk m c 3 t) (outsAt0 m c t.val t.isLt).2.2 (iblk m c 4 t) := by
  rw [kept_next m c t (by omega), outsAt0_C m c t (by omega) (by omega) (by omega) h]
  dsimp only
  rw [out0_C_5_eq]

/-- And it adds the tile's part to the gradient of the norm's weight. -/
theorem weight_last (h : t.val % 4 = 3) :
    (outsAt0 m c t.val t.isLt).2.1 = k0_pay5 (k0_pay8 (iblk m c 2 t) (outsAt0 m c t.val t.isLt).2.2) (outsAt0 m c (prev t).val (prev t).isLt).2.1 := by
  rw [kept_next m c t (by omega), outsAt0_C m c t (by omega) (by omega) (by omega) h]
  dsimp only
  rw [out0_C_6_eq]

/-- The first point of all starts it at zero. -/
theorem weight_first (h : t.val = 0) : (outsAt0 m c t.val t.isLt).2.1 = k0_pay4 (F := F) := by
  rw [outsAt0_A m c t (by omega) (by omega) (by omega) (by omega)]
  dsimp only
  rw [out0_A_6_eq]

/-- The other points leave it. -/
theorem weight_keep (h : t.val ≠ 0) (h3 : t.val % 4 ≠ 3) : (outsAt0 m c t.val t.isLt).2.1 = (outsAt0 m c (prev t).val (prev t).isLt).2.1 := by
  have := lt32 t
  by_cases h0 : t.val % 4 = 0
  · rw [outsAt0_D m c t h0 (by omega) (by omega) h3]
    rfl
  · rw [outsAt0_B m c t h0 (by omega) (by omega) h3]
    rfl

end Cert.Kernel2Ideal.Norm
-- ==== Proof.Norm.Blocks.lean ====
module

public import proofs.«01_k».proof.Proof.Gen.Kernel2Ideal.Frame
public import Idealize.ShloMosaic.Lib.Pipeline.ValueKit
public import Idealize.ShloMosaic.Lib.StableHlo.ReadAt
public import Idealize.ShloMosaic.Lib.Claim
public import Idealize.ShloMosaic.Lib.Pointwise

@[expose] public section

set_option maxRecDepth 65536

noncomputable section

namespace Cert.Kernel2Ideal.Norm

open Cert.Kernel2Ideal Cert.Kernel2Ideal.Gen Idealize.ShloMosaic Idealize.ShloMosaic.TcCoe Idealize.SL.Sem

/-! ## Where the blocks of a point lie in the arrays -/

/-- The places of a point's blocks. -/
theorem idx : ∀ t : Fin cfg0.N, (win0_0.index t = ![t.val % 4 / 2, t.val / 4, t.val % 2] ∧ win0_1.index t = ![t.val % 4, 0, 0])
    ∧ (win0_2.index t = ![t.val / 4, 0] ∧ win0_3.index t = ![0, 0] ∧ win0_4.index t = ![t.val / 4, 0]) :=
  (by decide +kernel : ∀ t : Fin grid0.N, _)

variable (m : (ℓ : Loc nD τ sig) → Buf (Elt Ideal) ℓ) (c : Dev nD) (t : Fin cfg0.N) (i : Fin 8) (k : Fin 4) (ht : t.val = 4 * i.val + k.val)
include ht

theorem idx_t : (win0_0.index t = ![k.val / 2, i.val, k.val % 2] ∧ win0_1.index t = ![k.val, 0, 0])
    ∧ (win0_2.index t = ![i.val, 0] ∧ win0_3.index t = ![0, 0] ∧ win0_4.index t = ![i.val, 0]) := by
  obtain ⟨⟨a0, a1⟩, a2, a3, a4⟩ := idx t
  have e1 : t.val % 4 = k.val := by omega
  have e2 : t.val / 4 = i.val := by omega
  have e3 : t.val % 2 = k.val % 2 := by omega
  rw [e1] at a0 a1
  rw [e2] at a0 a2 a4
  rw [e3] at a0
  exact ⟨⟨a0, a1⟩, a2, a3, a4⟩

/-- The product's cotangents. -/
theorem g_read (z : Fin 1) (r : Fin 512) (j : Fin 1408) : iblk m c 0 t (ix3 z r j) = m ((c : Thread nD τ).loc main_arg0) (ix3 ⟨k.val / 2, by omega⟩ ⟨i.val * 512 + r.val, by omega⟩ ⟨k.val % 2 * 1408 + j.val, by omega⟩) := by
  obtain ⟨⟨a0, a1⟩, a2, a3, a4⟩ := idx_t t i k ht
  blk_ext [iblk, V, a0]

/-- The weights. -/
theorem w_read (z : Fin 1) (d : Fin 1024) (j : Fin 1408) : iblk m c 1 t (ix3 z d j) = m ((c : Thread nD τ).loc main_arg1) (ix3 k d j) := by
  obtain ⟨⟨a0, a1⟩, a2, a3, a4⟩ := idx_t t i k ht
  blk_ext [iblk, V, a1]

/-- The rows. -/
theorem x_read (r : Fin 512) (d : Fin 1024) : iblk m c 2 t (ix2 r d) = m ((c : Thread nD τ).loc main_arg2) (ix2 ⟨i.val * 512 + r.val, by omega⟩ d) := by
  obtain ⟨⟨a0, a1⟩, a2, a3, a4⟩ := idx_t t i k ht
  blk_ext [iblk, V, a2]

/-- The norm's weight. -/
theorem n_read (z : Fin 1) (d : Fin 1024) : iblk m c 3 t (ix2 z d) = m ((c : Thread nD τ).loc main_arg3) (ix1 d) := by
  obtain ⟨⟨a0, a1⟩, a2, a3, a4⟩ := idx_t t i k ht
  have h : iblk m c 3 t (ix2 z d) = V m c main_v0 (ix2 0 d) := by
    unfold iblk
    blk_simp [a3]
    refine congrArg (V m c main_v0) ?_
    blk_ext [a3]
  rw [h]
  unfold V
  after_reads_at

/-- The residual's cotangents. -/
theorem e_read (r : Fin 512) (d : Fin 1024) : iblk m c 4 t (ix2 r d) = m ((c : Thread nD τ).loc main_arg4) (ix2 ⟨i.val * 512 + r.val, by omega⟩ d) := by
  obtain ⟨⟨a0, a1⟩, a2, a3, a4⟩ := idx_t t i k ht
  blk_ext [iblk, V, a4]

end Cert.Kernel2Ideal.Norm
-- ==== Proof.Norm.Spec.lean ====
module

public import Idealize.ShloMosaic.Lib.Pointwise
public import Idealize.ShloMosaic.Lib.Claim

@[expose] public section

noncomputable section

namespace Cert.Norm

open Idealize.ShloMosaic

/-! The gradients through the norm of one row, in the extended reals. -/

section
variable (x h : Fin 1024 → EReal)

/-- The mean of the row's squares, and the norm's small number. -/
def ms : EReal := Ideal.div (∑ j, x j * x j) (Ideal.ofBits .f32 0x44800000#32) + Ideal.ofBits .f32 0x358637BD#32

/-- Its reciprocal square root. -/
def rs : EReal := Ideal.rsqrt (ms x)

/-- What goes back through the mean, for cotangents `h` of the normalized row. -/
def bk : EReal := Ideal.div ((∑ j, x j * h j) * (Ideal.ofBits .f32 0xBF000000#32 * Ideal.div (rs x) (ms x))) (Ideal.ofBits .f32 0x44800000#32)

/-- The row's gradient at `d`. -/
def dx (d : Fin 1024) : EReal := h d * rs x + x d * bk x h + bk x h * x d

end

/-- A sum over `n * k` numbers is the sum over `n` runs of `k`. -/
theorem sum_runs {n k N : ℕ} (hN : N = n * k) (f : Fin N → EReal) :
    ∑ i, f i = ∑ a : Fin n, ∑ b : Fin k, f ⟨a.val * k + b.val, by
      subst hN
      calc a.val * k + b.val < a.val * k + k := Nat.add_lt_add_left b.isLt _
        _ = (a.val + 1) * k := (Nat.succ_mul _ _).symm
        _ ≤ n * k := Nat.mul_le_mul_right k a.isLt⟩ := by
  subst hN
  rw [← Equiv.sum_comp finProdFinEquiv f, Fintype.sum_prod_type]
  refine Finset.sum_congr rfl fun a _ => Finset.sum_congr rfl fun b _ => congrArg f (Fin.ext ?_)
  show b.val + k * a.val = a.val * k + b.val
  rw [Nat.mul_comm, Nat.add_comm]

end Cert.Norm
-- ==== Proof.Norm.Pay.lean ====
module

public import proofs.«01_k».proof.Proof.Gen.Kernel2Ideal.Skeleton
public import proofs.«01_k».proof.Proof.Norm.Spec
public import Idealize.ShloMosaic.Lib.Pointwise
public import Idealize.ShloMosaic.Lib.Claim
import Idealize.ShloMosaic.Lib.Tactic.CleanTypes

@[expose] public section

set_option maxRecDepth 65536

noncomputable section

namespace Cert.Kernel2Ideal.Norm

open Cert.Kernel2Ideal Cert.Kernel2Ideal.Gen Idealize.ShloMosaic Idealize.SL.Sem Cert.Norm

variable (a : Vec Ideal S1x512x1408 .bf16) (b : Vec Ideal S1x1024x1408 .bf16) (x g e : Vec Ideal S512x1024 .f32) (w : Vec Ideal S1x1024 .f32) (s : FVec Ideal S1x1024 .f32) (o : Vec Ideal S1x1024 .f32)
variable (r : Fin 512) (d : Fin 1024) (z : Fin 1)

/-! The body's values, read at an index. -/

theorem pay1_apply : k0_pay1 a b (ix2 r d) = ∑ j : Fin 1408, a (ix3 0 r j) * b (ix3 0 d j) := by
  unfold k0_pay1
  pointwise

theorem pay2_apply : k0_pay2 a b (ix2 r d) = ∑ j : Fin 1408, a (ix3 0 r j) * b (ix3 0 d j) := by
  unfold k0_pay2
  pointwise
  exact pay1_apply a b r d

theorem pay3_apply : k0_pay3 a b x (ix2 r d) = x (ix2 r d) + ∑ j : Fin 1408, a (ix3 0 r j) * b (ix3 0 d j) := by
  unfold k0_pay3
  pointwise
  rw [pay1_apply]

theorem pay4_apply : (k0_pay4 (F := Ideal)) (ix2 z d) = (0 : EReal) := by
  unfold k0_pay4
  pointwise

theorem pay5_apply : k0_pay5 s o (ix2 z d) = (o (ix2 z d) + s (ix2 z d) : EReal) := by
  unfold k0_pay5
  pointwise

theorem pay6_apply : k0_pay6 x (ix2 r z) = ms fun j => x (ix2 r j) := by
  unfold k0_pay6
  pointwise
  rfl

theorem pay7_apply : k0_pay7 x (ix2 r z) = rs fun j => x (ix2 r j) := by
  unfold k0_pay7
  pointwise
  rw [pay6_apply]
  rfl

theorem pay8_apply : k0_pay8 x g (ix2 z d) = ∑ r : Fin 512, x (ix2 r d) * rs (fun j => x (ix2 r j)) * g (ix2 r d) := by
  unfold k0_pay8
  pointwise
  simp only [pay7_apply]

theorem pay9_apply : k0_pay9 x w g e (ix2 r d) = dx (fun j => x (ix2 r j)) (fun j => g (ix2 r j) * w (ix2 0 j)) d + e (ix2 r d) := by
  unfold k0_pay9
  pointwise
  simp only [pay7_apply, pay6_apply, Finset.univ_unique, Finset.sum_singleton]
  rfl

end Cert.Kernel2Ideal.Norm
-- ==== Proof.Norm.RefVal.lean ====
module

public import proofs.«01_k».proof.Proof.Gen.Reference2Ideal.Run

@[expose] public section

set_option maxRecDepth 8192

noncomputable section

namespace Cert.Reference2Ideal.Norm

open Cert.Reference2Ideal Cert.Reference2Ideal.Gen Idealize.ShloMosaic Idealize.ShloMosaic.TcCoe Idealize.SL.Sem Idealize.ShloMosaic.StableHlo

variable {F : FTy → Type} [FloatOps F]

/-! The reference's results, as functions of its arguments. -/

/-- The gradient of the normalized rows: the product of the cotangents with the weights. -/
def r_g (a0 : (⟨S2x4096x2816, .bf16⟩ : BufTy).Contents (Elt F)) (a1 : (⟨S4x1024x1408, .bf16⟩ : BufTy).Contents (Elt F)) : (⟨S4096x1024, .f32⟩ : BufTy).Contents (Elt F) :=
  Host.dotGeneral dot_S4096x5632_S1024x5632_S4096x1024_1_1_0_0_n_n none (concatenate S4096x5632 1 [⟨S4096x2816, (extf .f32 (shapeCast _ (extractStridedSlice S1x4096x2816 ![0, 0, 0] a0 slices_S2x4096x2816_S1x4096x2816_0_0_0) shapeCasts_S1x4096x2816_S4096x2816) bitsLt_bf16_f32)⟩, ⟨S4096x2816, (extf .f32 (shapeCast _ (extractStridedSlice S1x4096x2816 ![1, 0, 0] a0 slices_S2x4096x2816_S1x4096x2816_1_0_0) shapeCasts_S1x4096x2816_S4096x2816) bitsLt_bf16_f32)⟩] concatenates_S4096x2816_S4096x2816_S4096x5632_d1) ((concatenate S1024x5632 1 [⟨S1024x1408, ((extf .f32 (shapeCast _ (extractStridedSlice S1x1024x1408 ![0, 0, 0] a1 slices_S4x1024x1408_S1x1024x1408_0_0_0) shapeCasts_S1x1024x1408_S1024x1408) bitsLt_bf16_f32) : (⟨S1024x1408, .f32⟩ : BufTy).Contents (Elt F))⟩, ⟨S1024x1408, ((extf .f32 (shapeCast _ (extractStridedSlice S1x1024x1408 ![1, 0, 0] a1 slices_S4x1024x1408_S1x1024x1408_1_0_0) shapeCasts_S1x1024x1408_S1024x1408) bitsLt_bf16_f32) : (⟨S1024x1408, .f32⟩ : BufTy).Contents (Elt F))⟩, ⟨S1024x1408, ((extf .f32 (shapeCast _ (extractStridedSlice S1x1024x1408 ![2, 0, 0] a1 slices_S4x1024x1408_S1x1024x1408_2_0_0) shapeCasts_S1x1024x1408_S1024x1408) bitsLt_bf16_f32) : (⟨S1024x1408, .f32⟩ : BufTy).Contents (Elt F))⟩, ⟨S1024x1408, ((extf .f32 (shapeCast _ (extractStridedSlice S1x1024x1408 ![3, 0, 0] a1 slices_S4x1024x1408_S1x1024x1408_3_0_0) shapeCasts_S1x1024x1408_S1024x1408) bitsLt_bf16_f32) : (⟨S1024x1408, .f32⟩ : BufTy).Contents (Elt F))⟩] concatenates_S1024x1408_S1024x1408_S1024x1408_S1024x1408_S1024x5632_d1 : (⟨S1024x5632, .f32⟩ : BufTy).Contents (Elt F)))

/-- The mean of a row's squares, and the norm's small number. -/
def r_ms (a2 : (⟨S4096x1024, .f32⟩ : BufTy).Contents (Elt F)) : (⟨S4096x1, .f32⟩ : BufTy).Contents (Elt F) :=
  addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Its reciprocal square root. -/
def r_rs (a2 : (⟨S4096x1024, .f32⟩ : BufTy).Contents (Elt F)) : (⟨S4096x1, .f32⟩ : BufTy).Contents (Elt F) :=
  Host.rsqrt (r_ms a2)

/-- The gradient of the rows. -/
def r_dx (a0 : (⟨S2x4096x2816, .bf16⟩ : BufTy).Contents (Elt F)) (a1 : (⟨S4x1024x1408, .bf16⟩ : BufTy).Contents (Elt F)) (a2 : (⟨S4096x1024, .f32⟩ : BufTy).Contents (Elt F)) (a3 : (⟨S1024, .f32⟩ : BufTy).Contents (Elt F)) (a4 : (⟨S4096x1024, .f32⟩ : BufTy).Contents (Elt F)) : (⟨S4096x1024, .f32⟩ : BufTy).Contents (Elt F) :=
  addf (addf (addf a4 (mulf (mulf (r_g a0 a1) (broadcastInDim S4096x1024 ![0, 1] bcast_S1x1024_S4096x1024_0_1 (broadcastInDim S1x1024 ![1] bcast_S1024_S1x1024_1 a3))) (broadcastInDim S4096x1024 ![0, 1] bcast_S4096x1_S4096x1024_0_1 (r_rs a2)))) (mulf a2 (broadcastInDim S4096x1024 ![0] bcast_S4096_S4096x1024_0 (Host.reduceAdd (Host.divf (mulf (shapeCast _ (Host.reduceAdd (mulf a2 (mulf (r_g a0 a1) (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (r_rs a2) (r_ms a2)))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf (r_g a0 a1) (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (r_rs a2) (r_ms a2)))) (broadcastInDim S4096x1 ![] bcast_S_S4096x1 (constant S_ .f32 0x44800000#32))) (constant S_ .f32 0x00000000#32) reducesTo_S4096x1_S4096_d1 h_S_)) a2)

/-- The gradient of the norm's weight. -/
def r_dw (a0 : (⟨S2x4096x2816, .bf16⟩ : BufTy).Contents (Elt F)) (a1 : (⟨S4x1024x1408, .bf16⟩ : BufTy).Contents (Elt F)) (a2 : (⟨S4096x1024, .f32⟩ : BufTy).Contents (Elt F)) : (⟨S1x1024, .f32⟩ : BufTy).Contents (Elt F) :=
  broadcastInDim S1x1024 ![1] bcast_S1024_S1x1024_1 (Host.reduceAdd (shapeCast _ (Host.reduceAdd (mulf (mulf a2 (broadcastInDim S4096x1024 ![0, 1] bcast_S4096x1_S4096x1024_0_1 (r_rs a2))) (r_g a0 a1)) (constant S_ .f32 0x00000000#32) reducesTo_S4096x1024_S1024_d0 h_S_) shapeCasts_S1024_S1x1024) (constant S_ .f32 0x00000000#32) reducesTo_S1x1024_S1024_d0 h_S_)

/-- The run's results are these. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = r_dx (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v59) = r_dw (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2⟩) (Cert.Reference2Ideal.Value.run m ρ)

end Cert.Reference2Ideal.Norm
-- ==== Proof.Norm.RefRead.lean ====
module

public import proofs.«01_k».proof.Proof.Norm.RefVal
public import proofs.«01_k».proof.Proof.Norm.Spec
import Idealize.ShloMosaic.Lib.Tactic.CleanTypes

@[expose] public section

set_option maxRecDepth 65536

noncomputable section

namespace Cert.Reference2Ideal.Norm

open Cert.Reference2Ideal Cert.Reference2Ideal.Gen Idealize.ShloMosaic Idealize.SL.Sem Cert.Norm

variable (a0 : FVec Ideal S2x4096x2816 .bf16) (a1 : FVec Ideal S4x1024x1408 .bf16) (a2 : FVec Ideal S4096x1024 .f32) (a3 : FVec Ideal S1024 .f32) (a4 : FVec Ideal S4096x1024 .f32)
variable (r : Fin 4096) (d : Fin 1024) (z : Fin 1)

theorem val3 : ((3 : Fin 4) : ℕ) = 3 := rfl

/-- Two indices of the same numbers. -/
theorem ix3_congr {A B C : ℕ} {x x' : Fin A} {y y' : Fin B} {z z' : Fin C} (hx : x.val = x'.val) (hy : y.val = y'.val) (hz : z.val = z'.val) :
    ix3 x y z = ix3 x' y' z' := by
  rw [Fin.ext hx, Fin.ext hy, Fin.ext hz]

/-- A number of the product: its four runs of columns. -/
theorem g_apply : r_g (F := Ideal) a0 a1 (ix2 r d) = ∑ k : Fin 4, ∑ j : Fin 1408, a0 (ix3 ⟨k.val / 2, by omega⟩ r ⟨k.val % 2 * 1408 + j.val, by omega⟩) * a1 (ix3 k d j) := by
  unfold r_g
  clean_types
  pointwise
  have key : ∀ f : Fin 5632 → EReal, (∀ (k : Fin 4) (j : Fin 1408) (h : k.val * 1408 + j.val < 5632),
      f ⟨k.val * 1408 + j.val, h⟩ = a0 (ix3 ⟨k.val / 2, by omega⟩ r ⟨k.val % 2 * 1408 + j.val, by omega⟩) * a1 (ix3 k d j)) →
      ∑ x, f x = ∑ k : Fin 4, ∑ j : Fin 1408, a0 (ix3 ⟨k.val / 2, by omega⟩ r ⟨k.val % 2 * 1408 + j.val, by omega⟩) * a1 (ix3 k d j) := fun f hf =>
    (sum_runs (n := 4) (k := 1408) (N := 5632) (by norm_num) f).trans (Finset.sum_congr rfl fun k _ => Finset.sum_congr rfl fun j _ => hf k j _)
  refine key _ fun k j h => ?_
  have hj := j.isLt
  have hk4 := k.isLt
  dsimp only
  by_cases h0 : k.val = 0
  · rw [dif_pos (by omega), dif_pos (by omega)]
    refine congrArg₂ (· * ·) (congrArg a0 (ix3_congr ?_ rfl ?_)) (congrArg a1 (ix3_congr ?_ rfl ?_)) <;> simp only [Fin.val_zero, Fin.val_one, Fin.val_two, val3] <;> omega
  · by_cases h1 : k.val = 1
    · rw [dif_pos (by omega), dif_neg (by omega), dif_pos (by omega)]
      refine congrArg₂ (· * ·) (congrArg a0 (ix3_congr ?_ rfl ?_)) (congrArg a1 (ix3_congr ?_ rfl ?_)) <;> simp only [Fin.val_zero, Fin.val_one, Fin.val_two, val3] <;> omega
    · by_cases h2 : k.val = 2
      · rw [dif_neg (by omega), dif_neg (by omega), dif_neg (by omega), dif_pos (by omega)]
        refine congrArg₂ (· * ·) (congrArg a0 (ix3_congr ?_ rfl ?_)) (congrArg a1 (ix3_congr ?_ rfl ?_)) <;> simp only [Fin.val_zero, Fin.val_one, Fin.val_two, val3] <;> omega
      · rw [dif_neg (by omega), dif_neg (by omega), dif_neg (by omega), dif_neg (by omega)]
        refine congrArg₂ (· * ·) (congrArg a0 (ix3_congr ?_ rfl ?_)) (congrArg a1 (ix3_congr ?_ rfl ?_)) <;> simp only [Fin.val_zero, Fin.val_one, Fin.val_two, val3] <;> omega

/-! The other stages. -/

theorem ms_apply : r_ms (F := Ideal) a2 (ix2 r z) = ms (fun j => a2 (ix2 r j)) := by
  unfold r_ms
  clean_types
  pointwise
  rfl

theorem rs_apply : r_rs (F := Ideal) a2 (ix2 r z) = rs (fun j => a2 (ix2 r j)) := by
  unfold r_rs
  clean_types
  pointwise
  rw [ms_apply]
  rfl

theorem dx_apply : r_dx (F := Ideal) a0 a1 a2 a3 a4 (ix2 r d) = dx (fun j => a2 (ix2 r j)) (fun j => r_g (F := Ideal) a0 a1 (ix2 r j) * a3 (ix1 j)) d + a4 (ix2 r d) := by
  unfold r_dx
  clean_types
  pointwise
  simp only [rs_apply, ms_apply, Finset.univ_unique, Finset.sum_singleton]
  unfold dx bk
  rw [add_assoc (a4 (ix2 r d) : EReal), add_assoc (a4 (ix2 r d) : EReal), add_comm (a4 (ix2 r d) : EReal)]

theorem dw_apply : r_dw (F := Ideal) a0 a1 a2 (ix2 z d) = ∑ r : Fin 4096, a2 (ix2 r d) * rs (fun j => a2 (ix2 r j)) * r_g (F := Ideal) a0 a1 (ix2 r d) := by
  unfold r_dw
  clean_types
  pointwise
  simp only [rs_apply, Finset.univ_unique, Finset.sum_singleton]

end Cert.Reference2Ideal.Norm
-- ==== Proof.Norm.Value.lean ====
module

public import proofs.«01_k».proof.Proof.Norm.Points
public import proofs.«01_k».proof.Proof.Norm.Blocks
public import proofs.«01_k».proof.Proof.Norm.Pay
public import proofs.«01_k».proof.Proof.Norm.RefRead
public import proofs.«01_k».proof.Proof.Gen.Kernel2Ideal.Value

@[expose] public section

set_option maxRecDepth 16384

noncomputable section

namespace Cert.Kernel2Ideal.Norm

open Cert.Kernel2Ideal Cert.Kernel2Ideal.Gen Idealize.ShloMosaic Idealize.ShloMosaic.TcCoe Idealize.SL.Sem Cert.Norm
open Cert.Reference2Ideal.Norm (r_g r_dx r_dw)

variable (m : (ℓ : Loc nD τ sig) → Buf (Elt Ideal) ℓ) (c : Dev nD)

/-! ## The arguments -/

abbrev a0 : FVec Ideal S2x4096x2816 .bf16 := m ((c : Thread nD τ).loc main_arg0)
abbrev a1 : FVec Ideal S4x1024x1408 .bf16 := m ((c : Thread nD τ).loc main_arg1)
abbrev a2 : FVec Ideal S4096x1024 .f32 := m ((c : Thread nD τ).loc main_arg2)
abbrev a3 : FVec Ideal S1024 .f32 := m ((c : Thread nD τ).loc main_arg3)
abbrev a4 : FVec Ideal S4096x1024 .f32 := m ((c : Thread nD τ).loc main_arg4)

/-- Row `r` of tile `i`. -/
abbrev row (i : Fin 8) (r : Fin 512) : Fin 4096 := ⟨i.val * 512 + r.val, by omega⟩

/-- What run `k` of columns adds to the product. -/
def part (i : Fin 8) (k : Fin 4) (r : Fin 512) (d : Fin 1024) : EReal :=
  ∑ j : Fin 1408, a0 m c (ix3 ⟨k.val / 2, by omega⟩ (row i r) ⟨k.val % 2 * 1408 + j.val, by omega⟩) * a1 m c (ix3 k d j)

section
variable (t : Fin cfg0.N) (i : Fin 8) (r : Fin 512) (d : Fin 1024) (z : Fin 1)

/-- The blocks of the product at a point. -/
abbrev blkG : FVec Ideal S1x512x1408 .bf16 := iblk m c 0 t
abbrev blkW : FVec Ideal S1x1024x1408 .bf16 := iblk m c 1 t

theorem part_eq (k : Fin 4) (ht : t.val = 4 * i.val + k.val) :
    ∑ j : Fin 1408, blkG m c t (ix3 0 r j) * blkW m c t (ix3 0 d j) = part m c i k r d :=
  Finset.sum_congr rfl fun j _ => congrArg₂ (· * ·) (g_read m c t i k ht 0 r j) (w_read m c t i k ht 0 d j)

theorem kept0 (ht : t.val = 4 * i.val + 0) : (outsAt0 m c t.val t.isLt).2.2 (ix2 r d) = part m c i 0 r d := by
  rw [kept_first m c t (by omega), pay2_apply]
  exact part_eq m c t i r d 0 ht

theorem kept1 (ht : t.val = 4 * i.val + 1) : (outsAt0 m c t.val t.isLt).2.2 (ix2 r d) = part m c i 0 r d + part m c i 1 r d := by
  rw [kept_next m c t (by omega), pay3_apply, kept0 m c (prev t) i r d (show t.val - 1 = _ by omega)]
  exact congrArg (_ + ·) (part_eq m c t i r d 1 ht)

theorem kept2 (ht : t.val = 4 * i.val + 2) : (outsAt0 m c t.val t.isLt).2.2 (ix2 r d) = part m c i 0 r d + part m c i 1 r d + part m c i 2 r d := by
  rw [kept_next m c t (by omega), pay3_apply, kept1 m c (prev t) i r d (show t.val - 1 = _ by omega)]
  exact congrArg (_ + ·) (part_eq m c t i r d 2 ht)

/-- A tile's last point holds the whole product. -/
theorem kept3 (ht : t.val = 4 * i.val + 3) : (outsAt0 m c t.val t.isLt).2.2 (ix2 r d) = r_g (F := Ideal) (a0 m c) (a1 m c) (ix2 (row i r) d) := by
  rw [kept_next m c t (by omega), pay3_apply, kept2 m c (prev t) i r d (show t.val - 1 = _ by omega)]
  refine (congrArg (_ + ·) (part_eq m c t i r d 3 ht)).trans ?_
  rw [Cert.Reference2Ideal.Norm.g_apply, Fin.sum_univ_four]
  rfl

/-- The rows' gradient. -/
theorem rows_eq (ht : t.val = 4 * i.val + 3) :
    (outsAt0 m c t.val t.isLt).1 (ix2 r d) = r_dx (F := Ideal) (a0 m c) (a1 m c) (a2 m c) (a3 m c) (a4 m c) (ix2 (row i r) d) := by
  rw [rows_last m c t (by omega), pay9_apply, Cert.Reference2Ideal.Norm.dx_apply]
  simp only [x_read m c t i 3 ht, n_read m c t i 3 ht, e_read m c t i 3 ht, kept3 m c t i _ _ ht]

/-- What a tile adds to the gradient of the norm's weight. -/
def tile (d : Fin 1024) (i : Fin 8) : EReal :=
  ∑ r : Fin 512, a2 m c (ix2 (row i r) d) * rs (fun j => a2 m c (ix2 (row i r) j)) * r_g (F := Ideal) (a0 m c) (a1 m c) (ix2 (row i r) d)

theorem weight3 (ht : t.val = 4 * i.val + 3) :
    (outsAt0 m c t.val t.isLt).2.1 (ix2 z d) = (outsAt0 m c (prev t).val (prev t).isLt).2.1 (ix2 z d) + tile m c d i := by
  rw [weight_last m c t (by omega), pay5_apply, pay8_apply]
  simp only [x_read m c t i 3 ht, kept3 m c t i _ _ ht]
  rfl

/-- From a tile's third point back to its first. -/
theorem weight2 (ht : t.val = 4 * i.val + 2) :
    (outsAt0 m c t.val t.isLt).2.1 = (outsAt0 m c (prev (prev t)).val (prev (prev t)).isLt).2.1 := by
  rw [weight_keep m c t (by omega) (by omega), weight_keep m c (prev t) (show t.val - 1 ≠ 0 by omega) (show (t.val - 1) % 4 ≠ 3 by omega)]

end

/-- The gradient of the norm's weight after tile `n`. -/
theorem weight_at (d : Fin 1024) (z : Fin 1) : ∀ (n : ℕ) (hn : n < 8) (t : Fin cfg0.N), t.val = 4 * n + 3 →
    (outsAt0 m c t.val t.isLt).2.1 (ix2 z d) = ∑ i : Fin (n + 1), tile m c d ⟨i.val, by omega⟩
  | 0, hn, t, ht => by
    rw [weight3 m c t 0 d z ht, weight2 m c (prev t) 0 (show t.val - 1 = _ by omega), weight_first m c (prev (prev (prev t))) (show t.val - 1 - 1 - 1 = 0 by omega), pay4_apply, zero_add, Fin.sum_univ_one]
    rfl
  | n + 1, hn, t, ht => by
    rw [weight3 m c t ⟨n + 1, hn⟩ d z ht, weight2 m c (prev t) ⟨n + 1, hn⟩ (show t.val - 1 = 4 * (n + 1) + 2 by omega),
      weight_keep m c (prev (prev (prev t))) (show t.val - 1 - 1 - 1 ≠ 0 by omega) (show (t.val - 1 - 1 - 1) % 4 ≠ 3 by omega),
      weight_at d z n (by omega) (prev (prev (prev (prev t)))) (show t.val - 1 - 1 - 1 - 1 = 4 * n + 3 by omega), Fin.sum_univ_castSucc (n := n + 1)]
    rfl

/-- After the last tile it is the reference's. -/
theorem weight_eq (t : Fin cfg0.N) (ht : t.val = 31) : (outsAt0 m c t.val t.isLt).2.1 = r_dw (F := Ideal) (a0 m c) (a1 m c) (a2 m c) := by
  funext y
  obtain ⟨z, d, rfl⟩ : ∃ (z : Fin 1) (d : Fin 1024), y = (ix2 z d : S1x1024.Idx) :=
    ⟨y (0 : Fin 2), y (1 : Fin 2), by
      funext a
      match a with
      | 0 => rfl
      | 1 => rfl⟩
  rw [weight_at m c d z 7 (by omega) t ht]
  refine Eq.trans ?_ (Cert.Reference2Ideal.Norm.dw_apply (a0 m c) (a1 m c) (a2 m c) d z).symm
  refine Eq.trans ?_ (sum_runs (n := 8) (k := 512) (N := 4096) (by norm_num) _).symm
  rfl

/-- The rows' gradient after the run. -/
theorem G5_eq : Value.G5 m c = r_dx (F := Ideal) (a0 m c) (a1 m c) (a2 m c) (a3 m c) (a4 m c) := by
  funext y
  obtain ⟨R, d, rfl⟩ : ∃ (R : Fin 4096) (d : Fin 1024), y = (ix2 R d : S4096x1024.Idx) :=
    ⟨y (0 : Fin 2), y (1 : Fin 2), by
      funext a
      match a with
      | 0 => rfl
      | 1 => rfl⟩
  have hN : cfg0.N = 32 := N_0
  have hp : Value.pt5Of (ix2 R d : S4096x1024.Idx) = 4 * (R.val / 512) + 3 := by
    have : d.val / 1024 = 0 := Nat.div_eq_of_lt d.isLt
    show 4 * (1 * (R.val / 512 - 0) + 1 * (d.val / 1024 - 0)) + 3 = _
    omega
  have hlt : Value.pt5Of (ix2 R d : S4096x1024.Idx) < cfg0.N := by rw [hp, hN]; omega
  unfold Value.G5
  rw [dif_pos hlt, ← Value.outsAt0_sweep m c _ hlt]
  have e := rows_eq m c ⟨_, hlt⟩ ⟨R.val / 512, by omega⟩ ⟨R.val % 512, Nat.mod_lt _ (by decide)⟩ d hp
  have hr : row ⟨R.val / 512, by omega⟩ ⟨R.val % 512, Nat.mod_lt _ (by decide)⟩ = R := Fin.ext (show R.val / 512 * 512 + R.val % 512 = R.val by omega)
  rw [hr] at e
  refine Eq.trans (congrArg _ ?_) e
  funext a
  match a with
  | 0 => exact Fin.ext rfl
  | 1 => exact Fin.ext (show d.val % 1024 = d.val from Nat.mod_eq_of_lt d.isLt)

/-- The gradient of the norm's weight after the run. -/
theorem G6_eq : Value.G6 m c = r_dw (F := Ideal) (a0 m c) (a1 m c) (a2 m c) := by
  have hN : cfg0.N = 32 := N_0
  have h31 : 31 < cfg0.N := by rw [hN]; decide
  rw [Value.G6_last m c, ← Value.outsAt0_sweep m c 31 h31]
  exact weight_eq m c ⟨31, h31⟩ rfl

end Cert.Kernel2Ideal.Norm
-- ==== Proof.Norm.Same.lean ====
module

public import proofs.«01_k».proof.Defs
public import proofs.«01_k».proof.Proof.Norm.Value
public import proofs.«01_k».proof.Proof.Gen.Kernel2
public import Idealize.ShloMosaic.Adequacy
public import Idealize.ShloMosaic.Init
public import Idealize.ShloMosaic.Lib.Claim

@[expose] public section

set_option maxHeartbeats 4000000
set_option maxRecDepth 65536

noncomputable section

namespace Cert.Proof.Norm

open Idealize.ShloMosaic Idealize.SL.Sem

/-! The kernel and its idealization have the same text. -/

theorem defs₀_same {F : FTy → Type} [FloatOps F] :
    @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc ?_
  funext l a
  match l, a with
  | ⟨0, _⟩, (t, s) => rfl

theorem main_same {F : FTy → Type} [FloatOps F] :
    @Cert.Kernel2.main F _ = @Cert.Kernel2Ideal.main F _ := by with_unfolding_all rfl

theorem defs_same {F : FTy → Type} [FloatOps F] :
    @Cert.Kernel2.defs F _ Cert.Kernel2.Gen.facts = @Cert.Kernel2Ideal.defs F _ Cert.Kernel2Ideal.Gen.facts :=
  congrArg (Pipeline.defs _) defs₀_same

/-- The kernel's frame: the kernel and its idealization have the same text, so one run serves both. -/
theorem frame_kernel : Cert.quiescent_Kernel2 (hKernel2 := Cert.Kernel2.Gen.facts) := by
  intro m ρ _
  rw [defs_same, main_same]
  exact Cert.Kernel2Ideal.Gen.frame (F := Bits) m ρ

/-- The reference's frame: its run, and no counter to speak of. -/
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

open Cert.Kernel2Ideal.Norm in
/-- The kernel's results are the reference's. -/
theorem algebraic : Cert.algebraic_Kernel2Ideal_Reference2Ideal := fun m g m' g' _ ha => by
  refine ⟨fun c => Cert.Reference2Ideal.Norm.r_dx (F := Ideal) (a0 m c) (a1 m c) (a2 m c) (a3 m c) (a4 m c),
    fun c => Cert.Reference2Ideal.Norm.r_dw (F := Ideal) (a0 m c) (a1 m c) (a2 m c), ?_, ?_⟩
  · exact (θ_run Cert.Kernel2Ideal.defs _ _).mono (fun r h c => ⟨(h c).1.trans (G5_eq m c), (h c).2.1.trans (G6_eq m c), (h c).2.2⟩) (Cert.Kernel2Ideal.Value.run (F := Ideal) m g)
  · refine (θ_run Cert.Reference2Ideal.defs _ _).mono (fun r h c => ⟨(h c).1.trans ?_, (h c).2.1.trans ?_, (h c).2.2⟩) (Cert.Reference2Ideal.Norm.run_value (F := Ideal) m' g')
    · congr 1
      · exact (ha c).1
      · exact (ha c).2.1
      · exact (ha c).2.2.1
      · exact (ha c).2.2.2.1
      · exact (ha c).2.2.2.2
    · congr 1
      · exact (ha c).1
      · exact (ha c).2.1
      · exact (ha c).2.2.1

end Cert.Proof.Norm

end
-- ==== Proof.Mm.Index.lean ====
module

public import Idealize.ShloMosaic.Lib.Pointwise

@[expose] public section

namespace Cert.Mm

open Idealize.ShloMosaic

/-! Indices of the same numbers. -/

theorem val3 : ((3 : Fin 4) : ℕ) = 3 := rfl

theorem ix2_congr {A B : ℕ} {x x' : Fin A} {y y' : Fin B} (hx : x.val = x'.val) (hy : y.val = y'.val) : ix2 x y = ix2 x' y' := by
  rw [Fin.ext hx, Fin.ext hy]

theorem ix3_congr {A B C : ℕ} {x x' : Fin A} {y y' : Fin B} {z z' : Fin C} (hx : x.val = x'.val) (hy : y.val = y'.val) (hz : z.val = z'.val) :
    ix3 x y z = ix3 x' y' z' := by
  rw [Fin.ext hx, Fin.ext hy, Fin.ext hz]

end Cert.Mm
-- ==== Proof.Mm.K3.lean ====
module

public import proofs.«01_k».proof.Proof.Gen.Kernel3Ideal.Value
public import proofs.«01_k».proof.Proof.Gen.Reference3Ideal.Run
public import proofs.«01_k».proof.Proof.Mm.Index
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference3Ideal.Mm

open Cert.Reference3Ideal Cert.Reference3Ideal.Gen Idealize.ShloMosaic Idealize.ShloMosaic.TcCoe Idealize.SL.Sem Idealize.ShloMosaic.StableHlo Cert.Mm

section
variable {F : FTy → Type} [FloatOps F]

/-- The reference's result, as a function of its arguments. -/
def out (a0 : (⟨S4096x1024, .bf16⟩ : BufTy).Contents (Elt F)) (a1 : (⟨S2x4096x2816, .bf16⟩ : BufTy).Contents (Elt F)) : (⟨S4x1024x1408, .bf16⟩ : BufTy).Contents (Elt F) :=
  (concatenate S4x1024x1408 0 [⟨S1x1024x1408, ((broadcastInDim S1x1024x1408 ![1, 2] bcast_S1024x1408_S1x1024x1408_1_2 (extractStridedSlice S1024x1408 ![0, 0] (truncf .bf16 (transpose S1024x5632 [1, 0] (Host.dotGeneral dot_S4096x5632_S4096x1024_S5632x1024_0_0_1_1_n_n none (concatenate S4096x5632 1 [⟨S4096x2816, (extf .f32 (shapeCast _ (extractStridedSlice S1x4096x2816 ![0, 0, 0] a1 slices_S2x4096x2816_S1x4096x2816_0_0_0) shapeCasts_S1x4096x2816_S4096x2816) bitsLt_bf16_f32)⟩, ⟨S4096x2816, (extf .f32 (shapeCast _ (extractStridedSlice S1x4096x2816 ![1, 0, 0] a1 slices_S2x4096x2816_S1x4096x2816_1_0_0) shapeCasts_S1x4096x2816_S4096x2816) bitsLt_bf16_f32)⟩] concatenates_S4096x2816_S4096x2816_S4096x5632_d1) (extf .f32 a0 bitsLt_bf16_f32)) transposes_S5632x1024_S1024x5632_1_0) bitsLt_bf16_f32) slices_S1024x5632_S1024x1408_0_0)) : (⟨S1x1024x1408, .bf16⟩ : BufTy).Contents (Elt F))⟩, ⟨S1x1024x1408, ((broadcastInDim S1x1024x1408 ![1, 2] bcast_S1024x1408_S1x1024x1408_1_2 (extractStridedSlice S1024x1408 ![0, 1408] (truncf .bf16 (transpose S1024x5632 [1, 0] (Host.dotGeneral dot_S4096x5632_S4096x1024_S5632x1024_0_0_1_1_n_n none (concatenate S4096x5632 1 [⟨S4096x2816, (extf .f32 (shapeCast _ (extractStridedSlice S1x4096x2816 ![0, 0, 0] a1 slices_S2x4096x2816_S1x4096x2816_0_0_0) shapeCasts_S1x4096x2816_S4096x2816) bitsLt_bf16_f32)⟩, ⟨S4096x2816, (extf .f32 (shapeCast _ (extractStridedSlice S1x4096x2816 ![1, 0, 0] a1 slices_S2x4096x2816_S1x4096x2816_1_0_0) shapeCasts_S1x4096x2816_S4096x2816) bitsLt_bf16_f32)⟩] concatenates_S4096x2816_S4096x2816_S4096x5632_d1) (extf .f32 a0 bitsLt_bf16_f32)) transposes_S5632x1024_S1024x5632_1_0) bitsLt_bf16_f32) slices_S1024x5632_S1024x1408_0_1408)) : (⟨S1x1024x1408, .bf16⟩ : BufTy).Contents (Elt F))⟩, ⟨S1x1024x1408, ((broadcastInDim S1x1024x1408 ![1, 2] bcast_S1024x1408_S1x1024x1408_1_2 (extractStridedSlice S1024x1408 ![0, 2816] (truncf .bf16 (transpose S1024x5632 [1, 0] (Host.dotGeneral dot_S4096x5632_S4096x1024_S5632x1024_0_0_1_1_n_n none (concatenate S4096x5632 1 [⟨S4096x2816, (extf .f32 (shapeCast _ (extractStridedSlice S1x4096x2816 ![0, 0, 0] a1 slices_S2x4096x2816_S1x4096x2816_0_0_0) shapeCasts_S1x4096x2816_S4096x2816) bitsLt_bf16_f32)⟩, ⟨S4096x2816, (extf .f32 (shapeCast _ (extractStridedSlice S1x4096x2816 ![1, 0, 0] a1 slices_S2x4096x2816_S1x4096x2816_1_0_0) shapeCasts_S1x4096x2816_S4096x2816) bitsLt_bf16_f32)⟩] concatenates_S4096x2816_S4096x2816_S4096x5632_d1) (extf .f32 a0 bitsLt_bf16_f32)) transposes_S5632x1024_S1024x5632_1_0) bitsLt_bf16_f32) slices_S1024x5632_S1024x1408_0_2816)) : (⟨S1x1024x1408, .bf16⟩ : BufTy).Contents (Elt F))⟩, ⟨S1x1024x1408, ((broadcastInDim S1x1024x1408 ![1, 2] bcast_S1024x1408_S1x1024x1408_1_2 (extractStridedSlice S1024x1408 ![0, 4224] (truncf .bf16 (transpose S1024x5632 [1, 0] (Host.dotGeneral dot_S4096x5632_S4096x1024_S5632x1024_0_0_1_1_n_n none (concatenate S4096x5632 1 [⟨S4096x2816, (extf .f32 (shapeCast _ (extractStridedSlice S1x4096x2816 ![0, 0, 0] a1 slices_S2x4096x2816_S1x4096x2816_0_0_0) shapeCasts_S1x4096x2816_S4096x2816) bitsLt_bf16_f32)⟩, ⟨S4096x2816, (extf .f32 (shapeCast _ (extractStridedSlice S1x4096x2816 ![1, 0, 0] a1 slices_S2x4096x2816_S1x4096x2816_1_0_0) shapeCasts_S1x4096x2816_S4096x2816) bitsLt_bf16_f32)⟩] concatenates_S4096x2816_S4096x2816_S4096x5632_d1) (extf .f32 a0 bitsLt_bf16_f32)) transposes_S5632x1024_S1024x5632_1_0) bitsLt_bf16_f32) slices_S1024x5632_S1024x1408_0_4224)) : (⟨S1x1024x1408, .bf16⟩ : BufTy).Contents (Elt F))⟩] concatenates_S1x1024x1408_S1x1024x1408_S1x1024x1408_S1x1024x1408_S4x1024x1408_d0 : (⟨S4x1024x1408, .bf16⟩ : BufTy).Contents (Elt F))

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference3Ideal.Value.run m ρ)

end

variable (a0 : FVec Ideal S4096x1024 .bf16) (a1 : FVec Ideal S2x4096x2816 .bf16)

/-- A number of it. -/
theorem out_apply (s : Fin 4) (r : Fin 1024) (d : Fin 1408) :
    out (F := Ideal) a0 a1 (ix3 s r d) = ∑ j : Fin 4096, a1 (ix3 ⟨s.val / 2, by omega⟩ j ⟨s.val % 2 * 1408 + d.val, by omega⟩) * a0 (ix2 j r) := by
  unfold out
  clean_types
  pointwise
  have hs := s.isLt
  have hd := d.isLt
  by_cases h0 : s.val = 0
  · rw [dif_pos (by omega)]
    refine Finset.sum_congr rfl fun j _ => congrArg (· * _) ?_
    rw [dif_pos (by omega)]
    refine congrArg a1 (ix3_congr ?_ rfl ?_) <;> simp only [Fin.val_zero, Fin.val_one, Fin.val_two, val3] <;> omega
  · by_cases h1 : s.val = 1
    · rw [dif_neg (by omega), dif_pos (by omega)]
      refine Finset.sum_congr rfl fun j _ => congrArg (· * _) ?_
      rw [dif_pos (by omega)]
      refine congrArg a1 (ix3_congr ?_ rfl ?_) <;> simp only [Fin.val_zero, Fin.val_one, Fin.val_two, val3] <;> omega
    · by_cases h2 : s.val = 2
      · rw [dif_neg (by omega), dif_neg (by omega), dif_pos (by omega)]
        refine Finset.sum_congr rfl fun j _ => congrArg (· * _) ?_
        refine congrArg a1 (ix3_congr ?_ rfl ?_) <;> simp only [Fin.val_zero, Fin.val_one, Fin.val_two, val3] <;> omega
      · rw [dif_neg (by omega), dif_neg (by omega), dif_neg (by omega)]
        refine Finset.sum_congr rfl fun j _ => congrArg (· * _) ?_
        rw [dif_neg (by omega)]
        refine congrArg a1 (ix3_congr ?_ rfl ?_) <;> simp only [Fin.val_zero, Fin.val_one, Fin.val_two, val3] <;> omega

end Cert.Reference3Ideal.Mm

namespace Cert.Kernel3Ideal.Mm

open Cert.Kernel3Ideal Cert.Kernel3Ideal.Gen Idealize.ShloMosaic Idealize.ShloMosaic.TcCoe Idealize.SL.Sem

/-- A number of what the body stores. -/
theorem pay_apply (a : Vec Ideal S4096x512 .bf16) (b : Vec Ideal S1x4096x1408 .bf16) (z : Fin 1) (r : Fin 512) (d : Fin 1408) :
    k0_pay1 a b (ix3 z r d) = ∑ j : Fin 4096, a (ix2 j r) * b (ix3 0 j d) := by
  unfold k0_pay1
  pointwise

/-- The places of a point's blocks. -/
theorem idx : ∀ t : Fin cfg0.N, win0_0.index t = ![0, t.val % 2] ∧ win0_1.index t = ![t.val / 2 / 2, 0, t.val / 2 % 2] ∧ win0_2.index t = ![t.val / 2, t.val % 2, 0] :=
  (by decide +kernel : ∀ t : Fin grid0.N, _)

variable (m : (ℓ : Loc nD τ sig) → Buf (Elt Ideal) ℓ) (c : Dev nD)

abbrev a0 : FVec Ideal S4096x1024 .bf16 := m ((c : Thread nD τ).loc main_arg0)
abbrev a1 : FVec Ideal S2x4096x2816 .bf16 := m ((c : Thread nD τ).loc main_arg1)

/-- The array after the run is the reference's result. -/
theorem arr_eq : (dats m 0 c).arrAt 2 cfg0.N = Cert.Reference3Ideal.Mm.out (F := Ideal) (a0 m c) (a1 m c) := by
  refine (dats m 0 c).arrAt_eq_of_covers 2 _ (by decide +kernel) fun t hf y => ?_
  have hN : t.val < 8 := lt_of_lt_of_eq t.isLt (show cfg0.N = 8 from N_0)
  obtain ⟨e0, e1, e2⟩ := idx t
  blk_simp [e2]
  rw [after0_2]
  frame_out
  obtain ⟨z, r, d, rfl⟩ : ∃ (z : Fin 1) (r : Fin 512) (d : Fin 1408), y = (ix3 z r d : S1x512x1408.Idx) :=
    ⟨y (0 : Fin 3), y (1 : Fin 3), y (2 : Fin 3), by
      funext a
      match a with
      | 0 => rfl
      | 1 => rfl
      | 2 => rfl⟩
  have he : ((cfg0.win 2).blk t).view.emb (ix3 z r d : S1x512x1408.Idx) = (ix3 ⟨t.val / 2, by omega⟩ ⟨t.val % 2 * 512 + r.val, by omega⟩ d : S4x1024x1408.Idx) := by
    blk_ext [e2]
  rw [he, Cert.Reference3Ideal.Mm.out_apply]
  refine (pay_apply _ _ z r d).trans (Finset.sum_congr rfl fun j _ => (mul_comm _ _).trans (congrArg₂ (· * ·) ?_ ?_))
  · blk_ext [iblk, V, e1]
  · blk_ext [iblk, V, e0]

end Cert.Kernel3Ideal.Mm
-- ==== Proof.Mm.S3.lean ====
module

public import proofs.«01_k».proof.Defs
public import proofs.«01_k».proof.Proof.Mm.K3
public import proofs.«01_k».proof.Proof.Gen.Kernel3
public import Idealize.ShloMosaic.Adequacy
public import Idealize.ShloMosaic.Init
public import Idealize.ShloMosaic.Lib.Claim

@[expose] public section

set_option maxHeartbeats 4000000
set_option maxRecDepth 65536

noncomputable section

namespace Cert.Proof.Mm3

open Idealize.ShloMosaic Idealize.SL.Sem

/-! The kernel and its idealization have the same text. -/

theorem defs₀_same {F : FTy → Type} [FloatOps F] :
    @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc ?_
  funext l a
  match l, a with
  | ⟨0, _⟩, (t, s) => rfl

theorem main_same {F : FTy → Type} [FloatOps F] :
    @Cert.Kernel3.main F _ = @Cert.Kernel3Ideal.main F _ := by with_unfolding_all rfl

theorem defs_same {F : FTy → Type} [FloatOps F] :
    @Cert.Kernel3.defs F _ Cert.Kernel3.Gen.facts = @Cert.Kernel3Ideal.defs F _ Cert.Kernel3Ideal.Gen.facts :=
  congrArg (Pipeline.defs _) defs₀_same

/-- The kernel's frame: one run serves it and its idealization. -/
theorem frame_kernel : Cert.quiescent_Kernel3 (hKernel3 := Cert.Kernel3.Gen.facts) := by
  intro m ρ _
  rw [defs_same, main_same]
  exact Cert.Kernel3Ideal.Gen.frame (F := Bits) m ρ

/-- The reference's frame. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Kernel3Ideal.Mm in
/-- The kernel's result is the reference's. -/
theorem algebraic : Cert.algebraic_Kernel3Ideal_Reference3Ideal := fun m g m' g' _ ha => by
  refine ⟨fun c => Cert.Reference3Ideal.Mm.out (F := Ideal) (a0 m c) (a1 m c), ?_, ?_⟩
  · exact (θ_run Cert.Kernel3Ideal.defs _ _).mono (fun r h c => ⟨(h c).1.trans (arr_eq m c), (h c).2⟩) (Cert.Kernel3Ideal.Value.run_blocks (F := Ideal) m g)
  · refine (θ_run Cert.Reference3Ideal.defs _ _).mono (fun r h c => ⟨(h c).1.trans ?_, (h c).2⟩) (Cert.Reference3Ideal.Mm.run_out (F := Ideal) m' g')
    congr 1
    · exact (ha c).1
    · exact (ha c).2

end Cert.Proof.Mm3

end
-- ==== Proof.Mm.K4.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference4Ideal.Mm

open Cert.Reference4Ideal Cert.Reference4Ideal.Gen Idealize.ShloMosaic Idealize.ShloMosaic.TcCoe Idealize.SL.Sem Idealize.ShloMosaic.StableHlo

section
variable {F : FTy → Type} [FloatOps F]

/-- The reference's result, as a function of its arguments. -/
def out (a0 : (⟨S4096x1024, .f32⟩ : BufTy).Contents (Elt F)) (a1 : (⟨S2816x1024, .bf16⟩ : BufTy).Contents (Elt F)) : (⟨S4096x2816, .bf16⟩ : BufTy).Contents (Elt F) :=
  truncf .bf16 (Host.dotGeneral dot_S4096x1024_S2816x1024_S4096x2816_1_1_0_0_n_n none a0 (extf .f32 a1 bitsLt_bf16_f32)) bitsLt_bf16_f32

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference4Ideal.Value.run m ρ)

end

variable (a0 : FVec Ideal S4096x1024 .f32) (a1 : FVec Ideal S2816x1024 .bf16)

/-- A number of it. -/
theorem out_apply (r : Fin 4096) (d : Fin 2816) : out (F := Ideal) a0 a1 (ix2 r d) = ∑ j : Fin 1024, a0 (ix2 r j) * a1 (ix2 d j) := by
  unfold out
  clean_types
  pointwise

end Cert.Reference4Ideal.Mm

namespace Cert.Kernel4Ideal.Mm

open Cert.Kernel4Ideal Cert.Kernel4Ideal.Gen Idealize.ShloMosaic Idealize.ShloMosaic.TcCoe Idealize.SL.Sem

/-- A number of what the body stores. -/
theorem pay_apply (a : Vec Ideal S512x1024 .f32) (b : Vec Ideal S1408x1024 .bf16) (r : Fin 512) (d : Fin 1408) :
    k0_pay1 a b (ix2 r d) = ∑ j : Fin 1024, a (ix2 r j) * b (ix2 d j) := by
  unfold k0_pay1
  pointwise

/-- The places of a point's blocks. -/
theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

variable (m : (ℓ : Loc nD τ sig) → Buf (Elt Ideal) ℓ) (c : Dev nD)

abbrev a0 : FVec Ideal S4096x1024 .f32 := m ((c : Thread nD τ).loc main_arg0)
abbrev a1 : FVec Ideal S2816x1024 .bf16 := m ((c : Thread nD τ).loc main_arg1)

/-- The array after the run is the reference's result. -/
theorem arr_eq : (dats m 0 c).arrAt 2 cfg0.N = Cert.Reference4Ideal.Mm.out (F := Ideal) (a0 m c) (a1 m c) := by
  refine (dats m 0 c).arrAt_eq_of_covers 2 _ (by decide +kernel) fun t hf y => ?_
  have hN : t.val < 16 := lt_of_lt_of_eq t.isLt (show cfg0.N = 16 from N_0)
  obtain ⟨e0, e1, e2⟩ := idx t
  blk_simp [e2]
  rw [after0_2]
  frame_out
  obtain ⟨r, d, rfl⟩ : ∃ (r : Fin 512) (d : Fin 1408), y = (ix2 r d : S512x1408.Idx) :=
    ⟨y (0 : Fin 2), y (1 : Fin 2), by
      funext a
      match a with
      | 0 => rfl
      | 1 => rfl⟩
  have he : ((cfg0.win 2).blk t).view.emb (ix2 r d : S512x1408.Idx) = (ix2 ⟨t.val % 8 * 512 + r.val, by omega⟩ ⟨t.val / 8 * 1408 + d.val, by omega⟩ : S4096x2816.Idx) := by
    blk_ext [e2]
  rw [he, Cert.Reference4Ideal.Mm.out_apply]
  refine (pay_apply _ _ r d).trans (Finset.sum_congr rfl fun j _ => congrArg₂ (· * ·) ?_ ?_)
  · blk_ext [iblk, V, e0]
  · blk_ext [iblk, V, e1]

end Cert.Kernel4Ideal.Mm
-- ==== Proof.Mm.S4.lean ====
module

public import proofs.«01_k».proof.Defs
public import proofs.«01_k».proof.Proof.Mm.K4
public import proofs.«01_k».proof.Proof.Gen.Kernel4
public import Idealize.ShloMosaic.Adequacy
public import Idealize.ShloMosaic.Init
public import Idealize.ShloMosaic.Lib.Claim

@[expose] public section

set_option maxHeartbeats 4000000
set_option maxRecDepth 65536

noncomputable section

namespace Cert.Proof.Mm4

open Idealize.ShloMosaic Idealize.SL.Sem

/-! The kernel and its idealization have the same text. -/

theorem defs₀_same {F : FTy → Type} [FloatOps F] :
    @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc ?_
  funext l a
  match l, a with
  | ⟨0, _⟩, (t, s) => rfl

theorem main_same {F : FTy → Type} [FloatOps F] :
    @Cert.Kernel4.main F _ = @Cert.Kernel4Ideal.main F _ := by with_unfolding_all rfl

theorem defs_same {F : FTy → Type} [FloatOps F] :
    @Cert.Kernel4.defs F _ Cert.Kernel4.Gen.facts = @Cert.Kernel4Ideal.defs F _ Cert.Kernel4Ideal.Gen.facts :=
  congrArg (Pipeline.defs _) defs₀_same

/-- The kernel's frame: one run serves it and its idealization. -/
theorem frame_kernel : Cert.quiescent_Kernel4 (hKernel4 := Cert.Kernel4.Gen.facts) := by
  intro m ρ _
  rw [defs_same, main_same]
  exact Cert.Kernel4Ideal.Gen.frame (F := Bits) m ρ

/-- The reference's frame. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Kernel4Ideal.Mm in
/-- The kernel's result is the reference's. -/
theorem algebraic : Cert.algebraic_Kernel4Ideal_Reference4Ideal := fun m g m' g' _ ha => by
  refine ⟨fun c => Cert.Reference4Ideal.Mm.out (F := Ideal) (a0 m c) (a1 m c), ?_, ?_⟩
  · exact (θ_run Cert.Kernel4Ideal.defs _ _).mono (fun r h c => ⟨(h c).1.trans (arr_eq m c), (h c).2⟩) (Cert.Kernel4Ideal.Value.run_blocks (F := Ideal) m g)
  · refine (θ_run Cert.Reference4Ideal.defs _ _).mono (fun r h c => ⟨(h c).1.trans ?_, (h c).2⟩) (Cert.Reference4Ideal.Mm.run_out (F := Ideal) m' g')
    congr 1
    · exact (ha c).1
    · exact (ha c).2

end Cert.Proof.Mm4

end
-- ==== Proof.Mm.K5.lean ====
module

public import proofs.«01_k».proof.Proof.Gen.Kernel5Ideal.Value
public import proofs.«01_k».proof.Proof.Gen.Reference5Ideal.Run
public import proofs.«01_k».proof.Proof.Mm.Index
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference5Ideal.Mm

open Cert.Reference5Ideal Cert.Reference5Ideal.Gen Idealize.ShloMosaic Idealize.ShloMosaic.TcCoe Idealize.SL.Sem Idealize.ShloMosaic.StableHlo Cert.Mm

section
variable {F : FTy → Type} [FloatOps F]

/-- The reference's result, as a function of its arguments. -/
def out (a0 : (⟨S4096x1024, .bf16⟩ : BufTy).Contents (Elt F)) (a1 : (⟨S4x1024x1408, .bf16⟩ : BufTy).Contents (Elt F)) : (⟨S4096x5632, .bf16⟩ : BufTy).Contents (Elt F) :=
  truncf .bf16 (Host.dotGeneral dot_S4096x1024_S1024x5632_S4096x5632_1_0_0_1_n_n none (extf .f32 a0 bitsLt_bf16_f32) ((concatenate S1024x5632 1 [⟨S1024x1408, ((extf .f32 (shapeCast _ (extractStridedSlice S1x1024x1408 ![0, 0, 0] a1 slices_S4x1024x1408_S1x1024x1408_0_0_0) shapeCasts_S1x1024x1408_S1024x1408) bitsLt_bf16_f32) : (⟨S1024x1408, .f32⟩ : BufTy).Contents (Elt F))⟩, ⟨S1024x1408, ((extf .f32 (shapeCast _ (extractStridedSlice S1x1024x1408 ![1, 0, 0] a1 slices_S4x1024x1408_S1x1024x1408_1_0_0) shapeCasts_S1x1024x1408_S1024x1408) bitsLt_bf16_f32) : (⟨S1024x1408, .f32⟩ : BufTy).Contents (Elt F))⟩, ⟨S1024x1408, ((extf .f32 (shapeCast _ (extractStridedSlice S1x1024x1408 ![2, 0, 0] a1 slices_S4x1024x1408_S1x1024x1408_2_0_0) shapeCasts_S1x1024x1408_S1024x1408) bitsLt_bf16_f32) : (⟨S1024x1408, .f32⟩ : BufTy).Contents (Elt F))⟩, ⟨S1024x1408, ((extf .f32 (shapeCast _ (extractStridedSlice S1x1024x1408 ![3, 0, 0] a1 slices_S4x1024x1408_S1x1024x1408_3_0_0) shapeCasts_S1x1024x1408_S1024x1408) bitsLt_bf16_f32) : (⟨S1024x1408, .f32⟩ : BufTy).Contents (Elt F))⟩] concatenates_S1024x1408_S1024x1408_S1024x1408_S1024x1408_S1024x5632_d1 : (⟨S1024x5632, .f32⟩ : BufTy).Contents (Elt F)))) bitsLt_bf16_f32

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference5Ideal.Value.run m ρ)

end

variable (a0 : FVec Ideal S4096x1024 .bf16) (a1 : FVec Ideal S4x1024x1408 .bf16)

/-- A number of it. -/
theorem out_apply (r : Fin 4096) (k : Fin 4) (d : Fin 1408) (h : k.val * 1408 + d.val < 5632) :
    out (F := Ideal) a0 a1 (ix2 r ⟨k.val * 1408 + d.val, h⟩) = ∑ j : Fin 1024, a0 (ix2 r j) * a1 (ix3 k j d) := by
  unfold out
  clean_types
  pointwise
  have hk := k.isLt
  have hd := d.isLt
  refine Finset.sum_congr rfl fun j _ => congrArg (a0 (ix2 r j) * ·) ?_
  by_cases h0 : k.val = 0
  · rw [dif_pos (by omega)]
    refine congrArg a1 (ix3_congr ?_ rfl ?_) <;> simp only [Fin.val_zero, Fin.val_one, Fin.val_two, val3] <;> omega
  · by_cases h1 : k.val = 1
    · rw [dif_neg (by omega), dif_pos (by omega)]
      refine congrArg a1 (ix3_congr ?_ rfl ?_) <;> simp only [Fin.val_zero, Fin.val_one, Fin.val_two, val3] <;> omega
    · by_cases h2 : k.val = 2
      · rw [dif_neg (by omega), dif_neg (by omega), dif_pos (by omega)]
        refine congrArg a1 (ix3_congr ?_ rfl ?_) <;> simp only [Fin.val_zero, Fin.val_one, Fin.val_two, val3] <;> omega
      · rw [dif_neg (by omega), dif_neg (by omega), dif_neg (by omega)]
        refine congrArg a1 (ix3_congr ?_ rfl ?_) <;> simp only [Fin.val_zero, Fin.val_one, Fin.val_two, val3] <;> omega

end Cert.Reference5Ideal.Mm

namespace Cert.Kernel5Ideal.Mm

open Cert.Kernel5Ideal Cert.Kernel5Ideal.Gen Idealize.ShloMosaic Idealize.ShloMosaic.TcCoe Idealize.SL.Sem

/-- A number of what the body stores. -/
theorem pay_apply (a : Vec Ideal S512x1024 .bf16) (b : Vec Ideal S1x1024x1408 .bf16) (r : Fin 512) (d : Fin 1408) :
    k0_pay1 a b (ix2 r d) = ∑ j : Fin 1024, a (ix2 r j) * b (ix3 0 j d) := by
  unfold k0_pay1
  pointwise

/-- The places of a point's blocks. -/
theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

variable (m : (ℓ : Loc nD τ sig) → Buf (Elt Ideal) ℓ) (c : Dev nD)

abbrev a0 : FVec Ideal S4096x1024 .bf16 := m ((c : Thread nD τ).loc main_arg0)
abbrev a1 : FVec Ideal S4x1024x1408 .bf16 := m ((c : Thread nD τ).loc main_arg1)

/-- The array after the run is the reference's result. -/
theorem arr_eq : (dats m 0 c).arrAt 2 cfg0.N = Cert.Reference5Ideal.Mm.out (F := Ideal) (a0 m c) (a1 m c) := by
  refine (dats m 0 c).arrAt_eq_of_covers 2 _ (by decide +kernel) fun t hf y => ?_
  have hN : t.val < 32 := lt_of_lt_of_eq t.isLt (show cfg0.N = 32 from N_0)
  obtain ⟨e0, e1, e2⟩ := idx t
  blk_simp [e2]
  rw [after0_2]
  frame_out
  obtain ⟨r, d, rfl⟩ : ∃ (r : Fin 512) (d : Fin 1408), y = (ix2 r d : S512x1408.Idx) :=
    ⟨y (0 : Fin 2), y (1 : Fin 2), by
      funext a
      match a with
      | 0 => rfl
      | 1 => rfl⟩
  have he : ((cfg0.win 2).blk t).view.emb (ix2 r d : S512x1408.Idx) = (ix2 ⟨t.val % 8 * 512 + r.val, by omega⟩ ⟨t.val / 8 * 1408 + d.val, by omega⟩ : S4096x5632.Idx) := by
    blk_ext [e2]
  rw [he]
  refine Eq.trans ?_ (Cert.Reference5Ideal.Mm.out_apply (a0 m c) (a1 m c) _ ⟨t.val / 8, by omega⟩ d _).symm
  refine (pay_apply _ _ r d).trans (Finset.sum_congr rfl fun j _ => congrArg₂ (· * ·) ?_ ?_)
  · blk_ext [iblk, V, e0]
  · blk_ext [iblk, V, e1]

end Cert.Kernel5Ideal.Mm
-- ==== Proof.Mm.S5.lean ====
module

public import proofs.«01_k».proof.Defs
public import proofs.«01_k».proof.Proof.Mm.K5
public import proofs.«01_k».proof.Proof.Gen.Kernel5
public import Idealize.ShloMosaic.Adequacy
public import Idealize.ShloMosaic.Init
public import Idealize.ShloMosaic.Lib.Claim

@[expose] public section

set_option maxHeartbeats 4000000
set_option maxRecDepth 65536

noncomputable section

namespace Cert.Proof.Mm5

open Idealize.ShloMosaic Idealize.SL.Sem

/-! The kernel and its idealization have the same text. -/

theorem defs₀_same {F : FTy → Type} [FloatOps F] :
    @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc ?_
  funext l a
  match l, a with
  | ⟨0, _⟩, (t, s) => rfl

theorem main_same {F : FTy → Type} [FloatOps F] :
    @Cert.Kernel5.main F _ = @Cert.Kernel5Ideal.main F _ := by with_unfolding_all rfl

theorem defs_same {F : FTy → Type} [FloatOps F] :
    @Cert.Kernel5.defs F _ Cert.Kernel5.Gen.facts = @Cert.Kernel5Ideal.defs F _ Cert.Kernel5Ideal.Gen.facts :=
  congrArg (Pipeline.defs _) defs₀_same

/-- The kernel's frame: one run serves it and its idealization. -/
theorem frame_kernel : Cert.quiescent_Kernel5 (hKernel5 := Cert.Kernel5.Gen.facts) := by
  intro m ρ _
  rw [defs_same, main_same]
  exact Cert.Kernel5Ideal.Gen.frame (F := Bits) m ρ

/-- The reference's frame. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

open Cert.Kernel5Ideal.Mm in
/-- The kernel's result is the reference's. -/
theorem algebraic : Cert.algebraic_Kernel5Ideal_Reference5Ideal := fun m g m' g' _ ha => by
  refine ⟨fun c => Cert.Reference5Ideal.Mm.out (F := Ideal) (a0 m c) (a1 m c), ?_, ?_⟩
  · exact (θ_run Cert.Kernel5Ideal.defs _ _).mono (fun r h c => ⟨(h c).1.trans (arr_eq m c), (h c).2⟩) (Cert.Kernel5Ideal.Value.run_blocks (F := Ideal) m g)
  · refine (θ_run Cert.Reference5Ideal.defs _ _).mono (fun r h c => ⟨(h c).1.trans ?_, (h c).2⟩) (Cert.Reference5Ideal.Mm.run_out (F := Ideal) m' g')
    congr 1
    · exact (ha c).1
    · exact (ha c).2

end Cert.Proof.Mm5

end
-- ==== Proof.Mm.K6.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference6Ideal.Mm

open Cert.Reference6Ideal Cert.Reference6Ideal.Gen Idealize.ShloMosaic Idealize.ShloMosaic.TcCoe Idealize.SL.Sem Idealize.ShloMosaic.StableHlo

section
variable {F : FTy → Type} [FloatOps F]

/-- The reference's result, as a function of its arguments. -/
def out (a0 : (⟨S4096x2816, .bf16⟩ : BufTy).Contents (Elt F)) (a1 : (⟨S2816x1024, .bf16⟩ : BufTy).Contents (Elt F)) (a2 : (⟨S4096x1024, .f32⟩ : BufTy).Contents (Elt F)) : (⟨S4096x1024, .f32⟩ : BufTy).Contents (Elt F) :=
  addf a2 (Host.dotGeneral dot_S4096x2816_S2816x1024_S4096x1024_1_0_0_1_n_n none (extf .f32 a0 bitsLt_bf16_f32) (extf .f32 a1 bitsLt_bf16_f32))

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.Reference6Ideal.Value.run m ρ)

end

variable (a0 : FVec Ideal S4096x2816 .bf16) (a1 : FVec Ideal S2816x1024 .bf16) (a2 : FVec Ideal S4096x1024 .f32)

/-- A number of it. -/
theorem out_apply (r : Fin 4096) (d : Fin 1024) : out (F := Ideal) a0 a1 a2 (ix2 r d) = a2 (ix2 r d) + ∑ j : Fin 2816, a0 (ix2 r j) * a1 (ix2 j d) := by
  unfold out
  clean_types
  pointwise

end Cert.Reference6Ideal.Mm

namespace Cert.Kernel6Ideal.Mm

open Cert.Kernel6Ideal Cert.Kernel6Ideal.Gen Idealize.ShloMosaic Idealize.ShloMosaic.TcCoe Idealize.SL.Sem

/-- A number of what the body stores. -/
theorem pay_apply (a : Vec Ideal S512x2816 .bf16) (b : Vec Ideal S2816x1024 .bf16) (x : Vec Ideal S512x1024 .f32) (r : Fin 512) (d : Fin 1024) :
    k0_pay1 a b x (ix2 r d) = (∑ j : Fin 2816, a (ix2 r j) * b (ix2 j d)) + x (ix2 r d) := by
  unfold k0_pay1
  pointwise

/-- The places of a point's blocks. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ) (c : Dev nD)

abbrev a0 : FVec Ideal S4096x2816 .bf16 := m ((c : Thread nD τ).loc main_arg0)
abbrev a1 : FVec Ideal S2816x1024 .bf16 := m ((c : Thread nD τ).loc main_arg1)
abbrev a2 : FVec Ideal S4096x1024 .f32 := m ((c : Thread nD τ).loc main_arg2)

/-- The array after the run is the reference's result. -/
theorem arr_eq : (dats m 0 c).arrAt 3 cfg0.N = Cert.Reference6Ideal.Mm.out (F := Ideal) (a0 m c) (a1 m c) (a2 m c) := by
  refine (dats m 0 c).arrAt_eq_of_covers 3 _ (by decide +kernel) fun t hf y => ?_
  have hN : t.val < 8 := lt_of_lt_of_eq t.isLt (show cfg0.N = 8 from N_0)
  obtain ⟨e0, e1, e2, e3⟩ := idx t
  blk_simp [e3]
  rw [after0_3]
  frame_out
  obtain ⟨r, d, rfl⟩ : ∃ (r : Fin 512) (d : Fin 1024), y = (ix2 r d : S512x1024.Idx) :=
    ⟨y (0 : Fin 2), y (1 : Fin 2), by
      funext a
      match a with
      | 0 => rfl
      | 1 => rfl⟩
  have he : ((cfg0.win 3).blk t).view.emb (ix2 r d : S512x1024.Idx) = (ix2 ⟨t.val * 512 + r.val, by omega⟩ d : S4096x1024.Idx) := by
    blk_ext [e3]
  rw [he, Cert.Reference6Ideal.Mm.out_apply]
  refine (pay_apply _ _ _ r d).trans ((add_comm _ _).trans (congrArg₂ (· + ·) ?_ (Finset.sum_congr rfl fun j _ => congrArg₂ (· * ·) ?_ ?_)))
  · blk_ext [iblk, V, e2]
  · blk_ext [iblk, V, e0]
  · blk_ext [iblk, V, e1]

end Cert.Kernel6Ideal.Mm
-- ==== Proof.Mm.S6.lean ====
module

public import proofs.«01_k».proof.Defs
public import proofs.«01_k».proof.Proof.Mm.K6
public import proofs.«01_k».proof.Proof.Gen.Kernel6
public import Idealize.ShloMosaic.Adequacy
public import Idealize.ShloMosaic.Init
public import Idealize.ShloMosaic.Lib.Claim

@[expose] public section

set_option maxHeartbeats 4000000
set_option maxRecDepth 65536

noncomputable section

namespace Cert.Proof.Mm6

open Idealize.ShloMosaic Idealize.SL.Sem

/-! The kernel and its idealization have the same text. -/

theorem defs₀_same {F : FTy → Type} [FloatOps F] :
    @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg Defs.onTc ?_
  funext l a
  match l, a with
  | ⟨0, _⟩, (t, s) => rfl

theorem main_same {F : FTy → Type} [FloatOps F] :
    @Cert.Kernel6.main F _ = @Cert.Kernel6Ideal.main F _ := by with_unfolding_all rfl

theorem defs_same {F : FTy → Type} [FloatOps F] :
    @Cert.Kernel6.defs F _ Cert.Kernel6.Gen.facts = @Cert.Kernel6Ideal.defs F _ Cert.Kernel6Ideal.Gen.facts :=
  congrArg (Pipeline.defs _) defs₀_same

/-- The kernel's frame: one run serves it and its idealization. -/
theorem frame_kernel : Cert.quiescent_Kernel6 (hKernel6 := Cert.Kernel6.Gen.facts) := by
  intro m ρ _
  rw [defs_same, main_same]
  exact Cert.Kernel6Ideal.Gen.frame (F := Bits) m ρ

/-- The reference's frame. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

open Cert.Kernel6Ideal.Mm in
/-- The kernel's result is the reference's. -/
theorem algebraic : Cert.algebraic_Kernel6Ideal_Reference6Ideal := fun m g m' g' _ ha => by
  refine ⟨fun c => Cert.Reference6Ideal.Mm.out (F := Ideal) (a0 m c) (a1 m c) (a2 m c), ?_, ?_⟩
  · exact (θ_run Cert.Kernel6Ideal.defs _ _).mono (fun r h c => ⟨(h c).1.trans (arr_eq m c), (h c).2⟩) (Cert.Kernel6Ideal.Value.run_blocks (F := Ideal) m g)
  · refine (θ_run Cert.Reference6Ideal.defs _ _).mono (fun r h c => ⟨(h c).1.trans ?_, (h c).2⟩) (Cert.Reference6Ideal.Mm.run_out (F := Ideal) m' g')
    congr 1
    · exact (ha c).1
    · exact (ha c).2.1
    · exact (ha c).2.2

end Cert.Proof.Mm6

end
-- ==== Proof.Mm.K7.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference7Ideal.Mm

open Cert.Reference7Ideal Cert.Reference7Ideal.Gen Idealize.ShloMosaic Idealize.ShloMosaic.TcCoe Idealize.SL.Sem Idealize.ShloMosaic.StableHlo

section
variable {F : FTy → Type} [FloatOps F]

/-- The reference's result, as a function of its arguments. -/
def out (a0 : (⟨S4096x1024, .f32⟩ : BufTy).Contents (Elt F)) (a1 : (⟨S1024x1024, .bf16⟩ : BufTy).Contents (Elt F)) : (⟨S4096x1024, .f32⟩ : BufTy).Contents (Elt F) :=
  Host.dotGeneral dot_S4096x1024_S1024x1024_S4096x1024_1_1_0_0_n_n none a0 (extf .f32 a1 bitsLt_bf16_f32)

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference7Ideal.Value.run m ρ)

end

variable (a0 : FVec Ideal S4096x1024 .f32) (a1 : FVec Ideal S1024x1024 .bf16)

/-- A number of it. -/
theorem out_apply (r : Fin 4096) (d : Fin 1024) : out (F := Ideal) a0 a1 (ix2 r d) = ∑ j : Fin 1024, a0 (ix2 r j) * a1 (ix2 d j) := by
  unfold out
  clean_types
  pointwise

end Cert.Reference7Ideal.Mm

namespace Cert.Kernel7Ideal.Mm

open Cert.Kernel7Ideal Cert.Kernel7Ideal.Gen Idealize.ShloMosaic Idealize.ShloMosaic.TcCoe Idealize.SL.Sem

/-- A number of what the body stores. -/
theorem pay_apply (a : Vec Ideal S512x1024 .f32) (b : Vec Ideal S1024x1024 .bf16) (r : Fin 512) (d : Fin 1024) :
    k0_pay1 a b (ix2 r d) = ∑ j : Fin 1024, a (ix2 r j) * b (ix2 d j) := by
  unfold k0_pay1
  pointwise

/-- The places of a point's blocks. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev a0 : FVec Ideal S4096x1024 .f32 := m ((c : Thread nD τ).loc main_arg0)
abbrev a1 : FVec Ideal S1024x1024 .bf16 := m ((c : Thread nD τ).loc main_arg1)

/-- The array after the run is the reference's result. -/
theorem arr_eq : (dats m 0 c).arrAt 2 cfg0.N = Cert.Reference7Ideal.Mm.out (F := Ideal) (a0 m c) (a1 m c) := by
  refine (dats m 0 c).arrAt_eq_of_covers 2 _ (by decide +kernel) fun t hf y => ?_
  have hN : t.val < 8 := lt_of_lt_of_eq t.isLt (show cfg0.N = 8 from N_0)
  obtain ⟨e0, e1, e2⟩ := idx t
  blk_simp [e2]
  rw [after0_2]
  frame_out
  obtain ⟨r, d, rfl⟩ : ∃ (r : Fin 512) (d : Fin 1024), y = (ix2 r d : S512x1024.Idx) :=
    ⟨y (0 : Fin 2), y (1 : Fin 2), by
      funext a
      match a with
      | 0 => rfl
      | 1 => rfl⟩
  have he : ((cfg0.win 2).blk t).view.emb (ix2 r d : S512x1024.Idx) = (ix2 ⟨t.val * 512 + r.val, by omega⟩ d : S4096x1024.Idx) := by
    blk_ext [e2]
  rw [he, Cert.Reference7Ideal.Mm.out_apply]
  refine (pay_apply _ _ r d).trans (Finset.sum_congr rfl fun j _ => congrArg₂ (· * ·) ?_ ?_)
  · blk_ext [iblk, V, e0]
  · blk_ext [iblk, V, e1]

end Cert.Kernel7Ideal.Mm
-- ==== Proof.Mm.S7.lean ====
module

public import proofs.«01_k».proof.Defs
public import proofs.«01_k».proof.Proof.Mm.K7
public import proofs.«01_k».proof.Proof.Gen.Kernel7
public import Idealize.ShloMosaic.Adequacy
public import Idealize.ShloMosaic.Init
public import Idealize.ShloMosaic.Lib.Claim

@[expose] public section

set_option maxHeartbeats 4000000
set_option maxRecDepth 65536

noncomputable section

namespace Cert.Proof.Mm7

open Idealize.ShloMosaic Idealize.SL.Sem

/-! The kernel and its idealization have the same text. -/

theorem defs₀_same {F : FTy → Type} [FloatOps F] :
    @Cert.Kernel7.defs₀ F _ Cert.Kernel7.Gen.facts = @Cert.Kernel7Ideal.defs₀ F _ Cert.Kernel7Ideal.Gen.facts := by
  unfold Cert.Kernel7.defs₀ Cert.Kernel7Ideal.defs₀
  refine congrArg Defs.onTc ?_
  funext l a
  match l, a with
  | ⟨0, _⟩, (t, s) => rfl

theorem main_same {F : FTy → Type} [FloatOps F] :
    @Cert.Kernel7.main F _ = @Cert.Kernel7Ideal.main F _ := by with_unfolding_all rfl

theorem defs_same {F : FTy → Type} [FloatOps F] :
    @Cert.Kernel7.defs F _ Cert.Kernel7.Gen.facts = @Cert.Kernel7Ideal.defs F _ Cert.Kernel7Ideal.Gen.facts :=
  congrArg (Pipeline.defs _) defs₀_same

/-- The kernel's frame: one run serves it and its idealization. -/
theorem frame_kernel : Cert.quiescent_Kernel7 (hKernel7 := Cert.Kernel7.Gen.facts) := by
  intro m ρ _
  rw [defs_same, main_same]
  exact Cert.Kernel7Ideal.Gen.frame (F := Bits) m ρ

/-- The reference's frame. -/
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

open Cert.Kernel7Ideal.Mm in
/-- The kernel's result is the reference's. -/
theorem algebraic : Cert.algebraic_Kernel7Ideal_Reference7Ideal := fun m g m' g' _ ha => by
  refine ⟨fun c => Cert.Reference7Ideal.Mm.out (F := Ideal) (a0 m c) (a1 m c), ?_, ?_⟩
  · exact (θ_run Cert.Kernel7Ideal.defs _ _).mono (fun r h c => ⟨(h c).1.trans (arr_eq m c), (h c).2⟩) (Cert.Kernel7Ideal.Value.run_blocks (F := Ideal) m g)
  · refine (θ_run Cert.Reference7Ideal.defs _ _).mono (fun r h c => ⟨(h c).1.trans ?_, (h c).2⟩) (Cert.Reference7Ideal.Mm.run_out (F := Ideal) m' g')
    congr 1
    · exact (ha c).1
    · exact (ha c).2

end Cert.Proof.Mm7

end
-- ==== Proof.Mm.K8.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference8Ideal.Mm

open Cert.Reference8Ideal Cert.Reference8Ideal.Gen Idealize.ShloMosaic Idealize.ShloMosaic.TcCoe Idealize.SL.Sem Idealize.ShloMosaic.StableHlo

section
variable {F : FTy → Type} [FloatOps F]

/-- The reference's result, as a function of its arguments. -/
def out (a0 : (⟨S4096x1024, .bf16⟩ : BufTy).Contents (Elt F)) (a1 : (⟨S1024x1024, .bf16⟩ : BufTy).Contents (Elt F)) (a2 : (⟨S4096x1024, .f32⟩ : BufTy).Contents (Elt F)) : (⟨S4096x1024, .f32⟩ : BufTy).Contents (Elt F) :=
  addf a2 (Host.dotGeneral dot_S4096x1024_S1024x1024_S4096x1024_1_0_0_1_n_n none (extf .f32 a0 bitsLt_bf16_f32) (extf .f32 a1 bitsLt_bf16_f32))

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.Reference8Ideal.Value.run m ρ)

end

variable (a0 : FVec Ideal S4096x1024 .bf16) (a1 : FVec Ideal S1024x1024 .bf16) (a2 : FVec Ideal S4096x1024 .f32)

/-- A number of it. -/
theorem out_apply (r : Fin 4096) (d : Fin 1024) : out (F := Ideal) a0 a1 a2 (ix2 r d) = a2 (ix2 r d) + ∑ j : Fin 1024, a0 (ix2 r j) * a1 (ix2 j d) := by
  unfold out
  clean_types
  pointwise

end Cert.Reference8Ideal.Mm

namespace Cert.Kernel8Ideal.Mm

open Cert.Kernel8Ideal Cert.Kernel8Ideal.Gen Idealize.ShloMosaic Idealize.ShloMosaic.TcCoe Idealize.SL.Sem

/-- A number of what the body stores. -/
theorem pay_apply (a : Vec Ideal S512x1024 .bf16) (b : Vec Ideal S1024x1024 .bf16) (x : Vec Ideal S512x1024 .f32) (r : Fin 512) (d : Fin 1024) :
    k0_pay1 a b x (ix2 r d) = (∑ j : Fin 1024, a (ix2 r j) * b (ix2 j d)) + x (ix2 r d) := by
  unfold k0_pay1
  pointwise

/-- The places of a point's blocks. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ) (c : Dev nD)

abbrev a0 : FVec Ideal S4096x1024 .bf16 := m ((c : Thread nD τ).loc main_arg0)
abbrev a1 : FVec Ideal S1024x1024 .bf16 := m ((c : Thread nD τ).loc main_arg1)
abbrev a2 : FVec Ideal S4096x1024 .f32 := m ((c : Thread nD τ).loc main_arg2)

/-- The array after the run is the reference's result. -/
theorem arr_eq : (dats m 0 c).arrAt 3 cfg0.N = Cert.Reference8Ideal.Mm.out (F := Ideal) (a0 m c) (a1 m c) (a2 m c) := by
  refine (dats m 0 c).arrAt_eq_of_covers 3 _ (by decide +kernel) fun t hf y => ?_
  have hN : t.val < 8 := lt_of_lt_of_eq t.isLt (show cfg0.N = 8 from N_0)
  obtain ⟨e0, e1, e2, e3⟩ := idx t
  blk_simp [e3]
  rw [after0_3]
  frame_out
  obtain ⟨r, d, rfl⟩ : ∃ (r : Fin 512) (d : Fin 1024), y = (ix2 r d : S512x1024.Idx) :=
    ⟨y (0 : Fin 2), y (1 : Fin 2), by
      funext a
      match a with
      | 0 => rfl
      | 1 => rfl⟩
  have he : ((cfg0.win 3).blk t).view.emb (ix2 r d : S512x1024.Idx) = (ix2 ⟨t.val * 512 + r.val, by omega⟩ d : S4096x1024.Idx) := by
    blk_ext [e3]
  rw [he, Cert.Reference8Ideal.Mm.out_apply]
  refine (pay_apply _ _ _ r d).trans ((add_comm _ _).trans (congrArg₂ (· + ·) ?_ (Finset.sum_congr rfl fun j _ => congrArg₂ (· * ·) ?_ ?_)))
  · blk_ext [iblk, V, e2]
  · blk_ext [iblk, V, e0]
  · blk_ext [iblk, V, e1]

end Cert.Kernel8Ideal.Mm
-- ==== Proof.Mm.S8.lean ====
module

public import proofs.«01_k».proof.Defs
public import proofs.«01_k».proof.Proof.Mm.K8
public import proofs.«01_k».proof.Proof.Gen.Kernel8
public import Idealize.ShloMosaic.Adequacy
public import Idealize.ShloMosaic.Init
public import Idealize.ShloMosaic.Lib.Claim

@[expose] public section

set_option maxHeartbeats 4000000
set_option maxRecDepth 65536

noncomputable section

namespace Cert.Proof.Mm8

open Idealize.ShloMosaic Idealize.SL.Sem

/-! The kernel and its idealization have the same text. -/

theorem defs₀_same {F : FTy → Type} [FloatOps F] :
    @Cert.Kernel8.defs₀ F _ Cert.Kernel8.Gen.facts = @Cert.Kernel8Ideal.defs₀ F _ Cert.Kernel8Ideal.Gen.facts := by
  unfold Cert.Kernel8.defs₀ Cert.Kernel8Ideal.defs₀
  refine congrArg Defs.onTc ?_
  funext l a
  match l, a with
  | ⟨0, _⟩, (t, s) => rfl

theorem main_same {F : FTy → Type} [FloatOps F] :
    @Cert.Kernel8.main F _ = @Cert.Kernel8Ideal.main F _ := by with_unfolding_all rfl

theorem defs_same {F : FTy → Type} [FloatOps F] :
    @Cert.Kernel8.defs F _ Cert.Kernel8.Gen.facts = @Cert.Kernel8Ideal.defs F _ Cert.Kernel8Ideal.Gen.facts :=
  congrArg (Pipeline.defs _) defs₀_same

/-- The kernel's frame: one run serves it and its idealization. -/
theorem frame_kernel : Cert.quiescent_Kernel8 (hKernel8 := Cert.Kernel8.Gen.facts) := by
  intro m ρ _
  rw [defs_same, main_same]
  exact Cert.Kernel8Ideal.Gen.frame (F := Bits) m ρ

/-- The reference's frame. -/
theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

open Cert.Kernel8Ideal.Mm in
/-- The kernel's result is the reference's. -/
theorem algebraic : Cert.algebraic_Kernel8Ideal_Reference8Ideal := fun m g m' g' _ ha => by
  refine ⟨fun c => Cert.Reference8Ideal.Mm.out (F := Ideal) (a0 m c) (a1 m c) (a2 m c), ?_, ?_⟩
  · exact (θ_run Cert.Kernel8Ideal.defs _ _).mono (fun r h c => ⟨(h c).1.trans (arr_eq m c), (h c).2⟩) (Cert.Kernel8Ideal.Value.run_blocks (F := Ideal) m g)
  · refine (θ_run Cert.Reference8Ideal.defs _ _).mono (fun r h c => ⟨(h c).1.trans ?_, (h c).2⟩) (Cert.Reference8Ideal.Mm.run_out (F := Ideal) m' g')
    congr 1
    · exact (ha c).1
    · exact (ha c).2.1
    · exact (ha c).2.2

end Cert.Proof.Mm8

end
-- ==== Proof.Mm.K9.lean ====
module

public import proofs.«01_k».proof.Proof.Gen.Kernel9Ideal.Value
public import proofs.«01_k».proof.Proof.Gen.Reference9Ideal.Run
public import proofs.«01_k».proof.Proof.Mm.Index
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference9Ideal.Mm

open Cert.Reference9Ideal Cert.Reference9Ideal.Gen Idealize.ShloMosaic Idealize.ShloMosaic.TcCoe Idealize.SL.Sem Idealize.ShloMosaic.StableHlo Cert.Mm

section
variable {F : FTy → Type} [FloatOps F]

/-- The reference's result, as a function of its arguments. -/
def out (a0 : (⟨S4096x2816, .bf16⟩ : BufTy).Contents (Elt F)) (a1 : (⟨S4096x1024, .f32⟩ : BufTy).Contents (Elt F)) : (⟨S2816x1024, .bf16⟩ : BufTy).Contents (Elt F) :=
  truncf .bf16 (transpose S2816x1024 [1, 0] (Host.dotGeneral dot_S4096x1024_S4096x2816_S1024x2816_0_0_1_1_n_n none a1 (extf .f32 a0 bitsLt_bf16_f32)) transposes_S1024x2816_S2816x1024_1_0) bitsLt_bf16_f32

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference9Ideal.Value.run m ρ)

end

variable (a0 : FVec Ideal S4096x2816 .bf16) (a1 : FVec Ideal S4096x1024 .f32)

/-- A number of it. -/
theorem out_apply (r : Fin 2816) (d : Fin 1024) : out (F := Ideal) a0 a1 (ix2 r d) = ∑ j : Fin 4096, a1 (ix2 j d) * a0 (ix2 j r) := by
  unfold out
  clean_types
  pointwise

/-- A number of it, as the two runs of rows give it. -/
theorem out_runs (r : Fin 2816) (d : Fin 1024) : out (F := Ideal) a0 a1 (ix2 r d) =
    (∑ j : Fin 2048, a0 (ix2 ⟨j.val, by omega⟩ r) * a1 (ix2 ⟨j.val, by omega⟩ d)) + ∑ j : Fin 2048, a0 (ix2 ⟨2048 + j.val, by omega⟩ r) * a1 (ix2 ⟨2048 + j.val, by omega⟩ d) := by
  rw [out_apply]
  refine (Cert.Norm.sum_runs (n := 2) (k := 2048) (N := 4096) (by norm_num) fun j => (a1 (ix2 j d) * a0 (ix2 j r) : EReal)).trans ?_
  rw [Fin.sum_univ_two]
  refine congrArg₂ (· + ·) (Finset.sum_congr rfl fun j _ => (mul_comm _ _).trans (congrArg₂ (· * ·) (congrArg a0 (ix2_congr ?_ rfl)) (congrArg a1 (ix2_congr ?_ rfl))))
    (Finset.sum_congr rfl fun j _ => (mul_comm _ _).trans (congrArg₂ (· * ·) (congrArg a0 (ix2_congr ?_ rfl)) (congrArg a1 (ix2_congr ?_ rfl)))) <;> simp only [Fin.val_zero, Fin.val_one] <;> omega

end Cert.Reference9Ideal.Mm

namespace Cert.Kernel9Ideal.Mm

open Cert.Kernel9Ideal Cert.Kernel9Ideal.Gen Idealize.ShloMosaic Idealize.ShloMosaic.TcCoe Idealize.SL.Sem

section
variable {F : FTy → Type} [FloatOps F]

/-- The first point of a tile keeps the product of its blocks. -/
theorem sout0_A_0_eq (c : Dev nD) (i : grid0.Coords) (arg3 : Memref sig .tc .vmem S2048x1408 .bf16) (harg3 : arg3.IsWhole) (arg4 : Memref sig .tc .vmem S2048x1024 .f32) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i) (hc2 : ¬cond0_2 i)
    (x0 : Vec F S2048x1408 .bf16) (x1 : Vec F S2048x1024 .f32) :
    sout0_A_0 c i arg3 harg3 arg4 harg4 arg5 harg5 arg6 harg6 hc0 hc1 hc2 x0 x1 = k0_pay2 x0 x1 := by
  frame_out

/-- The last point adds the product of its own blocks to it, and stores the sum. -/
theorem out0_B_2_eq (c : Dev nD) (i : grid0.Coords) (arg3 : Memref sig .tc .vmem S2048x1408 .bf16) (harg3 : arg3.IsWhole) (arg4 : Memref sig .tc .vmem S2048x1024 .f32) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (hc2 : cond0_2 i)
    (x0 : Vec F S2048x1408 .bf16) (x1 : Vec F S2048x1024 .f32) (xs0 : Vec F S1408x1024 .f32) :
    out0_B_2 c i arg3 harg3 arg4 harg4 arg5 harg5 arg6 harg6 hc0 hc1 hc2 x0 x1 xs0 = k0_pay4 (k0_pay3 x0 x1 xs0) := by
  frame_out

variable (m : (ℓ : Loc nD τ sig) → Buf (Elt F) ℓ) (c : Dev nD) (t : Fin cfg0.N)

/-- The point before. -/
abbrev prev : Fin cfg0.N := ⟨t.val - 1, Nat.lt_of_le_of_lt (Nat.sub_le _ _) t.isLt⟩

/-- What the first point of a tile keeps. -/
theorem kept (h : t.val % 2 = 0) : (outsAt0 m c t.val t.isLt).2 = k0_pay2 (iblk m c 0 t) (iblk m c 1 t) := by
  rw [outsAt0_A m c t h (by omega) (by omega)]
  dsimp only
  rw [sout0_A_0_eq]

/-- What the last point of a tile stores. -/
theorem stored (h : t.val % 2 = 1) : (outsAt0 m c t.val t.isLt).1 = k0_pay4 (k0_pay3 (iblk m c 0 t) (iblk m c 1 t) (k0_pay2 (iblk m c 0 (prev t)) (iblk m c 1 (prev t)))) := by
  rw [← kept m c (prev t) (show (t.val - 1) % 2 = 0 by omega), outsAt0_B m c t (by omega) h h]
  dsimp only
  rw [out0_B_2_eq]

end

section
variable (a a' : Vec Ideal S2048x1408 .bf16) (b b' : Vec Ideal S2048x1024 .f32) (x : Vec Ideal S1408x1024 .f32) (r : Fin 1408) (d : Fin 1024)

theorem pay1_apply : k0_pay1 a b (ix2 r d) = ∑ j : Fin 2048, a (ix2 j r) * b (ix2 j d) := by
  unfold k0_pay1
  pointwise

theorem pay2_apply : k0_pay2 a b (ix2 r d) = ∑ j : Fin 2048, a (ix2 j r) * b (ix2 j d) := by
  unfold k0_pay2
  pointwise
  exact pay1_apply a b r d

theorem pay3_apply : k0_pay3 a b x (ix2 r d) = x (ix2 r d) + ∑ j : Fin 2048, a (ix2 j r) * b (ix2 j d) := by
  unfold k0_pay3
  pointwise
  rw [pay1_apply]

/-- A number of what a tile stores. -/
theorem pay_apply : k0_pay4 (k0_pay3 a b (k0_pay2 a' b')) (ix2 r d) = (∑ j : Fin 2048, a' (ix2 j r) * b' (ix2 j d)) + ∑ j : Fin 2048, a (ix2 j r) * b (ix2 j d) := by
  unfold k0_pay4
  pointwise
  rw [pay3_apply, pay2_apply]

end

/-- The places of a point's blocks. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

abbrev a0 : FVec Ideal S4096x2816 .bf16 := m ((c : Thread nD τ).loc main_arg0)
abbrev a1 : FVec Ideal S4096x1024 .f32 := m ((c : Thread nD τ).loc main_arg1)

/-- The array after the run is the reference's result. -/
theorem arr_eq : (dats m 0 c).arrAt 2 cfg0.N = Cert.Reference9Ideal.Mm.out (F := Ideal) (a0 m c) (a1 m c) := by
  refine (dats m 0 c).arrAt_eq_of_covers 2 _ (by decide +kernel) fun t hf y => ?_
  have hN : t.val < 4 := lt_of_lt_of_eq t.isLt (show cfg0.N = 4 from N_0)
  have hm : t.val % 2 = 1 := (flush0_2 t).mp hf
  have hv : (prev t).val = t.val - 1 := rfl
  obtain ⟨e0, e1, e2⟩ := idx t
  obtain ⟨p0, p1, -⟩ := idx (prev t)
  rw [hv] at p0 p1
  blk_simp [e2]
  rw [after0_2, stored m c t hm]
  obtain ⟨r, d, rfl⟩ : ∃ (r : Fin 1408) (d : Fin 1024), y = (ix2 r d : S1408x1024.Idx) :=
    ⟨y (0 : Fin 2), y (1 : Fin 2), by
      funext a
      match a with
      | 0 => rfl
      | 1 => rfl⟩
  have he : ((cfg0.win 2).blk t).view.emb (ix2 r d : S1408x1024.Idx) = (ix2 ⟨t.val / 2 * 1408 + r.val, by omega⟩ d : S2816x1024.Idx) := by
    blk_ext [e2]
  rw [he, Cert.Reference9Ideal.Mm.out_runs]
  refine (pay_apply _ _ _ _ r d).trans (congrArg₂ (· + ·) (Finset.sum_congr rfl fun j _ => congrArg₂ (· * ·) ?_ ?_) (Finset.sum_congr rfl fun j _ => congrArg₂ (· * ·) ?_ ?_))
  · blk_ext [iblk, V, p0]
  · blk_ext [iblk, V, p1]
  · blk_ext [iblk, V, e0]
  · blk_ext [iblk, V, e1]

end Cert.Kernel9Ideal.Mm
-- ==== Proof.Mm.S9.lean ====
module

public import proofs.«01_k».proof.Defs
public import proofs.«01_k».proof.Proof.Mm.K9
public import proofs.«01_k».proof.Proof.Gen.Kernel9
public import Idealize.ShloMosaic.Adequacy
public import Idealize.ShloMosaic.Init
public import Idealize.ShloMosaic.Lib.Claim

@[expose] public section

set_option maxHeartbeats 4000000
set_option maxRecDepth 65536

noncomputable section

namespace Cert.Proof.Mm9

open Idealize.ShloMosaic Idealize.SL.Sem

/-! The kernel and its idealization have the same text. -/

theorem defs₀_same {F : FTy → Type} [FloatOps F] :
    @Cert.Kernel9.defs₀ F _ Cert.Kernel9.Gen.facts = @Cert.Kernel9Ideal.defs₀ F _ Cert.Kernel9Ideal.Gen.facts := by
  unfold Cert.Kernel9.defs₀ Cert.Kernel9Ideal.defs₀
  refine congrArg Defs.onTc ?_
  funext l a
  match l, a with
  | ⟨0, _⟩, (t, s) => rfl

theorem main_same {F : FTy → Type} [FloatOps F] :
    @Cert.Kernel9.main F _ = @Cert.Kernel9Ideal.main F _ := by with_unfolding_all rfl

theorem defs_same {F : FTy → Type} [FloatOps F] :
    @Cert.Kernel9.defs F _ Cert.Kernel9.Gen.facts = @Cert.Kernel9Ideal.defs F _ Cert.Kernel9Ideal.Gen.facts :=
  congrArg (Pipeline.defs _) defs₀_same

/-- The kernel's frame: one run serves it and its idealization. -/
theorem frame_kernel : Cert.quiescent_Kernel9 (hKernel9 := Cert.Kernel9.Gen.facts) := by
  intro m ρ _
  rw [defs_same, main_same]
  exact Cert.Kernel9Ideal.Gen.frame (F := Bits) m ρ

/-- The reference's frame. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

open Cert.Kernel9Ideal.Mm in
/-- The kernel's result is the reference's. -/
theorem algebraic : Cert.algebraic_Kernel9Ideal_Reference9Ideal := fun m g m' g' _ ha => by
  refine ⟨fun c => Cert.Reference9Ideal.Mm.out (F := Ideal) (a0 m c) (a1 m c), ?_, ?_⟩
  · exact (θ_run Cert.Kernel9Ideal.defs _ _).mono (fun r h c => ⟨(h c).1.trans (arr_eq m c), (h c).2⟩) (Cert.Kernel9Ideal.Value.run_blocks (F := Ideal) m g)
  · refine (θ_run Cert.Reference9Ideal.defs _ _).mono (fun r h c => ⟨(h c).1.trans ?_, (h c).2⟩) (Cert.Reference9Ideal.Mm.run_out (F := Ideal) m' g')
    congr 1
    · exact (ha c).1
    · exact (ha c).2

end Cert.Proof.Mm9

end
-- ==== Proof.Mm.K10.lean ====
module

public import proofs.«01_k».proof.Proof.Gen.Kernel10Ideal.Value
public import proofs.«01_k».proof.Proof.Gen.Reference10Ideal.Run
public import proofs.«01_k».proof.Proof.Mm.Index
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference10Ideal.Mm

open Cert.Reference10Ideal Cert.Reference10Ideal.Gen Idealize.ShloMosaic Idealize.ShloMosaic.TcCoe Idealize.SL.Sem Idealize.ShloMosaic.StableHlo Cert.Mm

section
variable {F : FTy → Type} [FloatOps F]

/-- The reference's result, as a function of its arguments. -/
def out (a0 : (⟨S4096x1024, .bf16⟩ : BufTy).Contents (Elt F)) (a1 : (⟨S4096x2944, .bf16⟩ : BufTy).Contents (Elt F)) : (⟨S1024x2944, .bf16⟩ : BufTy).Contents (Elt F) :=
  truncf .bf16 (transpose S1024x2944 [1, 0] (Host.dotGeneral dot_S4096x2944_S4096x1024_S2944x1024_0_0_1_1_n_n none (extf .f32 a1 bitsLt_bf16_f32) (extf .f32 a0 bitsLt_bf16_f32)) transposes_S2944x1024_S1024x2944_1_0) bitsLt_bf16_f32

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference10Ideal.Value.run m ρ)

end

variable (a0 : FVec Ideal S4096x1024 .bf16) (a1 : FVec Ideal S4096x2944 .bf16)

/-- A number of it. -/
theorem out_apply (r : Fin 1024) (d : Fin 2944) : out (F := Ideal) a0 a1 (ix2 r d) = ∑ j : Fin 4096, a1 (ix2 j d) * a0 (ix2 j r) := by
  unfold out
  clean_types
  pointwise

/-- A number of it, as the two runs of rows give it. -/
theorem out_runs (r : Fin 1024) (d : Fin 2944) : out (F := Ideal) a0 a1 (ix2 r d) =
    (∑ j : Fin 2048, a0 (ix2 ⟨j.val, by omega⟩ r) * a1 (ix2 ⟨j.val, by omega⟩ d)) + ∑ j : Fin 2048, a0 (ix2 ⟨2048 + j.val, by omega⟩ r) * a1 (ix2 ⟨2048 + j.val, by omega⟩ d) := by
  rw [out_apply]
  refine (Cert.Norm.sum_runs (n := 2) (k := 2048) (N := 4096) (by norm_num) fun j => (a1 (ix2 j d) * a0 (ix2 j r) : EReal)).trans ?_
  rw [Fin.sum_univ_two]
  refine congrArg₂ (· + ·) (Finset.sum_congr rfl fun j _ => (mul_comm _ _).trans (congrArg₂ (· * ·) (congrArg a0 (ix2_congr ?_ rfl)) (congrArg a1 (ix2_congr ?_ rfl))))
    (Finset.sum_congr rfl fun j _ => (mul_comm _ _).trans (congrArg₂ (· * ·) (congrArg a0 (ix2_congr ?_ rfl)) (congrArg a1 (ix2_congr ?_ rfl)))) <;> simp only [Fin.val_zero, Fin.val_one] <;> omega

end Cert.Reference10Ideal.Mm

namespace Cert.Kernel10Ideal.Mm

open Cert.Kernel10Ideal Cert.Kernel10Ideal.Gen Idealize.ShloMosaic Idealize.ShloMosaic.TcCoe Idealize.SL.Sem

section
variable {F : FTy → Type} [FloatOps F]

/-- The first point of a tile keeps the product of its blocks. -/
theorem sout0_A_0_eq (c : Dev nD) (i : grid0.Coords) (arg3 : Memref sig .tc .vmem S2048x512 .bf16) (harg3 : arg3.IsWhole) (arg4 : Memref sig .tc .vmem S2048x2944 .bf16) (harg4 : arg4.IsWhole) (arg5 : Memref sig .tc .vmem S512x2944 .bf16) (harg5 : arg5.IsWhole) (arg6 : Memref sig .tc .vmem S512x2944 .f32) (harg6 : arg6.IsWhole) (hc0 : cond0_0 i) (hc1 : ¬cond0_1 i) (hc2 : ¬cond0_2 i)
    (x0 : Vec F S2048x512 .bf16) (x1 : Vec F S2048x2944 .bf16) :
    sout0_A_0 c i arg3 harg3 arg4 harg4 arg5 harg5 arg6 harg6 hc0 hc1 hc2 x0 x1 = k0_pay2 x0 x1 := by
  frame_out

/-- The last point adds the product of its own blocks to it, and stores the sum. -/
theorem out0_B_2_eq (c : Dev nD) (i : grid0.Coords) (arg3 : Memref sig .tc .vmem S2048x512 .bf16) (harg3 : arg3.IsWhole) (arg4 : Memref sig .tc .vmem S2048x2944 .bf16) (harg4 : arg4.IsWhole) (arg5 : Memref sig .tc .vmem S512x2944 .bf16) (harg5 : arg5.IsWhole) (arg6 : Memref sig .tc .vmem S512x2944 .f32) (harg6 : arg6.IsWhole) (hc0 : ¬cond0_0 i) (hc1 : cond0_1 i) (hc2 : cond0_2 i)
    (x0 : Vec F S2048x512 .bf16) (x1 : Vec F S2048x2944 .bf16) (xs0 : Vec F S512x2944 .f32) :
    out0_B_2 c i arg3 harg3 arg4 harg4 arg5 harg5 arg6 harg6 hc0 hc1 hc2 x0 x1 xs0 = k0_pay4 (k0_pay3 x0 x1 xs0) := by
  frame_out

variable (m : (ℓ : Loc nD τ sig) → Buf (Elt F) ℓ) (c : Dev nD) (t : Fin cfg0.N)

/-- The point before. -/
abbrev prev : Fin cfg0.N := ⟨t.val - 1, Nat.lt_of_le_of_lt (Nat.sub_le _ _) t.isLt⟩

/-- What the first point of a tile keeps. -/
theorem kept (h : t.val % 2 = 0) : (outsAt0 m c t.val t.isLt).2 = k0_pay2 (iblk m c 0 t) (iblk m c 1 t) := by
  rw [outsAt0_A m c t h (by omega) (by omega)]
  dsimp only
  rw [sout0_A_0_eq]

/-- What the last point of a tile stores. -/
theorem stored (h : t.val % 2 = 1) : (outsAt0 m c t.val t.isLt).1 = k0_pay4 (k0_pay3 (iblk m c 0 t) (iblk m c 1 t) (k0_pay2 (iblk m c 0 (prev t)) (iblk m c 1 (prev t)))) := by
  rw [← kept m c (prev t) (show (t.val - 1) % 2 = 0 by omega), outsAt0_B m c t (by omega) h h]
  dsimp only
  rw [out0_B_2_eq]

end

section
variable (a a' : Vec Ideal S2048x512 .bf16) (b b' : Vec Ideal S2048x2944 .bf16) (x : Vec Ideal S512x2944 .f32) (r : Fin 512) (d : Fin 2944)

theorem pay1_apply : k0_pay1 a b (ix2 r d) = ∑ j : Fin 2048, a (ix2 j r) * b (ix2 j d) := by
  unfold k0_pay1
  pointwise

theorem pay2_apply : k0_pay2 a b (ix2 r d) = ∑ j : Fin 2048, a (ix2 j r) * b (ix2 j d) := by
  unfold k0_pay2
  pointwise
  exact pay1_apply a b r d

theorem pay3_apply : k0_pay3 a b x (ix2 r d) = x (ix2 r d) + ∑ j : Fin 2048, a (ix2 j r) * b (ix2 j d) := by
  unfold k0_pay3
  pointwise
  rw [pay1_apply]

/-- A number of what a tile stores. -/
theorem pay_apply : k0_pay4 (k0_pay3 a b (k0_pay2 a' b')) (ix2 r d) = (∑ j : Fin 2048, a' (ix2 j r) * b' (ix2 j d)) + ∑ j : Fin 2048, a (ix2 j r) * b (ix2 j d) := by
  unfold k0_pay4
  pointwise
  rw [pay3_apply, pay2_apply]

end

/-- The places of a point's blocks. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

abbrev a0 : FVec Ideal S4096x1024 .bf16 := m ((c : Thread nD τ).loc main_arg0)
abbrev a1 : FVec Ideal S4096x2944 .bf16 := m ((c : Thread nD τ).loc main_arg1)

/-- The array after the run is the reference's result. -/
theorem arr_eq : (dats m 0 c).arrAt 2 cfg0.N = Cert.Reference10Ideal.Mm.out (F := Ideal) (a0 m c) (a1 m c) := by
  refine (dats m 0 c).arrAt_eq_of_covers 2 _ (by decide +kernel) fun t hf y => ?_
  have hN : t.val < 4 := lt_of_lt_of_eq t.isLt (show cfg0.N = 4 from N_0)
  have hm : t.val % 2 = 1 := (flush0_2 t).mp hf
  have hv : (prev t).val = t.val - 1 := rfl
  obtain ⟨e0, e1, e2⟩ := idx t
  obtain ⟨p0, p1, -⟩ := idx (prev t)
  rw [hv] at p0 p1
  blk_simp [e2]
  rw [after0_2, stored m c t hm]
  obtain ⟨r, d, rfl⟩ : ∃ (r : Fin 512) (d : Fin 2944), y = (ix2 r d : S512x2944.Idx) :=
    ⟨y (0 : Fin 2), y (1 : Fin 2), by
      funext a
      match a with
      | 0 => rfl
      | 1 => rfl⟩
  have he : ((cfg0.win 2).blk t).view.emb (ix2 r d : S512x2944.Idx) = (ix2 ⟨t.val / 2 * 512 + r.val, by omega⟩ d : S1024x2944.Idx) := by
    blk_ext [e2]
  rw [he, Cert.Reference10Ideal.Mm.out_runs]
  refine (pay_apply _ _ _ _ r d).trans (congrArg₂ (· + ·) (Finset.sum_congr rfl fun j _ => congrArg₂ (· * ·) ?_ ?_) (Finset.sum_congr rfl fun j _ => congrArg₂ (· * ·) ?_ ?_))
  · blk_ext [iblk, V, p0]
  · blk_ext [iblk, V, p1]
  · blk_ext [iblk, V, e0]
  · blk_ext [iblk, V, e1]

end Cert.Kernel10Ideal.Mm
-- ==== Proof.Mm.S10.lean ====
module

public import proofs.«01_k».proof.Defs
public import proofs.«01_k».proof.Proof.Mm.K10
public import proofs.«01_k».proof.Proof.Gen.Kernel10
public import Idealize.ShloMosaic.Adequacy
public import Idealize.ShloMosaic.Init
public import Idealize.ShloMosaic.Lib.Claim

@[expose] public section

set_option maxHeartbeats 4000000
set_option maxRecDepth 65536

noncomputable section

namespace Cert.Proof.Mm10

open Idealize.ShloMosaic Idealize.SL.Sem

/-! The kernel and its idealization have the same text. -/

theorem defs₀_same {F : FTy → Type} [FloatOps F] :
    @Cert.Kernel10.defs₀ F _ Cert.Kernel10.Gen.facts = @Cert.Kernel10Ideal.defs₀ F _ Cert.Kernel10Ideal.Gen.facts := by
  unfold Cert.Kernel10.defs₀ Cert.Kernel10Ideal.defs₀
  refine congrArg Defs.onTc ?_
  funext l a
  match l, a with
  | ⟨0, _⟩, (t, s) => rfl

theorem main_same {F : FTy → Type} [FloatOps F] :
    @Cert.Kernel10.main F _ = @Cert.Kernel10Ideal.main F _ := by with_unfolding_all rfl

theorem defs_same {F : FTy → Type} [FloatOps F] :
    @Cert.Kernel10.defs F _ Cert.Kernel10.Gen.facts = @Cert.Kernel10Ideal.defs F _ Cert.Kernel10Ideal.Gen.facts :=
  congrArg (Pipeline.defs _) defs₀_same

/-- The kernel's frame: one run serves it and its idealization. -/
theorem frame_kernel : Cert.quiescent_Kernel10 (hKernel10 := Cert.Kernel10.Gen.facts) := by
  intro m ρ _
  rw [defs_same, main_same]
  exact Cert.Kernel10Ideal.Gen.frame (F := Bits) m ρ

/-- The reference's frame. -/
theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

open Cert.Kernel10Ideal.Mm in
/-- The kernel's result is the reference's. -/
theorem algebraic : Cert.algebraic_Kernel10Ideal_Reference10Ideal := fun m g m' g' _ ha => by
  refine ⟨fun c => Cert.Reference10Ideal.Mm.out (F := Ideal) (a0 m c) (a1 m c), ?_, ?_⟩
  · exact (θ_run Cert.Kernel10Ideal.defs _ _).mono (fun r h c => ⟨(h c).1.trans (arr_eq m c), (h c).2⟩) (Cert.Kernel10Ideal.Value.run_blocks (F := Ideal) m g)
  · refine (θ_run Cert.Reference10Ideal.defs _ _).mono (fun r h c => ⟨(h c).1.trans ?_, (h c).2⟩) (Cert.Reference10Ideal.Mm.run_out (F := Ideal) m' g')
    congr 1
    · exact (ha c).1
    · exact (ha c).2

end Cert.Proof.Mm10

end
-- ==== Proof.Mm.K11.lean ====
module

public import proofs.«01_k».proof.Proof.Gen.Kernel11Ideal.Value
public import proofs.«01_k».proof.Proof.Gen.Reference11Ideal.Run
public import proofs.«01_k».proof.Proof.Mm.Index
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference11Ideal.Mm

open Cert.Reference11Ideal Cert.Reference11Ideal.Gen Idealize.ShloMosaic Idealize.ShloMosaic.TcCoe Idealize.SL.Sem Idealize.ShloMosaic.StableHlo Cert.Mm

section
variable {F : FTy → Type} [FloatOps F]

/-- The reference's result, as a function of its arguments. -/
def out (a0 : (⟨S4096x1024, .bf16⟩ : BufTy).Contents (Elt F)) (a1 : (⟨S4096x1024, .f32⟩ : BufTy).Contents (Elt F)) : (⟨S1024x1024, .bf16⟩ : BufTy).Contents (Elt F) :=
  truncf .bf16 (transpose S1024x1024 [1, 0] (Host.dotGeneral dot_S4096x1024_S4096x1024_S1024x1024_0_0_1_1_n_n none a1 (extf .f32 a0 bitsLt_bf16_f32)) transposes_S1024x1024_S1024x1024_1_0) bitsLt_bf16_f32

/-- The reference's run ends in it. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference11Ideal.Value.run m ρ)

end

variable (a0 : FVec Ideal S4096x1024 .bf16) (a1 : FVec Ideal S4096x1024 .f32)

/-- A number of it. -/
theorem out_apply (r : Fin 1024) (d : Fin 1024) : out (F := Ideal) a0 a1 (ix2 r d) = ∑ j : Fin 4096, a1 (ix2 j d) * a0 (ix2 j r) := by
  unfold out
  clean_types
  pointwise

/-- A number of it, as the two runs of rows give it. -/
theorem out_runs (r : Fin 1024) (d : Fin 1024) : out (F := Ideal) a0 a1 (ix2 r d) =
    (∑ j : Fin 2048, a0 (ix2 ⟨j.val, by omega⟩ r) * a1 (ix2 ⟨j.val, by omega⟩ d)) + ∑ j : Fin 2048, a0 (ix2 ⟨2048 + j.val, by omega⟩ r) * a1 (ix2 ⟨2048 + j.val, by omega⟩ d) := by
  rw [out_apply]
  refine (Cert.Norm.sum_runs (n := 2) (k := 2048) (N := 4096) (by norm_num) fun j => (a1 (ix2 j d) * a0 (ix2 j r) : EReal)).trans ?_
  rw [Fin.sum_univ_two]
  refine congrArg₂ (· + ·) (Finset.sum_congr rfl fun j _ => (mul_comm _ _).trans (congrArg₂ (· * ·) (congrArg a0 (ix2_congr ?_ rfl)) (congrArg a1 (ix2_congr ?_ rfl))))
    (Finset.sum_congr rfl fun j _ => (mul_comm _ _).trans (congrArg₂ (· * ·) (congrArg a0 (ix2_congr ?_ rfl)) (congrArg a1 (ix2_congr ?_ rfl)))) <;> simp only [Fin.val_zero, Fin.val_one] <;> omega

end Cert.Reference11Ideal.Mm

namespace Cert.Kernel11Ideal.Mm

open Cert.Kernel11Ideal Cert.Kernel11Ideal.Gen Idealize.ShloMosaic Idealize.ShloMosaic.TcCoe Idealize.SL.Sem

section
variable {F : FTy → Type} [FloatOps F]

/-- The first point of a tile keeps the product of its blocks. -/
theorem sout0_A_0_eq (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S2048x1024 .bf16) (x1 : Vec F S2048x1024 .f32) :
    sout0_A_0 c i arg3 harg3 arg4 harg4 arg5 harg5 arg6 harg6 hc0 hc1 hc2 x0 x1 = k0_pay2 x0 x1 := by
  frame_out

/-- The last point adds the product of its own blocks to it, and stores the sum. -/
theorem out0_B_2_eq (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec F S2048x1024 .bf16) (x1 : Vec F S2048x1024 .f32) (xs0 : Vec F S1024x1024 .f32) :
    out0_B_2 c i arg3 harg3 arg4 harg4 arg5 harg5 arg6 harg6 hc0 hc1 hc2 x0 x1 xs0 = k0_pay4 (k0_pay3 x0 x1 xs0) := by
  frame_out

variable (m : (ℓ : Loc nD τ sig) → Buf (Elt F) ℓ) (c : Dev nD) (t : Fin cfg0.N)

/-- The point before. -/
abbrev prev : Fin cfg0.N := ⟨t.val - 1, Nat.lt_of_le_of_lt (Nat.sub_le _ _) t.isLt⟩

/-- What the first point of a tile keeps. -/
theorem kept (h : t.val % 2 = 0) : (outsAt0 m c t.val t.isLt).2 = k0_pay2 (iblk m c 0 t) (iblk m c 1 t) := by
  rw [outsAt0_A m c t h (by omega) (by omega)]
  dsimp only
  rw [sout0_A_0_eq]

/-- What the last point of a tile stores. -/
theorem stored (h : t.val % 2 = 1) : (outsAt0 m c t.val t.isLt).1 = k0_pay4 (k0_pay3 (iblk m c 0 t) (iblk m c 1 t) (k0_pay2 (iblk m c 0 (prev t)) (iblk m c 1 (prev t)))) := by
  rw [← kept m c (prev t) (show (t.val - 1) % 2 = 0 by omega), outsAt0_B m c t (by omega) h h]
  dsimp only
  rw [out0_B_2_eq]

end

section
variable (a a' : Vec Ideal S2048x1024 .bf16) (b b' : Vec Ideal S2048x1024 .f32) (x : Vec Ideal S1024x1024 .f32) (r : Fin 1024) (d : Fin 1024)

theorem pay1_apply : k0_pay1 a b (ix2 r d) = ∑ j : Fin 2048, a (ix2 j r) * b (ix2 j d) := by
  unfold k0_pay1
  pointwise

theorem pay2_apply : k0_pay2 a b (ix2 r d) = ∑ j : Fin 2048, a (ix2 j r) * b (ix2 j d) := by
  unfold k0_pay2
  pointwise
  exact pay1_apply a b r d

theorem pay3_apply : k0_pay3 a b x (ix2 r d) = x (ix2 r d) + ∑ j : Fin 2048, a (ix2 j r) * b (ix2 j d) := by
  unfold k0_pay3
  pointwise
  rw [pay1_apply]

/-- A number of what a tile stores. -/
theorem pay_apply : k0_pay4 (k0_pay3 a b (k0_pay2 a' b')) (ix2 r d) = (∑ j : Fin 2048, a' (ix2 j r) * b' (ix2 j d)) + ∑ j : Fin 2048, a (ix2 j r) * b (ix2 j d) := by
  unfold k0_pay4
  pointwise
  rw [pay3_apply, pay2_apply]

end

/-- The places of a point's blocks. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD)

abbrev a0 : FVec Ideal S4096x1024 .bf16 := m ((c : Thread nD τ).loc main_arg0)
abbrev a1 : FVec Ideal S4096x1024 .f32 := m ((c : Thread nD τ).loc main_arg1)

/-- The array after the run is the reference's result. -/
theorem arr_eq : (dats m 0 c).arrAt 2 cfg0.N = Cert.Reference11Ideal.Mm.out (F := Ideal) (a0 m c) (a1 m c) := by
  refine (dats m 0 c).arrAt_eq_of_covers 2 _ (by decide +kernel) fun t hf y => ?_
  have hN : t.val < 2 := lt_of_lt_of_eq t.isLt (show cfg0.N = 2 from N_0)
  have hm : t.val % 2 = 1 := (flush0_2 t).mp hf
  have hv : (prev t).val = t.val - 1 := rfl
  obtain ⟨e0, e1, e2⟩ := idx t
  obtain ⟨p0, p1, -⟩ := idx (prev t)
  rw [hv] at p0 p1
  blk_simp [e2]
  rw [after0_2, stored m c t hm]
  obtain ⟨r, d, rfl⟩ : ∃ (r : Fin 1024) (d : Fin 1024), y = (ix2 r d : S1024x1024.Idx) :=
    ⟨y (0 : Fin 2), y (1 : Fin 2), by
      funext a
      match a with
      | 0 => rfl
      | 1 => rfl⟩
  have he : ((cfg0.win 2).blk t).view.emb (ix2 r d : S1024x1024.Idx) = (ix2 r d : S1024x1024.Idx) := by
    blk_ext [e2]
  rw [he, Cert.Reference11Ideal.Mm.out_runs]
  refine (pay_apply _ _ _ _ r d).trans (congrArg₂ (· + ·) (Finset.sum_congr rfl fun j _ => congrArg₂ (· * ·) ?_ ?_) (Finset.sum_congr rfl fun j _ => congrArg₂ (· * ·) ?_ ?_))
  · blk_ext [iblk, V, p0]
  · blk_ext [iblk, V, p1]
  · blk_ext [iblk, V, e0]
  · blk_ext [iblk, V, e1]

end Cert.Kernel11Ideal.Mm
-- ==== Proof.Mm.S11.lean ====
module

public import proofs.«01_k».proof.Defs
public import proofs.«01_k».proof.Proof.Mm.K11
public import proofs.«01_k».proof.Proof.Gen.Kernel11
public import Idealize.ShloMosaic.Adequacy
public import Idealize.ShloMosaic.Init
public import Idealize.ShloMosaic.Lib.Claim

@[expose] public section

set_option maxHeartbeats 4000000
set_option maxRecDepth 65536

noncomputable section

namespace Cert.Proof.Mm11

open Idealize.ShloMosaic Idealize.SL.Sem

/-! The kernel and its idealization have the same text. -/

theorem defs₀_same {F : FTy → Type} [FloatOps F] :
    @Cert.Kernel11.defs₀ F _ Cert.Kernel11.Gen.facts = @Cert.Kernel11Ideal.defs₀ F _ Cert.Kernel11Ideal.Gen.facts := by
  unfold Cert.Kernel11.defs₀ Cert.Kernel11Ideal.defs₀
  refine congrArg Defs.onTc ?_
  funext l a
  match l, a with
  | ⟨0, _⟩, (t, s) => rfl

theorem main_same {F : FTy → Type} [FloatOps F] :
    @Cert.Kernel11.main F _ = @Cert.Kernel11Ideal.main F _ := by with_unfolding_all rfl

theorem defs_same {F : FTy → Type} [FloatOps F] :
    @Cert.Kernel11.defs F _ Cert.Kernel11.Gen.facts = @Cert.Kernel11Ideal.defs F _ Cert.Kernel11Ideal.Gen.facts :=
  congrArg (Pipeline.defs _) defs₀_same

/-- The kernel's frame: one run serves it and its idealization. -/
theorem frame_kernel : Cert.quiescent_Kernel11 (hKernel11 := Cert.Kernel11.Gen.facts) := by
  intro m ρ _
  rw [defs_same, main_same]
  exact Cert.Kernel11Ideal.Gen.frame (F := Bits) m ρ

/-- The reference's frame. -/
theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

open Cert.Kernel11Ideal.Mm in
/-- The kernel's result is the reference's. -/
theorem algebraic : Cert.algebraic_Kernel11Ideal_Reference11Ideal := fun m g m' g' _ ha => by
  refine ⟨fun c => Cert.Reference11Ideal.Mm.out (F := Ideal) (a0 m c) (a1 m c), ?_, ?_⟩
  · exact (θ_run Cert.Kernel11Ideal.defs _ _).mono (fun r h c => ⟨(h c).1.trans (arr_eq m c), (h c).2⟩) (Cert.Kernel11Ideal.Value.run_blocks (F := Ideal) m g)
  · refine (θ_run Cert.Reference11Ideal.defs _ _).mono (fun r h c => ⟨(h c).1.trans ?_, (h c).2⟩) (Cert.Reference11Ideal.Mm.run_out (F := Ideal) m' g')
    congr 1
    · exact (ha c).1
    · exact (ha c).2

end Cert.Proof.Mm11

end
-- ==== Proof.Mm.K12.lean ====
module

public import proofs.«01_k».proof.Proof.Gen.Kernel12Ideal.Value
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Kernel12Ideal.Mm

open Cert.Kernel12Ideal Cert.Kernel12Ideal.Gen Idealize.ShloMosaic Idealize.ShloMosaic.TcCoe Idealize.SL.Sem Cert.Norm

section
variable {F : FTy → Type} [FloatOps F]

/-! What the body stores in each case. -/

/-- Every point stores its rows' gradient. -/
theorem out0_A_5_eq (c : Dev nD) (i : grid0.Coords) (arg2 : Memref sig .tc .vmem S512x2944 .bf16) (harg2 : arg2.IsWhole) (arg3 : Memref sig .tc .vmem S1024x2944 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : cond0_2 i) (hc3 : cond0_3 i)
    (x0 : Vec F S512x2944 .bf16) (x1 : Vec F S1024x2944 .bf16) (x2 : Vec F S512x1024 .f32) (x3 : Vec F S1x1024 .f32) (x4 : Vec F S512x1024 .f32) :
    out0_A_5 c i arg2 harg2 arg3 harg3 arg4 harg4 arg5 harg5 arg6 harg6 arg7 harg7 arg8 harg8 arg9 harg9 hc0 hc1 hc2 hc3 x0 x1 x2 x3 x4 = k0_pay9 x2 x3 (k0_pay2 x0 x1) x4 := by
  frame_out

/-- So does a later point. -/
theorem out0_B_5_eq (c : Dev nD) (i : grid0.Coords) (arg2 : Memref sig .tc .vmem S512x2944 .bf16) (harg2 : arg2.IsWhole) (arg3 : Memref sig .tc .vmem S1024x2944 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : ¬cond0_2 i) (hc3 : cond0_3 i)
    (x0 : Vec F S512x2944 .bf16) (x1 : Vec F S1024x2944 .bf16) (x2 : Vec F S512x1024 .f32) (x3 : Vec F S1x1024 .f32) (x4 : Vec F S512x1024 .f32) (xo6 : Vec F S1x1024 .f32) :
    out0_B_5 c i arg2 harg2 arg3 harg3 arg4 harg4 arg5 harg5 arg6 harg6 arg7 harg7 arg8 harg8 arg9 harg9 hc0 hc1 hc2 hc3 x0 x1 x2 x3 x4 xo6 = k0_pay9 x2 x3 (k0_pay2 x0 x1) x4 := by
  frame_out

/-- The first point starts the weight's gradient at zero and adds its part. -/
theorem out0_A_6_eq (c : Dev nD) (i : grid0.Coords) (arg2 : Memref sig .tc .vmem S512x2944 .bf16) (harg2 : arg2.IsWhole) (arg3 : Memref sig .tc .vmem S1024x2944 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : cond0_2 i) (hc3 : cond0_3 i)
    (x0 : Vec F S512x2944 .bf16) (x1 : Vec F S1024x2944 .bf16) (x2 : Vec F S512x1024 .f32) (x3 : Vec F S1x1024 .f32) (x4 : Vec F S512x1024 .f32) :
    out0_A_6 c i arg2 harg2 arg3 harg3 arg4 harg4 arg5 harg5 arg6 harg6 arg7 harg7 arg8 harg8 arg9 harg9 hc0 hc1 hc2 hc3 x0 x1 x2 x3 x4 = k0_pay5 (k0_pay8 x2 (k0_pay2 x0 x1)) (k0_pay4 (F := F)) := by
  frame_out

/-- A later point adds its part. -/
theorem out0_B_6_eq (c : Dev nD) (i : grid0.Coords) (arg2 : Memref sig .tc .vmem S512x2944 .bf16) (harg2 : arg2.IsWhole) (arg3 : Memref sig .tc .vmem S1024x2944 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (hc0 : cond0_0 i) (hc1 : ¬cond0_1 i) (hc2 : ¬cond0_2 i) (hc3 : cond0_3 i)
    (x0 : Vec F S512x2944 .bf16) (x1 : Vec F S1024x2944 .bf16) (x2 : Vec F S512x1024 .f32) (x3 : Vec F S1x1024 .f32) (x4 : Vec F S512x1024 .f32) (xo6 : Vec F S1x1024 .f32) :
    out0_B_6 c i arg2 harg2 arg3 harg3 arg4 harg4 arg5 harg5 arg6 harg6 arg7 harg7 arg8 harg8 arg9 harg9 hc0 hc1 hc2 hc3 x0 x1 x2 x3 x4 xo6 = k0_pay5 (k0_pay8 x2 (k0_pay2 x0 x1)) xo6 := by
  frame_out

variable (m : (ℓ : Loc nD τ sig) → Buf (Elt F) ℓ) (c : Dev nD) (t : Fin cfg0.N)

theorem lt8 : t.val < 8 := lt_of_lt_of_eq t.isLt (show cfg0.N = 8 from N_0)

/-- The point before. -/
abbrev prev : Fin cfg0.N := ⟨t.val - 1, Nat.lt_of_le_of_lt (Nat.sub_le _ _) t.isLt⟩

theorem rows_at : (outsAt0 m c t.val t.isLt).1 = k0_pay9 (iblk m c 2 t) (iblk m c 3 t) (k0_pay2 (iblk m c 0 t) (iblk m c 1 t)) (iblk m c 4 t) := by
  by_cases h : t.val % 8 = 0
  · rw [outsAt0_A m c t h]
    dsimp only
    rw [out0_A_5_eq]
  · rw [outsAt0_B m c t h]
    dsimp only
    rw [out0_B_5_eq]

theorem weight_first (h : t.val = 0) : (outsAt0 m c t.val t.isLt).2 = k0_pay5 (k0_pay8 (iblk m c 2 t) (k0_pay2 (iblk m c 0 t) (iblk m c 1 t))) (k0_pay4 (F := F)) := by
  rw [outsAt0_A m c t (by omega)]
  dsimp only
  rw [out0_A_6_eq]

theorem weight_next (h : t.val ≠ 0) : (outsAt0 m c t.val t.isLt).2 = k0_pay5 (k0_pay8 (iblk m c 2 t) (k0_pay2 (iblk m c 0 t) (iblk m c 1 t))) (outsAt0 m c (prev t).val (prev t).isLt).2 := by
  have := lt8 t
  rw [outsAt0_B m c t (by omega)]
  dsimp only
  rw [out0_B_6_eq]

end

/-! Where the blocks of a point lie in the arrays. -/

theorem idx : ∀ t : Fin cfg0.N, (win0_0.index t = ![t.val, 0] ∧ win0_1.index t = ![0, 0])
    ∧ (win0_2.index t = ![t.val, 0] ∧ win0_3.index t = ![0, 0] ∧ win0_4.index t = ![t.val, 0]) ∧ win0_5.index t = ![t.val, 0] ∧ win0_6.index t = ![0, 0] :=
  (by decide +kernel : ∀ t : Fin grid0.N, _)

/-- Row `r` of tile `i`. -/
abbrev row (i : Fin 8) (r : Fin 512) : Fin 4096 := ⟨i.val * 512 + r.val, by omega⟩

section
variable (m : (ℓ : Loc nD τ sig) → Buf (Elt Ideal) ℓ) (c : Dev nD) (t : Fin cfg0.N) (i : Fin 8) (ht : t.val = i.val)
include ht

theorem g_read (r : Fin 512) (j : Fin 2944) : iblk m c 0 t (ix2 r j) = m ((c : Thread nD τ).loc main_arg0) (ix2 (row i r) j) := by
  obtain ⟨⟨a0, a1⟩, ⟨a2, a3, a4⟩, a5, a6⟩ := idx t
  rw [ht] at a0
  blk_ext [iblk, V, a0]

theorem w_read (d : Fin 1024) (j : Fin 2944) : iblk m c 1 t (ix2 d j) = m ((c : Thread nD τ).loc main_arg1) (ix2 d j) := by
  obtain ⟨⟨a0, a1⟩, ⟨a2, a3, a4⟩, a5, a6⟩ := idx t
  blk_ext [iblk, V, a1]

theorem x_read (r : Fin 512) (d : Fin 1024) : iblk m c 2 t (ix2 r d) = m ((c : Thread nD τ).loc main_arg2) (ix2 (row i r) d) := by
  obtain ⟨⟨a0, a1⟩, ⟨a2, a3, a4⟩, a5, a6⟩ := idx t
  rw [ht] at a2
  blk_ext [iblk, V, a2]

theorem n_read (z : Fin 1) (d : Fin 1024) : iblk m c 3 t (ix2 z d) = m ((c : Thread nD τ).loc main_arg3) (ix1 d) := by
  obtain ⟨⟨a0, a1⟩, ⟨a2, a3, a4⟩, a5, a6⟩ := idx t
  have h : iblk m c 3 t (ix2 z d) = V m c main_v0 (ix2 0 d) := by
    unfold iblk
    blk_simp [a3]
    refine congrArg (V m c main_v0) ?_
    blk_ext [a3]
  rw [h]
  unfold V
  after_reads_at

theorem e_read (r : Fin 512) (d : Fin 1024) : iblk m c 4 t (ix2 r d) = m ((c : Thread nD τ).loc main_arg4) (ix2 (row i r) d) := by
  obtain ⟨⟨a0, a1⟩, ⟨a2, a3, a4⟩, a5, a6⟩ := idx t
  rw [ht] at a4
  blk_ext [iblk, V, a4]

end

section
variable (a : Vec Ideal S512x2944 .bf16) (b : Vec Ideal S1024x2944 .bf16) (x g e : Vec Ideal S512x1024 .f32) (w : Vec Ideal S1x1024 .f32) (s : FVec Ideal S1x1024 .f32) (o : Vec Ideal S1x1024 .f32)
variable (r : Fin 512) (d : Fin 1024) (z : Fin 1)

/-! The body's values, read at an index. -/

theorem pay1_apply : k0_pay1 a b (ix2 r d) = ∑ j : Fin 2944, a (ix2 r j) * b (ix2 d j) := by
  unfold k0_pay1
  pointwise

theorem pay2_apply : k0_pay2 a b (ix2 r d) = ∑ j : Fin 2944, a (ix2 r j) * b (ix2 d j) := by
  unfold k0_pay2
  pointwise
  exact pay1_apply a b r d

theorem pay3_apply : k0_pay3 a b x (ix2 r d) = x (ix2 r d) + ∑ j : Fin 2944, a (ix2 r j) * b (ix2 d j) := by
  unfold k0_pay3
  pointwise
  rw [pay1_apply]

theorem pay4_apply : (k0_pay4 (F := Ideal)) (ix2 z d) = (0 : EReal) := by
  unfold k0_pay4
  pointwise

theorem pay5_apply : k0_pay5 s o (ix2 z d) = (o (ix2 z d) + s (ix2 z d) : EReal) := by
  unfold k0_pay5
  pointwise

theorem pay6_apply : k0_pay6 x (ix2 r z) = ms fun j => x (ix2 r j) := by
  unfold k0_pay6
  pointwise
  rfl

theorem pay7_apply : k0_pay7 x (ix2 r z) = rs fun j => x (ix2 r j) := by
  unfold k0_pay7
  pointwise
  rw [pay6_apply]
  rfl

theorem pay8_apply : k0_pay8 x g (ix2 z d) = ∑ r : Fin 512, x (ix2 r d) * rs (fun j => x (ix2 r j)) * g (ix2 r d) := by
  unfold k0_pay8
  pointwise
  simp only [pay7_apply]

theorem pay9_apply : k0_pay9 x w g e (ix2 r d) = dx (fun j => x (ix2 r j)) (fun j => g (ix2 r j) * w (ix2 0 j)) d + e (ix2 r d) := by
  unfold k0_pay9
  pointwise
  simp only [pay7_apply, pay6_apply, Finset.univ_unique, Finset.sum_singleton]
  rfl

end

end Cert.Kernel12Ideal.Mm
-- ==== Proof.Mm.R12.lean ====
module

public import proofs.«01_k».proof.Proof.Gen.Reference12Ideal.Run
public import proofs.«01_k».proof.Proof.Norm.Spec
public import Idealize.ShloMosaic.Lib.Claim
public import Idealize.ShloMosaic.Lib.Pointwise
import Idealize.ShloMosaic.Lib.Tactic.CleanTypes

@[expose] public section

set_option maxRecDepth 65536

noncomputable section

namespace Cert.Reference12Ideal.Mm

open Cert.Norm Cert.Reference12Ideal Cert.Reference12Ideal.Gen Idealize.ShloMosaic Idealize.ShloMosaic.TcCoe Idealize.SL.Sem Idealize.ShloMosaic.StableHlo

section
variable {F : FTy → Type} [FloatOps F]

/-! The reference's results, as functions of its arguments. -/

/-- The gradient of the normalized rows: the product of the cotangents with the weights. -/
def r_g (a0 : (⟨S4096x2944, .bf16⟩ : BufTy).Contents (Elt F)) (a1 : (⟨S1024x2944, .bf16⟩ : BufTy).Contents (Elt F)) : (⟨S4096x1024, .f32⟩ : BufTy).Contents (Elt F) :=
  Host.dotGeneral dot_S4096x2944_S1024x2944_S4096x1024_1_1_0_0_n_n none (extf .f32 a0 bitsLt_bf16_f32) (extf .f32 a1 bitsLt_bf16_f32)

/-- The mean of a row's squares, and the norm's small number. -/
def r_ms (a2 : (⟨S4096x1024, .f32⟩ : BufTy).Contents (Elt F)) : (⟨S4096x1, .f32⟩ : BufTy).Contents (Elt F) :=
  addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Its reciprocal square root. -/
def r_rs (a2 : (⟨S4096x1024, .f32⟩ : BufTy).Contents (Elt F)) : (⟨S4096x1, .f32⟩ : BufTy).Contents (Elt F) :=
  Host.rsqrt (r_ms a2)

/-- The gradient of the rows. -/
def r_dx (a0 : (⟨S4096x2944, .bf16⟩ : BufTy).Contents (Elt F)) (a1 : (⟨S1024x2944, .bf16⟩ : BufTy).Contents (Elt F)) (a2 : (⟨S4096x1024, .f32⟩ : BufTy).Contents (Elt F)) (a3 : (⟨S1024, .f32⟩ : BufTy).Contents (Elt F)) (a4 : (⟨S4096x1024, .f32⟩ : BufTy).Contents (Elt F)) : (⟨S4096x1024, .f32⟩ : BufTy).Contents (Elt F) :=
  addf (addf (addf a4 (mulf (mulf (r_g a0 a1) (broadcastInDim S4096x1024 ![0, 1] bcast_S1x1024_S4096x1024_0_1 (broadcastInDim S1x1024 ![1] bcast_S1024_S1x1024_1 a3))) (broadcastInDim S4096x1024 ![0, 1] bcast_S4096x1_S4096x1024_0_1 (r_rs a2)))) (mulf a2 (broadcastInDim S4096x1024 ![0] bcast_S4096_S4096x1024_0 (Host.reduceAdd (Host.divf (mulf (shapeCast _ (Host.reduceAdd (mulf a2 (mulf (r_g a0 a1) (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (r_rs a2) (r_ms a2)))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a2 (mulf (r_g a0 a1) (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (r_rs a2) (r_ms a2)))) (broadcastInDim S4096x1 ![] bcast_S_S4096x1 (constant S_ .f32 0x44800000#32))) (constant S_ .f32 0x00000000#32) reducesTo_S4096x1_S4096_d1 h_S_)) a2)

/-- The gradient of the norm's weight. -/
def r_dw (a0 : (⟨S4096x2944, .bf16⟩ : BufTy).Contents (Elt F)) (a1 : (⟨S1024x2944, .bf16⟩ : BufTy).Contents (Elt F)) (a2 : (⟨S4096x1024, .f32⟩ : BufTy).Contents (Elt F)) : (⟨S1x1024, .f32⟩ : BufTy).Contents (Elt F) :=
  broadcastInDim S1x1024 ![1] bcast_S1024_S1x1024_1 (Host.reduceAdd (shapeCast _ (Host.reduceAdd (mulf (mulf a2 (broadcastInDim S4096x1024 ![0, 1] bcast_S4096x1_S4096x1024_0_1 (r_rs a2))) (r_g a0 a1)) (constant S_ .f32 0x00000000#32) reducesTo_S4096x1024_S1024_d0 h_S_) shapeCasts_S1024_S1x1024) (constant S_ .f32 0x00000000#32) reducesTo_S1x1024_S1024_d0 h_S_)

/-- The run's results are these. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = r_dx (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = r_dw (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2⟩) (Cert.Reference12Ideal.Value.run m ρ)

end

variable (a0 : FVec Ideal S4096x2944 .bf16) (a1 : FVec Ideal S1024x2944 .bf16) (a2 : FVec Ideal S4096x1024 .f32) (a3 : FVec Ideal S1024 .f32) (a4 : FVec Ideal S4096x1024 .f32)
variable (r : Fin 4096) (d : Fin 1024) (z : Fin 1)

/-- A number of the product. -/
theorem g_apply : r_g (F := Ideal) a0 a1 (ix2 r d) = ∑ j : Fin 2944, a0 (ix2 r j) * a1 (ix2 d j) := by
  unfold r_g
  clean_types
  pointwise

/-! The other stages. -/

theorem ms_apply : r_ms (F := Ideal) a2 (ix2 r z) = ms (fun j => a2 (ix2 r j)) := by
  unfold r_ms
  clean_types
  pointwise
  rfl

theorem rs_apply : r_rs (F := Ideal) a2 (ix2 r z) = rs (fun j => a2 (ix2 r j)) := by
  unfold r_rs
  clean_types
  pointwise
  rw [ms_apply]
  rfl

theorem dx_apply : r_dx (F := Ideal) a0 a1 a2 a3 a4 (ix2 r d) = dx (fun j => a2 (ix2 r j)) (fun j => r_g (F := Ideal) a0 a1 (ix2 r j) * a3 (ix1 j)) d + a4 (ix2 r d) := by
  unfold r_dx
  clean_types
  pointwise
  simp only [rs_apply, ms_apply, Finset.univ_unique, Finset.sum_singleton]
  unfold dx bk
  rw [add_assoc (a4 (ix2 r d) : EReal), add_assoc (a4 (ix2 r d) : EReal), add_comm (a4 (ix2 r d) : EReal)]

theorem dw_apply : r_dw (F := Ideal) a0 a1 a2 (ix2 z d) = ∑ r : Fin 4096, a2 (ix2 r d) * rs (fun j => a2 (ix2 r j)) * r_g (F := Ideal) a0 a1 (ix2 r d) := by
  unfold r_dw
  clean_types
  pointwise
  simp only [rs_apply, Finset.univ_unique, Finset.sum_singleton]

end Cert.Reference12Ideal.Mm
-- ==== Proof.Mm.V12.lean ====
module

public import proofs.«01_k».proof.Proof.Mm.K12
public import proofs.«01_k».proof.Proof.Mm.R12
import Idealize.ShloMosaic.Lib.Tactic.CleanTypes

@[expose] public section

set_option maxRecDepth 65536

noncomputable section

namespace Cert.Kernel12Ideal.Mm

open Cert.Kernel12Ideal Cert.Kernel12Ideal.Gen Idealize.ShloMosaic Idealize.ShloMosaic.TcCoe Idealize.SL.Sem Cert.Norm
open Cert.Reference12Ideal.Mm (r_g r_dx r_dw)

variable (m : (ℓ : Loc nD τ sig) → Buf (Elt Ideal) ℓ) (c : Dev nD)

abbrev a0 : FVec Ideal S4096x2944 .bf16 := m ((c : Thread nD τ).loc main_arg0)
abbrev a1 : FVec Ideal S1024x2944 .bf16 := m ((c : Thread nD τ).loc main_arg1)
abbrev a2 : FVec Ideal S4096x1024 .f32 := m ((c : Thread nD τ).loc main_arg2)
abbrev a3 : FVec Ideal S1024 .f32 := m ((c : Thread nD τ).loc main_arg3)
abbrev a4 : FVec Ideal S4096x1024 .f32 := m ((c : Thread nD τ).loc main_arg4)

section
variable (t : Fin cfg0.N) (i : Fin 8) (ht : t.val = i.val) (r : Fin 512) (d : Fin 1024) (z : Fin 1)

/-- The blocks of the product at a point. -/
abbrev blkG : FVec Ideal S512x2944 .bf16 := iblk m c 0 t
abbrev blkW : FVec Ideal S1024x2944 .bf16 := iblk m c 1 t

/-- The product of a point's blocks. -/
theorem prod_eq (ht : t.val = i.val) : (k0_pay2 (blkG m c t) (blkW m c t) : FVec Ideal S512x1024 .f32) (ix2 r d) = r_g (F := Ideal) (a0 m c) (a1 m c) (ix2 (row i r) d) := by
  rw [pay2_apply, Cert.Reference12Ideal.Mm.g_apply]
  exact Finset.sum_congr rfl fun j _ => congrArg₂ (· * ·) (g_read m c t i ht r j) (w_read m c t i ht d j)

/-- A point's rows. -/
theorem rows_pt (ht : t.val = i.val) :
    (outsAt0 m c t.val t.isLt).1 (ix2 r d) = r_dx (F := Ideal) (a0 m c) (a1 m c) (a2 m c) (a3 m c) (a4 m c) (ix2 (row i r) d) := by
  rw [rows_at m c t, pay9_apply, Cert.Reference12Ideal.Mm.dx_apply]
  simp only [x_read m c t i ht, n_read m c t i ht, e_read m c t i ht, prod_eq m c t i _ _ ht]

/-- What a tile adds to the gradient of the norm's weight. -/
def tile (d : Fin 1024) (i : Fin 8) : EReal :=
  ∑ r : Fin 512, a2 m c (ix2 (row i r) d) * rs (fun j => a2 m c (ix2 (row i r) j)) * r_g (F := Ideal) (a0 m c) (a1 m c) (ix2 (row i r) d)

theorem part_eq (ht : t.val = i.val) : k0_pay8 (F := Ideal) (iblk m c 2 t) (k0_pay2 (F := Ideal) (blkG m c t) (blkW m c t)) (ix2 z d) = tile m c d i := by
  rw [pay8_apply]
  unfold tile
  refine Finset.sum_congr rfl fun r _ => ?_
  rw [prod_eq m c t i r d ht]
  simp only [x_read m c t i ht]

end

/-- The gradient of the norm's weight after tile `n`. -/
theorem weight_at (d : Fin 1024) (z : Fin 1) : ∀ (n : ℕ) (hn : n < 8) (t : Fin cfg0.N), t.val = n →
    (outsAt0 m c t.val t.isLt).2 (ix2 z d) = ∑ i : Fin (n + 1), tile m c d ⟨i.val, by omega⟩
  | 0, hn, t, ht => by
    rw [weight_first m c t ht, pay5_apply, pay4_apply, part_eq m c t 0 d z ht, zero_add, Fin.sum_univ_one]
    rfl
  | n + 1, hn, t, ht => by
    rw [weight_next m c t (by omega), pay5_apply, part_eq m c t ⟨n + 1, hn⟩ d z ht,
      weight_at d z n (by omega) (prev t) (show t.val - 1 = n by omega), Fin.sum_univ_castSucc (n := n + 1)]
    rfl

/-- After the last tile it is the reference's. -/
theorem weight_last (t : Fin cfg0.N) (ht : t.val = 7) : (outsAt0 m c t.val t.isLt).2 = r_dw (F := Ideal) (a0 m c) (a1 m c) (a2 m c) := by
  funext y
  obtain ⟨z, d, rfl⟩ : ∃ (z : Fin 1) (d : Fin 1024), y = (ix2 z d : S1x1024.Idx) :=
    ⟨y (0 : Fin 2), y (1 : Fin 2), by
      funext a
      match a with
      | 0 => rfl
      | 1 => rfl⟩
  rw [weight_at m c d z 7 (by omega) t ht]
  refine Eq.trans ?_ (Cert.Reference12Ideal.Mm.dw_apply (a0 m c) (a1 m c) (a2 m c) d z).symm
  refine Eq.trans ?_ (sum_runs (n := 8) (k := 512) (N := 4096) (by norm_num) _).symm
  rfl

/-- The rows' gradient after the run. -/
theorem rows_eq : (dats m 0 c).arrAt 5 cfg0.N = r_dx (F := Ideal) (a0 m c) (a1 m c) (a2 m c) (a3 m c) (a4 m c) := by
  refine (dats m 0 c).arrAt_eq_of_covers 5 _ (by decide +kernel) fun t hf y => ?_
  have hN := lt8 t
  obtain ⟨_, _, e5, _⟩ := idx t
  blk_simp [e5]
  rw [after0_5]
  obtain ⟨r, d, rfl⟩ : ∃ (r : Fin 512) (d : Fin 1024), y = (ix2 r d : S512x1024.Idx) :=
    ⟨y (0 : Fin 2), y (1 : Fin 2), by
      funext a
      match a with
      | 0 => rfl
      | 1 => rfl⟩
  have he : ((cfg0.win 5).blk t).view.emb (ix2 r d : S512x1024.Idx) = (ix2 (row ⟨t.val, hN⟩ r) d : S4096x1024.Idx) := by
    blk_ext [e5]
  rw [he]
  exact rows_pt m c t ⟨t.val, hN⟩ r d rfl

/-- The gradient of the norm's weight after the run. -/
theorem weight_eq : (dats m 0 c).arrAt 6 cfg0.N = r_dw (F := Ideal) (a0 m c) (a1 m c) (a2 m c) := by
  refine (dats m 0 c).arrAt_eq_of_covers 6 _ (by decide +kernel) fun t hf y => ?_
  have h7 : t.val = 7 := (by decide +kernel : ∀ t : Fin grid0.N, win0_6.flush t = true → t.val = 7) t hf
  obtain ⟨_, _, _, e6⟩ := idx t
  blk_simp [e6]
  rw [after0_6, weight_last m c t h7]
  refine congrArg _ ?_
  obtain ⟨z, d, rfl⟩ : ∃ (z : Fin 1) (d : Fin 1024), y = (ix2 z d : S1x1024.Idx) :=
    ⟨y (0 : Fin 2), y (1 : Fin 2), by
      funext a
      match a with
      | 0 => rfl
      | 1 => rfl⟩
  exact Eq.symm (by blk_ext [e6])

end Cert.Kernel12Ideal.Mm
-- ==== Proof.Mm.S12.lean ====
module

public import proofs.«01_k».proof.Defs
public import proofs.«01_k».proof.Proof.Mm.V12
public import proofs.«01_k».proof.Proof.Gen.Kernel12
public import Idealize.ShloMosaic.Adequacy
public import Idealize.ShloMosaic.Init
public import Idealize.ShloMosaic.Lib.Claim

@[expose] public section

set_option maxHeartbeats 4000000
set_option maxRecDepth 65536

noncomputable section

namespace Cert.Proof.Mm12

open Idealize.ShloMosaic Idealize.SL.Sem

/-! The kernel and its idealization have the same text. -/

theorem defs₀_same {F : FTy → Type} [FloatOps F] :
    @Cert.Kernel12.defs₀ F _ Cert.Kernel12.Gen.facts = @Cert.Kernel12Ideal.defs₀ F _ Cert.Kernel12Ideal.Gen.facts := by
  unfold Cert.Kernel12.defs₀ Cert.Kernel12Ideal.defs₀
  refine congrArg Defs.onTc ?_
  funext l a
  match l, a with
  | ⟨0, _⟩, (t, s) => rfl

theorem main_same {F : FTy → Type} [FloatOps F] :
    @Cert.Kernel12.main F _ = @Cert.Kernel12Ideal.main F _ := by with_unfolding_all rfl

theorem defs_same {F : FTy → Type} [FloatOps F] :
    @Cert.Kernel12.defs F _ Cert.Kernel12.Gen.facts = @Cert.Kernel12Ideal.defs F _ Cert.Kernel12Ideal.Gen.facts :=
  congrArg (Pipeline.defs _) defs₀_same

/-- The kernel's frame: the kernel and its idealization have the same text, so one run serves both. -/
theorem frame_kernel : Cert.quiescent_Kernel12 (hKernel12 := Cert.Kernel12.Gen.facts) := by
  intro m ρ _
  rw [defs_same, main_same]
  exact Cert.Kernel12Ideal.Gen.frame (F := Bits) m ρ

/-- The reference's frame: its run, and no counter to speak of. -/
theorem frame_ref : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

open Cert.Kernel12Ideal.Mm in
/-- The kernel's results are the reference's. -/
theorem algebraic : Cert.algebraic_Kernel12Ideal_Reference12Ideal := fun m g m' g' _ ha => by
  refine ⟨fun c => Cert.Reference12Ideal.Mm.r_dx (F := Ideal) (a0 m c) (a1 m c) (a2 m c) (a3 m c) (a4 m c),
    fun c => Cert.Reference12Ideal.Mm.r_dw (F := Ideal) (a0 m c) (a1 m c) (a2 m c), ?_, ?_⟩
  · exact (θ_run Cert.Kernel12Ideal.defs _ _).mono (fun r h c => ⟨(h c).1.trans (rows_eq m c), (h c).2.1.trans (weight_eq m c), (h c).2.2⟩) (Cert.Kernel12Ideal.Value.run_blocks (F := Ideal) m g)
  · refine (θ_run Cert.Reference12Ideal.defs _ _).mono (fun r h c => ⟨(h c).1.trans ?_, (h c).2.1.trans ?_, (h c).2.2⟩) (Cert.Reference12Ideal.Mm.run_value (F := Ideal) m' g')
    · congr 1
      · exact (ha c).1
      · exact (ha c).2.1
      · exact (ha c).2.2.1
      · exact (ha c).2.2.2.1
      · exact (ha c).2.2.2.2
    · congr 1
      · exact (ha c).1
      · exact (ha c).2.1
      · exact (ha c).2.2.1

end Cert.Proof.Mm12

end
-- ==== Proof.Mm.Adam.lean ====
module

public import Idealize.ShloMosaic.Lib.Pointwise
public import Idealize.ShloMosaic.Lib.Claim

@[expose] public section

set_option maxRecDepth 65536

noncomputable section

namespace Cert.Adam

open Idealize.ShloMosaic

/-! One step of the optimiser on one number, in the extended reals. -/

/-- The new first moment. -/
def mom (g m : EReal) : EReal := Ideal.ofBits .f32 0x3F666666#32 * m + Ideal.ofBits .f32 0x3DCCCCCD#32 * g

/-- The new second moment. -/
def sec (g v : EReal) : EReal := Ideal.ofBits .f32 0x3F7FBE77#32 * v + Ideal.ofBits .f32 0x3A83126F#32 * (g * g)

/-- The weight's change. -/
def delta (w g m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

/-! And on each number of an array. -/

/-- The new first moments. -/
def moms {s : Shape} (g m : FVec Ideal s .f32) : FVec Ideal s .f32 := fun i => mom (g i) (m i)

/-- The new second moments. -/
def secs {s : Shape} (g v : FVec Ideal s .f32) : FVec Ideal s .f32 := fun i => sec (g i) (v i)

/-- The weights' changes. -/
def deltas {s : Shape} (w g m v : FVec Ideal s .f32) : FVec Ideal s .f32 := fun i => delta (w i) (g i) (m i) (v i)

end Cert.Adam
-- ==== Proof.Mm.K13.lean ====
module

public import proofs.«01_k».proof.Proof.Gen.Kernel13Ideal.Value
public import proofs.«01_k».proof.Proof.Gen.Reference13Ideal.Run
public import proofs.«01_k».proof.Proof.Mm.Adam
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference13Ideal.Mm

open Cert.Adam Cert.Reference13Ideal Cert.Reference13Ideal.Gen Idealize.ShloMosaic Idealize.ShloMosaic.TcCoe Idealize.SL.Sem Idealize.ShloMosaic.StableHlo

/-- The rows of the two layers in one array. -/
def flat (a : FVec Ideal S2x1024x706 .f32) : FVec Ideal S2048x706 .f32 := shapeCast S2048x706 a shapeCasts_S2x1024x706_S2048x706

/-- The reference's run ends in the optimiser's step on each number. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = deltas (flat (m ((c.tc : Thread nD τ).loc main_arg0))) (flat (m ((c.tc : Thread nD τ).loc main_arg1))) (flat (m ((c.tc : Thread nD τ).loc main_arg2))) (flat (m ((c.tc : Thread nD τ).loc main_arg3)))
      ∧ r.2.mem ((c.tc : Thread nD τ).loc main_v25) = moms (flat (m ((c.tc : Thread nD τ).loc main_arg1))) (flat (m ((c.tc : Thread nD τ).loc main_arg2)))
      ∧ r.2.mem ((c.tc : Thread nD τ).loc main_v26) = secs (flat (m ((c.tc : Thread nD τ).loc main_arg1))) (flat (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩) (Cert.Reference13Ideal.Value.run m ρ)

end Cert.Reference13Ideal.Mm

namespace Cert.Kernel13Ideal.Mm

open Cert.Adam Cert.Kernel13Ideal Cert.Kernel13Ideal.Gen Idealize.ShloMosaic Idealize.ShloMosaic.TcCoe Idealize.SL.Sem
open Cert.Reference13Ideal.Mm (flat)

section
variable (w g m v : Vec Ideal S512x706 .f32)

/-! What the body stores is the optimiser's step on its blocks. -/

theorem pay2_eq : k0_pay2 g m = moms g m := by
  unfold k0_pay2 k0_pay1
  rw [shapeCast_self, shapeCast_self]
  rfl

theorem pay3_eq : k0_pay3 g v = secs g v := by
  unfold k0_pay3 k0_pay1
  rw [shapeCast_self, shapeCast_self]
  rfl

theorem pay4_eq : k0_pay4 g m v w = deltas w g m v := by
  unfold k0_pay4
  rw [pay2_eq, pay3_eq, shapeCast_self]
  rfl

end

variable (m : (ℓ : Loc nD τ sig) → Buf (Elt Ideal) ℓ) (c : Dev nD)

abbrev a0 : FVec Ideal S2048x706 .f32 := flat (m ((c : Thread nD τ).loc main_arg0))
abbrev a1 : FVec Ideal S2048x706 .f32 := flat (m ((c : Thread nD τ).loc main_arg1))
abbrev a2 : FVec Ideal S2048x706 .f32 := flat (m ((c : Thread nD τ).loc main_arg2))
abbrev a3 : FVec Ideal S2048x706 .f32 := flat (m ((c : Thread nD τ).loc main_arg3))

/-- What a grid point reads: its rows of the arguments, which are those of its block of a result. -/
theorem reads (t : Fin cfg0.N) (y : S512x706.Idx) :
    iblk m c 0 t y = a0 m c (((cfg0.win 4).blk t).view.emb y) ∧ iblk m c 1 t y = a1 m c (((cfg0.win 4).blk t).view.emb y)
    ∧ iblk m c 2 t y = a2 m c (((cfg0.win 4).blk t).view.emb y) ∧ iblk m c 3 t y = a3 m c (((cfg0.win 4).blk t).view.emb y) := by
  have h0 : V m c main_v0 = a0 m c := by
    entry_read
    rfl
  have h1 : V m c main_v1 = a1 m c := by
    entry_read
    rfl
  have h2 : V m c main_v2 = a2 m c := by
    entry_read
    rfl
  have h3 : V m c main_v3 = a3 m c := by
    entry_read
    rfl
  rw [← h0, ← h1, ← h2, ← h3]
  exact ⟨rfl, rfl, rfl, rfl⟩

theorem arr0 : (dats m 0 c).arrAt 4 cfg0.N = deltas (a0 m c) (a1 m c) (a2 m c) (a3 m c) := by
  refine (dats m 0 c).arrAt_eq_of_covers 4 _ (by decide +kernel) fun t hf y => ?_
  obtain ⟨h0, h1, h2, h3⟩ := reads m c t y
  rw [after0_4]
  frame_out
  rw [pay4_eq]
  unfold deltas
  rw [h0, h1, h2, h3]
  rfl

theorem arr1 : (dats m 0 c).arrAt 5 cfg0.N = moms (a1 m c) (a2 m c) := by
  refine (dats m 0 c).arrAt_eq_of_covers 5 _ (by decide +kernel) fun t hf y => ?_
  obtain ⟨h0, h1, h2, h3⟩ := reads m c t y
  rw [after0_5]
  frame_out
  rw [pay2_eq]
  unfold moms
  rw [h1, h2]
  rfl

theorem arr2 : (dats m 0 c).arrAt 6 cfg0.N = secs (a1 m c) (a3 m c) := by
  refine (dats m 0 c).arrAt_eq_of_covers 6 _ (by decide +kernel) fun t hf y => ?_
  obtain ⟨h0, h1, h2, h3⟩ := reads m c t y
  rw [after0_6]
  frame_out
  rw [pay3_eq]
  unfold secs
  rw [h1, h3]
  rfl

end Cert.Kernel13Ideal.Mm
-- ==== Proof.Mm.S13.lean ====
module

public import proofs.«01_k».proof.Defs
public import proofs.«01_k».proof.Proof.Mm.K13
public import proofs.«01_k».proof.Proof.Gen.Kernel13
public import Idealize.ShloMosaic.Adequacy
public import Idealize.ShloMosaic.Init
public import Idealize.ShloMosaic.Lib.Claim

@[expose] public section

set_option maxHeartbeats 4000000
set_option maxRecDepth 65536

noncomputable section

namespace Cert.Proof.Mm13

open Idealize.ShloMosaic Idealize.SL.Sem

/-! The kernel and its idealization have the same text. -/

theorem defs₀_same {F : FTy → Type} [FloatOps F] :
    @Cert.Kernel13.defs₀ F _ Cert.Kernel13.Gen.facts = @Cert.Kernel13Ideal.defs₀ F _ Cert.Kernel13Ideal.Gen.facts := by
  unfold Cert.Kernel13.defs₀ Cert.Kernel13Ideal.defs₀
  refine congrArg Defs.onTc ?_
  funext l a
  match l, a with
  | ⟨0, _⟩, (t, s) => rfl

theorem main_same {F : FTy → Type} [FloatOps F] :
    @Cert.Kernel13.main F _ = @Cert.Kernel13Ideal.main F _ := by with_unfolding_all rfl

theorem defs_same {F : FTy → Type} [FloatOps F] :
    @Cert.Kernel13.defs F _ Cert.Kernel13.Gen.facts = @Cert.Kernel13Ideal.defs F _ Cert.Kernel13Ideal.Gen.facts :=
  congrArg (Pipeline.defs _) defs₀_same

/-- The kernel's frame: one run serves it and its idealization. -/
theorem frame_kernel : Cert.quiescent_Kernel13 (hKernel13 := Cert.Kernel13.Gen.facts) := by
  intro m ρ _
  rw [defs_same, main_same]
  exact Cert.Kernel13Ideal.Gen.frame (F := Bits) m ρ

/-- The reference's frame. -/
theorem frame_ref : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

open Cert.Adam Cert.Kernel13Ideal.Mm Cert.Reference13Ideal.Mm in
/-- The kernel's results are the reference's. -/
theorem algebraic : Cert.algebraic_Kernel13Ideal_Reference13Ideal := fun m g m' g' _ ha => by
  refine ⟨fun c => deltas (a0 m c) (a1 m c) (a2 m c) (a3 m c), fun c => moms (a1 m c) (a2 m c), fun c => secs (a1 m c) (a3 m c), ?_, ?_⟩
  · exact (θ_run Cert.Kernel13Ideal.defs _ _).mono (fun r h c => ⟨(h c).1.trans (arr0 m c), (h c).2.1.trans (arr1 m c), (h c).2.2.1.trans (arr2 m c), (h c).2.2.2⟩) (Cert.Kernel13Ideal.Value.run_blocks (F := Ideal) m g)
  · refine (θ_run Cert.Reference13Ideal.defs _ _).mono (fun r h c => ⟨(h c).1.trans ?_, (h c).2.1.trans ?_, (h c).2.2.1.trans ?_, (h c).2.2.2⟩) (run_out m' g')
    · congr 1
      · exact congrArg flat (ha c).1
      · exact congrArg flat (ha c).2.1
      · exact congrArg flat (ha c).2.2.1
      · exact congrArg flat (ha c).2.2.2
    · congr 1
      · exact congrArg flat (ha c).2.1
      · exact congrArg flat (ha c).2.2.1
    · congr 1
      · exact congrArg flat (ha c).2.1
      · exact congrArg flat (ha c).2.2.2

end Cert.Proof.Mm13

end
-- ==== Proof.Mm.K14.lean ====
module

public import proofs.«01_k».proof.Proof.Gen.Kernel14Ideal.Value
public import proofs.«01_k».proof.Proof.Gen.Reference14Ideal.Run
public import proofs.«01_k».proof.Proof.Mm.Adam
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference14Ideal.Mm

open Cert.Adam Cert.Reference14Ideal Cert.Reference14Ideal.Gen Idealize.ShloMosaic Idealize.ShloMosaic.TcCoe Idealize.SL.Sem Idealize.ShloMosaic.StableHlo

/-- The rows of the two layers in one array. -/
def flat (a : FVec Ideal S2x256x1024 .f32) : FVec Ideal S512x1024 .f32 := shapeCast S512x1024 a shapeCasts_S2x256x1024_S512x1024

/-- The reference's run ends in the optimiser's step on each number. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = deltas (flat (m ((c.tc : Thread nD τ).loc main_arg0))) (flat (m ((c.tc : Thread nD τ).loc main_arg1))) (flat (m ((c.tc : Thread nD τ).loc main_arg2))) (flat (m ((c.tc : Thread nD τ).loc main_arg3)))
      ∧ r.2.mem ((c.tc : Thread nD τ).loc main_v25) = moms (flat (m ((c.tc : Thread nD τ).loc main_arg1))) (flat (m ((c.tc : Thread nD τ).loc main_arg2)))
      ∧ r.2.mem ((c.tc : Thread nD τ).loc main_v26) = secs (flat (m ((c.tc : Thread nD τ).loc main_arg1))) (flat (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩) (Cert.Reference14Ideal.Value.run m ρ)

end Cert.Reference14Ideal.Mm

namespace Cert.Kernel14Ideal.Mm

open Cert.Adam Cert.Kernel14Ideal Cert.Kernel14Ideal.Gen Idealize.ShloMosaic Idealize.ShloMosaic.TcCoe Idealize.SL.Sem
open Cert.Reference14Ideal.Mm (flat)

section
variable (w g m v : Vec Ideal S512x1024 .f32)

/-! What the body stores is the optimiser's step on its blocks. -/

theorem pay2_eq : k0_pay2 g m = moms g m := by
  unfold k0_pay2 k0_pay1
  rw [shapeCast_self, shapeCast_self]
  rfl

theorem pay3_eq : k0_pay3 g v = secs g v := by
  unfold k0_pay3 k0_pay1
  rw [shapeCast_self, shapeCast_self]
  rfl

theorem pay4_eq : k0_pay4 g m v w = deltas w g m v := by
  unfold k0_pay4
  rw [pay2_eq, pay3_eq, shapeCast_self]
  rfl

end

variable (m : (ℓ : Loc nD τ sig) → Buf (Elt Ideal) ℓ) (c : Dev nD)

abbrev a0 : FVec Ideal S512x1024 .f32 := flat (m ((c : Thread nD τ).loc main_arg0))
abbrev a1 : FVec Ideal S512x1024 .f32 := flat (m ((c : Thread nD τ).loc main_arg1))
abbrev a2 : FVec Ideal S512x1024 .f32 := flat (m ((c : Thread nD τ).loc main_arg2))
abbrev a3 : FVec Ideal S512x1024 .f32 := flat (m ((c : Thread nD τ).loc main_arg3))

/-- What a grid point reads: its rows of the arguments, which are those of its block of a result. -/
theorem reads (t : Fin cfg0.N) (y : S512x1024.Idx) :
    iblk m c 0 t y = a0 m c (((cfg0.win 4).blk t).view.emb y) ∧ iblk m c 1 t y = a1 m c (((cfg0.win 4).blk t).view.emb y)
    ∧ iblk m c 2 t y = a2 m c (((cfg0.win 4).blk t).view.emb y) ∧ iblk m c 3 t y = a3 m c (((cfg0.win 4).blk t).view.emb y) := by
  have h0 : V m c main_v0 = a0 m c := by
    entry_read
    rfl
  have h1 : V m c main_v1 = a1 m c := by
    entry_read
    rfl
  have h2 : V m c main_v2 = a2 m c := by
    entry_read
    rfl
  have h3 : V m c main_v3 = a3 m c := by
    entry_read
    rfl
  rw [← h0, ← h1, ← h2, ← h3]
  exact ⟨rfl, rfl, rfl, rfl⟩

theorem arr0 : (dats m 0 c).arrAt 4 cfg0.N = deltas (a0 m c) (a1 m c) (a2 m c) (a3 m c) := by
  refine (dats m 0 c).arrAt_eq_of_covers 4 _ (by decide +kernel) fun t hf y => ?_
  obtain ⟨h0, h1, h2, h3⟩ := reads m c t y
  rw [after0_4]
  frame_out
  rw [pay4_eq]
  unfold deltas
  rw [h0, h1, h2, h3]
  rfl

theorem arr1 : (dats m 0 c).arrAt 5 cfg0.N = moms (a1 m c) (a2 m c) := by
  refine (dats m 0 c).arrAt_eq_of_covers 5 _ (by decide +kernel) fun t hf y => ?_
  obtain ⟨h0, h1, h2, h3⟩ := reads m c t y
  rw [after0_5]
  frame_out
  rw [pay2_eq]
  unfold moms
  rw [h1, h2]
  rfl

theorem arr2 : (dats m 0 c).arrAt 6 cfg0.N = secs (a1 m c) (a3 m c) := by
  refine (dats m 0 c).arrAt_eq_of_covers 6 _ (by decide +kernel) fun t hf y => ?_
  obtain ⟨h0, h1, h2, h3⟩ := reads m c t y
  rw [after0_6]
  frame_out
  rw [pay3_eq]
  unfold secs
  rw [h1, h3]
  rfl

end Cert.Kernel14Ideal.Mm
-- ==== Proof.Mm.S14.lean ====
module

public import proofs.«01_k».proof.Defs
public import proofs.«01_k».proof.Proof.Mm.K14
public import proofs.«01_k».proof.Proof.Gen.Kernel14
public import Idealize.ShloMosaic.Adequacy
public import Idealize.ShloMosaic.Init
public import Idealize.ShloMosaic.Lib.Claim

@[expose] public section

set_option maxHeartbeats 4000000
set_option maxRecDepth 65536

noncomputable section

namespace Cert.Proof.Mm14

open Idealize.ShloMosaic Idealize.SL.Sem

/-! The kernel and its idealization have the same text. -/

theorem defs₀_same {F : FTy → Type} [FloatOps F] :
    @Cert.Kernel14.defs₀ F _ Cert.Kernel14.Gen.facts = @Cert.Kernel14Ideal.defs₀ F _ Cert.Kernel14Ideal.Gen.facts := by
  unfold Cert.Kernel14.defs₀ Cert.Kernel14Ideal.defs₀
  refine congrArg Defs.onTc ?_
  funext l a
  match l, a with
  | ⟨0, _⟩, (t, s) => rfl

theorem main_same {F : FTy → Type} [FloatOps F] :
    @Cert.Kernel14.main F _ = @Cert.Kernel14Ideal.main F _ := by with_unfolding_all rfl

theorem defs_same {F : FTy → Type} [FloatOps F] :
    @Cert.Kernel14.defs F _ Cert.Kernel14.Gen.facts = @Cert.Kernel14Ideal.defs F _ Cert.Kernel14Ideal.Gen.facts :=
  congrArg (Pipeline.defs _) defs₀_same

/-- The kernel's frame: one run serves it and its idealization. -/
theorem frame_kernel : Cert.quiescent_Kernel14 (hKernel14 := Cert.Kernel14.Gen.facts) := by
  intro m ρ _
  rw [defs_same, main_same]
  exact Cert.Kernel14Ideal.Gen.frame (F := Bits) m ρ

/-- The reference's frame. -/
theorem frame_ref : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

open Cert.Adam Cert.Kernel14Ideal.Mm Cert.Reference14Ideal.Mm in
/-- The kernel's results are the reference's. -/
theorem algebraic : Cert.algebraic_Kernel14Ideal_Reference14Ideal := fun m g m' g' _ ha => by
  refine ⟨fun c => deltas (a0 m c) (a1 m c) (a2 m c) (a3 m c), fun c => moms (a1 m c) (a2 m c), fun c => secs (a1 m c) (a3 m c), ?_, ?_⟩
  · exact (θ_run Cert.Kernel14Ideal.defs _ _).mono (fun r h c => ⟨(h c).1.trans (arr0 m c), (h c).2.1.trans (arr1 m c), (h c).2.2.1.trans (arr2 m c), (h c).2.2.2⟩) (Cert.Kernel14Ideal.Value.run_blocks (F := Ideal) m g)
  · refine (θ_run Cert.Reference14Ideal.defs _ _).mono (fun r h c => ⟨(h c).1.trans ?_, (h c).2.1.trans ?_, (h c).2.2.1.trans ?_, (h c).2.2.2⟩) (run_out m' g')
    · congr 1
      · exact congrArg flat (ha c).1
      · exact congrArg flat (ha c).2.1
      · exact congrArg flat (ha c).2.2.1
      · exact congrArg flat (ha c).2.2.2
    · congr 1
      · exact congrArg flat (ha c).2.1
      · exact congrArg flat (ha c).2.2.1
    · congr 1
      · exact congrArg flat (ha c).2.1
      · exact congrArg flat (ha c).2.2.2

end Cert.Proof.Mm14

end
-- ==== Proof.Mm.K15.lean ====
module

public import proofs.«01_k».proof.Proof.Gen.Kernel15Ideal.Value
public import proofs.«01_k».proof.Proof.Gen.Reference15Ideal.Run
public import proofs.«01_k».proof.Proof.Mm.Adam
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference15Ideal.Mm

open Cert.Adam Cert.Reference15Ideal Cert.Reference15Ideal.Gen Idealize.ShloMosaic Idealize.ShloMosaic.TcCoe Idealize.SL.Sem Idealize.ShloMosaic.StableHlo

/-- The rows of the two layers in one array. -/
def flat (a : FVec Ideal S2x1024x1408 .f32) : FVec Ideal S2048x1408 .f32 := shapeCast S2048x1408 a shapeCasts_S2x1024x1408_S2048x1408

/-- The reference's run ends in the optimiser's step on each number. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = deltas (flat (m ((c.tc : Thread nD τ).loc main_arg0))) (flat (m ((c.tc : Thread nD τ).loc main_arg1))) (flat (m ((c.tc : Thread nD τ).loc main_arg2))) (flat (m ((c.tc : Thread nD τ).loc main_arg3)))
      ∧ r.2.mem ((c.tc : Thread nD τ).loc main_v25) = moms (flat (m ((c.tc : Thread nD τ).loc main_arg1))) (flat (m ((c.tc : Thread nD τ).loc main_arg2)))
      ∧ r.2.mem ((c.tc : Thread nD τ).loc main_v26) = secs (flat (m ((c.tc : Thread nD τ).loc main_arg1))) (flat (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩) (Cert.Reference15Ideal.Value.run m ρ)

end Cert.Reference15Ideal.Mm

namespace Cert.Kernel15Ideal.Mm

open Cert.Adam Cert.Kernel15Ideal Cert.Kernel15Ideal.Gen Idealize.ShloMosaic Idealize.ShloMosaic.TcCoe Idealize.SL.Sem
open Cert.Reference15Ideal.Mm (flat)

section
variable (w g m v : Vec Ideal S512x1408 .f32)

/-! What the body stores is the optimiser's step on its blocks. -/

theorem pay2_eq : k0_pay2 g m = moms g m := by
  unfold k0_pay2 k0_pay1
  rw [shapeCast_self, shapeCast_self]
  rfl

theorem pay3_eq : k0_pay3 g v = secs g v := by
  unfold k0_pay3 k0_pay1
  rw [shapeCast_self, shapeCast_self]
  rfl

theorem pay4_eq : k0_pay4 g m v w = deltas w g m v := by
  unfold k0_pay4
  rw [pay2_eq, pay3_eq, shapeCast_self]
  rfl

end

variable (m : (ℓ : Loc nD τ sig) → Buf (Elt Ideal) ℓ) (c : Dev nD)

abbrev a0 : FVec Ideal S2048x1408 .f32 := flat (m ((c : Thread nD τ).loc main_arg0))
abbrev a1 : FVec Ideal S2048x1408 .f32 := flat (m ((c : Thread nD τ).loc main_arg1))
abbrev a2 : FVec Ideal S2048x1408 .f32 := flat (m ((c : Thread nD τ).loc main_arg2))
abbrev a3 : FVec Ideal S2048x1408 .f32 := flat (m ((c : Thread nD τ).loc main_arg3))

/-- What a grid point reads: its rows of the arguments, which are those of its block of a result. -/
theorem reads (t : Fin cfg0.N) (y : S512x1408.Idx) :
    iblk m c 0 t y = a0 m c (((cfg0.win 4).blk t).view.emb y) ∧ iblk m c 1 t y = a1 m c (((cfg0.win 4).blk t).view.emb y)
    ∧ iblk m c 2 t y = a2 m c (((cfg0.win 4).blk t).view.emb y) ∧ iblk m c 3 t y = a3 m c (((cfg0.win 4).blk t).view.emb y) := by
  have h0 : V m c main_v0 = a0 m c := by
    entry_read
    rfl
  have h1 : V m c main_v1 = a1 m c := by
    entry_read
    rfl
  have h2 : V m c main_v2 = a2 m c := by
    entry_read
    rfl
  have h3 : V m c main_v3 = a3 m c := by
    entry_read
    rfl
  rw [← h0, ← h1, ← h2, ← h3]
  exact ⟨rfl, rfl, rfl, rfl⟩

theorem arr0 : (dats m 0 c).arrAt 4 cfg0.N = deltas (a0 m c) (a1 m c) (a2 m c) (a3 m c) := by
  refine (dats m 0 c).arrAt_eq_of_covers 4 _ (by decide +kernel) fun t hf y => ?_
  obtain ⟨h0, h1, h2, h3⟩ := reads m c t y
  rw [after0_4]
  frame_out
  rw [pay4_eq]
  unfold deltas
  rw [h0, h1, h2, h3]
  rfl

theorem arr1 : (dats m 0 c).arrAt 5 cfg0.N = moms (a1 m c) (a2 m c) := by
  refine (dats m 0 c).arrAt_eq_of_covers 5 _ (by decide +kernel) fun t hf y => ?_
  obtain ⟨h0, h1, h2, h3⟩ := reads m c t y
  rw [after0_5]
  frame_out
  rw [pay2_eq]
  unfold moms
  rw [h1, h2]
  rfl

theorem arr2 : (dats m 0 c).arrAt 6 cfg0.N = secs (a1 m c) (a3 m c) := by
  refine (dats m 0 c).arrAt_eq_of_covers 6 _ (by decide +kernel) fun t hf y => ?_
  obtain ⟨h0, h1, h2, h3⟩ := reads m c t y
  rw [after0_6]
  frame_out
  rw [pay3_eq]
  unfold secs
  rw [h1, h3]
  rfl

end Cert.Kernel15Ideal.Mm
-- ==== Proof.Mm.S15.lean ====
module

public import proofs.«01_k».proof.Defs
public import proofs.«01_k».proof.Proof.Mm.K15
public import proofs.«01_k».proof.Proof.Gen.Kernel15
public import Idealize.ShloMosaic.Adequacy
public import Idealize.ShloMosaic.Init
public import Idealize.ShloMosaic.Lib.Claim

@[expose] public section

set_option maxHeartbeats 4000000
set_option maxRecDepth 65536

noncomputable section

namespace Cert.Proof.Mm15

open Idealize.ShloMosaic Idealize.SL.Sem

/-! The kernel and its idealization have the same text. -/

theorem defs₀_same {F : FTy → Type} [FloatOps F] :
    @Cert.Kernel15.defs₀ F _ Cert.Kernel15.Gen.facts = @Cert.Kernel15Ideal.defs₀ F _ Cert.Kernel15Ideal.Gen.facts := by
  unfold Cert.Kernel15.defs₀ Cert.Kernel15Ideal.defs₀
  refine congrArg Defs.onTc ?_
  funext l a
  match l, a with
  | ⟨0, _⟩, (t, s) => rfl

theorem main_same {F : FTy → Type} [FloatOps F] :
    @Cert.Kernel15.main F _ = @Cert.Kernel15Ideal.main F _ := by with_unfolding_all rfl

theorem defs_same {F : FTy → Type} [FloatOps F] :
    @Cert.Kernel15.defs F _ Cert.Kernel15.Gen.facts = @Cert.Kernel15Ideal.defs F _ Cert.Kernel15Ideal.Gen.facts :=
  congrArg (Pipeline.defs _) defs₀_same

/-- The kernel's frame: one run serves it and its idealization. -/
theorem frame_kernel : Cert.quiescent_Kernel15 (hKernel15 := Cert.Kernel15.Gen.facts) := by
  intro m ρ _
  rw [defs_same, main_same]
  exact Cert.Kernel15Ideal.Gen.frame (F := Bits) m ρ

/-- The reference's frame. -/
theorem frame_ref : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

open Cert.Adam Cert.Kernel15Ideal.Mm Cert.Reference15Ideal.Mm in
/-- The kernel's results are the reference's. -/
theorem algebraic : Cert.algebraic_Kernel15Ideal_Reference15Ideal := fun m g m' g' _ ha => by
  refine ⟨fun c => deltas (a0 m c) (a1 m c) (a2 m c) (a3 m c), fun c => moms (a1 m c) (a2 m c), fun c => secs (a1 m c) (a3 m c), ?_, ?_⟩
  · exact (θ_run Cert.Kernel15Ideal.defs _ _).mono (fun r h c => ⟨(h c).1.trans (arr0 m c), (h c).2.1.trans (arr1 m c), (h c).2.2.1.trans (arr2 m c), (h c).2.2.2⟩) (Cert.Kernel15Ideal.Value.run_blocks (F := Ideal) m g)
  · refine (θ_run Cert.Reference15Ideal.defs _ _).mono (fun r h c => ⟨(h c).1.trans ?_, (h c).2.1.trans ?_, (h c).2.2.1.trans ?_, (h c).2.2.2⟩) (run_out m' g')
    · congr 1
      · exact congrArg flat (ha c).1
      · exact congrArg flat (ha c).2.1
      · exact congrArg flat (ha c).2.2.1
      · exact congrArg flat (ha c).2.2.2
    · congr 1
      · exact congrArg flat (ha c).2.1
      · exact congrArg flat (ha c).2.2.1
    · congr 1
      · exact congrArg flat (ha c).2.1
      · exact congrArg flat (ha c).2.2.2

end Cert.Proof.Mm15

end
-- ==== Proof.Mm.K16.lean ====
module

public import proofs.«01_k».proof.Proof.Gen.Kernel16Ideal.Value
public import proofs.«01_k».proof.Proof.Gen.Reference16Ideal.Run
public import proofs.«01_k».proof.Proof.Mm.Adam
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference16Ideal.Mm

open Cert.Adam Cert.Reference16Ideal Cert.Reference16Ideal.Gen Idealize.ShloMosaic Idealize.ShloMosaic.TcCoe Idealize.SL.Sem Idealize.ShloMosaic.StableHlo

/-- The rows of the two layers in one array. -/
def flat (a : FVec Ideal S2x704x1024 .f32) : FVec Ideal S1408x1024 .f32 := shapeCast S1408x1024 a shapeCasts_S2x704x1024_S1408x1024

/-- The reference's run ends in the optimiser's step on each number. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = deltas (flat (m ((c.tc : Thread nD τ).loc main_arg0))) (flat (m ((c.tc : Thread nD τ).loc main_arg1))) (flat (m ((c.tc : Thread nD τ).loc main_arg2))) (flat (m ((c.tc : Thread nD τ).loc main_arg3)))
      ∧ r.2.mem ((c.tc : Thread nD τ).loc main_v25) = moms (flat (m ((c.tc : Thread nD τ).loc main_arg1))) (flat (m ((c.tc : Thread nD τ).loc main_arg2)))
      ∧ r.2.mem ((c.tc : Thread nD τ).loc main_v26) = secs (flat (m ((c.tc : Thread nD τ).loc main_arg1))) (flat (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩) (Cert.Reference16Ideal.Value.run m ρ)

end Cert.Reference16Ideal.Mm

namespace Cert.Kernel16Ideal.Mm

open Cert.Adam Cert.Kernel16Ideal Cert.Kernel16Ideal.Gen Idealize.ShloMosaic Idealize.ShloMosaic.TcCoe Idealize.SL.Sem
open Cert.Reference16Ideal.Mm (flat)

section
variable (w g m v : Vec Ideal S128x1024 .f32)

/-! What the body stores is the optimiser's step on its blocks. -/

theorem pay2_eq : k0_pay2 g m = moms g m := by
  unfold k0_pay2 k0_pay1
  rw [shapeCast_self, shapeCast_self]
  rfl

theorem pay3_eq : k0_pay3 g v = secs g v := by
  unfold k0_pay3 k0_pay1
  rw [shapeCast_self, shapeCast_self]
  rfl

theorem pay4_eq : k0_pay4 g m v w = deltas w g m v := by
  unfold k0_pay4
  rw [pay2_eq, pay3_eq, shapeCast_self]
  rfl

end

variable (m : (ℓ : Loc nD τ sig) → Buf (Elt Ideal) ℓ) (c : Dev nD)

abbrev a0 : FVec Ideal S1408x1024 .f32 := flat (m ((c : Thread nD τ).loc main_arg0))
abbrev a1 : FVec Ideal S1408x1024 .f32 := flat (m ((c : Thread nD τ).loc main_arg1))
abbrev a2 : FVec Ideal S1408x1024 .f32 := flat (m ((c : Thread nD τ).loc main_arg2))
abbrev a3 : FVec Ideal S1408x1024 .f32 := flat (m ((c : Thread nD τ).loc main_arg3))

/-- What a grid point reads: its rows of the arguments, which are those of its block of a result. -/
theorem reads (t : Fin cfg0.N) (y : S128x1024.Idx) :
    iblk m c 0 t y = a0 m c (((cfg0.win 4).blk t).view.emb y) ∧ iblk m c 1 t y = a1 m c (((cfg0.win 4).blk t).view.emb y)
    ∧ iblk m c 2 t y = a2 m c (((cfg0.win 4).blk t).view.emb y) ∧ iblk m c 3 t y = a3 m c (((cfg0.win 4).blk t).view.emb y) := by
  have h0 : V m c main_v0 = a0 m c := by
    entry_read
    rfl
  have h1 : V m c main_v1 = a1 m c := by
    entry_read
    rfl
  have h2 : V m c main_v2 = a2 m c := by
    entry_read
    rfl
  have h3 : V m c main_v3 = a3 m c := by
    entry_read
    rfl
  rw [← h0, ← h1, ← h2, ← h3]
  exact ⟨rfl, rfl, rfl, rfl⟩

theorem arr0 : (dats m 0 c).arrAt 4 cfg0.N = deltas (a0 m c) (a1 m c) (a2 m c) (a3 m c) := by
  refine (dats m 0 c).arrAt_eq_of_covers 4 _ (by decide +kernel) fun t hf y => ?_
  obtain ⟨h0, h1, h2, h3⟩ := reads m c t y
  rw [after0_4]
  frame_out
  rw [pay4_eq]
  unfold deltas
  rw [h0, h1, h2, h3]
  rfl

theorem arr1 : (dats m 0 c).arrAt 5 cfg0.N = moms (a1 m c) (a2 m c) := by
  refine (dats m 0 c).arrAt_eq_of_covers 5 _ (by decide +kernel) fun t hf y => ?_
  obtain ⟨h0, h1, h2, h3⟩ := reads m c t y
  rw [after0_5]
  frame_out
  rw [pay2_eq]
  unfold moms
  rw [h1, h2]
  rfl

theorem arr2 : (dats m 0 c).arrAt 6 cfg0.N = secs (a1 m c) (a3 m c) := by
  refine (dats m 0 c).arrAt_eq_of_covers 6 _ (by decide +kernel) fun t hf y => ?_
  obtain ⟨h0, h1, h2, h3⟩ := reads m c t y
  rw [after0_6]
  frame_out
  rw [pay3_eq]
  unfold secs
  rw [h1, h3]
  rfl

end Cert.Kernel16Ideal.Mm
-- ==== Proof.Mm.S16.lean ====
module

public import proofs.«01_k».proof.Defs
public import proofs.«01_k».proof.Proof.Mm.K16
public import proofs.«01_k».proof.Proof.Gen.Kernel16
public import Idealize.ShloMosaic.Adequacy
public import Idealize.ShloMosaic.Init
public import Idealize.ShloMosaic.Lib.Claim

@[expose] public section

set_option maxHeartbeats 4000000
set_option maxRecDepth 65536

noncomputable section

namespace Cert.Proof.Mm16

open Idealize.ShloMosaic Idealize.SL.Sem

/-! The kernel and its idealization have the same text. -/

theorem defs₀_same {F : FTy → Type} [FloatOps F] :
    @Cert.Kernel16.defs₀ F _ Cert.Kernel16.Gen.facts = @Cert.Kernel16Ideal.defs₀ F _ Cert.Kernel16Ideal.Gen.facts := by
  unfold Cert.Kernel16.defs₀ Cert.Kernel16Ideal.defs₀
  refine congrArg Defs.onTc ?_
  funext l a
  match l, a with
  | ⟨0, _⟩, (t, s) => rfl

theorem main_same {F : FTy → Type} [FloatOps F] :
    @Cert.Kernel16.main F _ = @Cert.Kernel16Ideal.main F _ := by with_unfolding_all rfl

theorem defs_same {F : FTy → Type} [FloatOps F] :
    @Cert.Kernel16.defs F _ Cert.Kernel16.Gen.facts = @Cert.Kernel16Ideal.defs F _ Cert.Kernel16Ideal.Gen.facts :=
  congrArg (Pipeline.defs _) defs₀_same

/-- The kernel's frame: one run serves it and its idealization. -/
theorem frame_kernel : Cert.quiescent_Kernel16 (hKernel16 := Cert.Kernel16.Gen.facts) := by
  intro m ρ _
  rw [defs_same, main_same]
  exact Cert.Kernel16Ideal.Gen.frame (F := Bits) m ρ

/-- The reference's frame. -/
theorem frame_ref : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

open Cert.Adam Cert.Kernel16Ideal.Mm Cert.Reference16Ideal.Mm in
/-- The kernel's results are the reference's. -/
theorem algebraic : Cert.algebraic_Kernel16Ideal_Reference16Ideal := fun m g m' g' _ ha => by
  refine ⟨fun c => deltas (a0 m c) (a1 m c) (a2 m c) (a3 m c), fun c => moms (a1 m c) (a2 m c), fun c => secs (a1 m c) (a3 m c), ?_, ?_⟩
  · exact (θ_run Cert.Kernel16Ideal.defs _ _).mono (fun r h c => ⟨(h c).1.trans (arr0 m c), (h c).2.1.trans (arr1 m c), (h c).2.2.1.trans (arr2 m c), (h c).2.2.2⟩) (Cert.Kernel16Ideal.Value.run_blocks (F := Ideal) m g)
  · refine (θ_run Cert.Reference16Ideal.defs _ _).mono (fun r h c => ⟨(h c).1.trans ?_, (h c).2.1.trans ?_, (h c).2.2.1.trans ?_, (h c).2.2.2⟩) (run_out m' g')
    · congr 1
      · exact congrArg flat (ha c).1
      · exact congrArg flat (ha c).2.1
      · exact congrArg flat (ha c).2.2.1
      · exact congrArg flat (ha c).2.2.2
    · congr 1
      · exact congrArg flat (ha c).2.1
      · exact congrArg flat (ha c).2.2.1
    · congr 1
      · exact congrArg flat (ha c).2.1
      · exact congrArg flat (ha c).2.2.2

end Cert.Proof.Mm16

end
-- ==== Proof.Mm.K17.lean ====
module

public import proofs.«01_k».proof.Proof.Gen.Kernel17Ideal.Value
public import proofs.«01_k».proof.Proof.Gen.Reference17Ideal.Run
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference17Ideal.Mm

open Cert.Norm Cert.Reference17Ideal Cert.Reference17Ideal.Gen Idealize.ShloMosaic Idealize.ShloMosaic.TcCoe Idealize.SL.Sem Idealize.ShloMosaic.StableHlo

section
variable {F : FTy → Type} [FloatOps F]

/-- The normalized rows. -/
def nrm (a0 : (⟨S4096x1024, .f32⟩ : BufTy).Contents (Elt F)) (a1 : (⟨S1024, .f32⟩ : BufTy).Contents (Elt F)) : (⟨S4096x1024, .f32⟩ : BufTy).Contents (Elt F) :=
  mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a1))

/-- Their product with the weight. -/
def prod (a0 : (⟨S4096x1024, .f32⟩ : BufTy).Contents (Elt F)) (a1 : (⟨S1024, .f32⟩ : BufTy).Contents (Elt F)) (a2 : (⟨S1024x2944, .bf16⟩ : BufTy).Contents (Elt F)) : (⟨S4096x2944, .f32⟩ : BufTy).Contents (Elt F) :=
  Host.dotGeneral dot_S4096x1024_S1024x2944_S4096x2944_1_0_0_1_n_n none (nrm a0 a1) (extf .f32 a2 bitsLt_bf16_f32)

/-- The normalized rows, rounded. -/
def out0 (a0 : (⟨S4096x1024, .f32⟩ : BufTy).Contents (Elt F)) (a1 : (⟨S1024, .f32⟩ : BufTy).Contents (Elt F)) : (⟨S4096x1024, .bf16⟩ : BufTy).Contents (Elt F) :=
  truncf .bf16 (nrm a0 a1) bitsLt_bf16_f32

/-- The product's first columns. -/
def out1 (a0 : (⟨S4096x1024, .f32⟩ : BufTy).Contents (Elt F)) (a1 : (⟨S1024, .f32⟩ : BufTy).Contents (Elt F)) (a2 : (⟨S1024x2944, .bf16⟩ : BufTy).Contents (Elt F)) : (⟨S4096x2816, .bf16⟩ : BufTy).Contents (Elt F) :=
  truncf .bf16 (extractStridedSlice S4096x2816 ![0, 0] (prod a0 a1 a2) slices_S4096x2944_S4096x2816_0_0) bitsLt_bf16_f32

/-- The product's last columns. -/
def out2 (a0 : (⟨S4096x1024, .f32⟩ : BufTy).Contents (Elt F)) (a1 : (⟨S1024, .f32⟩ : BufTy).Contents (Elt F)) (a2 : (⟨S1024x2944, .bf16⟩ : BufTy).Contents (Elt F)) : (⟨S4096x128, .f32⟩ : BufTy).Contents (Elt F) :=
  extractStridedSlice S4096x128 ![0, 2816] (prod a0 a1 a2) slices_S4096x2944_S4096x128_0_2816

/-- The reference's run ends in them. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = out0 (F := F) (m ((c.tc : Thread nD τ).loc main_arg0)) (m ((c.tc : Thread nD τ).loc main_arg1))
      ∧ r.2.mem ((c.tc : Thread nD τ).loc main_v17) = out1 (F := F) (m ((c.tc : Thread nD τ).loc main_arg0)) (m ((c.tc : Thread nD τ).loc main_arg1)) (m ((c.tc : Thread nD τ).loc main_arg2))
      ∧ r.2.mem ((c.tc : Thread nD τ).loc main_v18) = out2 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2⟩) (Cert.Reference17Ideal.Value.run m ρ)

end

variable (a0 : FVec Ideal S4096x1024 .f32) (a1 : FVec Ideal S1024 .f32)

theorem nrm_apply (r : Fin 4096) (d : Fin 1024) : nrm (F := Ideal) a0 a1 (ix2 r d) = a0 (ix2 r d) * rs (fun j => a0 (ix2 r j)) * a1 (ix1 d) := by
  unfold nrm
  clean_types
  pointwise
  rfl

theorem out0_apply (r : Fin 4096) (d : Fin 1024) : out0 (F := Ideal) a0 a1 (ix2 r d) = a0 (ix2 r d) * rs (fun j => a0 (ix2 r j)) * a1 (ix1 d) := by
  unfold out0
  clean_types
  pointwise
  exact nrm_apply a0 a1 r d

variable (a2 : FVec Ideal S1024x2944 .bf16)

theorem prod_apply (r : Fin 4096) (d : Fin 2944) : prod (F := Ideal) a0 a1 a2 (ix2 r d) = ∑ j : Fin 1024, a0 (ix2 r j) * rs (fun j => a0 (ix2 r j)) * a1 (ix1 j) * a2 (ix2 j d) := by
  unfold prod
  clean_types
  pointwise
  simp only [nrm_apply]

theorem out1_apply (r : Fin 4096) (d : Fin 2816) : out1 (F := Ideal) a0 a1 a2 (ix2 r d) = ∑ j : Fin 1024, a0 (ix2 r j) * rs (fun j => a0 (ix2 r j)) * a1 (ix1 j) * a2 (ix2 j (⟨d.val, by omega⟩ : Fin 2944)) := by
  refine Eq.trans ?_ (prod_apply a0 a1 a2 r ⟨d.val, by omega⟩)
  unfold out1
  clean_types
  pointwise

theorem out2_apply (r : Fin 4096) (d : Fin 128) : out2 (F := Ideal) a0 a1 a2 (ix2 r d) = ∑ j : Fin 1024, a0 (ix2 r j) * rs (fun j => a0 (ix2 r j)) * a1 (ix1 j) * a2 (ix2 j (⟨2816 + d.val, by omega⟩ : Fin 2944)) := by
  refine Eq.trans ?_ (prod_apply a0 a1 a2 r ⟨2816 + d.val, by omega⟩)
  unfold out2
  clean_types
  pointwise

end Cert.Reference17Ideal.Mm

namespace Cert.Kernel17Ideal.Mm

open Cert.Norm Cert.Kernel17Ideal Cert.Kernel17Ideal.Gen Idealize.ShloMosaic Idealize.ShloMosaic.TcCoe Idealize.SL.Sem

section
variable (x : Vec Ideal S512x1024 .f32) (w : Vec Ideal S1x1024 .f32)

/-! Numbers of what the body stores. -/

theorem pay1_apply (r : Fin 512) (d : Fin 1024) : (k0_pay1 (F := Ideal) x w (ix2 r d) : EReal) = x (ix2 r d) * rs (fun j => x (ix2 r j)) * w (ix2 0 d) := by
  unfold k0_pay1
  pointwise
  rfl

variable (b : Vec Ideal S1024x2944 .bf16)

theorem pay2_apply (r : Fin 512) (d : Fin 2944) : (k0_pay2 (F := Ideal) x w b (ix2 r d) : EReal) = ∑ j : Fin 1024, x (ix2 r j) * rs (fun j => x (ix2 r j)) * w (ix2 0 j) * b (ix2 j d) := by
  unfold k0_pay2
  pointwise
  simp only [pay1_apply]

theorem pay3_apply (r : Fin 512) (d : Fin 2816) : (k0_pay3 (F := Ideal) x w b (ix2 r d) : EReal) = ∑ j : Fin 1024, x (ix2 r j) * rs (fun j => x (ix2 r j)) * w (ix2 0 j) * b (ix2 j (⟨d.val, by omega⟩ : Fin 2944)) := by
  refine Eq.trans ?_ (pay2_apply x w b r ⟨d.val, by omega⟩)
  unfold k0_pay3
  pointwise

theorem pay4_apply (r : Fin 512) (d : Fin 128) : (k0_pay4 (F := Ideal) x w b (ix2 r d) : EReal) = ∑ j : Fin 1024, x (ix2 r j) * rs (fun j => x (ix2 r j)) * w (ix2 0 j) * b (ix2 j (⟨2816 + d.val, by omega⟩ : Fin 2944)) := by
  refine Eq.trans ?_ (pay2_apply x w b r ⟨2816 + d.val, by omega⟩)
  unfold k0_pay4
  pointwise

end

/-- The places of a point's blocks. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)

abbrev a0 : FVec Ideal S4096x1024 .f32 := m ((c : Thread nD τ).loc main_arg0)
abbrev a1 : FVec Ideal S1024 .f32 := m ((c : Thread nD τ).loc main_arg1)
abbrev a2 : FVec Ideal S1024x2944 .bf16 := m ((c : Thread nD τ).loc main_arg2)

theorem lt_N (t : Fin cfg0.N) : t.val < 8 := lt_of_lt_of_eq t.isLt (show cfg0.N = 8 from N_0)

/-- Row `r` of point `t`. -/
abbrev row (t : Fin cfg0.N) (r : Fin 512) : Fin 4096 := ⟨t.val * 512 + r.val, by have := lt_N t; omega⟩

theorem read0 (t : Fin cfg0.N) (r : Fin 512) (d : Fin 1024) : iblk m c 0 t (ix2 r d) = a0 m c (ix2 (row t r) d) := by
  obtain ⟨e0, e1, e2, e3, e4, e5⟩ := idx t
  blk_ext [iblk, V, e0]

theorem read1 (t : Fin cfg0.N) (z : Fin 1) (d : Fin 1024) : iblk m c 1 t (ix2 z d) = a1 m c (ix1 d) := by
  obtain ⟨e0, e1, e2, e3, e4, e5⟩ := idx t
  have h : iblk m c 1 t (ix2 z d) = V m c main_v0 (ix2 0 d) := by
    unfold iblk
    blk_simp [e1]
    refine congrArg (V m c main_v0) ?_
    blk_ext [e1]
  rw [h]
  unfold V
  after_reads_at

theorem read2 (t : Fin cfg0.N) (j : Fin 1024) (d : Fin 2944) : iblk m c 2 t (ix2 j d) = a2 m c (ix2 j d) := by
  obtain ⟨e0, e1, e2, e3, e4, e5⟩ := idx t
  blk_ext [iblk, V, e2]

theorem arr0 : (dats m 0 c).arrAt 3 cfg0.N = Cert.Reference17Ideal.Mm.out0 (F := Ideal) (a0 m c) (a1 m c) := by
  refine (dats m 0 c).arrAt_eq_of_covers 3 _ (by decide +kernel) fun t hf y => ?_
  have hN := lt_N t
  obtain ⟨e0, e1, e2, e3, e4, e5⟩ := idx t
  blk_simp [e3]
  rw [after0_3]
  frame_out
  obtain ⟨r, d, rfl⟩ : ∃ (r : Fin 512) (d : Fin 1024), y = (ix2 r d : S512x1024.Idx) :=
    ⟨y (0 : Fin 2), y (1 : Fin 2), by
      funext a
      match a with
      | 0 => rfl
      | 1 => rfl⟩
  have he : ((cfg0.win 3).blk t).view.emb (ix2 r d : S512x1024.Idx) = (ix2 (row t r) d : S4096x1024.Idx) := by
    blk_ext [e3]
  rw [he, Cert.Reference17Ideal.Mm.out0_apply]
  refine (pay1_apply _ _ r d).trans ?_
  simp only [read0, read1]

theorem arr1 : (dats m 0 c).arrAt 4 cfg0.N = Cert.Reference17Ideal.Mm.out1 (F := Ideal) (a0 m c) (a1 m c) (a2 m c) := by
  refine (dats m 0 c).arrAt_eq_of_covers 4 _ (by decide +kernel) fun t hf y => ?_
  have hN := lt_N t
  obtain ⟨e0, e1, e2, e3, e4, e5⟩ := idx t
  blk_simp [e4]
  rw [after0_4]
  frame_out
  obtain ⟨r, d, rfl⟩ : ∃ (r : Fin 512) (d : Fin 2816), y = (ix2 r d : S512x2816.Idx) :=
    ⟨y (0 : Fin 2), y (1 : Fin 2), by
      funext a
      match a with
      | 0 => rfl
      | 1 => rfl⟩
  have he : ((cfg0.win 4).blk t).view.emb (ix2 r d : S512x2816.Idx) = (ix2 (row t r) d : S4096x2816.Idx) := by
    blk_ext [e4]
  rw [he, Cert.Reference17Ideal.Mm.out1_apply]
  refine (pay3_apply _ _ _ r d).trans ?_
  simp only [read0, read1, read2]

theorem arr2 : (dats m 0 c).arrAt 5 cfg0.N = Cert.Reference17Ideal.Mm.out2 (F := Ideal) (a0 m c) (a1 m c) (a2 m c) := by
  refine (dats m 0 c).arrAt_eq_of_covers 5 _ (by decide +kernel) fun t hf y => ?_
  have hN := lt_N t
  obtain ⟨e0, e1, e2, e3, e4, e5⟩ := idx t
  blk_simp [e5]
  rw [after0_5]
  frame_out
  obtain ⟨r, d, rfl⟩ : ∃ (r : Fin 512) (d : Fin 128), y = (ix2 r d : S512x128.Idx) :=
    ⟨y (0 : Fin 2), y (1 : Fin 2), by
      funext a
      match a with
      | 0 => rfl
      | 1 => rfl⟩
  have he : ((cfg0.win 5).blk t).view.emb (ix2 r d : S512x128.Idx) = (ix2 (row t r) d : S4096x128.Idx) := by
    blk_ext [e5]
  rw [he, Cert.Reference17Ideal.Mm.out2_apply]
  refine (pay4_apply _ _ _ r d).trans ?_
  simp only [read0, read1, read2]

end Cert.Kernel17Ideal.Mm
-- ==== Proof.Mm.S17.lean ====
module

public import proofs.«01_k».proof.Defs
public import proofs.«01_k».proof.Proof.Mm.K17
public import proofs.«01_k».proof.Proof.Gen.Kernel17
public import Idealize.ShloMosaic.Adequacy
public import Idealize.ShloMosaic.Init
public import Idealize.ShloMosaic.Lib.Claim

@[expose] public section

set_option maxHeartbeats 4000000
set_option maxRecDepth 65536

noncomputable section

namespace Cert.Proof.Mm17

open Idealize.ShloMosaic Idealize.SL.Sem

/-! The kernel and its idealization have the same text. -/

theorem defs₀_same {F : FTy → Type} [FloatOps F] :
    @Cert.Kernel17.defs₀ F _ Cert.Kernel17.Gen.facts = @Cert.Kernel17Ideal.defs₀ F _ Cert.Kernel17Ideal.Gen.facts := by
  unfold Cert.Kernel17.defs₀ Cert.Kernel17Ideal.defs₀
  refine congrArg Defs.onTc ?_
  funext l a
  match l, a with
  | ⟨0, _⟩, (t, s) => rfl

theorem main_same {F : FTy → Type} [FloatOps F] :
    @Cert.Kernel17.main F _ = @Cert.Kernel17Ideal.main F _ := by with_unfolding_all rfl

theorem defs_same {F : FTy → Type} [FloatOps F] :
    @Cert.Kernel17.defs F _ Cert.Kernel17.Gen.facts = @Cert.Kernel17Ideal.defs F _ Cert.Kernel17Ideal.Gen.facts :=
  congrArg (Pipeline.defs _) defs₀_same

/-- The kernel's frame: one run serves it and its idealization. -/
theorem frame_kernel : Cert.quiescent_Kernel17 (hKernel17 := Cert.Kernel17.Gen.facts) := by
  intro m ρ _
  rw [defs_same, main_same]
  exact Cert.Kernel17Ideal.Gen.frame (F := Bits) m ρ

/-- The reference's frame. -/
theorem frame_ref : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

open Cert.Kernel17Ideal.Mm in
/-- The kernel's results are the reference's. -/
theorem algebraic : Cert.algebraic_Kernel17Ideal_Reference17Ideal := fun m g m' g' _ ha => by
  refine ⟨fun c => Cert.Reference17Ideal.Mm.out0 (F := Ideal) (a0 m c) (a1 m c), fun c => Cert.Reference17Ideal.Mm.out1 (F := Ideal) (a0 m c) (a1 m c) (a2 m c), fun c => Cert.Reference17Ideal.Mm.out2 (F := Ideal) (a0 m c) (a1 m c) (a2 m c), ?_, ?_⟩
  · exact (θ_run Cert.Kernel17Ideal.defs _ _).mono (fun r h c => ⟨(h c).1.trans (arr0 m c), (h c).2.1.trans (arr1 m c), (h c).2.2.1.trans (arr2 m c), (h c).2.2.2⟩) (Cert.Kernel17Ideal.Value.run_blocks (F := Ideal) m g)
  · refine (θ_run Cert.Reference17Ideal.defs _ _).mono (fun r h c => ⟨(h c).1.trans ?_, (h c).2.1.trans ?_, (h c).2.2.1.trans ?_, (h c).2.2.2⟩) (Cert.Reference17Ideal.Mm.run_out (F := Ideal) m' g')
    · congr 1
      · exact (ha c).1
      · exact (ha c).2.1
    · congr 1
      · exact (ha c).1
      · exact (ha c).2.1
      · exact (ha c).2.2
    · congr 1
      · exact (ha c).1
      · exact (ha c).2.1
      · exact (ha c).2.2

end Cert.Proof.Mm17

end
-- ==== Proof.Mm.K18.lean ====
module

public import proofs.«01_k».proof.Proof.Gen.Kernel18Ideal.Value
public import proofs.«01_k».proof.Proof.Gen.Reference18Ideal.Run
public import proofs.«01_k».proof.Proof.Norm.Spec
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference18Ideal.Mm

open Cert.Norm Cert.Reference18Ideal Cert.Reference18Ideal.Gen Idealize.ShloMosaic Idealize.ShloMosaic.TcCoe Idealize.SL.Sem Idealize.ShloMosaic.StableHlo

section
variable {F : FTy → Type} [FloatOps F]

/-- The normalized rows. -/
def nrm (a0 : (⟨S4096x1024, .f32⟩ : BufTy).Contents (Elt F)) (a1 : (⟨S1024, .f32⟩ : BufTy).Contents (Elt F)) : (⟨S4096x1024, .f32⟩ : BufTy).Contents (Elt F) :=
  mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a1))

/-- The normalized rows, rounded. -/
def out0 (a0 : (⟨S4096x1024, .f32⟩ : BufTy).Contents (Elt F)) (a1 : (⟨S1024, .f32⟩ : BufTy).Contents (Elt F)) : (⟨S4096x1024, .bf16⟩ : BufTy).Contents (Elt F) :=
  truncf .bf16 (nrm a0 a1) bitsLt_bf16_f32

/-- The reference's run ends in them. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = out0 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference18Ideal.Value.run m ρ)

end

variable (a0 : FVec Ideal S4096x1024 .f32) (a1 : FVec Ideal S1024 .f32)

theorem nrm_apply (r : Fin 4096) (d : Fin 1024) : nrm (F := Ideal) a0 a1 (ix2 r d) = a0 (ix2 r d) * rs (fun j => a0 (ix2 r j)) * a1 (ix1 d) := by
  unfold nrm
  clean_types
  pointwise
  rfl

theorem out0_apply (r : Fin 4096) (d : Fin 1024) : out0 (F := Ideal) a0 a1 (ix2 r d) = a0 (ix2 r d) * rs (fun j => a0 (ix2 r j)) * a1 (ix1 d) := by
  unfold out0
  clean_types
  pointwise
  exact nrm_apply a0 a1 r d

end Cert.Reference18Ideal.Mm

namespace Cert.Kernel18Ideal.Mm

open Cert.Norm Cert.Kernel18Ideal Cert.Kernel18Ideal.Gen Idealize.ShloMosaic Idealize.ShloMosaic.TcCoe Idealize.SL.Sem

section
variable (x : Vec Ideal S512x1024 .f32) (w : Vec Ideal S1x1024 .f32)

/-! Numbers of what the body stores. -/

theorem pay1_apply (r : Fin 512) (d : Fin 1024) : (k0_pay1 (F := Ideal) x w (ix2 r d) : EReal) = x (ix2 r d) * rs (fun j => x (ix2 r j)) * w (ix2 0 d) := by
  unfold k0_pay1
  pointwise
  rfl

end

/-- The places of a point's blocks. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev a0 : FVec Ideal S4096x1024 .f32 := m ((c : Thread nD τ).loc main_arg0)
abbrev a1 : FVec Ideal S1024 .f32 := m ((c : Thread nD τ).loc main_arg1)

theorem lt_N (t : Fin cfg0.N) : t.val < 8 := lt_of_lt_of_eq t.isLt (show cfg0.N = 8 from N_0)

/-- Row `r` of point `t`. -/
abbrev row (t : Fin cfg0.N) (r : Fin 512) : Fin 4096 := ⟨t.val * 512 + r.val, by have := lt_N t; omega⟩

theorem read0 (t : Fin cfg0.N) (r : Fin 512) (d : Fin 1024) : iblk m c 0 t (ix2 r d) = a0 m c (ix2 (row t r) d) := by
  obtain ⟨e0, e1, e2⟩ := idx t
  blk_ext [iblk, V, e0]

theorem read1 (t : Fin cfg0.N) (z : Fin 1) (d : Fin 1024) : iblk m c 1 t (ix2 z d) = a1 m c (ix1 d) := by
  obtain ⟨e0, e1, e2⟩ := idx t
  have h : iblk m c 1 t (ix2 z d) = V m c main_v0 (ix2 0 d) := by
    unfold iblk
    blk_simp [e1]
    refine congrArg (V m c main_v0) ?_
    blk_ext [e1]
  rw [h]
  unfold V
  after_reads_at

theorem arr0 : (dats m 0 c).arrAt 2 cfg0.N = Cert.Reference18Ideal.Mm.out0 (F := Ideal) (a0 m c) (a1 m c) := by
  refine (dats m 0 c).arrAt_eq_of_covers 2 _ (by decide +kernel) fun t hf y => ?_
  have hN := lt_N t
  obtain ⟨e0, e1, e2⟩ := idx t
  blk_simp [e2]
  rw [after0_2]
  frame_out
  obtain ⟨r, d, rfl⟩ : ∃ (r : Fin 512) (d : Fin 1024), y = (ix2 r d : S512x1024.Idx) :=
    ⟨y (0 : Fin 2), y (1 : Fin 2), by
      funext a
      match a with
      | 0 => rfl
      | 1 => rfl⟩
  have he : ((cfg0.win 2).blk t).view.emb (ix2 r d : S512x1024.Idx) = (ix2 (row t r) d : S4096x1024.Idx) := by
    blk_ext [e2]
  rw [he, Cert.Reference18Ideal.Mm.out0_apply]
  refine (pay1_apply _ _ r d).trans ?_
  simp only [read0, read1]

end Cert.Kernel18Ideal.Mm
-- ==== Proof.Mm.S18.lean ====
module

public import proofs.«01_k».proof.Defs
public import proofs.«01_k».proof.Proof.Mm.K18
public import proofs.«01_k».proof.Proof.Gen.Kernel18
public import Idealize.ShloMosaic.Adequacy
public import Idealize.ShloMosaic.Init
public import Idealize.ShloMosaic.Lib.Claim

@[expose] public section

set_option maxHeartbeats 4000000
set_option maxRecDepth 65536

noncomputable section

namespace Cert.Proof.Mm18

open Idealize.ShloMosaic Idealize.SL.Sem

/-! The kernel and its idealization have the same text. -/

theorem defs₀_same {F : FTy → Type} [FloatOps F] :
    @Cert.Kernel18.defs₀ F _ Cert.Kernel18.Gen.facts = @Cert.Kernel18Ideal.defs₀ F _ Cert.Kernel18Ideal.Gen.facts := by
  unfold Cert.Kernel18.defs₀ Cert.Kernel18Ideal.defs₀
  refine congrArg Defs.onTc ?_
  funext l a
  match l, a with
  | ⟨0, _⟩, (t, s) => rfl

theorem main_same {F : FTy → Type} [FloatOps F] :
    @Cert.Kernel18.main F _ = @Cert.Kernel18Ideal.main F _ := by with_unfolding_all rfl

theorem defs_same {F : FTy → Type} [FloatOps F] :
    @Cert.Kernel18.defs F _ Cert.Kernel18.Gen.facts = @Cert.Kernel18Ideal.defs F _ Cert.Kernel18Ideal.Gen.facts :=
  congrArg (Pipeline.defs _) defs₀_same

/-- The kernel's frame: one run serves it and its idealization. -/
theorem frame_kernel : Cert.quiescent_Kernel18 (hKernel18 := Cert.Kernel18.Gen.facts) := by
  intro m ρ _
  rw [defs_same, main_same]
  exact Cert.Kernel18Ideal.Gen.frame (F := Bits) m ρ

/-- The reference's frame. -/
theorem frame_ref : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

open Cert.Kernel18Ideal.Mm in
/-- The kernel's results are the reference's. -/
theorem algebraic : Cert.algebraic_Kernel18Ideal_Reference18Ideal := fun m g m' g' _ ha => by
  refine ⟨fun c => Cert.Reference18Ideal.Mm.out0 (F := Ideal) (a0 m c) (a1 m c), ?_, ?_⟩
  · exact (θ_run Cert.Kernel18Ideal.defs _ _).mono (fun r h c => ⟨(h c).1.trans (arr0 m c), (h c).2⟩) (Cert.Kernel18Ideal.Value.run_blocks (F := Ideal) m g)
  · refine (θ_run Cert.Reference18Ideal.defs _ _).mono (fun r h c => ⟨(h c).1.trans ?_, (h c).2⟩) (Cert.Reference18Ideal.Mm.run_out (F := Ideal) m' g')
    congr 1
    · exact (ha c).1
    · exact (ha c).2

end Cert.Proof.Mm18

end
-- ==== Proof.Mm.L19.lean ====
module

public import proofs.«01_k».proof.Proof.Gen.Reference19Ideal
public import proofs.«01_k».proof.Proof.Mm.Adam
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference19Ideal.Mm

open Cert.Adam Cert.Reference19Ideal Cert.Reference19Ideal.Gen Idealize.ShloMosaic Idealize.ShloMosaic.TcCoe Idealize.SL.Sem Idealize.ShloMosaic.StableHlo

/-! The ten small weights' numbers in one line. -/

/-- Ten rows of numbers after one another, with zeros to the end. -/
def line (x0 : FVec Ideal S2048 .f32) (x1 : FVec Ideal S16 .f32) (x2 : FVec Ideal S8 .f32) (x3 : FVec Ideal S8 .f32) (x4 : FVec Ideal S256 .f32) (x5 : FVec Ideal S2048 .f32) (x6 : FVec Ideal S5632 .f32) (x7 : FVec Ideal S1024 .f32) (x8 : FVec Ideal S3072 .f32) (x9 : FVec Ideal S4224 .f32) : FVec Ideal S18432 .f32 :=
  concatenate S18432 0 [⟨S2048, x0⟩, ⟨S16, x1⟩, ⟨S8, x2⟩, ⟨S8, x3⟩, ⟨S256, x4⟩, ⟨S2048, x5⟩, ⟨S5632, x6⟩, ⟨S1024, x7⟩, ⟨S3072, x8⟩, ⟨S4224, x9⟩, ⟨S96, broadcastInDim S96 ![] bcast_S_S96 (constant (F := Ideal) S_ .f32 0x00000000#32)⟩] concatenates_S2048_S16_S8_S8_S256_S2048_S5632_S1024_S3072_S4224_S96_S18432_d0

/-- The number at a place of the line. -/
def place (x0 : FVec Ideal S2048 .f32) (x1 : FVec Ideal S16 .f32) (x2 : FVec Ideal S8 .f32) (x3 : FVec Ideal S8 .f32) (x4 : FVec Ideal S256 .f32) (x5 : FVec Ideal S2048 .f32) (x6 : FVec Ideal S5632 .f32) (x7 : FVec Ideal S1024 .f32) (x8 : FVec Ideal S3072 .f32) (x9 : FVec Ideal S4224 .f32) (i : Fin 18432) : EReal :=
  if h0 : i.val < 2048 then x0 (ix1 ⟨i.val, h0⟩)
  else if h1 : i.val - 2048 < 16 then x1 (ix1 ⟨i.val - 2048, h1⟩)
  else if h2 : i.val - 2048 - 16 < 8 then x2 (ix1 ⟨i.val - 2048 - 16, h2⟩)
  else if h3 : i.val - 2048 - 16 - 8 < 8 then x3 (ix1 ⟨i.val - 2048 - 16 - 8, h3⟩)
  else if h4 : i.val - 2048 - 16 - 8 - 8 < 256 then x4 (ix1 ⟨i.val - 2048 - 16 - 8 - 8, h4⟩)
  else if h5 : i.val - 2048 - 16 - 8 - 8 - 256 < 2048 then x5 (ix1 ⟨i.val - 2048 - 16 - 8 - 8 - 256, h5⟩)
  else if h6 : i.val - 2048 - 16 - 8 - 8 - 256 - 2048 < 5632 then x6 (ix1 ⟨i.val - 2048 - 16 - 8 - 8 - 256 - 2048, h6⟩)
  else if h7 : i.val - 2048 - 16 - 8 - 8 - 256 - 2048 - 5632 < 1024 then x7 (ix1 ⟨i.val - 2048 - 16 - 8 - 8 - 256 - 2048 - 5632, h7⟩)
  else if h8 : i.val - 2048 - 16 - 8 - 8 - 256 - 2048 - 5632 - 1024 < 3072 then x8 (ix1 ⟨i.val - 2048 - 16 - 8 - 8 - 256 - 2048 - 5632 - 1024, h8⟩)
  else if h9 : i.val - 2048 - 16 - 8 - 8 - 256 - 2048 - 5632 - 1024 - 3072 < 4224 then x9 (ix1 ⟨i.val - 2048 - 16 - 8 - 8 - 256 - 2048 - 5632 - 1024 - 3072, h9⟩)
  else 0

theorem line_apply (x0 : FVec Ideal S2048 .f32) (x1 : FVec Ideal S16 .f32) (x2 : FVec Ideal S8 .f32) (x3 : FVec Ideal S8 .f32) (x4 : FVec Ideal S256 .f32) (x5 : FVec Ideal S2048 .f32) (x6 : FVec Ideal S5632 .f32) (x7 : FVec Ideal S1024 .f32) (x8 : FVec Ideal S3072 .f32) (x9 : FVec Ideal S4224 .f32) (i : Fin 18432) : line x0 x1 x2 x3 x4 x5 x6 x7 x8 x9 (ix1 i) = place x0 x1 x2 x3 x4 x5 x6 x7 x8 x9 i := by
  unfold line place
  clean_types
  pointwise

/-- Ten arrays of numbers, in the shapes of the small weights. -/
structure Ten where
  p0 : FVec Ideal S2x1024 .f32
  p1 : FVec Ideal S2x8 .f32
  p2 : FVec Ideal S2x4 .f32
  p3 : FVec Ideal S2x4 .f32
  p4 : FVec Ideal S2x128 .f32
  p5 : FVec Ideal S2x1024 .f32
  p6 : FVec Ideal S2x2816 .f32
  p7 : FVec Ideal S1024 .f32
  p8 : FVec Ideal S2x4x384 .f32
  p9 : FVec Ideal S2x3x704 .f32

/-- An operation on each of their numbers, with those of three others. -/
def on4 (f : EReal → EReal → EReal → EReal → EReal) (s t u v : Ten) : Ten :=
  ⟨fun i => f (s.p0 i) (t.p0 i) (u.p0 i) (v.p0 i), fun i => f (s.p1 i) (t.p1 i) (u.p1 i) (v.p1 i), fun i => f (s.p2 i) (t.p2 i) (u.p2 i) (v.p2 i), fun i => f (s.p3 i) (t.p3 i) (u.p3 i) (v.p3 i), fun i => f (s.p4 i) (t.p4 i) (u.p4 i) (v.p4 i), fun i => f (s.p5 i) (t.p5 i) (u.p5 i) (v.p5 i), fun i => f (s.p6 i) (t.p6 i) (u.p6 i) (v.p6 i), fun i => f (s.p7 i) (t.p7 i) (u.p7 i) (v.p7 i), fun i => f (s.p8 i) (t.p8 i) (u.p8 i) (v.p8 i), fun i => f (s.p9 i) (t.p9 i) (u.p9 i) (v.p9 i)⟩

/-- And with those of one other. -/
def on2 (f : EReal → EReal → EReal) (s t : Ten) : Ten := on4 (fun a b _ _ => f a b) s t s s

/-- Their numbers in one line. -/
def Ten.row (t : Ten) : FVec Ideal S18432 .f32 :=
  line (shapeCast S2048 t.p0 shapeCasts_S2x1024_S2048) (shapeCast S16 t.p1 shapeCasts_S2x8_S16) (shapeCast S8 t.p2 shapeCasts_S2x4_S8) (shapeCast S8 t.p3 shapeCasts_S2x4_S8) (shapeCast S256 t.p4 shapeCasts_S2x128_S256) (shapeCast S2048 t.p5 shapeCasts_S2x1024_S2048) (shapeCast S5632 t.p6 shapeCasts_S2x2816_S5632) t.p7 (shapeCast S3072 t.p8 shapeCasts_S2x4x384_S3072) (shapeCast S4224 t.p9 shapeCasts_S2x3x704_S4224)

/-- The number at a place of it. -/
def Ten.at (t : Ten) (i : Fin 18432) : EReal :=
  place (shapeCast S2048 t.p0 shapeCasts_S2x1024_S2048) (shapeCast S16 t.p1 shapeCasts_S2x8_S16) (shapeCast S8 t.p2 shapeCasts_S2x4_S8) (shapeCast S8 t.p3 shapeCasts_S2x4_S8) (shapeCast S256 t.p4 shapeCasts_S2x128_S256) (shapeCast S2048 t.p5 shapeCasts_S2x1024_S2048) (shapeCast S5632 t.p6 shapeCasts_S2x2816_S5632) t.p7 (shapeCast S3072 t.p8 shapeCasts_S2x4x384_S3072) (shapeCast S4224 t.p9 shapeCasts_S2x3x704_S4224) i

theorem Ten.row_apply (t : Ten) (i : Fin 18432) : t.row (ix1 i) = t.at i := line_apply _ _ _ _ _ _ _ _ _ _ i

theorem on4_at (f : EReal → EReal → EReal → EReal → EReal) (h : f 0 0 0 0 = 0) (s t u v : Ten) (i : Fin 18432) :
    (on4 f s t u v).at i = f (s.at i) (t.at i) (u.at i) (v.at i) := by
  unfold Ten.at place
  by_cases h0 : i.val < 2048
  · simp only [dif_pos h0]
    rfl
  simp only [dif_neg h0]
  by_cases h1 : i.val - 2048 < 16
  · simp only [dif_pos h1]
    rfl
  simp only [dif_neg h1]
  by_cases h2 : i.val - 2048 - 16 < 8
  · simp only [dif_pos h2]
    rfl
  simp only [dif_neg h2]
  by_cases h3 : i.val - 2048 - 16 - 8 < 8
  · simp only [dif_pos h3]
    rfl
  simp only [dif_neg h3]
  by_cases h4 : i.val - 2048 - 16 - 8 - 8 < 256
  · simp only [dif_pos h4]
    rfl
  simp only [dif_neg h4]
  by_cases h5 : i.val - 2048 - 16 - 8 - 8 - 256 < 2048
  · simp only [dif_pos h5]
    rfl
  simp only [dif_neg h5]
  by_cases h6 : i.val - 2048 - 16 - 8 - 8 - 256 - 2048 < 5632
  · simp only [dif_pos h6]
    rfl
  simp only [dif_neg h6]
  by_cases h7 : i.val - 2048 - 16 - 8 - 8 - 256 - 2048 - 5632 < 1024
  · simp only [dif_pos h7]
    rfl
  simp only [dif_neg h7]
  by_cases h8 : i.val - 2048 - 16 - 8 - 8 - 256 - 2048 - 5632 - 1024 < 3072
  · simp only [dif_pos h8]
    rfl
  simp only [dif_neg h8]
  by_cases h9 : i.val - 2048 - 16 - 8 - 8 - 256 - 2048 - 5632 - 1024 - 3072 < 4224
  · simp only [dif_pos h9]
    rfl
  simp only [dif_neg h9]
  exact h.symm

theorem on2_at (f : EReal → EReal → EReal) (h : f 0 0 = 0) (s t : Ten) (i : Fin 18432) : (on2 f s t).at i = f (s.at i) (t.at i) :=
  on4_at _ h s t s s i

theorem mom_zero : mom 0 0 = 0 := by simp [mom]

theorem sec_zero : sec 0 0 = 0 := by simp [sec]

theorem sqrt_zero : Ideal.sqrt 0 = 0 := by
  have h : Ideal.sqrt ((0 : ℝ) : EReal) = ((0 : ℝ) : EReal) := by
    show (if (0 : ℝ) < 0 then (⊥ : EReal) else ((Real.sqrt 0 : ℝ) : EReal)) = _
    simp
  exact h

theorem first_ne : Ideal.ofBits FTy.f32 1059503362#32 ≠ 0 := by
  simp [Ideal.ofBits, Ideal.ieee]

theorem second_ne : Ideal.ofBits FTy.f32 1008933580#32 ≠ 0 := by
  simp [Ideal.ofBits, Ideal.ieee]

theorem eps_ne : Ideal.ofBits FTy.f32 841731191#32 ≠ 0 := by
  simp [Ideal.ofBits, Ideal.ieee]

/-- The optimiser leaves the zeros at the line's end as they are. -/
theorem delta_zero : delta 0 0 0 0 = 0 := by
  unfold delta
  rw [mom_zero, sec_zero]
  simp [Ideal.div, sqrt_zero, first_ne, second_ne, eps_ne]

/-- The line in rows of 128. -/
def rows (x : FVec Ideal S18432 .f32) : FVec Ideal S144x128 .f32 := shapeCast S144x128 x shapeCasts_S18432_S144x128

theorem rows_apply (x : FVec Ideal S18432 .f32) (r : Fin 144) (d : Fin 128) : rows x (ix2 r d) = x (ix1 ⟨r.val * 128 + d.val, by omega⟩) := by
  unfold rows
  clean_types
  pointwise

/-- The changes of the ten weights. -/
def out0 (w g m v : Ten) : FVec Ideal S144x128 .f32 := rows (on4 delta w g m v).row

/-- Their new first moments. -/
def out1 (w g m v : Ten) : FVec Ideal S144x128 .f32 := rows (on2 mom g m).row

/-- And their new second moments. -/
def out2 (w g m v : Ten) : FVec Ideal S144x128 .f32 := rows (on2 sec g v).row

theorem idx_eq (y : S144x128.Idx) : ∃ (r : Fin 144) (d : Fin 128), y = (ix2 r d : S144x128.Idx) :=
  ⟨y (0 : Fin 2), y (1 : Fin 2), by
    funext a
    match a with
    | 0 => rfl
    | 1 => rfl⟩

variable (w g m v : Ten)

/-! The step commutes with the laying in a line. -/

theorem out0_eq : out0 w g m v = deltas (rows w.row) (rows g.row) (rows m.row) (rows v.row) := by
  funext y
  obtain ⟨r, d, rfl⟩ := idx_eq y
  unfold out0 deltas
  simp only [rows_apply, Ten.row_apply]
  exact on4_at delta delta_zero w g m v _

theorem out1_eq : out1 w g m v = moms (rows g.row) (rows m.row) := by
  funext y
  obtain ⟨r, d, rfl⟩ := idx_eq y
  unfold out1 moms
  simp only [rows_apply, Ten.row_apply]
  exact on2_at mom mom_zero g m _

theorem out2_eq : out2 w g m v = secs (rows g.row) (rows v.row) := by
  funext y
  obtain ⟨r, d, rfl⟩ := idx_eq y
  unfold out2 secs
  simp only [rows_apply, Ten.row_apply]
  exact on2_at sec sec_zero g v _

end Cert.Reference19Ideal.Mm
-- ==== Proof.Mm.K19.lean ====
module

public import proofs.«01_k».proof.Proof.Gen.Kernel19Ideal.Value
public import proofs.«01_k».proof.Proof.Mm.L19
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxHeartbeats 2000000
set_option maxRecDepth 65536

noncomputable section

namespace Cert.Kernel19Ideal.Mm

open Cert.Adam Cert.Kernel19Ideal Cert.Kernel19Ideal.Gen Idealize.ShloMosaic Idealize.ShloMosaic.TcCoe Idealize.SL.Sem
open Cert.Reference19Ideal.Mm (Ten line rows)

section
variable (w g m v : Vec Ideal S16x128 .f32)

/-! What the body stores is the optimiser's step on its blocks. -/

theorem pay2_eq : k0_pay2 g m = moms g m := by
  unfold k0_pay2 k0_pay1
  rw [shapeCast_self, shapeCast_self]
  rfl

theorem pay3_eq : k0_pay3 g v = secs g v := by
  unfold k0_pay3 k0_pay1
  rw [shapeCast_self, shapeCast_self]
  rfl

theorem pay4_eq : k0_pay4 g m v w = deltas w g m v := by
  unfold k0_pay4
  rw [pay2_eq, pay3_eq, shapeCast_self]
  rfl

end

variable (m : (ℓ : Loc nD τ sig) → Buf (Elt Ideal) ℓ) (c : Dev nD)

def a0 : Ten :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

def a1 : Ten :=
  ⟨m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19)⟩

def a2 : Ten :=
  ⟨m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26), m ((c.tc : Thread nD τ).loc main_arg27), m ((c.tc : Thread nD τ).loc main_arg28), m ((c.tc : Thread nD τ).loc main_arg29)⟩

def a3 : Ten :=
  ⟨m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35), m ((c.tc : Thread nD τ).loc main_arg36), m ((c.tc : Thread nD τ).loc main_arg37), m ((c.tc : Thread nD τ).loc main_arg38), m ((c.tc : Thread nD τ).loc main_arg39)⟩

/-- The line as the kernel's host code makes it: with the zeros padded on. -/
def padded (x0 : FVec Ideal S2048 .f32) (x1 : FVec Ideal S16 .f32) (x2 : FVec Ideal S8 .f32) (x3 : FVec Ideal S8 .f32) (x4 : FVec Ideal S256 .f32) (x5 : FVec Ideal S2048 .f32) (x6 : FVec Ideal S5632 .f32) (x7 : FVec Ideal S1024 .f32) (x8 : FVec Ideal S3072 .f32) (x9 : FVec Ideal S4224 .f32) : FVec Ideal S18432 .f32 :=
  pad S18432 ![0] ![96] ![0] (concatenate S18336 0 [⟨S2048, x0⟩, ⟨S16, x1⟩, ⟨S8, x2⟩, ⟨S8, x3⟩, ⟨S256, x4⟩, ⟨S2048, x5⟩, ⟨S5632, x6⟩, ⟨S1024, x7⟩, ⟨S3072, x8⟩, ⟨S4224, x9⟩] concatenates_S2048_S16_S8_S8_S256_S2048_S5632_S1024_S3072_S4224_S18336_d0) (sitofp (F := Ideal) .f32 (constantI S_ 32 0#32)) pads_S18336_S18432_0960 h_S_

theorem padded_eq (x0 : FVec Ideal S2048 .f32) (x1 : FVec Ideal S16 .f32) (x2 : FVec Ideal S8 .f32) (x3 : FVec Ideal S8 .f32) (x4 : FVec Ideal S256 .f32) (x5 : FVec Ideal S2048 .f32) (x6 : FVec Ideal S5632 .f32) (x7 : FVec Ideal S1024 .f32) (x8 : FVec Ideal S3072 .f32) (x9 : FVec Ideal S4224 .f32) : padded x0 x1 x2 x3 x4 x5 x6 x7 x8 x9 = line x0 x1 x2 x3 x4 x5 x6 x7 x8 x9 := by
  funext i
  obtain ⟨i, rfl⟩ : ∃ j : Fin 18432, i = (ix1 j : S18432.Idx) :=
    ⟨i (0 : Fin 1), by
      funext a
      match a with
      | 0 => rfl⟩
  rw [Cert.Reference19Ideal.Mm.line_apply]
  unfold padded Cert.Reference19Ideal.Mm.place
  clean_types
  pointwise
  by_cases hp : i.val < 18336
  · rw [dif_pos hp]
    by_cases h0 : i.val < 2048
    · rw [dif_pos h0, dif_pos h0]
    rw [dif_neg h0, dif_neg h0]
    by_cases h1 : i.val - 2048 < 16
    · rw [dif_pos h1, dif_pos h1]
    rw [dif_neg h1, dif_neg h1]
    by_cases h2 : i.val - 2048 - 16 < 8
    · rw [dif_pos h2, dif_pos h2]
    rw [dif_neg h2, dif_neg h2]
    by_cases h3 : i.val - 2048 - 16 - 8 < 8
    · rw [dif_pos h3, dif_pos h3]
    rw [dif_neg h3, dif_neg h3]
    by_cases h4 : i.val - 2048 - 16 - 8 - 8 < 256
    · rw [dif_pos h4, dif_pos h4]
    rw [dif_neg h4, dif_neg h4]
    by_cases h5 : i.val - 2048 - 16 - 8 - 8 - 256 < 2048
    · rw [dif_pos h5, dif_pos h5]
    rw [dif_neg h5, dif_neg h5]
    by_cases h6 : i.val - 2048 - 16 - 8 - 8 - 256 - 2048 < 5632
    · rw [dif_pos h6, dif_pos h6]
    rw [dif_neg h6, dif_neg h6]
    by_cases h7 : i.val - 2048 - 16 - 8 - 8 - 256 - 2048 - 5632 < 1024
    · rw [dif_pos h7, dif_pos h7]
    rw [dif_neg h7, dif_neg h7]
    by_cases h8 : i.val - 2048 - 16 - 8 - 8 - 256 - 2048 - 5632 - 1024 < 3072
    · rw [dif_pos h8, dif_pos h8]
    rw [dif_neg h8, dif_neg h8]
    rw [dif_pos (show i.val - 2048 - 16 - 8 - 8 - 256 - 2048 - 5632 - 1024 - 3072 < 4224 by omega)]
  · rw [dif_neg hp]
    rw [dif_neg (show ¬ i.val < 2048 by omega), dif_neg (show ¬ i.val - 2048 < 16 by omega), dif_neg (show ¬ i.val - 2048 - 16 < 8 by omega), dif_neg (show ¬ i.val - 2048 - 16 - 8 < 8 by omega), dif_neg (show ¬ i.val - 2048 - 16 - 8 - 8 < 256 by omega), dif_neg (show ¬ i.val - 2048 - 16 - 8 - 8 - 256 < 2048 by omega), dif_neg (show ¬ i.val - 2048 - 16 - 8 - 8 - 256 - 2048 < 5632 by omega), dif_neg (show ¬ i.val - 2048 - 16 - 8 - 8 - 256 - 2048 - 5632 < 1024 by omega), dif_neg (show ¬ i.val - 2048 - 16 - 8 - 8 - 256 - 2048 - 5632 - 1024 < 3072 by omega), dif_neg (show ¬ i.val - 2048 - 16 - 8 - 8 - 256 - 2048 - 5632 - 1024 - 3072 < 4224 by omega)]
    show (((0#32 : BitVec 32).toInt : ℝ) : EReal) = 0
    simp

theorem entry0 : V m c main_v11 = rows (a0 m c).row := by
  refine Eq.trans ?_ (congrArg rows (padded_eq _ _ _ _ _ _ _ _ _ _))
  entry_read
  rfl

theorem entry1 : V m c main_v23 = rows (a1 m c).row := by
  refine Eq.trans ?_ (congrArg rows (padded_eq _ _ _ _ _ _ _ _ _ _))
  entry_read
  rfl

theorem entry2 : V m c main_v35 = rows (a2 m c).row := by
  refine Eq.trans ?_ (congrArg rows (padded_eq _ _ _ _ _ _ _ _ _ _))
  entry_read
  rfl

theorem entry3 : V m c main_v47 = rows (a3 m c).row := by
  refine Eq.trans ?_ (congrArg rows (padded_eq _ _ _ _ _ _ _ _ _ _))
  entry_read
  rfl

/-- What a grid point reads: its rows of the arguments, which are those of its block of a result. -/
theorem reads (t : Fin cfg0.N) (y : S16x128.Idx) :
    iblk m c 0 t y = rows (a0 m c).row (((cfg0.win 4).blk t).view.emb y) ∧ iblk m c 1 t y = rows (a1 m c).row (((cfg0.win 4).blk t).view.emb y)
    ∧ iblk m c 2 t y = rows (a2 m c).row (((cfg0.win 4).blk t).view.emb y) ∧ iblk m c 3 t y = rows (a3 m c).row (((cfg0.win 4).blk t).view.emb y) :=
  ⟨congrFun (entry0 m c) (((cfg0.win 4).blk t).view.emb y), congrFun (entry1 m c) (((cfg0.win 4).blk t).view.emb y), congrFun (entry2 m c) (((cfg0.win 4).blk t).view.emb y), congrFun (entry3 m c) (((cfg0.win 4).blk t).view.emb y)⟩

theorem arr0 : (dats m 0 c).arrAt 4 cfg0.N = Cert.Reference19Ideal.Mm.out0 (a0 m c) (a1 m c) (a2 m c) (a3 m c) := by
  rw [Cert.Reference19Ideal.Mm.out0_eq]
  refine (dats m 0 c).arrAt_eq_of_covers 4 _ (by decide +kernel) fun t hf y => ?_
  obtain ⟨h0, h1, h2, h3⟩ := reads m c t y
  rw [after0_4]
  frame_out
  rw [pay4_eq]
  unfold deltas
  rw [h0, h1, h2, h3]
  rfl

theorem arr1 : (dats m 0 c).arrAt 5 cfg0.N = Cert.Reference19Ideal.Mm.out1 (a0 m c) (a1 m c) (a2 m c) (a3 m c) := by
  rw [Cert.Reference19Ideal.Mm.out1_eq]
  refine (dats m 0 c).arrAt_eq_of_covers 5 _ (by decide +kernel) fun t hf y => ?_
  obtain ⟨h0, h1, h2, h3⟩ := reads m c t y
  rw [after0_5]
  frame_out
  rw [pay2_eq]
  unfold moms
  rw [h1, h2]
  rfl

theorem arr2 : (dats m 0 c).arrAt 6 cfg0.N = Cert.Reference19Ideal.Mm.out2 (a0 m c) (a1 m c) (a2 m c) (a3 m c) := by
  rw [Cert.Reference19Ideal.Mm.out2_eq]
  refine (dats m 0 c).arrAt_eq_of_covers 6 _ (by decide +kernel) fun t hf y => ?_
  obtain ⟨h0, h1, h2, h3⟩ := reads m c t y
  rw [after0_6]
  frame_out
  rw [pay3_eq]
  unfold secs
  rw [h1, h3]
  rfl

end Cert.Kernel19Ideal.Mm
-- ==== Proof.Mm.R19.lean ====
module

public import proofs.«01_k».proof.Proof.Gen.Reference19Ideal.Run
public import proofs.«01_k».proof.Proof.Mm.L19
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
import Idealize.ShloMosaic.Lib.Tactic.CleanTypes

@[expose] public section

set_option maxRecDepth 65536

noncomputable section

namespace Cert.Reference19Ideal.Mm

open Cert.Adam Cert.Reference19Ideal Cert.Reference19Ideal.Gen Idealize.ShloMosaic Idealize.ShloMosaic.TcCoe Idealize.SL.Sem Idealize.ShloMosaic.StableHlo

variable (m : (ℓ : Loc nD τ sig) → Buf (Elt Ideal) ℓ) (c : Dev nD)

/-! The weights, their gradients, and their first and second moments. -/

def a0 : Ten :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

def a1 : Ten :=
  ⟨m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19)⟩

def a2 : Ten :=
  ⟨m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26), m ((c.tc : Thread nD τ).loc main_arg27), m ((c.tc : Thread nD τ).loc main_arg28), m ((c.tc : Thread nD τ).loc main_arg29)⟩

def a3 : Ten :=
  ⟨m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35), m ((c.tc : Thread nD τ).loc main_arg36), m ((c.tc : Thread nD τ).loc main_arg37), m ((c.tc : Thread nD τ).loc main_arg38), m ((c.tc : Thread nD τ).loc main_arg39)⟩

end Cert.Reference19Ideal.Mm
-- ==== Proof.Mm.S19.lean ====
module

public import proofs.«01_k».proof.Defs
public import proofs.«01_k».proof.Proof.Mm.K19
public import proofs.«01_k».proof.Proof.Mm.R19
public import proofs.«01_k».proof.Proof.Gen.Kernel19
public import Idealize.ShloMosaic.Adequacy
public import Idealize.ShloMosaic.Init
public import Idealize.ShloMosaic.Lib.Claim

@[expose] public section

set_option maxHeartbeats 4000000
set_option maxRecDepth 65536

noncomputable section

namespace Cert.Proof.Mm19

open Idealize.ShloMosaic Idealize.SL.Sem

/-! The kernel and its idealization have the same text. -/

theorem defs₀_same {F : FTy → Type} [FloatOps F] :
    @Cert.Kernel19.defs₀ F _ Cert.Kernel19.Gen.facts = @Cert.Kernel19Ideal.defs₀ F _ Cert.Kernel19Ideal.Gen.facts := by
  unfold Cert.Kernel19.defs₀ Cert.Kernel19Ideal.defs₀
  refine congrArg Defs.onTc ?_
  funext l a
  match l, a with
  | ⟨0, _⟩, (t, s) => rfl

theorem main_same {F : FTy → Type} [FloatOps F] :
    @Cert.Kernel19.main F _ Cert.Kernel19.Gen.facts = @Cert.Kernel19Ideal.main F _ Cert.Kernel19Ideal.Gen.facts := by with_unfolding_all rfl

theorem defs_same {F : FTy → Type} [FloatOps F] :
    @Cert.Kernel19.defs F _ Cert.Kernel19.Gen.facts = @Cert.Kernel19Ideal.defs F _ Cert.Kernel19Ideal.Gen.facts :=
  congrArg (Pipeline.defs _) defs₀_same

/-- The kernel's frame: one run serves it and its idealization. -/
theorem frame_kernel : Cert.quiescent_Kernel19 (hKernel19 := Cert.Kernel19.Gen.facts) := by
  intro m ρ _
  rw [defs_same, main_same]
  exact Cert.Kernel19Ideal.Gen.frame (F := Bits) m ρ

/-- The reference's frame. -/
theorem frame_ref : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

open Cert.Kernel19Ideal.Mm in
open Cert.Reference19Ideal.Mm (out0 out1 out2) in
/-- The kernel's results are the reference's. -/
theorem algebraic : Cert.algebraic_Kernel19Ideal_Reference19Ideal := fun m g m' g' _ ha => by
  have e0 (c) : Cert.Reference19Ideal.Mm.a0 m' c = a0 m c := by
    unfold Cert.Reference19Ideal.Mm.a0 a0
    congr 1
    · exact (ha c).1
    · exact (ha c).2.1
    · exact (ha c).2.2.1
    · exact (ha c).2.2.2.1
    · exact (ha c).2.2.2.2.1
    · exact (ha c).2.2.2.2.2.1
    · exact (ha c).2.2.2.2.2.2.1
    · exact (ha c).2.2.2.2.2.2.2.1
    · exact (ha c).2.2.2.2.2.2.2.2.1
    · exact (ha c).2.2.2.2.2.2.2.2.2.1
  have e1 (c) : Cert.Reference19Ideal.Mm.a1 m' c = a1 m c := by
    unfold Cert.Reference19Ideal.Mm.a1 a1
    congr 1
    · exact (ha c).2.2.2.2.2.2.2.2.2.2.1
    · exact (ha c).2.2.2.2.2.2.2.2.2.2.2.1
    · exact (ha c).2.2.2.2.2.2.2.2.2.2.2.2.1
    · exact (ha c).2.2.2.2.2.2.2.2.2.2.2.2.2.1
    · exact (ha c).2.2.2.2.2.2.2.2.2.2.2.2.2.2.1
    · exact (ha c).2.2.2.2.2.2.2.2.2.2.2.2.2.2.2.1
    · exact (ha c).2.2.2.2.2.2.2.2.2.2.2.2.2.2.2.2.1
    · exact (ha c).2.2.2.2.2.2.2.2.2.2.2.2.2.2.2.2.2.1
    · exact (ha c).2.2.2.2.2.2.2.2.2.2.2.2.2.2.2.2.2.2.1
    · exact (ha c).2.2.2.2.2.2.2.2.2.2.2.2.2.2.2.2.2.2.2.1
  have e2 (c) : Cert.Reference19Ideal.Mm.a2 m' c = a2 m c := by
    unfold Cert.Reference19Ideal.Mm.a2 a2
    congr 1
    · exact (ha c).2.2.2.2.2.2.2.2.2.2.2.2.2.2.2.2.2.2.2.2.1
    · exact (ha c).2.2.2.2.2.2.2.2.2.2.2.2.2.2.2.2.2.2.2.2.2.1
    · exact (ha c).2.2.2.2.2.2.2.2.2.2.2.2.2.2.2.2.2.2.2.2.2.2.1
    · exact (ha c).2.2.2.2.2.2.2.2.2.2.2.2.2.2.2.2.2.2.2.2.2.2.2.1
    · exact (ha c).2.2.2.2.2.2.2.2.2.2.2.2.2.2.2.2.2.2.2.2.2.2.2.2.1
    · exact (ha c).2.2.2.2.2.2.2.2.2.2.2.2.2.2.2.2.2.2.2.2.2.2.2.2.2.1
    · exact (ha c).2.2.2.2.2.2.2.2.2.2.2.2.2.2.2.2.2.2.2.2.2.2.2.2.2.2.1
    · exact (ha c).2.2.2.2.2.2.2.2.2.2.2.2.2.2.2.2.2.2.2.2.2.2.2.2.2.2.2.1
    · exact (ha c).2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.1
  have e3 (c) : Cert.Reference19Ideal.Mm.a3 m' c = a3 m c := by
    unfold Cert.Reference19Ideal.Mm.a3 a3
    congr 1
    · exact (ha c).2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.2.2.2.2.2.1
    · exact (ha c).2.2.2.2.2.2.2.2.2.2.2.2.2.2.2.2.2.2.2.2.2.2.2.2.2.2.2.2.2.2.2.2.2.2.2.2.2.2.2
  refine ⟨fun c => out0 (a0 m c) (a1 m c) (a2 m c) (a3 m c), fun c => out1 (a0 m c) (a1 m c) (a2 m c) (a3 m c), fun c => out2 (a0 m c) (a1 m c) (a2 m c) (a3 m c), ?_, ?_⟩
  · exact (θ_run Cert.Kernel19Ideal.defs _ _).mono (fun r h c => ⟨(h c).1.trans (arr0 m c), (h c).2.1.trans (arr1 m c), (h c).2.2.1.trans (arr2 m c), (h c).2.2.2⟩) (Cert.Kernel19Ideal.Value.run_blocks (F := Ideal) m g)
  · refine (θ_run Cert.Reference19Ideal.defs _ _).mono (fun r h c => ⟨(h c).1.trans ?_, (h c).2.1.trans ?_, (h c).2.2.1.trans ?_, (h c).2.2.2⟩) (Cert.Reference19Ideal.Value.run (F := Ideal) m' g')
    · exact (rfl : _ = out0 (Cert.Reference19Ideal.Mm.a0 m' c) (Cert.Reference19Ideal.Mm.a1 m' c) (Cert.Reference19Ideal.Mm.a2 m' c) (Cert.Reference19Ideal.Mm.a3 m' c)).trans (by rw [e0 c, e1 c, e2 c, e3 c])
    · exact (rfl : _ = out1 (Cert.Reference19Ideal.Mm.a0 m' c) (Cert.Reference19Ideal.Mm.a1 m' c) (Cert.Reference19Ideal.Mm.a2 m' c) (Cert.Reference19Ideal.Mm.a3 m' c)).trans (by rw [e0 c, e1 c, e2 c, e3 c])
    · exact (rfl : _ = out2 (Cert.Reference19Ideal.Mm.a0 m' c) (Cert.Reference19Ideal.Mm.a1 m' c) (Cert.Reference19Ideal.Mm.a2 m' c) (Cert.Reference19Ideal.Mm.a3 m' c)).trans (by rw [e0 c, e1 c, e2 c, e3 c])

end Cert.Proof.Mm19

end
-- ==== Proof.lean ====
module

public import proofs.«01_k».proof.Defs
public import proofs.«01_k».proof.Proof.Swa.Same
public import proofs.«01_k».proof.Proof.Swa.Pre
public import proofs.«01_k».proof.Proof.Ref.Val
public import proofs.«01_k».proof.Proof.Gen.Kernel
public import proofs.«01_k».proof.Proof.Norm.Same
public import proofs.«01_k».proof.Proof.Mm.S3
public import proofs.«01_k».proof.Proof.Mm.S4
public import proofs.«01_k».proof.Proof.Mm.S5
public import proofs.«01_k».proof.Proof.Mm.S6
public import proofs.«01_k».proof.Proof.Mm.S7
public import proofs.«01_k».proof.Proof.Mm.S8
public import proofs.«01_k».proof.Proof.Mm.S9
public import proofs.«01_k».proof.Proof.Mm.S10
public import proofs.«01_k».proof.Proof.Mm.S11
public import proofs.«01_k».proof.Proof.Mm.S12
public import proofs.«01_k».proof.Proof.Mm.S13
public import proofs.«01_k».proof.Proof.Mm.S14
public import proofs.«01_k».proof.Proof.Mm.S15
public import proofs.«01_k».proof.Proof.Mm.S16
public import proofs.«01_k».proof.Proof.Mm.S17
public import proofs.«01_k».proof.Proof.Mm.S18
public import proofs.«01_k».proof.Proof.Mm.S19
public import Idealize.ShloMosaic.Adequacy
public import Idealize.ShloMosaic.Init
public import Idealize.ShloMosaic.Lib.Claim

@[expose] public section

noncomputable section

namespace Cert.Proof

open Idealize.ShloMosaic Idealize.SL.Sem

/-- The reference's frame: its run, and no counter to speak of. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's results are the reference's where the precondition holds. -/
theorem algebraic : Cert.algebraic_KernelIdeal_ReferenceIdeal_pre_finite := fun m g m' g' hp ha => by
  have hf : ∀ c, Cert.KernelIdeal.Swa.Fin' m c := fun c =>
    have h := Cert.KernelIdeal.Swa.finite_of_pre _ _ _ _ (hp c)
    ⟨h.1, h.2⟩
  refine ⟨fun c => Cert.ReferenceIdeal.Swa.r_v176 (F := Ideal) (Cert.KernelIdeal.Swa.a0 m c) (Cert.KernelIdeal.Swa.a1 m c) (Cert.KernelIdeal.Swa.a2 m c) (Cert.KernelIdeal.Swa.a3 m c),
    fun c => Cert.ReferenceIdeal.Swa.r_v178 (F := Ideal) (Cert.KernelIdeal.Swa.a0 m c) (Cert.KernelIdeal.Swa.a1 m c) (Cert.KernelIdeal.Swa.a2 m c),
    Cert.KernelIdeal.Swa.run_value m g hf, ?_⟩
  refine (θ_run Cert.ReferenceIdeal.defs _ _).mono (fun r h c => ⟨(h c).1.trans ?_, (h c).2.1.trans ?_, (h c).2.2⟩) (Cert.ReferenceIdeal.Value.run (F := Ideal) m' g')
  · refine (Cert.ReferenceIdeal.Swa.r_v176_eq (StableHlo.launchContents m' c)).trans ?_
    congr 1
    · exact (ha c).1
    · exact (ha c).2.1
    · exact (ha c).2.2.1
    · exact (ha c).2.2.2
  · refine (Cert.ReferenceIdeal.Swa.r_v178_eq (StableHlo.launchContents m' c)).trans ?_
    congr 1
    · exact (ha c).1
    · exact (ha c).2.1
    · exact (ha c).2.2.1

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Pre_finite.Gen.facts,
  frame_kernel, fun m ρ _ => Cert.KernelIdeal.Swa.frame (F := Ideal) m ρ, fun m ρ _ => Cert.KernelIdeal.Swa.frame (F := Ideal) m ρ,
  frame_ref, fun m ρ h => frame_ref m ρ trivial,
  Norm.frame_kernel, fun m ρ _ => Cert.Kernel2Ideal.Gen.frame (F := Ideal) m ρ, Norm.frame_ref,
  Mm3.frame_kernel, fun m ρ _ => Cert.Kernel3Ideal.Gen.frame (F := Ideal) m ρ, Mm3.frame_ref,
  Mm4.frame_kernel, fun m ρ _ => Cert.Kernel4Ideal.Gen.frame (F := Ideal) m ρ, Mm4.frame_ref,
  Mm5.frame_kernel, fun m ρ _ => Cert.Kernel5Ideal.Gen.frame (F := Ideal) m ρ, Mm5.frame_ref,
  Mm6.frame_kernel, fun m ρ _ => Cert.Kernel6Ideal.Gen.frame (F := Ideal) m ρ, Mm6.frame_ref,
  Mm7.frame_kernel, fun m ρ _ => Cert.Kernel7Ideal.Gen.frame (F := Ideal) m ρ, Mm7.frame_ref,
  Mm8.frame_kernel, fun m ρ _ => Cert.Kernel8Ideal.Gen.frame (F := Ideal) m ρ, Mm8.frame_ref,
  Mm9.frame_kernel, fun m ρ _ => Cert.Kernel9Ideal.Gen.frame (F := Ideal) m ρ, Mm9.frame_ref,
  Mm10.frame_kernel, fun m ρ _ => Cert.Kernel10Ideal.Gen.frame (F := Ideal) m ρ, Mm10.frame_ref,
  Mm11.frame_kernel, fun m ρ _ => Cert.Kernel11Ideal.Gen.frame (F := Ideal) m ρ, Mm11.frame_ref,
  Mm12.frame_kernel, fun m ρ _ => Cert.Kernel12Ideal.Gen.frame (F := Ideal) m ρ, Mm12.frame_ref,
  Mm13.frame_kernel, fun m ρ _ => Cert.Kernel13Ideal.Gen.frame (F := Ideal) m ρ, Mm13.frame_ref,
  Mm14.frame_kernel, fun m ρ _ => Cert.Kernel14Ideal.Gen.frame (F := Ideal) m ρ, Mm14.frame_ref,
  Mm15.frame_kernel, fun m ρ _ => Cert.Kernel15Ideal.Gen.frame (F := Ideal) m ρ, Mm15.frame_ref,
  Mm16.frame_kernel, fun m ρ _ => Cert.Kernel16Ideal.Gen.frame (F := Ideal) m ρ, Mm16.frame_ref,
  Mm17.frame_kernel, fun m ρ _ => Cert.Kernel17Ideal.Gen.frame (F := Ideal) m ρ, Mm17.frame_ref,
  Mm18.frame_kernel, fun m ρ _ => Cert.Kernel18Ideal.Gen.frame (F := Ideal) m ρ, Mm18.frame_ref,
  Mm19.frame_kernel, fun m ρ _ => Cert.Kernel19Ideal.Gen.frame (F := Ideal) m ρ, Mm19.frame_ref,
  trivial, algebraic, trivial, Norm.algebraic, trivial, Mm3.algebraic, trivial, Mm4.algebraic, trivial, Mm5.algebraic, trivial, Mm6.algebraic, trivial, Mm7.algebraic, trivial, Mm8.algebraic, trivial, Mm9.algebraic, trivial, Mm10.algebraic, trivial, Mm11.algebraic, trivial, Mm12.algebraic, trivial, Mm13.algebraic, trivial, Mm14.algebraic, trivial, Mm15.algebraic, trivial, Mm16.algebraic, trivial, Mm17.algebraic, trivial, Mm18.algebraic, trivial, Mm19.algebraic⟩

end Cert.Proof

end
